-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite3 [hPre_finite3 : Cert.Pre_finite3.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite3 [hPre_finite3 : Cert.Pre_finite3.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite3 [hKernel4Ideal : Cert.Kernel4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite3 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite3 [hReference4Ideal : Cert.Reference4Ideal.Facts] [hPre_finite3 : Cert.Pre_finite3.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite3 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite3 [hKernel4Ideal : Cert.Kernel4Ideal.Facts] [hReference4Ideal : Cert.Reference4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite3 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)) (v3 : (c : Dev Cert.Kernel6Ideal.nD) → Buf (Elt Ideal) ((c.tc : Thread Cert.Kernel6Ideal.nD Cert.Kernel6Ideal.τ).loc Cert.Kernel6Ideal.main_v7_3)) (v4 : (c : Dev Cert.Kernel6Ideal.nD) → Buf (Elt Ideal) ((c.tc : Thread Cert.Kernel6Ideal.nD Cert.Kernel6Ideal.τ).loc Cert.Kernel6Ideal.main_v7_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_v7_3) = v3 c
          ∧ r.2.mem ((c.tc : Thread Cert.Kernel6Ideal.nD Cert.Kernel6Ideal.τ).loc Cert.Kernel6Ideal.main_v7_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_v57) = v2 c
          ∧ r.2.mem ((c.tc : Thread Cert.Reference6Ideal.nD Cert.Reference6Ideal.τ).loc Cert.Reference6Ideal.main_v58) = v3 c
          ∧ r.2.mem ((c.tc : Thread Cert.Reference6Ideal.nD Cert.Reference6Ideal.τ).loc Cert.Reference6Ideal.main_v54) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v29) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_v58) = v4 c
          ∧ r.2.mem ((c.tc : Thread Cert.Reference7Ideal.nD Cert.Reference7Ideal.τ).loc Cert.Reference7Ideal.main_v57) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)) (v3 : (c : Dev Cert.Kernel8Ideal.nD) → Buf (Elt Ideal) ((c.tc : Thread Cert.Kernel8Ideal.nD Cert.Kernel8Ideal.τ).loc Cert.Kernel8Ideal.main_v10_3)) (v4 : (c : Dev Cert.Kernel8Ideal.nD) → Buf (Elt Ideal) ((c.tc : Thread Cert.Kernel8Ideal.nD Cert.Kernel8Ideal.τ).loc Cert.Kernel8Ideal.main_v10_4)) (v5 : (c : Dev Cert.Kernel8Ideal.nD) → Buf (Elt Ideal) ((c.tc : Thread Cert.Kernel8Ideal.nD Cert.Kernel8Ideal.τ).loc Cert.Kernel8Ideal.main_v10_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_v10_3) = v3 c
          ∧ r.2.mem ((c.tc : Thread Cert.Kernel8Ideal.nD Cert.Kernel8Ideal.τ).loc Cert.Kernel8Ideal.main_v10_4) = v4 c
          ∧ r.2.mem ((c.tc : Thread Cert.Kernel8Ideal.nD Cert.Kernel8Ideal.τ).loc Cert.Kernel8Ideal.main_v10_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_v32) = v2 c
          ∧ r.2.mem ((c.tc : Thread Cert.Reference8Ideal.nD Cert.Reference8Ideal.τ).loc Cert.Reference8Ideal.main_v37) = v3 c
          ∧ r.2.mem ((c.tc : Thread Cert.Reference8Ideal.nD Cert.Reference8Ideal.τ).loc Cert.Reference8Ideal.main_v63) = v4 c
          ∧ r.2.mem ((c.tc : Thread Cert.Reference8Ideal.nD Cert.Reference8Ideal.τ).loc Cert.Reference8Ideal.main_v62) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v31) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v7)) (v1 : (c : Dev Cert.Kernel10Ideal.nD) → Buf (Elt Ideal) ((c.tc : Thread Cert.Kernel10Ideal.nD Cert.Kernel10Ideal.τ).loc Cert.Kernel10Ideal.main_v5_0)) (v2 : (c : Dev Cert.Kernel10Ideal.nD) → Buf (Elt Ideal) ((c.tc : Thread Cert.Kernel10Ideal.nD Cert.Kernel10Ideal.τ).loc Cert.Kernel10Ideal.main_v5_1)) (v3 : (c : Dev Cert.Kernel10Ideal.nD) → Buf (Elt Ideal) ((c.tc : Thread Cert.Kernel10Ideal.nD Cert.Kernel10Ideal.τ).loc Cert.Kernel10Ideal.main_v5_2)) (v4 : (c : Dev Cert.Kernel10Ideal.nD) → Buf (Elt Ideal) ((c.tc : Thread Cert.Kernel10Ideal.nD Cert.Kernel10Ideal.τ).loc Cert.Kernel10Ideal.main_v5_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_v5_0) = v1 c
          ∧ r.2.mem ((c.tc : Thread Cert.Kernel10Ideal.nD Cert.Kernel10Ideal.τ).loc Cert.Kernel10Ideal.main_v5_1) = v2 c
          ∧ r.2.mem ((c.tc : Thread Cert.Kernel10Ideal.nD Cert.Kernel10Ideal.τ).loc Cert.Kernel10Ideal.main_v5_2) = v3 c
          ∧ r.2.mem ((c.tc : Thread Cert.Kernel10Ideal.nD Cert.Kernel10Ideal.τ).loc Cert.Kernel10Ideal.main_v5_3) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_v54) = v1 c
          ∧ r.2.mem ((c.tc : Thread Cert.Reference10Ideal.nD Cert.Reference10Ideal.τ).loc Cert.Reference10Ideal.main_v62) = v2 c
          ∧ r.2.mem ((c.tc : Thread Cert.Reference10Ideal.nD Cert.Reference10Ideal.τ).loc Cert.Reference10Ideal.main_v61) = v3 c
          ∧ r.2.mem ((c.tc : Thread Cert.Reference10Ideal.nD Cert.Reference10Ideal.τ).loc Cert.Reference10Ideal.main_v38) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  IdealRules.named_const.Statement Cert.Kernel11Ideal.κ "no_exit" .f32 0x42DC0000#32 ⊤

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v29) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v6) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v18) = v0 c
          ∧ r.2.mem ((c.tc : Thread Cert.Reference15Ideal.nD Cert.Reference15Ideal.τ).loc Cert.Reference15Ideal.main_v20) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)) →
    ∃ (v0 : (c : Dev Cert.Kernel16Ideal.nD) → Buf (Elt Ideal) ((c.tc : Thread Cert.Kernel16Ideal.nD Cert.Kernel16Ideal.τ).loc Cert.Kernel16Ideal.main_v6_0)) (v1 : (c : Dev Cert.Kernel16Ideal.nD) → Buf (Elt Ideal) ((c.tc : Thread Cert.Kernel16Ideal.nD Cert.Kernel16Ideal.τ).loc Cert.Kernel16Ideal.main_v6_1)) (v2 : (c : Dev Cert.Kernel16Ideal.nD) → Buf (Elt Ideal) ((c.tc : Thread Cert.Kernel16Ideal.nD Cert.Kernel16Ideal.τ).loc Cert.Kernel16Ideal.main_v6_2)) (v3 : (c : Dev Cert.Kernel16Ideal.nD) → Buf (Elt Ideal) ((c.tc : Thread Cert.Kernel16Ideal.nD Cert.Kernel16Ideal.τ).loc Cert.Kernel16Ideal.main_v6_3)) (v4 : (c : Dev Cert.Kernel16Ideal.nD) → Buf (Elt Ideal) ((c.tc : Thread Cert.Kernel16Ideal.nD Cert.Kernel16Ideal.τ).loc Cert.Kernel16Ideal.main_v6_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6_0) = v0 c
          ∧ r.2.mem ((c.tc : Thread Cert.Kernel16Ideal.nD Cert.Kernel16Ideal.τ).loc Cert.Kernel16Ideal.main_v6_1) = v1 c
          ∧ r.2.mem ((c.tc : Thread Cert.Kernel16Ideal.nD Cert.Kernel16Ideal.τ).loc Cert.Kernel16Ideal.main_v6_2) = v2 c
          ∧ r.2.mem ((c.tc : Thread Cert.Kernel16Ideal.nD Cert.Kernel16Ideal.τ).loc Cert.Kernel16Ideal.main_v6_3) = v3 c
          ∧ r.2.mem ((c.tc : Thread Cert.Kernel16Ideal.nD Cert.Kernel16Ideal.τ).loc Cert.Kernel16Ideal.main_v6_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v33) = v2 c
          ∧ r.2.mem ((c.tc : Thread Cert.Reference16Ideal.nD Cert.Reference16Ideal.τ).loc Cert.Reference16Ideal.main_v34) = v3 c
          ∧ r.2.mem ((c.tc : Thread Cert.Reference16Ideal.nD Cert.Reference16Ideal.τ).loc Cert.Reference16Ideal.main_v37) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v6)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v6) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v7) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite2 : Cert.Pre_finite2.Facts) (hPre_finite3 : Cert.Pre_finite3.Facts) (hPre_finite7 : Cert.Pre_finite7.Facts) (hPre_finite8 : Cert.Pre_finite8.Facts) (hPre_finite9 : Cert.Pre_finite9.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite3 (hKernel4Ideal := hKernel4Ideal) (hPre_finite3 := hPre_finite3)
    ∧ quiescent_Reference4Ideal (hReference4Ideal := hReference4Ideal)
    ∧ quiescent_Reference4Ideal_pre_finite3 (hReference4Ideal := hReference4Ideal) (hPre_finite3 := hPre_finite3)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite3 (hKernel4Ideal := hKernel4Ideal) (hReference4Ideal := hReference4Ideal) (hPre_finite3 := hPre_finite3)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite10.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S4096x1024 .f32) (main_arg5 : FVec F S1x1024 .f32) : IVec S4096x2816 1 × IVec S2816x1024 1 × IVec S4096x1024 1 × IVec S1x1024 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite11.lean ====
abbrev S4096x5120 : Shape := ⟨2, ![4096, 5120]⟩
abbrev S4096x1536 : Shape := ⟨2, ![4096, 1536]⟩
abbrev S_ : Shape := ⟨0, ![]⟩

class Facts : Prop where
  slices_S4096x5120_S4096x1536_0_1536 : S4096x5120.Slices ![0, 1536] S4096x1536
  bcast_S_S4096x1536 : S_.BroadcastsInDim S4096x1536 (![] : Fin 0 → Fin S4096x1536.rank)

variable [Facts]

def fn {F : FTy → Type} [FloatOps F] (main_arg0 : FVec F S4096x5120 .f32) : IVec S4096x1536 1 :=
  let main_v0 : FVec F S4096x1536 .f32 := (extractStridedSlice S4096x1536 ![0, 1536] · slices_S4096x5120_S4096x1536_0_1536) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  main_v3
-- ==== Pre_finite2.lean ====
abbrev S4096x512 : Shape := ⟨2, ![4096, 512]⟩
abbrev S4096x5120 : Shape := ⟨2, ![4096, 5120]⟩
abbrev S_ : Shape := ⟨0, ![]⟩
abbrev S4096x1536 : Shape := ⟨2, ![4096, 1536]⟩

class Facts : Prop where
  bcast_S_S4096x512 : S_.BroadcastsInDim S4096x512 (![] : Fin 0 → Fin S4096x512.rank)
  slices_S4096x5120_S4096x1536_0_1536 : S4096x5120.Slices ![0, 1536] S4096x1536
  bcast_S_S4096x1536 : S_.BroadcastsInDim S4096x1536 (![] : Fin 0 → Fin S4096x1536.rank)

variable [Facts]

def fn {F : FTy → Type} [FloatOps F] (main_arg0 : FVec F S4096x512 .f32) (main_arg1 : FVec F S4096x5120 .f32) : IVec S4096x512 1 × IVec S4096x1536 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1536 .f32 := (extractStridedSlice S4096x1536 ![0, 1536] · slices_S4096x5120_S4096x1536_0_1536) main_arg1
  let main_v4 : FVec F S4096x1536 .f32 := Host.absf main_v3
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  (main_v2, main_v6)
-- ==== Pre_finite3.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024x5632 .f32) (main_arg3 : FVec F S2816x1024 .f32) : IVec S4096x1024 1 × IVec S4096x1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_finite7.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) : IVec S4096x1024 1 × IVec S4096x1024 1 × IVec S4096x1024 1 × IVec S1x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite8.lean ====
abbrev S4096x5120 : Shape := ⟨2, ![4096, 5120]⟩
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩

class Facts : Prop where
  bcast_S_S4096x5120 : S_.BroadcastsInDim S4096x5120 (![] : Fin 0 → Fin S4096x5120.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5120 : S_.BroadcastsInDim S1024x5120 (![] : Fin 0 → Fin S1024x5120.rank)

variable [Facts]

def fn_part1 {F : FTy → Type} [FloatOps F] (main_arg8 : FVec F S1024x5120 .f32) (main_v2 : IVec S4096x5120 1) (main_v5 : IVec S4096x1024 1) (main_v8 : IVec S4096x1024 1) (main_v11 : IVec S1x1024 1) (main_v14 : IVec S1x1024 1) (main_v17 : IVec S1x1024 1) : IVec S4096x5120 1 × IVec S4096x1024 1 × IVec S4096x1024 1 × IVec S1x1024 1 × IVec S1x1024 1 × IVec S1x1024 1 × IVec S1024x5120 1 :=
  let main_v18 : FVec F S1024x5120 .f32 := Host.absf main_arg8
  let main_cst_5 : FVec F S_ .f32 := constant S_ .f32 0x7F800000#32
  let main_v19 : FVec F S1024x5120 .f32 := broadcastInDim S1024x5120 ![] bcast_S_S1024x5120 main_cst_5
  let main_v20 : IVec S1024x5120 1 := cmpf .olt main_v18 main_v19
  (main_v2, main_v5, main_v8, main_v11, main_v14, main_v17, main_v20)

def fn {F : FTy → Type} [FloatOps F] (main_arg0 : FVec F S4096x5120 .f32) (main_arg1 : FVec F S4096x1024 .f32) (main_arg2 : FVec F S4096x1024 .f32) (main_arg3 : FVec F S4096x1024 .f32) (main_arg4 : FVec F S1x1024 .f32) (main_arg5 : FVec F S1x1024 .f32) (main_arg6 : FVec F S1x1024 .f32) (main_arg7 : FVec F S1x1024 .f32) (main_arg8 : FVec F S1024x5120 .f32) : IVec S4096x5120 1 × IVec S4096x1024 1 × IVec S4096x1024 1 × IVec S1x1024 1 × IVec S1x1024 1 × IVec S1x1024 1 × IVec S1024x5120 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg8 main_v2 main_v5 main_v8 main_v11 main_v14 main_v17
-- ==== Pre_finite9.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) (main_arg4 : FVec F S1x1024 .f32) (main_arg5 : FVec F S1x1024 .f32) : IVec S4096x1024 1 × IVec S4096x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4096x512 : Shape := ⟨2, ![4096, 512]⟩
abbrev S4096x5120 : Shape := ⟨2, ![4096, 5120]⟩
abbrev S3x512 : Shape := ⟨2, ![3, 512]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x5120, .f32⟩
  | .hbm, ⟨2, _⟩ => ⟨S3x512, .f32⟩
  | .hbm, ⟨3, _⟩ => ⟨S4096x512, .bf16⟩
  | .hbm, ⟨4, _⟩ => ⟨S4096x5120, .bf16⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S3x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x512 : Shape := ⟨2, ![4096, 512]⟩
abbrev S4096x5120 : Shape := ⟨2, ![4096, 5120]⟩
abbrev S3x512 : Shape := ⟨2, ![3, 512]⟩
abbrev S4096x3584 : Shape := ⟨2, ![4096, 3584]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 86
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x5120, .f32⟩
  | .hbm, ⟨2, _⟩ => ⟨S3x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x3584, .f32⟩
  | .hbm, ⟨7, _⟩ => ⟨S4096x512, .f32⟩
  | .hbm, ⟨8, _⟩ => ⟨S_, .f32⟩
  | .hbm, ⟨9, _⟩ => ⟨S2x512, .f32⟩
  | .hbm, ⟨10, _⟩ => ⟨S4098x512, .f32⟩
  | .hbm, ⟨11, _⟩ => ⟨S_, .f32⟩
  | .hbm, ⟨12, _⟩ => ⟨S2x512, .f32⟩
  | .hbm, ⟨13, _⟩ => ⟨S1x512, .f32⟩
  | .hbm, ⟨14, _⟩ => ⟨S512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S1x512, .f32⟩
  | .hbm, ⟨27, _⟩ => ⟨S512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S_, .f32⟩
  | .hbm, ⟨43, _⟩ => ⟨S512, .f32⟩
  | .hbm, ⟨44, _⟩ => ⟨S_, .f32⟩
  | .hbm, ⟨45, _⟩ => ⟨S4098x512, .f32⟩
  | .hbm, ⟨46, _⟩ => ⟨S1x512, .f32⟩
  | .hbm, ⟨47, _⟩ => ⟨S_, .f32⟩
  | .hbm, ⟨48, _⟩ => ⟨S3x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S_, .f32⟩
  | .hbm, ⟨58, _⟩ => ⟨S4098x512, .f32⟩
  | .hbm, ⟨59, _⟩ => ⟨S4098x512, .f32⟩
  | .hbm, ⟨60, _⟩ => ⟨S1x512, .f32⟩
  | .hbm, ⟨61, _⟩ => ⟨S_, .f32⟩
  | .hbm, ⟨62, _⟩ => ⟨S3x512, .f32⟩
  | .hbm, ⟨63, _⟩ => ⟨S3x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S4098x512, .f32⟩
  | .hbm, ⟨74, _⟩ => ⟨S4098x512, .f32⟩
  | .hbm, ⟨75, _⟩ => ⟨S1x512, .f32⟩
  | .hbm, ⟨76, _⟩ => ⟨S_, .f32⟩
  | .hbm, ⟨77, _⟩ => ⟨S3x512, .f32⟩
  | .hbm, ⟨78, _⟩ => ⟨S3x512, .f32⟩
  | .hbm, ⟨79, _⟩ => ⟨S2x512, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x512, .bf16⟩
  | .hbm, ⟨84, _⟩ => ⟨S4096x512, .bf16⟩
  | .hbm, ⟨85, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel2.lean ====
abbrev S4096x512 : Shape := ⟨2, ![4096, 512]⟩
abbrev S4096x5120 : Shape := ⟨2, ![4096, 5120]⟩
abbrev S4096x8x64 : Shape := ⟨3, ![4096, 8, 64]⟩
abbrev S_ : Shape := ⟨0, ![]⟩
abbrev S8x4096x4096 : Shape := ⟨3, ![8, 4096, 4096]⟩
abbrev S8x4096 : Shape := ⟨2, ![8, 4096]⟩
abbrev S4096x8 : Shape := ⟨2, ![4096, 8]⟩
abbrev S4096x8x1 : Shape := ⟨3, ![4096, 8, 1]⟩
abbrev S2x16x8x128 : Shape := ⟨4, ![2, 16, 8, 128]⟩
abbrev S256x256 : Shape := ⟨2, ![256, 256]⟩
abbrev S4096x256 : Shape := ⟨2, ![4096, 256]⟩
abbrev S1x1x8x128 : Shape := ⟨4, ![1, 1, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S1024x256 : Shape := ⟨2, ![1024, 256]⟩
abbrev S256 : Shape := ⟨1, ![256]⟩
abbrev S256x1 : Shape := ⟨2, ![256, 1]⟩
abbrev S256x1024 : Shape := ⟨2, ![256, 1024]⟩

abbrev nBuf : Space → Nat
  | .hbm => 41
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x5120, .f32⟩
  | .hbm, ⟨2, _⟩ => ⟨S4096x512, .f32⟩
  | .hbm, ⟨3, _⟩ => ⟨S4096x512, .f32⟩
  | .hbm, ⟨4, _⟩ => ⟨S4096x8x64, .f32⟩
  | .hbm, ⟨5, _⟩ => ⟨S_, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .i32⟩
  | .hbm, ⟨22, _⟩ => ⟨S8x4096x4096, .i32⟩
  | .hbm, ⟨23, _⟩ => ⟨S8x4096x4096, .i1⟩
  | .hbm, ⟨24, _⟩ => ⟨S_, .f32⟩
  | .hbm, ⟨25, _⟩ => ⟨S_, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S4096x8, .f32⟩
  | .hbm, ⟨31, _⟩ => ⟨S4096x8x1, .f32⟩
  | .hbm, ⟨32, _⟩ => ⟨S4096x8x64, .f32⟩
  | .hbm, ⟨33, _⟩ => ⟨S4096x512, .f32⟩
  | .hbm, ⟨34, _⟩ => ⟨S_, .f32⟩
  | .hbm, ⟨35, _⟩ => ⟨S2x16x8x128, .f32⟩
  | .hbm, ⟨36, _⟩ => ⟨S4096x5120, .bf16⟩
  | .hbm, ⟨37, _⟩ => ⟨S4096x512, .bf16⟩
  | .hbm, ⟨38, _⟩ => ⟨S4096x512, .bf16⟩
  | .hbm, ⟨39, _⟩ => ⟨S4096x512, .f32⟩
  | .hbm, ⟨40, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S1x1x8x128, .f32⟩
  | .local _ .vmem, ⟨11, _⟩ => ⟨S1x1x8x128, .f32⟩
  | .local _ .vmem, ⟨12, _⟩ => ⟨S256x256, .bf16⟩
  | .local _ .vmem, ⟨13, _⟩ => ⟨S256x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

@[reducible] def k0_t1_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v91 : BitVec 32 := Scalar.subi arg1 v8
  let c1_i32 : BitVec 32 := 1#32
  let v93 : BitVec 32 := Scalar.divsi v91 c1_i32
  let v94 : BitVec 32 := Scalar.muli v93 c1_i32
  let v95 : BitVec 32 := Scalar.addi v8 v94
  let c1_i32_37 : BitVec 32 := 1#32
  ⟨v8, v95, c1_i32_37⟩

def k0_mult1 (i : grid0.Coords) (v6 : BitVec 32) (k0_t1 : Fin (k0_t1_loop i v6).trips) : BitVec 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let c1_i32_37 : BitVec 32 := 1#32
  let arg11 : BitVec 32 := Scf.iv v8 c1_i32_37 k0_t1
  let c256_i32_96 : BitVec 32 := 256#32
  let v282 : BitVec 32 := Scalar.muli arg11 c256_i32_96
  v282
def k0_off1 (i : grid0.Coords) (v6 : BitVec 32) (k0_t1 : Fin (k0_t1_loop i v6).trips) : Fin 2 → Nat :=
  let arg1 : BitVec 32 := BitVec.ofNat 32 (i 1).val
  let c0_i32 : BitVec 32 := 0#32
  let v7 : BitVec 32 := Scalar.maxsi c0_i32 v6
  let v8 : BitVec 32 := Scalar.minsi arg1 v7
  let c1_i32_37 : BitVec 32 := 1#32
  let arg11 : BitVec 32 := Scf.iv v8 c1_i32_37 k0_t1
  let c256_i32_96 : BitVec 32 := 256#32
  let v282 : BitVec 32 := Scalar.muli arg11 c256_i32_96
  let v283 : BitVec 32 := v282
  let v284 : Index := Scalar.indexCast v283
  let c0_97 : Index := 0#32
  ![v284.toNat, 0]
@[reducible] def k0_t2_loop (i : grid0.Coords) (v6 : BitVec 32) : Scf.Loop 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v91 : BitVec 32 := Scalar.subi arg1 v8
  let c1_i32 : BitVec 32 := 1#32
  let v93 : BitVec 32 := Scalar.divsi v91 c1_i32
  let v94 : BitVec 32 := Scalar.muli v93 c1_i32
  let v95 : BitVec 32 := Scalar.addi v8 v94
  let v92 : BitVec 32 := Scalar.addi v8 v91
  let c1_i32_38 : BitVec 32 := 1#32
  ⟨v95, v92, c1_i32_38⟩
def k0_mult2 (i : grid0.Coords) (v6 : BitVec 32) (k0_t2 : Fin (k0_t2_loop i v6).trips) : BitVec 32 :=
  let arg1 : BitVec 32 := BitVec.ofNat 32 (i 1).val
  let c0_i32 : BitVec 32 := 0#32
  let v7 : BitVec 32 := Scalar.maxsi c0_i32 v6
  let v8 : BitVec 32 := Scalar.minsi arg1 v7
  let v91 : BitVec 32 := Scalar.subi arg1 v8
  let c1_i32 : BitVec 32 := 1#32
  let v93 : BitVec 32 := Scalar.divsi v91 c1_i32
  let v94 : BitVec 32 := Scalar.muli v93 c1_i32
  let v95 : BitVec 32 := Scalar.addi v8 v94
  let c1_i32_38 : BitVec 32 := 1#32
  let arg11 : BitVec 32 := Scf.iv v95 c1_i32_38 k0_t2
  let c256_i32_96 : BitVec 32 := 256#32
  let v282 : BitVec 32 := Scalar.muli arg11 c256_i32_96
  v282
def k0_off2 (i : grid0.Coords) (v6 : BitVec 32) (k0_t2 : Fin (k0_t2_loop i v6).trips) : Fin 2 → Nat :=
  let arg1 : BitVec 32 := BitVec.ofNat 32 (i 1).val
  let c0_i32 : BitVec 32 := 0#32
  let v7 : BitVec 32 := Scalar.maxsi c0_i32 v6
  let v8 : BitVec 32 := Scalar.minsi arg1 v7
  let v91 : BitVec 32 := Scalar.subi arg1 v8
  let c1_i32 : BitVec 32 := 1#32
  let v93 : BitVec 32 := Scalar.divsi v91 c1_i32
  let v94 : BitVec 32 := Scalar.muli v93 c1_i32
  let v95 : BitVec 32 := Scalar.addi v8 v94
  let c1_i32_38 : BitVec 32 := 1#32
  let arg11 : BitVec 32 := Scf.iv v95 c1_i32_38 k0_t2
  let c256_i32_96 : BitVec 32 := 256#32
  let v282 : BitVec 32 := Scalar.muli arg11 c256_i32_96
  let v283 : BitVec 32 := v282
  let v284 : Index := Scalar.indexCast v283
  let c0_97 : Index := 0#32
  ![v284.toNat, 0]

def k0_chk1 (i : grid0.Coords) (v6 : BitVec 32) : Prop :=
  ((k0_t1_loop i v6).OK) ∧
  (∀ k0_t1 : Fin (k0_t1_loop i v6).trips, 256 ∣ (k0_mult1 i v6 k0_t1).toNat) ∧
  (∀ k0_t1 : Fin (k0_t1_loop i v6).trips, ∀ a, (k0_off1 i v6 k0_t1) a + S256x256.size a ≤ S4096x256.size a) ∧
  ((k0_t2_loop i v6).OK) ∧
  (∀ k0_t2 : Fin (k0_t2_loop i v6).trips, 256 ∣ (k0_mult2 i v6 k0_t2).toNat) ∧
  (∀ k0_t2 : Fin (k0_t2_loop i v6).trips, ∀ a, (k0_off2 i v6 k0_t2) a + S256x256.size a ≤ S4096x256.size a)
theorem k0_t1_ok : ∀ (i : grid0.Coords) (v6 : BitVec 32) (k0_hw1 : k0_chk1 i v6), (k0_t1_loop i v6).OK := fun i v6 k0_hw1 => k0_hw1.1
theorem k0_mult1_dvd : ∀ (i : grid0.Coords) (v6 : BitVec 32) (k0_hw1 : k0_chk1 i v6) (k0_t1 : Fin (k0_t1_loop i v6).trips), 256 ∣ (k0_mult1 i v6 k0_t1).toNat := fun i v6 k0_hw1 k0_t1 => k0_hw1.2.1 k0_t1
theorem k0_off1_inb : ∀ (i : grid0.Coords) (v6 : BitVec 32) (k0_hw1 : k0_chk1 i v6) (k0_t1 : Fin (k0_t1_loop i v6).trips), ∀ a, (k0_off1 i v6 k0_t1) a + S256x256.size a ≤ S4096x256.size a := fun i v6 k0_hw1 k0_t1 => k0_hw1.2.2.1 k0_t1
theorem k0_t2_ok : ∀ (i : grid0.Coords) (v6 : BitVec 32) (k0_hw1 : k0_chk1 i v6), (k0_t2_loop i v6).OK := fun i v6 k0_hw1 => k0_hw1.2.2.2.1
theorem k0_mult2_dvd : ∀ (i : grid0.Coords) (v6 : BitVec 32) (k0_hw1 : k0_chk1 i v6) (k0_t2 : Fin (k0_t2_loop i v6).trips), 256 ∣ (k0_mult2 i v6 k0_t2).toNat := fun i v6 k0_hw1 k0_t2 => k0_hw1.2.2.2.2.1 k0_t2
theorem k0_off2_inb : ∀ (i : grid0.Coords) (v6 : BitVec 32) (k0_hw1 : k0_chk1 i v6) (k0_t2 : Fin (k0_t2_loop i v6).trips), ∀ a, (k0_off2 i v6 k0_t2) a + S256x256.size a ≤ S4096x256.size a := fun i v6 k0_hw1 k0_t2 => k0_hw1.2.2.2.2.2 k0_t2

def k0_mult3 (i : grid0.Coords) : BitVec 32 :=
  let arg1 : BitVec 32 := BitVec.ofNat 32 (i 1).val
  let c256_i32_39 : BitVec 32 := 256#32
  let v98 : BitVec 32 := Scalar.muli arg1 c256_i32_39
  v98
def k0_off3 (i : grid0.Coords) : Fin 2 → Nat :=
  let arg1 : BitVec 32 := BitVec.ofNat 32 (i 1).val
  let c256_i32_39 : BitVec 32 := 256#32
  let v98 : BitVec 32 := Scalar.muli arg1 c256_i32_39
  let v99 : BitVec 32 := v98
  let v100 : Index := Scalar.indexCast v99
  let c0_40 : Index := 0#32
  ![v100.toNat, 0]
def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x512 : Shape := ⟨2, ![4096, 512]⟩
abbrev S4096x5120 : Shape := ⟨2, ![4096, 5120]⟩
abbrev S4096x1536 : Shape := ⟨2, ![4096, 1536]⟩
abbrev S4096x2048 : Shape := ⟨2, ![4096, 2048]⟩
abbrev S4096x8x64 : Shape := ⟨3, ![4096, 8, 64]⟩
abbrev S8x4096x4096 : Shape := ⟨3, ![8, 4096, 4096]⟩
abbrev S_ : Shape := ⟨0, ![]⟩
abbrev S8x64x4096 : Shape := ⟨3, ![8, 64, 4096]⟩
abbrev S8x4096x64 : Shape := ⟨3, ![8, 4096, 64]⟩

abbrev nBuf : Space → Nat
  | .hbm => 166
  | .vmem => 0
  | .smem => 0
  | _ => 0

abbrev hbmTy0_0 (i : Nat) : BufTy := match i % 128 with
  | 0 => ⟨S4096x512, .f32⟩
  | 1 => ⟨S4096x5120, .f32⟩
  | 2 => ⟨S4096x1536, .f32⟩
  | 3 => ⟨S4096x512, .f32⟩
  | 4 => ⟨S4096x512, .f32⟩
  | 5 => ⟨S4096x512, .f32⟩
  | 6 => ⟨S4096x2048, .f32⟩
  | 7 => ⟨S4096x8x64, .f32⟩
  | 8 => ⟨S4096x8x64, .f32⟩
  | 9 => ⟨S4096x8x64, .f32⟩
  | 10 => ⟨S8x4096x4096, .f32⟩
  | 11 => ⟨S_, .f32⟩
  | 12 => ⟨S8x4096x4096, .f32⟩
  | 13 => ⟨S8x4096x4096, .f32⟩
  | 14 => ⟨S8x4096x4096, .i32⟩
  | 15 => ⟨S8x4096x4096, .i32⟩
  | 16 => ⟨S8x4096x4096, .i1⟩
  | 17 => ⟨S_, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .i1⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .i1⟩
  | 34 => ⟨S_, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .i1⟩
  | 40 => ⟨S_, .f32⟩
  | 41 => ⟨S8x4096x4096, .f32⟩
  | 42 => ⟨S8x4096x4096, .f32⟩
  | 43 => ⟨S8x4096x4096, .f32⟩
  | 44 => ⟨S8x4096x4096, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S8x4096x4096, .f32⟩
  | 53 => ⟨S8x4096x4096, .i1⟩
  | 54 => ⟨S_, .f32⟩
  | 55 => ⟨S8x4096x4096, .f32⟩
  | 56 => ⟨S8x4096x4096, .f32⟩
  | 57 => ⟨S8x4096x4096, .f32⟩
  | 58 => ⟨S8x4096x4096, .f32⟩
  | 59 => ⟨S8x4096x4096, .f32⟩
  | 60 => ⟨S_, .f32⟩
  | 61 => ⟨S8x4096x4096, .f32⟩
  | 62 => ⟨S8x4096x4096, .f32⟩
  | 63 => ⟨S_, .f32⟩
  | 64 => ⟨S_, .f32⟩
  | 65 => ⟨S8x4096x4096, .f32⟩
  | 66 => ⟨S8x4096x4096, .f32⟩
  | 67 => ⟨S_, .f32⟩
  | 68 => ⟨S8x4096x4096, .f32⟩
  | 69 => ⟨S_, .f32⟩
  | 70 => ⟨S_, .f32⟩
  | 71 => ⟨S8x4096x4096, .f32⟩
  | 72 => ⟨S8x4096x4096, .f32⟩
  | 73 => ⟨S8x4096x4096, .f32⟩
  | 74 => ⟨S_, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .i1⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S_, .f32⟩
  | 89 => ⟨S8x4096x4096, .f32⟩
  | 90 => ⟨S8x4096x4096, .i1⟩
  | 91 => ⟨S_, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .i1⟩
  | 97 => ⟨S_, .f32⟩
  | 98 => ⟨S8x4096x4096, .f32⟩
  | 99 => ⟨S8x4096x4096, .f32⟩
  | 100 => ⟨S8x4096x4096, .f32⟩
  | 101 => ⟨S8x4096x4096, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S8x4096x4096, .f32⟩
  | 110 => ⟨S8x4096x4096, .i1⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S8x4096x4096, .f32⟩
  | 117 => ⟨S_, .f32⟩
  | 118 => ⟨S8x4096x4096, .f32⟩
  | 119 => ⟨S8x4096x4096, .f32⟩
  | 120 => ⟨S8x4096x4096, .f32⟩
  | 121 => ⟨S8x4096x4096, .f32⟩
  | 122 => ⟨S8x4096x4096, .f32⟩
  | 123 => ⟨S_, .f32⟩
  | 124 => ⟨S_, .f32⟩
  | 125 => ⟨S8x4096x4096, .f32⟩
  | 126 => ⟨S8x4096x4096, .f32⟩
  | 127 => ⟨S_, .f32⟩
  | _ => ⟨S4096x512, .f32⟩

abbrev hbmTy0_1 (i : Nat) : BufTy := match i % 128 with
  | 0 => ⟨S8x4096x4096, .f32⟩
  | 1 => ⟨S8x64x4096, .f32⟩
  | 2 => ⟨S4096x8x64, .f32⟩
  | 3 => ⟨S4096x512, .f32⟩
  | 4 => ⟨S4096x8x64, .f32⟩
  | 5 => ⟨S8x64x4096, .f32⟩
  | 6 => ⟨S8x4096x4096, .f32⟩
  | 7 => ⟨S8x64x4096, .f32⟩
  | 8 => ⟨S4096x8x64, .f32⟩
  | 9 => ⟨S_, .f32⟩
  | 10 => ⟨S8x4096x4096, .f32⟩
  | 11 => ⟨S8x4096x4096, .f32⟩
  | 12 => ⟨S8x4096x4096, .f32⟩
  | 13 => ⟨S8x4096x4096, .f32⟩
  | 14 => ⟨S8x4096x4096, .f32⟩
  | 15 => ⟨S8x4096x4096, .f32⟩
  | 16 => ⟨S8x4096x4096, .f32⟩
  | 17 => ⟨S8x4096x4096, .f32⟩
  | 18 => ⟨S_, .f32⟩
  | 19 => ⟨S_, .f32⟩
  | 20 => ⟨S8x4096x4096, .f32⟩
  | 21 => ⟨S8x4096x4096, .f32⟩
  | 22 => ⟨S_, .f32⟩
  | 23 => ⟨S8x4096x4096, .f32⟩
  | 24 => ⟨S8x4096x4096, .f32⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x64, .f32⟩
  | 31 => ⟨S4096x8x64, .f32⟩
  | 32 => ⟨S8x4096x64, .f32⟩
  | 33 => ⟨S4096x8x64, .f32⟩
  | 34 => ⟨S4096x512, .f32⟩
  | 35 => ⟨S4096x512, .f32⟩
  | 36 => ⟨S4096x512, .f32⟩
  | 37 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v14_0 : Ref sig .tc := ⟨.hbm, 30, rfl⟩
abbrev main_call0_cst_0 : Ref sig .tc := ⟨.hbm, 31, rfl⟩
abbrev main_call0_v13 : Ref sig .tc := ⟨.hbm, 32, rfl⟩
abbrev main_call0_v14 : Ref sig .tc := ⟨.hbm, 33, rfl⟩
abbrev main_call0_cst_1 : Ref sig .tc := ⟨.hbm, 34, rfl⟩
abbrev main_call0_v15 : Ref sig .tc := ⟨.hbm, 35, rfl⟩
abbrev main_call0_v16 : Ref sig .tc := ⟨.hbm, 36, rfl⟩
abbrev main_call0_cst_2 : Ref sig .tc := ⟨.hbm, 37, rfl⟩
abbrev main_call0_v17 : Ref sig .tc := ⟨.hbm, 38, rfl⟩
abbrev main_call0_v18 : Ref sig .tc := ⟨.hbm, 39, rfl⟩
abbrev main_call0_cst_3 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_v14_1 : Ref sig .tc := ⟨.hbm, 44, rfl⟩
abbrev main_call0_cst_4 : Ref sig .tc := ⟨.hbm, 45, rfl⟩
abbrev main_call0_cst_5 : Ref sig .tc := ⟨.hbm, 46, rfl⟩
abbrev main_call0_v23 : Ref sig .tc := ⟨.hbm, 47, rfl⟩
abbrev main_call0_cst_6 : Ref sig .tc := ⟨.hbm, 48, rfl⟩
abbrev main_call0_cst_7 : Ref sig .tc := ⟨.hbm, 49, rfl⟩
abbrev main_call0_v24 : Ref sig .tc := ⟨.hbm, 50, rfl⟩
abbrev main_call0_cst_8 : Ref sig .tc := ⟨.hbm, 51, rfl⟩
abbrev main_call0_v25 : Ref sig .tc := ⟨.hbm, 52, rfl⟩
abbrev main_call0_v26 : Ref sig .tc := ⟨.hbm, 53, rfl⟩
abbrev main_call0_cst_9 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_cst_10 : Ref sig .tc := ⟨.hbm, 60, rfl⟩
abbrev main_call0_v32 : Ref sig .tc := ⟨.hbm, 61, rfl⟩
abbrev main_v14_2 : Ref sig .tc := ⟨.hbm, 62, rfl⟩
abbrev main_cst_0 : Ref sig .tc := ⟨.hbm, 63, rfl⟩
abbrev main_call1_v0 : Ref sig .tc := ⟨.hbm, 64, rfl⟩
abbrev main_call1_v1 : Ref sig .tc := ⟨.hbm, 65, rfl⟩
abbrev main_v15_0 : Ref sig .tc := ⟨.hbm, 66, rfl⟩
abbrev main_call1_cst : Ref sig .tc := ⟨.hbm, 67, rfl⟩
abbrev main_v15_1 : Ref sig .tc := ⟨.hbm, 68, rfl⟩
abbrev main_call2_cst : Ref sig .tc := ⟨.hbm, 69, rfl⟩
abbrev main_call2_v0 : Ref sig .tc := ⟨.hbm, 70, rfl⟩
abbrev main_v16 : Ref sig .tc := ⟨.hbm, 71, rfl⟩
abbrev main_v17 : Ref sig .tc := ⟨.hbm, 72, rfl⟩
abbrev main_call3_v0 : Ref sig .tc := ⟨.hbm, 73, rfl⟩
abbrev main_call3_call0_cst : Ref sig .tc := ⟨.hbm, 74, rfl⟩
abbrev main_call3_call0_v0 : Ref sig .tc := ⟨.hbm, 75, rfl⟩
abbrev main_call3_call0_v1 : Ref sig .tc := ⟨.hbm, 76, rfl⟩
abbrev main_call3_call0_v2 : Ref sig .tc := ⟨.hbm, 77, rfl⟩
abbrev main_call3_call0_v3 : Ref sig .tc := ⟨.hbm, 78, rfl⟩
abbrev main_call3_call0_v4 : Ref sig .tc := ⟨.hbm, 79, rfl⟩
abbrev main_call3_call0_v5 : Ref sig .tc := ⟨.hbm, 80, rfl⟩
abbrev main_call3_call0_v6 : Ref sig .tc := ⟨.hbm, 81, rfl⟩
abbrev main_call3_call0_v7 : Ref sig .tc := ⟨.hbm, 82, rfl⟩
abbrev main_call3_call0_v8 : Ref sig .tc := ⟨.hbm, 83, rfl⟩
abbrev main_call3_call0_v9 : Ref sig .tc := ⟨.hbm, 84, rfl⟩
abbrev main_call3_call0_v10 : Ref sig .tc := ⟨.hbm, 85, rfl⟩
abbrev main_call3_call0_v11 : Ref sig .tc := ⟨.hbm, 86, rfl⟩
abbrev main_call3_v1_0 : Ref sig .tc := ⟨.hbm, 87, rfl⟩
abbrev main_call3_call0_cst_0 : Ref sig .tc := ⟨.hbm, 88, rfl⟩
abbrev main_call3_call0_v13 : Ref sig .tc := ⟨.hbm, 89, rfl⟩
abbrev main_call3_call0_v14 : Ref sig .tc := ⟨.hbm, 90, rfl⟩
abbrev main_call3_call0_cst_1 : Ref sig .tc := ⟨.hbm, 91, rfl⟩
abbrev main_call3_call0_v15 : Ref sig .tc := ⟨.hbm, 92, rfl⟩
abbrev main_call3_call0_v16 : Ref sig .tc := ⟨.hbm, 93, rfl⟩
abbrev main_call3_call0_cst_2 : Ref sig .tc := ⟨.hbm, 94, rfl⟩
abbrev main_call3_call0_v17 : Ref sig .tc := ⟨.hbm, 95, rfl⟩
abbrev main_call3_call0_v18 : Ref sig .tc := ⟨.hbm, 96, rfl⟩
abbrev main_call3_call0_cst_3 : Ref sig .tc := ⟨.hbm, 97, rfl⟩
abbrev main_call3_call0_v19 : Ref sig .tc := ⟨.hbm, 98, rfl⟩
abbrev main_call3_call0_v20 : Ref sig .tc := ⟨.hbm, 99, rfl⟩
abbrev main_call3_call0_v21 : Ref sig .tc := ⟨.hbm, 100, rfl⟩
abbrev main_v18_1 : Ref sig .tc := ⟨.hbm, 101, rfl⟩
abbrev main_call3_call0_cst_4 : Ref sig .tc := ⟨.hbm, 102, rfl⟩
abbrev main_call3_call0_cst_5 : Ref sig .tc := ⟨.hbm, 103, rfl⟩
abbrev main_call3_call0_v23 : Ref sig .tc := ⟨.hbm, 104, rfl⟩
abbrev main_call3_call0_cst_6 : Ref sig .tc := ⟨.hbm, 105, rfl⟩
abbrev main_call3_call0_cst_7 : Ref sig .tc := ⟨.hbm, 106, rfl⟩
abbrev main_call3_call0_v24 : Ref sig .tc := ⟨.hbm, 107, rfl⟩
abbrev main_call3_call0_cst_8 : Ref sig .tc := ⟨.hbm, 108, rfl⟩
abbrev main_call3_call0_v25 : Ref sig .tc := ⟨.hbm, 109, rfl⟩
abbrev main_call3_call0_v26 : Ref sig .tc := ⟨.hbm, 110, rfl⟩
abbrev main_call3_call0_cst_9 : Ref sig .tc := ⟨.hbm, 111, rfl⟩
abbrev main_call3_call0_v27 : Ref sig .tc := ⟨.hbm, 112, rfl⟩
abbrev main_call3_call0_v28 : Ref sig .tc := ⟨.hbm, 113, rfl⟩
abbrev main_call3_call0_v29 : Ref sig .tc := ⟨.hbm, 114, rfl⟩
abbrev main_call3_call0_v30 : Ref sig .tc := ⟨.hbm, 115, rfl⟩
abbrev main_call3_call0_v31 : Ref sig .tc := ⟨.hbm, 116, rfl⟩
abbrev main_call3_call0_cst_10 : Ref sig .tc := ⟨.hbm, 117, rfl⟩
abbrev main_call3_call0_v32 : Ref sig .tc := ⟨.hbm, 118, rfl⟩
abbrev main_v18_2 : Ref sig .tc := ⟨.hbm, 119, rfl⟩
abbrev main_v18_0 : Ref sig .tc := ⟨.hbm, 120, rfl⟩
abbrev main_v19 : Ref sig .tc := ⟨.hbm, 121, rfl⟩
abbrev main_v20 : Ref sig .tc := ⟨.hbm, 122, rfl⟩
abbrev main_cst_1 : Ref sig .tc := ⟨.hbm, 123, rfl⟩
abbrev main_call4_v0 : Ref sig .tc := ⟨.hbm, 124, rfl⟩
abbrev main_call4_v1 : Ref sig .tc := ⟨.hbm, 125, rfl⟩
abbrev main_v21_0 : Ref sig .tc := ⟨.hbm, 126, rfl⟩
abbrev main_call4_cst : Ref sig .tc := ⟨.hbm, 127, rfl⟩
abbrev main_v21_1 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_call5_cst : Ref sig .tc := ⟨.hbm, 137, rfl⟩
abbrev main_call5_v0 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_call6_v0 : Ref sig .tc := ⟨.hbm, 142, rfl⟩
abbrev main_call6_v1 : Ref sig .tc := ⟨.hbm, 143, rfl⟩
abbrev main_v33 : Ref sig .tc := ⟨.hbm, 144, rfl⟩
abbrev main_v34 : Ref sig .tc := ⟨.hbm, 145, rfl⟩
abbrev main_call7_cst : Ref sig .tc := ⟨.hbm, 146, rfl⟩
abbrev main_call7_v0 : Ref sig .tc := ⟨.hbm, 147, rfl⟩
abbrev main_v35 : Ref sig .tc := ⟨.hbm, 148, rfl⟩
abbrev main_v36 : Ref sig .tc := ⟨.hbm, 149, rfl⟩
abbrev main_call8_cst : Ref sig .tc := ⟨.hbm, 150, rfl⟩
abbrev main_call8_v0 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_cst_2 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩

abbrev nD : Nat := 1
abbrev τ : Topo := Topo.v7x

variable {F : FTy → Type} [FloatOps F]
-- ==== Kernel3.lean ====
abbrev S4096x1024 : Shape := ⟨2, ![4096, 1024]⟩
abbrev S1024x5632 : Shape := ⟨2, ![1024, 5632]⟩
abbrev S2816x1024 : Shape := ⟨2, ![2816, 1024]⟩
abbrev S4x704x1024 : Shape := ⟨3, ![4, 704, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S8x704x1024 : Shape := ⟨3, ![8, 704, 1024]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 16
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S2816x1024, .bf16⟩
  | .hbm, ⟨5, _⟩ => ⟨S4x704x1024, .bf16⟩
  | .hbm, ⟨6, _⟩ => ⟨S4096x5632, .f32⟩
  | .hbm, ⟨7, _⟩ => ⟨S4096x5632, .bf16⟩
  | .hbm, ⟨8, _⟩ => ⟨S4096x2x4x704, .bf16⟩
  | .hbm, ⟨9, _⟩ => ⟨S2x4x4096x704, .bf16⟩
  | .hbm, ⟨10, _⟩ => ⟨S5632x1024, .f32⟩
  | .hbm, ⟨11, _⟩ => ⟨S5632x1024, .bf16⟩
  | .hbm, ⟨12, _⟩ => ⟨S8x704x1024, .bf16⟩
  | .hbm, ⟨13, _⟩ => ⟨S4096x1024, .bf16⟩
  | .hbm, ⟨14, _⟩ => ⟨S2x4x4096x704, .bf16⟩
  | .hbm, ⟨15, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S8x704x1024, .bf16⟩
  | .local _ .vmem, ⟨6, _⟩ => ⟨S2x4x512x704, .bf16⟩
  | .local _ .vmem, ⟨7, _⟩ => ⟨S2x4x512x704, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S4096x1024, .f32⟩
  | .hbm, ⟨57, _⟩ => ⟨S4096x2x4x704, .f32⟩
  | .hbm, ⟨58, _⟩ => ⟨S2x4x4096x704, .f32⟩
  | .hbm, ⟨59, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_v14_2 : Ref sig .tc := ⟨.hbm, 40, rfl⟩
abbrev main_call2_cst_1 : Ref sig .tc := ⟨.hbm, 41, rfl⟩
abbrev main_call2_v6 : Ref sig .tc := ⟨.hbm, 42, rfl⟩
abbrev main_call2_v7 : Ref sig .tc := ⟨.hbm, 43, rfl⟩
abbrev main_v14_1 : Ref sig .tc := ⟨.hbm, 44, rfl⟩
abbrev main_v14_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S2816x1024 : Shape := ⟨2, ![2816, 1024]⟩
abbrev S4x704x1024 : Shape := ⟨3, ![4, 704, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S512x1024 : Shape := ⟨2, ![512, 1024]⟩
abbrev S2x4x512x704 : Shape := ⟨4, ![2, 4, 512, 704]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 12
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S2816x1024, .bf16⟩
  | .hbm, ⟨5, _⟩ => ⟨S4x704x1024, .bf16⟩
  | .hbm, ⟨6, _⟩ => ⟨S4096x5632, .f32⟩
  | .hbm, ⟨7, _⟩ => ⟨S4096x5632, .bf16⟩
  | .hbm, ⟨8, _⟩ => ⟨S4096x2x4x704, .bf16⟩
  | .hbm, ⟨9, _⟩ => ⟨S2x4x4096x704, .bf16⟩
  | .hbm, ⟨10, _⟩ => ⟨S4096x1024, .bf16⟩
  | .hbm, ⟨11, _⟩ => ⟨S2x4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S4x704x1024, .bf16⟩
  | .local _ .vmem, ⟨3, _⟩ => ⟨S2x4x512x704, .bf16⟩
  | .local _ .vmem, ⟨4, _⟩ => ⟨S2x4x512x704, .bf16⟩
  | .local _ .vmem, ⟨5, _⟩ => ⟨S2x4x512x704, .bf16⟩
  | .local _ .vmem, ⟨6, _⟩ => ⟨S2x4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩
abbrev S4096x2x4x704 : Shape := ⟨4, ![4096, 2, 4, 704]⟩
abbrev S2x4x4096x704 : Shape := ⟨4, ![2, 4, 4096, 704]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x5632, .f32⟩
  | .hbm, ⟨3, _⟩ => ⟨S2816x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x2x4x704, .f32⟩
  | .hbm, ⟨31, _⟩ => ⟨S2x4x4096x704, .f32⟩
  | .hbm, ⟨32, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel5.lean ====
abbrev S8x1024 : Shape := ⟨2, ![8, 1024]⟩
abbrev S8x1152 : Shape := ⟨2, ![8, 1152]⟩
abbrev S1024x1152 : Shape := ⟨2, ![1024, 1152]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .local _ .vmem, ⟨0, _⟩ => ⟨S8x1024, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference5Ideal.lean ====
abbrev S8x1024 : Shape := ⟨2, ![8, 1024]⟩
abbrev S8x1152 : Shape := ⟨2, ![8, 1152]⟩
abbrev S_ : Shape := ⟨0, ![]⟩
abbrev S1024x1152 : Shape := ⟨2, ![1024, 1152]⟩
abbrev S1152 : Shape := ⟨1, ![1152]⟩
abbrev S1x1152 : Shape := ⟨2, ![1, 1152]⟩
abbrev S1152x1024 : Shape := ⟨2, ![1152, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S_, .f32⟩
  | .hbm, ⟨3, _⟩ => ⟨S1024x1152, .f32⟩
  | .hbm, ⟨4, _⟩ => ⟨S_, .f32⟩
  | .hbm, ⟨5, _⟩ => ⟨S1152, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1152, .f32⟩
  | .hbm, ⟨16, _⟩ => ⟨S1x1152, .f32⟩
  | .hbm, ⟨17, _⟩ => ⟨S8x1152, .f32⟩
  | .hbm, ⟨18, _⟩ => ⟨S8x1152, .f32⟩
  | .hbm, ⟨19, _⟩ => ⟨S1152x1024, .f32⟩
  | .hbm, ⟨20, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5120, .f32⟩
  | .hbm, ⟨4, _⟩ => ⟨S512x1024, .f32⟩
  | .hbm, ⟨5, _⟩ => ⟨S512x1024, .f32⟩
  | .hbm, ⟨6, _⟩ => ⟨S2x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S4096x5120, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S2x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S4096x1024 : Shape := ⟨2, ![4096, 1024]⟩
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5120, .f32⟩
  | .hbm, ⟨4, _⟩ => ⟨S512x1024, .f32⟩
  | .hbm, ⟨5, _⟩ => ⟨S512x1024, .f32⟩
  | .hbm, ⟨6, _⟩ => ⟨S2x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x3072, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S2x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S2x1024, .f32⟩
  | .hbm, ⟨74, _⟩ => ⟨S2x1024, .f32⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4096x1024, .bf16⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel8.lean ====
abbrev S4096x5120 : Shape := ⟨2, ![4096, 5120]⟩
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩
abbrev S1024x8x640 : Shape := ⟨3, ![1024, 8, 640]⟩
abbrev S8x1024x640 : Shape := ⟨3, ![8, 1024, 640]⟩
abbrev S512x5120 : Shape := ⟨2, ![512, 5120]⟩
abbrev S512x1024 : Shape := ⟨2, ![512, 1024]⟩
abbrev S1x1024x640 : Shape := ⟨3, ![1, 1024, 640]⟩
abbrev S1024x640 : Shape := ⟨2, ![1024, 640]⟩
abbrev S1024x1280 : Shape := ⟨2, ![1024, 1280]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 26
  | .vmem => 20
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5120, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x8x640, .f32⟩
  | .hbm, ⟨16, _⟩ => ⟨S8x1024x640, .f32⟩
  | .hbm, ⟨17, _⟩ => ⟨S8x1024x640, .bf16⟩
  | .hbm, ⟨18, _⟩ => ⟨S4096x5120, .bf16⟩
  | .hbm, ⟨19, _⟩ => ⟨S4096x1024, .bf16⟩
  | .hbm, ⟨20, _⟩ => ⟨S4096x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .bf16⟩
  | .hbm, ⟨25, _⟩ => ⟨S1x1024, .f32⟩
  | .local _ .vmem, ⟨0, _⟩ => ⟨S512x5120, .bf16⟩
  | .local _ .vmem, ⟨1, _⟩ => ⟨S512x5120, .bf16⟩
  | .local _ .vmem, ⟨2, _⟩ => ⟨S8x1024x640, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S4096x5120 : Shape := ⟨2, ![4096, 5120]⟩
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5120, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x5120, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S4096x1024, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 20
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x2816, .bf16⟩
  | .hbm, ⟨7, _⟩ => ⟨S4096x4x704, .bf16⟩
  | .hbm, ⟨8, _⟩ => ⟨S4x4096x704, .bf16⟩
  | .hbm, ⟨9, _⟩ => ⟨S2816x1024, .bf16⟩
  | .hbm, ⟨10, _⟩ => ⟨S4x704x1024, .bf16⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_cst_9 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_cst_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Kernel11.lean ====
abbrev S4096x5120 : Shape := ⟨2, ![4096, 5120]⟩
abbrev S4096x512 : Shape := ⟨2, ![4096, 512]⟩
abbrev S2x16x8x128 : Shape := ⟨4, ![2, 16, 8, 128]⟩
abbrev S256x256 : Shape := ⟨2, ![256, 256]⟩
abbrev S4096x256 : Shape := ⟨2, ![4096, 256]⟩
abbrev S1x1x8x128 : Shape := ⟨4, ![1, 1, 8, 128]⟩
abbrev S4x1x1 : Shape := ⟨3, ![4, 1, 1]⟩
abbrev S256x1 : Shape := ⟨2, ![256, 1]⟩
abbrev S256 : Shape := ⟨1, ![256]⟩
abbrev S1 : Shape := ⟨1, ![1]⟩
abbrev S1x1 : Shape := ⟨2, ![1, 1]⟩
abbrev S1x1x1 : Shape := ⟨3, ![1, 1, 1]⟩
abbrev S1024x256 : Shape := ⟨2, ![1024, 256]⟩
abbrev S256x1024 : Shape := ⟨2, ![256, 1024]⟩
abbrev S1x256x1 : Shape := ⟨3, ![1, 256, 1]⟩
abbrev S8x128 : Shape := ⟨2, ![8, 128]⟩

abbrev nBuf : Space → Nat
  | .hbm => 5
  | .vmem => 13
  | .smem => 0
  | _ => 0

abbrev bufTy : (tb : Table) → Fin (tcTables nBuf tb) → BufTy
  | .hbm, ⟨0, _⟩ => ⟨S4096x5120, .f32⟩
  | .hbm, ⟨1, _⟩ => ⟨S4096x5120, .bf16⟩
  | .hbm, ⟨2, _⟩ => ⟨S4096x512, .bf16⟩
  | .hbm, ⟨3, _⟩ => ⟨S4096x512, .f32⟩
  | .hbm, ⟨4, _⟩ => ⟨S2x16x8x128, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S1x1x8x128, .f32⟩
  | .local _ .vmem, ⟨11, _⟩ => ⟨S1x1x8x128, .f32⟩
  | .local _ .vmem, ⟨12, _⟩ => ⟨S4x1x1, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32_8 : BitVec 32 := 0#32
  let v40 : BitVec 1 := Scalar.cmpi .eq arg1 c0_i32_8
  let v41 : BitVec 32 := Scalar.extui v40
  let c0_i32_9 : BitVec 32 := 0#32
  let v42 : BitVec 1 := Scalar.cmpi .ne v41 c0_i32_9
  v42

@[reducible] def k0_t1_loop : Scf.Loop 32 :=
  let c0_i32_92 : BitVec 32 := 0#32
  let c16_i32 : BitVec 32 := 16#32
  let v254 : BitVec 32 := Scalar.addi c0_i32_92 c16_i32
  let c1_i32 : BitVec 32 := 1#32
  ⟨c0_i32_92, v254, c1_i32⟩
def k0_mult1 (k0_t1 : Fin k0_t1_loop.trips) : BitVec 32 :=
  let c0_i32_92 : BitVec 32 := 0#32
  let c1_i32 : BitVec 32 := 1#32
  let arg9 : BitVec 32 := Scf.iv c0_i32_92 c1_i32 k0_t1
  let c256_i32_110 : BitVec 32 := 256#32
  let v280 : BitVec 32 := Scalar.muli arg9 c256_i32_110
  v280
def k0_off1 (k0_t1 : Fin k0_t1_loop.trips) : Fin 2 → Nat :=
  let c0_i32_92 : BitVec 32 := 0#32
  let c1_i32 : BitVec 32 := 1#32
  let arg9 : BitVec 32 := Scf.iv c0_i32_92 c1_i32 k0_t1
  let c256_i32_110 : BitVec 32 := 256#32
  let v280 : BitVec 32 := Scalar.muli arg9 c256_i32_110
  let v281 : BitVec 32 := v280
  let v282 : Index := Scalar.indexCast v281
  let c0_111 : Index := 0#32
  ![v282.toNat, 0]
def k0_mult2 (i : grid0.Coords) : BitVec 32 :=
  let arg1 : BitVec 32 := BitVec.ofNat 32 (i 1).val
  let c256_i32_36 : BitVec 32 := 256#32
  let v94 : BitVec 32 := Scalar.muli arg1 c256_i32_36
  v94
def k0_off2 (i : grid0.Coords) : Fin 2 → Nat :=
  let arg1 : BitVec 32 := BitVec.ofNat 32 (i 1).val
  let c256_i32_36 : BitVec 32 := 256#32
  let v94 : BitVec 32 := Scalar.muli arg1 c256_i32_36
  let v95 : BitVec 32 := v94
  let v96 : Index := Scalar.indexCast v95
  let c0_37 : Index := 0#32
  ![v96.toNat, 0]
def k0_mult3 (i : grid0.Coords) (arg9 : BitVec 32) : BitVec 32 :=
  let arg1 : BitVec 32 := BitVec.ofNat 32 (i 1).val
  let c1_i32 : BitVec 32 := 1#32
  let v250 : BitVec 32 := Scalar.subi arg1 c1_i32
  let v251 : BitVec 32 := Scalar.subi v250 arg9
  let c256_i32_88 : BitVec 32 := 256#32
  let v252 : BitVec 32 := Scalar.muli v251 c256_i32_88
  v252

def k0_off3 (i : grid0.Coords) (arg9 : BitVec 32) : Fin 2 → Nat :=
  let arg1 : BitVec 32 := BitVec.ofNat 32 (i 1).val
  let c1_i32 : BitVec 32 := 1#32
  let v250 : BitVec 32 := Scalar.subi arg1 c1_i32
  let v251 : BitVec 32 := Scalar.subi v250 arg9
  let c256_i32_88 : BitVec 32 := 256#32
  let v252 : BitVec 32 := Scalar.muli v251 c256_i32_88
  let v253 : BitVec 32 := v252
  let v254 : Index := Scalar.indexCast v253
  let c0_89 : Index := 0#32
  ![v254.toNat, 0]

def k0_chk1 (i : grid0.Coords) (arg9 : BitVec 32) : Prop :=
  (256 ∣ (k0_mult3 i arg9).toNat) ∧
  (∀ a, (k0_off3 i arg9) a + S256x256.size a ≤ S4096x256.size a)
theorem k0_mult3_dvd : ∀ (i : grid0.Coords) (arg9 : BitVec 32) (k0_hw1 : k0_chk1 i arg9), 256 ∣ (k0_mult3 i arg9).toNat := fun i arg9 k0_hw1 => k0_hw1.1
theorem k0_off3_inb : ∀ (i : grid0.Coords) (arg9 : BitVec 32) (k0_hw1 : k0_chk1 i arg9), ∀ a, (k0_off3 i arg9) a + S256x256.size a ≤ S4096x256.size a := fun i arg9 k0_hw1 => k0_hw1.2

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel11Ideal.lean ====
variable {F : FTy → Type} [FloatOps F] [Named F]
def κ : String → Option EReal := fun
  | "no_exit" => some ⊤
  | _ => none
-- ==== Reference11Ideal.lean ====
abbrev S4096x5120 : Shape := ⟨2, ![4096, 5120]⟩
abbrev S4096x1536 : Shape := ⟨2, ![4096, 1536]⟩
abbrev S4096x512 : Shape := ⟨2, ![4096, 512]⟩
abbrev S4096x2048 : Shape := ⟨2, ![4096, 2048]⟩
abbrev S4096x8x64 : Shape := ⟨3, ![4096, 8, 64]⟩
abbrev S8x4096x4096 : Shape := ⟨3, ![8, 4096, 4096]⟩
abbrev S_ : Shape := ⟨0, ![]⟩
abbrev S8x64x4096 : Shape := ⟨3, ![8, 64, 4096]⟩
abbrev S8x4096 : Shape := ⟨2, ![8, 4096]⟩
abbrev S4096x8 : Shape := ⟨2, ![4096, 8]⟩
abbrev S2x16x8x128 : Shape := ⟨4, ![2, 16, 8, 128]⟩

abbrev nBuf : Space → Nat
  | .hbm => 98
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S4096x1536, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x2048, .f32⟩
  | .hbm, ⟨6, _⟩ => ⟨S4096x8x64, .f32⟩
  | .hbm, ⟨7, _⟩ => ⟨S4096x8x64, .f32⟩
  | .hbm, ⟨8, _⟩ => ⟨S4096x8x64, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .i32⟩
  | .hbm, ⟨14, _⟩ => ⟨S8x4096x4096, .i32⟩
  | .hbm, ⟨15, _⟩ => ⟨S8x4096x4096, .i1⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .i1⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S_, .f32⟩
  | .hbm, ⟨58, _⟩ => ⟨S8x4096x4096, .f32⟩
  | .hbm, ⟨59, _⟩ => ⟨S8x4096x4096, .f32⟩
  | .hbm, ⟨60, _⟩ => ⟨S8x64x4096, .f32⟩
  | .hbm, ⟨61, _⟩ => ⟨S4096x8x64, .f32⟩
  | .hbm, ⟨62, _⟩ => ⟨S4096x512, .f32⟩
  | .hbm, ⟨63, _⟩ => ⟨S4096x512, .bf16⟩
  | .hbm, ⟨64, _⟩ => ⟨S4096x8x64, .f32⟩
  | .hbm, ⟨65, _⟩ => ⟨S4096x8x64, .f32⟩
  | .hbm, ⟨66, _⟩ => ⟨S8x4096x4096, .f32⟩
  | .hbm, ⟨67, _⟩ => ⟨S_, .f32⟩
  | .hbm, ⟨68, _⟩ => ⟨S8x4096x4096, .f32⟩
  | .hbm, ⟨69, _⟩ => ⟨S8x4096x4096, .f32⟩
  | .hbm, ⟨70, _⟩ => ⟨S8x4096x4096, .i32⟩
  | .hbm, ⟨71, _⟩ => ⟨S8x4096x4096, .i32⟩
  | .hbm, ⟨72, _⟩ => ⟨S8x4096x4096, .i1⟩
  | .hbm, ⟨73, _⟩ => ⟨S_, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S8x4096x4096, .i1⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S_, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S4096x8, .f32⟩
  | .hbm, ⟨94, _⟩ => ⟨S4096x8x64, .f32⟩
  | .hbm, ⟨95, _⟩ => ⟨S4096x512, .f32⟩
  | .hbm, ⟨96, _⟩ => ⟨S_, .f32⟩
  | .hbm, ⟨97, _⟩ => ⟨S2x16x8x128, .f32⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v14 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v15 : Ref sig .tc := ⟨.hbm, 33, rfl⟩
abbrev main_call2_cst : Ref sig .tc := ⟨.hbm, 34, rfl⟩
abbrev main_call2_v0 : Ref sig .tc := ⟨.hbm, 35, rfl⟩
abbrev main_v16 : Ref sig .tc := ⟨.hbm, 36, rfl⟩
abbrev main_v17 : Ref sig .tc := ⟨.hbm, 37, rfl⟩
abbrev main_call3_v0 : Ref sig .tc := ⟨.hbm, 38, rfl⟩
abbrev main_call3_call0_cst : Ref sig .tc := ⟨.hbm, 39, rfl⟩
abbrev main_call3_call0_v0 : Ref sig .tc := ⟨.hbm, 40, rfl⟩
abbrev main_call3_call0_v1 : Ref sig .tc := ⟨.hbm, 41, rfl⟩
abbrev main_call3_call0_v2 : Ref sig .tc := ⟨.hbm, 42, rfl⟩
abbrev main_call3_call0_v3 : Ref sig .tc := ⟨.hbm, 43, rfl⟩
abbrev main_call3_call0_v4 : Ref sig .tc := ⟨.hbm, 44, rfl⟩
abbrev main_call3_call0_v5 : Ref sig .tc := ⟨.hbm, 45, rfl⟩
abbrev main_call3_call0_v6 : Ref sig .tc := ⟨.hbm, 46, rfl⟩
abbrev main_call3_call0_v7 : Ref sig .tc := ⟨.hbm, 47, rfl⟩
abbrev main_call3_call0_v8 : Ref sig .tc := ⟨.hbm, 48, rfl⟩
abbrev main_call3_call0_v9 : Ref sig .tc := ⟨.hbm, 49, rfl⟩
abbrev main_call3_call0_v10 : Ref sig .tc := ⟨.hbm, 50, rfl⟩
abbrev main_call3_call0_v11 : Ref sig .tc := ⟨.hbm, 51, rfl⟩
abbrev main_call3_v1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_1 : Ref sig .tc := ⟨.hbm, 56, rfl⟩
abbrev main_call4_v0 : Ref sig .tc := ⟨.hbm, 57, rfl⟩
abbrev main_call4_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call5_cst : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_v8 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_v34 : Ref sig .tc := ⟨.hbm, 86, rfl⟩
abbrev main_cst_3 : Ref sig .tc := ⟨.hbm, 87, rfl⟩
abbrev main_call6_v0 : Ref sig .tc := ⟨.hbm, 88, rfl⟩
abbrev main_call6_v1 : Ref sig .tc := ⟨.hbm, 89, rfl⟩
abbrev main_v35 : Ref sig .tc := ⟨.hbm, 90, rfl⟩
abbrev main_cst_4 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_cst_5 : Ref sig .tc := ⟨.hbm, 96, rfl⟩
abbrev main_v40 : Ref sig .tc := ⟨.hbm, 97, rfl⟩

abbrev nD : Nat := 1
abbrev τ : Topo := Topo.v7x

variable {F : FTy → Type} [FloatOps F]
-- ==== Kernel12.lean ====
abbrev S4096x5120 : Shape := ⟨2, ![4096, 5120]⟩
abbrev S3x512 : Shape := ⟨2, ![3, 512]⟩
abbrev S4096x512 : Shape := ⟨2, ![4096, 512]⟩
abbrev S4096x128 : Shape := ⟨2, ![4096, 128]⟩
abbrev S3x128 : Shape := ⟨2, ![3, 128]⟩
abbrev S1x128 : Shape := ⟨2, ![1, 128]⟩

abbrev nBuf : Space → Nat
  | .hbm => 4
  | .vmem => 10
  | .smem => 0
  | _ => 0

abbrev bufTy : (tb : Table) → Fin (tcTables nBuf tb) → BufTy
  | .hbm, ⟨0, _⟩ => ⟨S4096x5120, .f32⟩
  | .hbm, ⟨1, _⟩ => ⟨S3x512, .f32⟩
  | .hbm, ⟨2, _⟩ => ⟨S4096x5120, .bf16⟩
  | .hbm, ⟨3, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x5120 : Shape := ⟨2, ![4096, 5120]⟩
abbrev S3x512 : Shape := ⟨2, ![3, 512]⟩
abbrev S4096x1536 : Shape := ⟨2, ![4096, 1536]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 32
  | .vmem => 0
  | .smem => 0
  | _ => 0

abbrev bufTy : (tb : Table) → Fin (tcTables nBuf tb) → BufTy
  | .hbm, ⟨0, _⟩ => ⟨S4096x5120, .f32⟩
  | .hbm, ⟨1, _⟩ => ⟨S3x512, .f32⟩
  | .hbm, ⟨2, _⟩ => ⟨S4096x1536, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S1x512, .f32⟩
  | .hbm, ⟨11, _⟩ => ⟨S512, .f32⟩
  | .hbm, ⟨12, _⟩ => ⟨S4096x512, .f32⟩
  | .hbm, ⟨13, _⟩ => ⟨S1x512, .f32⟩
  | .hbm, ⟨14, _⟩ => ⟨S4096x512, .f32⟩
  | .hbm, ⟨15, _⟩ => ⟨S4096x512, .f32⟩
  | .hbm, ⟨16, _⟩ => ⟨S1x512, .f32⟩
  | .hbm, ⟨17, _⟩ => ⟨S512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S512, .f32⟩
  | .hbm, ⟨25, _⟩ => ⟨S4096x512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .bf16⟩
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x5632 : Shape := ⟨2, ![1024, 5632]⟩
abbrev S5632x1024 : Shape := ⟨2, ![5632, 1024]⟩
abbrev S8x704x1024 : Shape := ⟨3, ![8, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S2x4x512x704 : Shape := ⟨4, ![2, 4, 512, 704]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S4096x1024, .bf16⟩
  | .hbm, ⟨9, _⟩ => ⟨S2x4x4096x704, .bf16⟩
  | .hbm, ⟨10, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x704x1024, .bf16⟩
  | .local _ .vmem, ⟨6, _⟩ => ⟨S512x1024, .bf16⟩
  | .local _ .vmem, ⟨7, _⟩ => ⟨S512x1024, .bf16⟩
  | .local _ .vmem, ⟨8, _⟩ => ⟨S2x4x512x704, .bf16⟩
  | .local _ .vmem, ⟨9, _⟩ => ⟨S2x4x512x704, .bf16⟩
  | .local _ .vmem, ⟨10, _⟩ => ⟨S4x512x704, .bf16⟩
  | .local _ .vmem, ⟨11, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x4x704, .f32⟩
  | .hbm, ⟨41, _⟩ => ⟨S4x4096x704, .f32⟩
  | .hbm, ⟨42, _⟩ => ⟨S4096x1024, .bf16⟩
  | .hbm, ⟨43, _⟩ => ⟨S4096x2x4x704, .f32⟩
  | .hbm, ⟨44, _⟩ => ⟨S2x4x4096x704, .f32⟩
  | .hbm, ⟨45, _⟩ => ⟨S2x4x4096x704, .bf16⟩
  | .hbm, ⟨46, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S4096x4x704, .bf16⟩
  | .hbm, ⟨6, _⟩ => ⟨S4x4096x704, .bf16⟩
  | .hbm, ⟨7, _⟩ => ⟨S2816x1024, .bf16⟩
  | .hbm, ⟨8, _⟩ => ⟨S4x704x1024, .bf16⟩
  | .hbm, ⟨9, _⟩ => ⟨S4096x1024, .f32⟩
  | .hbm, ⟨10, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x5120 : Shape := ⟨2, ![1024, 5120]⟩
abbrev S1024x8x640 : Shape := ⟨3, ![1024, 8, 640]⟩
abbrev S8x1024x640 : Shape := ⟨3, ![8, 1024, 640]⟩
abbrev S4096x5120 : Shape := ⟨2, ![4096, 5120]⟩
abbrev S512x1024 : Shape := ⟨2, ![512, 1024]⟩
abbrev S512x5120 : Shape := ⟨2, ![512, 5120]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S1024x1280 : Shape := ⟨2, ![1024, 1280]⟩
abbrev S512x1280 : Shape := ⟨2, ![512, 1280]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .f32⟩
  | .hbm, ⟨5, _⟩ => ⟨S1024x8x640, .f32⟩
  | .hbm, ⟨6, _⟩ => ⟨S8x1024x640, .f32⟩
  | .hbm, ⟨7, _⟩ => ⟨S8x1024x640, .bf16⟩
  | .hbm, ⟨8, _⟩ => ⟨S4096x1024, .bf16⟩
  | .hbm, ⟨9, _⟩ => ⟨S4096x5120, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S8x1024x640, .bf16⟩
  | .local _ .vmem, ⟨6, _⟩ => ⟨S512x1024, .bf16⟩
  | .local _ .vmem, ⟨7, _⟩ => ⟨S512x1024, .bf16⟩
  | .local _ .vmem, ⟨8, _⟩ => ⟨S512x5120, .bf16⟩
  | .local _ .vmem, ⟨9, _⟩ => ⟨S512x5120, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x1024 : Shape := ⟨2, ![4096, 1024]⟩
abbrev S1x1024 : Shape := ⟨2, ![1, 1024]⟩
abbrev S1024x5120 : Shape := ⟨2, ![1024, 5120]⟩
abbrev S_ : Shape := ⟨0, ![]⟩
abbrev S4096 : Shape := ⟨1, ![4096]⟩
abbrev S4096x1 : Shape := ⟨2, ![4096, 1]⟩
abbrev S4096x5120 : Shape := ⟨2, ![4096, 5120]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5120, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x5120, .f32⟩
  | .hbm, ⟨29, _⟩ => ⟨S4096x5120, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel16.lean ====
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩

abbrev nBuf : Space → Nat
  | .hbm => 20
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x5120, .f32⟩
  | .hbm, ⟨3, _⟩ => ⟨S512x1024, .f32⟩
  | .hbm, ⟨4, _⟩ => ⟨S512x1024, .f32⟩
  | .hbm, ⟨5, _⟩ => ⟨S2x1024, .f32⟩
  | .hbm, ⟨6, _⟩ => ⟨S1024x1024, .f32⟩
  | .hbm, ⟨7, _⟩ => ⟨S4096x1024, .f32⟩
  | .hbm, ⟨8, _⟩ => ⟨S1x1024, .f32⟩
  | .hbm, ⟨9, _⟩ => ⟨S4096x512, .bf16⟩
  | .hbm, ⟨10, _⟩ => ⟨S4096x512, .bf16⟩
  | .hbm, ⟨11, _⟩ => ⟨S4096x5120, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference16Ideal.lean ====
abbrev S4096x512 : Shape := ⟨2, ![4096, 512]⟩
abbrev S4096x5120 : Shape := ⟨2, ![4096, 5120]⟩
abbrev S512x1024 : Shape := ⟨2, ![512, 1024]⟩
abbrev S2x1024 : Shape := ⟨2, ![2, 1024]⟩
abbrev S1024x1024 : Shape := ⟨2, ![1024, 1024]⟩
abbrev S4096x1024 : Shape := ⟨2, ![4096, 1024]⟩
abbrev S1x1024 : Shape := ⟨2, ![1, 1024]⟩
abbrev S4096x3072 : Shape := ⟨2, ![4096, 3072]⟩
abbrev S1024 : Shape := ⟨1, ![1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x5120, .f32⟩
  | .hbm, ⟨3, _⟩ => ⟨S512x1024, .f32⟩
  | .hbm, ⟨4, _⟩ => ⟨S512x1024, .f32⟩
  | .hbm, ⟨5, _⟩ => ⟨S2x1024, .f32⟩
  | .hbm, ⟨6, _⟩ => ⟨S1024x1024, .f32⟩
  | .hbm, ⟨7, _⟩ => ⟨S4096x1024, .f32⟩
  | .hbm, ⟨8, _⟩ => ⟨S1x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel17.lean ====
abbrev S4096x5632 : Shape := ⟨2, ![4096, 5632]⟩
abbrev S1024x5632 : Shape := ⟨2, ![1024, 5632]⟩
abbrev S4096x8x704 : Shape := ⟨3, ![4096, 8, 704]⟩
abbrev S8x4096x704 : Shape := ⟨3, ![8, 4096, 704]⟩
abbrev S5632x1024 : Shape := ⟨2, ![5632, 1024]⟩
abbrev S8x704x1024 : Shape := ⟨3, ![8, 704, 1024]⟩
abbrev S4096x1024 : Shape := ⟨2, ![4096, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S5632x1024, .f32⟩
  | .hbm, ⟨6, _⟩ => ⟨S5632x1024, .bf16⟩
  | .hbm, ⟨7, _⟩ => ⟨S8x704x1024, .bf16⟩
  | .hbm, ⟨8, _⟩ => ⟨S4096x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S_, .f32⟩
  | .hbm, ⟨3, _⟩ => ⟨S4096x1024, .f32⟩
  | .hbm, ⟨4, _⟩ => ⟨S4096x5632, .f32⟩
  | .hbm, ⟨5, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S4096x5632 : Shape := ⟨2, ![4096, 5632]⟩
abbrev S4096x1024 : Shape := ⟨2, ![4096, 1024]⟩
abbrev S4096x8x704 : Shape := ⟨3, ![4096, 8, 704]⟩
abbrev S8x4096x704 : Shape := ⟨3, ![8, 4096, 704]⟩
abbrev S1x4096x1024 : Shape := ⟨3, ![1, 4096, 1024]⟩
abbrev S8x1x704x1024 : Shape := ⟨4, ![8, 1, 704, 1024]⟩
abbrev S4x1024x704 : Shape := ⟨3, ![4, 1024, 704]⟩
abbrev S1x1024x1024 : Shape := ⟨3, ![1, 1024, 1024]⟩
abbrev S4x1x704x1024 : Shape := ⟨4, ![4, 1, 704, 1024]⟩
abbrev S1024x1024 : Shape := ⟨2, ![1024, 1024]⟩
abbrev S1x1x704x1024 : Shape := ⟨4, ![1, 1, 704, 1024]⟩
abbrev S704x1024 : Shape := ⟨2, ![704, 1024]⟩
abbrev S1x1024x704 : Shape := ⟨3, ![1, 1024, 704]⟩
abbrev S1024x704 : Shape := ⟨2, ![1024, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x5632, .bf16⟩
  | .hbm, ⟨3, _⟩ => ⟨S4096x8x704, .bf16⟩
  | .hbm, ⟨4, _⟩ => ⟨S8x4096x704, .bf16⟩
  | .hbm, ⟨5, _⟩ => ⟨S4096x1024, .bf16⟩
  | .hbm, ⟨6, _⟩ => ⟨S1x4096x1024, .bf16⟩
  | .hbm, ⟨7, _⟩ => ⟨S8x1x704x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S4x1x704x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_56 : BitVec 32 := 0#32
  let v49 : BitVec 1 := Scalar.cmpi .ne v48 c0_i32_56
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S8x1x704x1024 : Shape := ⟨4, ![8, 1, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S8x1x704x1024, .f32⟩
  | .hbm, ⟨9, _⟩ => ⟨S8x1x704x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S512x1024, .f32⟩
  | .hbm, ⟨3, _⟩ => ⟨S512x1024, .f32⟩
  | .hbm, ⟨4, _⟩ => ⟨S4096x1024, .bf16⟩
  | .hbm, ⟨5, _⟩ => ⟨S4096x1024, .bf16⟩
  | .hbm, ⟨6, _⟩ => ⟨S512x1024, .bf16⟩
  | .hbm, ⟨7, _⟩ => ⟨S512x1024, .bf16⟩
  | .hbm, ⟨8, _⟩ => ⟨S4096x512, .bf16⟩
  | .hbm, ⟨9, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x1024, .f32⟩
  | .hbm, ⟨11, _⟩ => ⟨S4096x512, .f32⟩
  | .hbm, ⟨12, _⟩ => ⟨S4096x512, .bf16⟩
  | .hbm, ⟨13, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel20.lean ====
abbrev S1024x640 : Shape := ⟨2, ![1024, 640]⟩
abbrev S4x1024x640 : Shape := ⟨3, ![4, 1024, 640]⟩
abbrev S256x640 : Shape := ⟨2, ![256, 640]⟩
abbrev S4x256x640 : Shape := ⟨3, ![4, 256, 640]⟩
abbrev S1x256x640 : Shape := ⟨3, ![1, 256, 640]⟩

abbrev nBuf : Space → Nat
  | .hbm => 9
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S4x1024x640, .f32⟩
  | .hbm, ⟨4, _⟩ => ⟨S4x1024x640, .bf16⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S4x256x640, .bf16⟩
  | .local _ .vmem, ⟨7, _⟩ => ⟨S4x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1024x640 : Shape := ⟨2, ![1024, 640]⟩
abbrev S4x1024x640 : Shape := ⟨3, ![4, 1024, 640]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S4x1024x640, .f32⟩
  | .hbm, ⟨4, _⟩ => ⟨S_, .f32⟩
  | .hbm, ⟨5, _⟩ => ⟨S1024x640, .f32⟩
  | .hbm, ⟨6, _⟩ => ⟨S_, .f32⟩
  | .hbm, ⟨7, _⟩ => ⟨S1024x640, .f32⟩
  | .hbm, ⟨8, _⟩ => ⟨S1024x640, .f32⟩
  | .hbm, ⟨9, _⟩ => ⟨S_, .f32⟩
  | .hbm, ⟨10, _⟩ => ⟨S1024x640, .f32⟩
  | .hbm, ⟨11, _⟩ => ⟨S1024x640, .f32⟩
  | .hbm, ⟨12, _⟩ => ⟨S1024x640, .f32⟩
  | .hbm, ⟨13, _⟩ => ⟨S_, .f32⟩
  | .hbm, ⟨14, _⟩ => ⟨S1024x640, .f32⟩
  | .hbm, ⟨15, _⟩ => ⟨S1024x640, .f32⟩
  | .hbm, ⟨16, _⟩ => ⟨S1024x640, .f32⟩
  | .hbm, ⟨17, _⟩ => ⟨S_, .f32⟩
  | .hbm, ⟨18, _⟩ => ⟨S1024x640, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S_, .f32⟩
  | .hbm, ⟨25, _⟩ => ⟨S1024x640, .f32⟩
  | .hbm, ⟨26, _⟩ => ⟨S1024x640, .f32⟩
  | .hbm, ⟨27, _⟩ => ⟨S1024x640, .f32⟩
  | .hbm, ⟨28, _⟩ => ⟨S_, .f32⟩
  | .hbm, ⟨29, _⟩ => ⟨S1024x640, .f32⟩
  | .hbm, ⟨30, _⟩ => ⟨S1024x640, .f32⟩
  | .hbm, ⟨31, _⟩ => ⟨S1024x640, .f32⟩
  | .hbm, ⟨32, _⟩ => ⟨S_, .f32⟩
  | .hbm, ⟨33, _⟩ => ⟨S1024x640, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/- Extended numbers that are real: read off a precondition, and carried through sums. -/
module

public import Idealize.ShloMosaic.Lib.Pipeline.ValueKit
public import Idealize.ShloMosaic.Lib.Pointwise
public import Idealize.ShloMosaic.Lib.Claim

@[expose] public section

noncomputable section

namespace Cert.Reals

open Idealize.ShloMosaic

theorem inf32 : Ideal.ofBits .f32 2139095040#32 = ⊤ := by simp [Ideal.ofBits, Ideal.ieee]

/-- A number whose absolute value is below infinity is real. -/
theorem real_of_lt {x : EReal} (h : BitVec.ofBool (decide (FloatOps.absf (F := Ideal) (φ := .f32) x < Ideal.ofBits .f32 2139095040#32)) = 1#1) : x = ((x.toReal : ℝ) : EReal) := by
  rw [inf32] at h
  have h' : FloatOps.absf (F := Ideal) (φ := .f32) x < (⊤ : EReal) := by
    by_contra hn
    rw [decide_eq_false hn] at h
    exact absurd h (by decide)
  induction x with
  | bot => exact absurd h' (by show ¬ max (⊥ : EReal) (-⊥) < ⊤; simp)
  | top => exact absurd h' (by show ¬ max (⊤ : EReal) (-⊤) < ⊤; simp)
  | coe r => rfl

theorem coe_sum {ι : Type*} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A sum of products of real numbers is real. -/
theorem coe_dot {n : ℕ} {f g : Fin n → EReal} {a b : Fin n → ℝ} (hf : ∀ k, f k = ((a k : ℝ) : EReal)) (hg : ∀ k, g k = ((b k : ℝ) : EReal)) :
    (∑ k, f k * g k) = ((∑ k, a k * b k : ℝ) : EReal) := by
  rw [← coe_sum]
  exact Finset.sum_congr rfl fun k _ => by rw [hf, hg, EReal.coe_mul]

/-- The logistic function of a real number. -/
def sg (x : ℝ) : ℝ := 1 / (1 + Real.exp (-x))

theorem sg_coe (x : ℝ) : Ideal.div 1 (1 + Ideal.exp (-(x : EReal))) = ((sg x : ℝ) : EReal) := by
  have : (1 + Real.exp (-x)) ≠ 0 := by positivity
  rw [← EReal.coe_neg, Ideal.exp_coe, ← EReal.coe_one, ← EReal.coe_add, Ideal.div_coe this, EReal.coe_one, one_mul, sg]

end Cert.Reals

end
-- ==== Proof.Ffn.lean ====
/- The gradient of the feed-forward layer's gate over the real numbers, the form both the kernel's blocks and the reference's halves are read to. -/
module

public import proofs.«01_k».proof.Defs
public import proofs.«01_k».proof.Proof.Reals

@[expose] public section

noncomputable section

namespace Cert.Ffn

open Idealize.ShloMosaic Cert.Reals

instance facts : Cert.Pre_finite3.Facts where
  bcast_S_S4096x1024 := by decide
  bcast_S_S1024x5632 := by decide
  bcast_S_S2816x1024 := by decide

variable (x0 x1 : FVec Ideal ⟨2, ![4096, 1024]⟩ .f32) (x2 : FVec Ideal ⟨2, ![1024, 5632]⟩ .f32) (x3 : FVec Ideal ⟨2, ![2816, 1024]⟩ .f32)

/-- Every element of the four arguments is real. -/
structure Real4 : Prop where
  h0 : ∀ r k, x0 (ix2 r k) = (((x0 (ix2 r k)).toReal : ℝ) : EReal)
  h1 : ∀ r k, x1 (ix2 r k) = (((x1 (ix2 r k)).toReal : ℝ) : EReal)
  h2 : ∀ r k, x2 (ix2 r k) = (((x2 (ix2 r k)).toReal : ℝ) : EReal)
  h3 : ∀ r k, x3 (ix2 r k) = (((x3 (ix2 r k)).toReal : ℝ) : EReal)

/-- The gradient of the layer's gated activations. -/
def A (r : Fin 4096) (n : Fin 2816) : ℝ := ∑ k : Fin 1024, (x0 (ix2 r k)).toReal * (x3 (ix2 n k)).toReal
/-- The layer's gate (the first 2816 columns) and its linear part (the others). -/
def P (r : Fin 4096) (n : Fin 5632) : ℝ := ∑ k : Fin 1024, (x1 (ix2 r k)).toReal * (x2 (ix2 k n)).toReal

def gate (g up : ℝ) : ℝ := up * sg g * (1 + g * (1 - sg g))
def linear (g : ℝ) : ℝ := g * sg g

/-- Column `n` of the gradient of the gate and the linear part. -/
def D (r : Fin 4096) (n : Fin 5632) : ℝ :=
  if h : n.val < 2816 then A x0 x3 r ⟨n.val, h⟩ * gate (P x1 x2 r n) (P x1 x2 r ⟨2816 + n.val, by omega⟩)
  else A x0 x3 r ⟨n.val - 2816, by omega⟩ * linear (P x1 x2 r ⟨n.val - 2816, by omega⟩)

variable {x0 x1 x2 x3} (hr : Real4 x0 x1 x2 x3)

include hr in
theorem A_eq (r : Fin 4096) (n : Fin 2816) : (∑ k : Fin 1024, x0 (ix2 r k) * x3 (ix2 n k) : EReal) = ((A x0 x3 r n : ℝ) : EReal) :=
  coe_dot (fun k => hr.h0 r k) fun k => hr.h3 n k
include hr in
theorem P_eq (r : Fin 4096) (n : Fin 5632) : (∑ k : Fin 1024, x1 (ix2 r k) * x2 (ix2 k n) : EReal) = ((P x1 x2 r n : ℝ) : EReal) :=
  coe_dot (fun k => hr.h1 r k) fun k => hr.h2 k n

/-- The kernel's slope of the gate. -/
theorem gate_kernel (a g up : ℝ) :
    (a : EReal) * ((up : EReal) * Ideal.div 1 (1 + Ideal.exp (0 - (g : EReal))) * (1 + (g : EReal) * (1 - Ideal.div 1 (1 + Ideal.exp (0 - (g : EReal))))))
      = ((a * gate g up : ℝ) : EReal) := by
  rw [zero_sub, sg_coe]; unfold gate; norm_cast
theorem linear_kernel (a g : ℝ) :
    (a : EReal) * ((g : EReal) * Ideal.div 1 (1 + Ideal.exp (0 - (g : EReal)))) = ((a * linear g : ℝ) : EReal) := by
  rw [zero_sub, sg_coe]; unfold linear; norm_cast
/-- The reference's slope of the gate: the sum of the product rule's two terms. -/
theorem gate_reference (a g up : ℝ) :
    (a : EReal) * (up : EReal) * Ideal.div 1 (1 + Ideal.exp (-(g : EReal)))
      + (g : EReal) * ((a : EReal) * (up : EReal)) * (Ideal.div 1 (1 + Ideal.exp (-(g : EReal))) * (1 - Ideal.div 1 (1 + Ideal.exp (-(g : EReal)))))
      = ((a * gate g up : ℝ) : EReal) := by
  rw [sg_coe]; unfold gate; norm_cast; ring
theorem linear_reference (a g : ℝ) :
    (g : EReal) * Ideal.div 1 (1 + Ideal.exp (-(g : EReal))) * (a : EReal) = ((a * linear g : ℝ) : EReal) := by
  rw [sg_coe]; unfold linear; norm_cast; ring

end Cert.Ffn

end
-- ==== Proof.Ffn3.lean ====
/- The gradient of the third feed-forward layer's gate and of the layer's input: the kernel's eight blocks per row tile against the reference's two halves. -/
module

public import proofs.«01_k».proof.Defs
public import proofs.«01_k».proof.Proof.Gen.Kernel3Ideal.Frame
public import proofs.«01_k».proof.Proof.Gen.Reference3Ideal.Run
public import proofs.«01_k».proof.Proof.Gen.Reference3Ideal.Read
public import proofs.«01_k».proof.Proof.Ffn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn3

open Cert.Kernel3Ideal Cert.Kernel3Ideal.Gen Cert.Reference3Ideal.Read Cert.Reals Cert.Ffn

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, t.val, 0] ∧ win0_3.index t = ![0, 0, 0] ∧ win0_4.index t = ![0, 0, t.val, 0] ∧ win0_5.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩
/-- Column `b` of block `j` of half `h`. -/
def col (h : Fin 2) (j : Fin 4) (b : Fin 704) : Fin 5632 := ⟨h.val * 2816 + j.val * 704 + b.val, by omega⟩

abbrev X0 : FVec Ideal S4096x1024 .f32 := m ((c : Thread nD τ).loc main_arg0)
abbrev X1 : FVec Ideal S4096x1024 .f32 := m ((c : Thread nD τ).loc main_arg1)
abbrev X2 : FVec Ideal S1024x5632 .f32 := m ((c : Thread nD τ).loc main_arg2)
abbrev X3 : FVec Ideal S2816x1024 .f32 := m ((c : Thread nD τ).loc main_arg3)

variable {c} (hr : Real4 (X0 m c) (X1 m c) (X2 m c) (X3 m c))

/-- The kernel's blocks, read from the arguments. -/
theorem read_0 (t : Fin cfg0.N) (a : Fin 512) (x : Fin 1024) : iblk m c 0 t (ix2 a x) = X0 m c (ix2 (row t a) x) := by
  blk_simp [iblk]
  entry_read
  pointwise
  blk_ext [idx t, row]
theorem read_1 (t : Fin cfg0.N) (j : Fin 4) (b : Fin 704) (x : Fin 1024) :
    iblk m c 1 t (ix3 j b x) = X3 m c (ix2 ⟨j.val * 704 + b.val, by omega⟩ x) := by
  blk_simp [iblk]
  entry_read
  pointwise
  blk_ext [idx t, row]
include hr in
theorem read_2 (t : Fin cfg0.N) (h : Fin 2) (j : Fin 4) (a : Fin 512) (b : Fin 704) :
    iblk m c 2 t (ix4 h j a b) = ((P (X1 m c) (X2 m c) (row t a) (col h j b) : ℝ) : EReal) := by
  refine Eq.trans ?_ (P_eq hr (row t a) (col h j b))
  blk_simp [iblk]
  entry_read
  pointwise
  blk_point [idx t, row, col]

include hr in
theorem dot_kernel (t : Fin cfg0.N) (j : Fin 4) (a : Fin 512) (b : Fin 704) :
    (∑ x : Fin 1024, @HMul.hMul EReal EReal EReal _ (iblk m c 0 t (ix2 a x)) (iblk m c 1 t (ix3 j b x))) = ((A (X0 m c) (X3 m c) (row t a) ⟨j.val * 704 + b.val, by omega⟩ : ℝ) : EReal) := by
  refine Eq.trans ?_ (A_eq hr (row t a) ⟨j.val * 704 + b.val, by omega⟩)
  exact Finset.sum_congr rfl fun x _ => by rw [read_0, read_1]

/-- 4hat the two halves' slopes leave is the gradient's column. -/
theorem gate_at (r : Fin 4096) (j : Fin 4) (b : Fin 704) :
    A (X0 m c) (X3 m c) r ⟨j.val * 704 + b.val, by omega⟩ * gate (P (X1 m c) (X2 m c) r (col 0 j b)) (P (X1 m c) (X2 m c) r (col 1 j b))
      = D (X0 m c) (X1 m c) (X2 m c) (X3 m c) r (col 0 j b) := by
  have h : (col 0 j b).val < 2816 := by show 0 * 2816 + j.val * 704 + b.val < 2816; omega
  have e : (⟨j.val * 704 + b.val, by omega⟩ : Fin 2816) = ⟨(col 0 j b).val, h⟩ :=
    Fin.ext (by show j.val * 704 + b.val = 0 * 2816 + j.val * 704 + b.val; omega)
  have e' : col 1 j b = ⟨2816 + (col 0 j b).val, by omega⟩ :=
    Fin.ext (by show 1 * 2816 + j.val * 704 + b.val = 2816 + (0 * 2816 + j.val * 704 + b.val); omega)
  rw [D, dif_pos h, e, e']
theorem linear_at (r : Fin 4096) (j : Fin 4) (b : Fin 704) :
    A (X0 m c) (X3 m c) r ⟨j.val * 704 + b.val, by omega⟩ * linear (P (X1 m c) (X2 m c) r (col 0 j b))
      = D (X0 m c) (X1 m c) (X2 m c) (X3 m c) r (col 1 j b) := by
  have h : ¬ (col 1 j b).val < 2816 := by show ¬ 1 * 2816 + j.val * 704 + b.val < 2816; omega
  have e : (⟨j.val * 704 + b.val, by omega⟩ : Fin 2816) = ⟨(col 1 j b).val - 2816, by omega⟩ :=
    Fin.ext (by show j.val * 704 + b.val = 1 * 2816 + j.val * 704 + b.val - 2816; omega)
  have e' : col 0 j b = ⟨(col 1 j b).val - 2816, by omega⟩ :=
    Fin.ext (by show 0 * 2816 + j.val * 704 + b.val = 1 * 2816 + j.val * 704 + b.val - 2816; omega)
  rw [D, dif_neg h, e, e']

/-- The gradient in blocks, as the kernel stores it. -/
def T : FVec Ideal S2x4x4096x704 .bf16 := fun y => ((D (X0 m c) (X1 m c) (X2 m c) (X3 m c) (y 2) (col (y 0) (y 1) (y 3)) : ℝ) : EReal)

include hr in
theorem final_4 : (dats m 0 c).arrAt 4 (cfgs 0).N = T m (c := c) := by
  refine (dats m 0 c).arrAt_eq_of_covers 4 _ (by decide +kernel) fun t hf y => ?_
  blk_simp; rw [after0_4]
  obtain ⟨h, j, a, b, rfl⟩ : ∃ (h : Fin 2) (j : Fin 4) (a : Fin 512) (b : Fin 704), y = ix4 h j a b := ⟨y 0, y 1, y 2, y 3, eq_ix4 y⟩
  rw [show ((cfg0.win 4).blk t).view.emb (ix4 h j a b) = (ix4 h j (row t a) b : S2x4x4096x704.Idx) from by blk_ext [idx t, row]]
  canon_tiles x h
  all_goals
    open_payloads
    obtain ⟨p, q, a', b', rfl⟩ : ∃ (p : Fin 1) (q : Fin 1) (a' : Fin 512) (b' : Fin 704), x = ix4 p q a' b' := ⟨x 0, x 1, x 2, x 3, eq_ix4 x⟩
    obtain rfl : a = a' := Fin.ext h2
    obtain rfl : b = b' := Fin.ext h3
    have e0 : h.val = _ := h0
    have e1 : j.val = _ := h1
    show _ = ((D (X0 m c) (X1 m c) (X2 m c) (X3 m c) (row t a) (col h j b) : ℝ) : EReal)
  case piece0 =>
    obtain rfl : h = 1 := Fin.ext (by show h.val = 1; omega)
    obtain rfl : j = 3 := Fin.ext (by show j.val = 3; omega)
    pointwise
    rw [dot_kernel m hr]; simp only [read_2 m hr]
    exact (linear_kernel _ _).trans (congrArg _ (linear_at m _ 3 _))
  case piece1 =>
    obtain rfl : h = 0 := Fin.ext (by show h.val = 0; omega)
    obtain rfl : j = 3 := Fin.ext (by show j.val = 3; omega)
    pointwise
    rw [dot_kernel m hr]; simp only [read_2 m hr]
    exact (gate_kernel _ _ _).trans (congrArg _ (gate_at m _ 3 _))
  case piece2 =>
    obtain rfl : h = 1 := Fin.ext (by show h.val = 1; omega)
    obtain rfl : j = 2 := Fin.ext (by show j.val = 2; omega)
    pointwise
    rw [dot_kernel m hr]; simp only [read_2 m hr]
    exact (linear_kernel _ _).trans (congrArg _ (linear_at m _ 2 _))
  case piece3 =>
    obtain rfl : h = 0 := Fin.ext (by show h.val = 0; omega)
    obtain rfl : j = 2 := Fin.ext (by show j.val = 2; omega)
    pointwise
    rw [dot_kernel m hr]; simp only [read_2 m hr]
    exact (gate_kernel _ _ _).trans (congrArg _ (gate_at m _ 2 _))
  case piece4 =>
    obtain rfl : h = 1 := Fin.ext (by show h.val = 1; omega)
    obtain rfl : j = 1 := Fin.ext (by show j.val = 1; omega)
    pointwise
    rw [dot_kernel m hr]; simp only [read_2 m hr]
    exact (linear_kernel _ _).trans (congrArg _ (linear_at m _ 1 _))
  case piece5 =>
    obtain rfl : h = 0 := Fin.ext (by show h.val = 0; omega)
    obtain rfl : j = 1 := Fin.ext (by show j.val = 1; omega)
    pointwise
    rw [dot_kernel m hr]; simp only [read_2 m hr]
    exact (gate_kernel _ _ _).trans (congrArg _ (gate_at m _ 1 _))
  case piece6 =>
    obtain rfl : h = 1 := Fin.ext (by show h.val = 1; omega)
    obtain rfl : j = 0 := Fin.ext (by show j.val = 0; omega)
    pointwise
    rw [dot_kernel m hr]; simp only [read_2 m hr]
    exact (linear_kernel _ _).trans (congrArg _ (linear_at m _ 0 _))
  case piece7 =>
    obtain rfl : h = 0 := Fin.ext (by show h.val = 0; omega)
    obtain rfl : j = 0 := Fin.ext (by show j.val = 0; omega)
    pointwise
    rw [dot_kernel m hr]; simp only [read_2 m hr]
    exact (gate_kernel _ _ _).trans (congrArg _ (gate_at m _ 0 _))

include hr in
theorem reference_T : val_main_v25 (F := Ideal) (X0 m c) (X1 m c) (X2 m c) (X3 m c) = T m (c := c) := by
  funext y
  obtain ⟨h, j, a, b, rfl⟩ : ∃ (h : Fin 2) (j : Fin 4) (a : Fin 4096) (b : Fin 704), y = ix4 h j a b := ⟨y 0, y 1, y 2, y 3, eq_ix4 y⟩
  pointwise [val_main_v0, val_main_v1, val_main_v2, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v7, val_main_v8, val_main_call1_v0, val_main_call1_v1, val_main_call1_v2, val_main_v9, val_main_v10, val_main_v11, val_main_v12, val_main_v13, val_main_call2_v0, val_main_call2_v1, val_main_call2_cst, val_main_call2_v2, val_main_call2_v3, val_main_call2_cst_0, val_main_call2_v4, val_main_v14_2, val_main_call2_cst_1, val_main_call2_v6, val_main_call2_v7, val_main_v14_1, val_main_v14_0, val_main_v15, val_main_v16, val_main_v17, val_main_v18, val_main_v19, val_main_call3_v0, val_main_call3_v1, val_main_call3_v2, val_main_v20, val_main_v21, val_main_v22, val_main_v23, val_main_v24, val_main_v25]
  show _ = ((D (X0 m c) (X1 m c) (X2 m c) (X3 m c) a (col h j b) : ℝ) : EReal)
  unfold D
  split
  · rename_i hn
    rw [dif_pos (show (col h j b).val < 2816 from hn)]
    refine Eq.trans ?_ (gate_reference _ _ _)
    rw [← A_eq hr, ← P_eq hr, ← P_eq hr]
    rfl
  · rename_i hn
    rw [dif_neg (show ¬ (col h j b).val < 2816 from hn)]
    refine Eq.trans ?_ (linear_reference _ _)
    rw [← A_eq hr, ← P_eq hr]
    rfl

theorem read_3 (t : Fin cfg0.N) (q : Fin 8) (b : Fin 704) (x : Fin 1024) :
    iblk m c 3 t (ix3 q b x) = X2 m c (ix2 x ⟨q.val * 704 + b.val, by omega⟩) := by
  blk_simp [iblk]
  entry_read
  pointwise
  blk_ext [idx t, row]

/-- A sum over the columns, block by block, in the order the kernel adds them. -/
theorem sum_blocks (f : Fin 5632 → EReal) :
    (∑ x : Fin 704, f (col 0 0 x)) + (∑ x : Fin 704, f (col 1 0 x)) + (∑ x : Fin 704, f (col 0 1 x)) + (∑ x : Fin 704, f (col 1 1 x))
      + (∑ x : Fin 704, f (col 0 2 x)) + (∑ x : Fin 704, f (col 1 2 x)) + (∑ x : Fin 704, f (col 0 3 x)) + (∑ x : Fin 704, f (col 1 3 x))
      = ∑ n : Fin 5632, f n := by
  rw [← Fin.sum_mul_add_fin 8 704 f, Fin.sum_univ_eight]
  have k (h : Fin 2) (j : Fin 4) (q : Fin 8) (hq : q.val = 4 * h.val + j.val) :
      ∑ x : Fin 704, f (col h j x) = ∑ x : Fin 704, f ⟨q.val * 704 + x.val, Fin.mul_add_lt_of_eq_mul rfl q x⟩ :=
    Finset.sum_congr rfl fun x _ => congrArg f (Fin.ext (by show h.val * 2816 + j.val * 704 + x.val = q.val * 704 + x.val; omega))
  rw [k 0 0 0 rfl, k 0 1 1 rfl, k 0 2 2 rfl, k 0 3 3 rfl, k 1 0 4 rfl, k 1 1 5 rfl, k 1 2 6 rfl, k 1 3 7 rfl]
  abel

include hr in
theorem v21_at (r : Fin 4096) (n : Fin 5632) :
    val_main_v21 (F := Ideal) (X0 m c) (X1 m c) (X2 m c) (X3 m c) (ix2 r n) = ((D (X0 m c) (X1 m c) (X2 m c) (X3 m c) r n : ℝ) : EReal) := by
  pointwise [val_main_v0, val_main_v1, val_main_v2, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v7, val_main_v8, val_main_call1_v0, val_main_call1_v1, val_main_call1_v2, val_main_v9, val_main_v10, val_main_v11, val_main_v12, val_main_v13, val_main_call2_v0, val_main_call2_v1, val_main_call2_cst, val_main_call2_v2, val_main_call2_v3, val_main_call2_cst_0, val_main_call2_v4, val_main_v14_2, val_main_call2_cst_1, val_main_call2_v6, val_main_call2_v7, val_main_v14_1, val_main_v14_0, val_main_v15, val_main_v16, val_main_v17, val_main_v18, val_main_v19, val_main_call3_v0, val_main_call3_v1, val_main_call3_v2, val_main_v20, val_main_v21]
  unfold D
  split
  · refine Eq.trans ?_ (gate_reference _ _ _)
    rw [← A_eq hr, ← P_eq hr, ← P_eq hr]
  · refine Eq.trans ?_ (linear_reference _ _)
    rw [← A_eq hr, ← P_eq hr]

include hr in
theorem final_5 : (dats m 0 c).arrAt 5 (cfgs 0).N = val_main_v22 (F := Ideal) (X0 m c) (X1 m c) (X2 m c) (X3 m c) := by
  refine (dats m 0 c).arrAt_eq_of_covers 5 _ (by decide +kernel) fun t hf y => ?_
  blk_simp; rw [after0_5]
  obtain ⟨a, b, rfl⟩ : ∃ (a : Fin 512) (b : Fin 1024), y = ix2 a b := ⟨y 0, y 1, eq_ix2 y⟩
  rw [show ((cfg0.win 5).blk t).view.emb (ix2 a b) = (ix2 (row t a) b : S4096x1024.Idx) from by blk_ext [idx t, row]]
  frame_out
  open_payloads
  pointwise [val_main_v22]
  simp only [dot_kernel m hr, read_2 m hr, read_3, gate_kernel, linear_kernel, gate_at, linear_at, v21_at m hr]
  refine Eq.trans ?_ (sum_blocks fun n => ((D (X0 m c) (X1 m c) (X2 m c) (X3 m c) (row t a) n : ℝ) : EReal) * X2 m c (ix2 b n))
  refine congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) ?_ ?_) ?_) ?_) ?_) ?_) ?_) ?_
  all_goals
    refine Finset.sum_congr (M := EReal) rfl fun x _ => congrArg (fun z : EReal => _ * z) (congrArg _ (congrArg _ (Fin.ext ?_)))
    show _ * 704 + x.val = _ * 2816 + _ * 704 + x.val
    norm_num

theorem real_of_pre (h : Cert.Pre_Kernel3Ideal_finite3 m) : Real4 (X0 m c) (X1 m c) (X2 m c) (X3 m c) := by
  constructor
  · intro r k
    have := congrFun (h c).1 (ix2 r k)
    unfold Cert.Pre_finite3.fn at this; dsimp only at this; pointwise at this
    exact real_of_lt this
  · intro r k
    have := congrFun (h c).2.1 (ix2 r k)
    unfold Cert.Pre_finite3.fn at this; dsimp only at this; pointwise at this
    exact real_of_lt this
  · intro r k
    have := congrFun (h c).2.2.1 (ix2 r k)
    unfold Cert.Pre_finite3.fn at this; dsimp only at this; pointwise at this
    exact real_of_lt this
  · intro r k
    have := congrFun (h c).2.2.2 (ix2 r k)
    unfold Cert.Pre_finite3.fn at this; dsimp only at this; pointwise at this
    exact real_of_lt this

/-- The kernel's results are the reference's. -/
theorem algebraic : Cert.algebraic_Kernel3Ideal_Reference3Ideal_pre_finite3 := by
  pair_intro
  · run_from Cert.Kernel3Ideal.Gen.run_main m g
  · run_from Reference3Ideal.Value.run m' g'
    · have hr := real_of_pre (c := c) m (by assumption)
      refine (val_main_v25_eq _ _ _ _).trans ?_
      rw [(hagree c).2.2.2]
      exact ((reference_T m hr).trans (final_4 m hr).symm)
    · have hr := real_of_pre (c := c) m (by assumption)
      refine (val_main_v22_eq (F := Ideal) _ _ _ _).trans ?_
      rw [(hagree c).2.2.2]
      exact (final_5 m hr).symm

/-- The reference leaves its arguments alone. -/
theorem quiescent : Cert.quiescent_Reference3Ideal := fun m' ρ _ =>
  Idealize.ShloMosaic.θ_run_mono (Reference3Ideal.Value.run m' ρ) fun r h =>
    ⟨fun c => (h c).2.2, sem_eq_zero_of_no_sems (by decide) r.2⟩

end Cert.Ffn3

end
-- ==== Proof.Ffn4.lean ====
/- The gradient of the first feed-forward layer's gate: the kernel's eight blocks per row tile against the reference's two halves. -/
module

public import proofs.«01_k».proof.Defs
public import proofs.«01_k».proof.Proof.Gen.Kernel4Ideal.Frame
public import proofs.«01_k».proof.Proof.Gen.Reference4Ideal.Run
public import proofs.«01_k».proof.Proof.Gen.Reference4Ideal.Read
public import proofs.«01_k».proof.Proof.Ffn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn4

open Cert.Kernel4Ideal Cert.Kernel4Ideal.Gen Cert.Reference4Ideal.Read Cert.Reals Cert.Ffn

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![0, 0, t.val, 0] ∧ win0_3.index t = ![0, 0, t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩
/-- Column `b` of block `j` of half `h`. -/
def col (h : Fin 2) (j : Fin 4) (b : Fin 704) : Fin 5632 := ⟨h.val * 2816 + j.val * 704 + b.val, by omega⟩

abbrev X0 : FVec Ideal S4096x1024 .f32 := m ((c : Thread nD τ).loc main_arg0)
abbrev X1 : FVec Ideal S4096x1024 .f32 := m ((c : Thread nD τ).loc main_arg1)
abbrev X2 : FVec Ideal S1024x5632 .f32 := m ((c : Thread nD τ).loc main_arg2)
abbrev X3 : FVec Ideal S2816x1024 .f32 := m ((c : Thread nD τ).loc main_arg3)

variable {c} (hr : Real4 (X0 m c) (X1 m c) (X2 m c) (X3 m c))

/-- The kernel's blocks, read from the arguments. -/
theorem read_0 (t : Fin cfg0.N) (a : Fin 512) (x : Fin 1024) : iblk m c 0 t (ix2 a x) = X0 m c (ix2 (row t a) x) := by
  blk_simp [iblk]
  entry_read
  pointwise
  blk_ext [idx t, row]
theorem read_1 (t : Fin cfg0.N) (j : Fin 4) (b : Fin 704) (x : Fin 1024) :
    iblk m c 1 t (ix3 j b x) = X3 m c (ix2 ⟨j.val * 704 + b.val, by omega⟩ x) := by
  blk_simp [iblk]
  entry_read
  pointwise
  blk_ext [idx t, row]
include hr in
theorem read_2 (t : Fin cfg0.N) (h : Fin 2) (j : Fin 4) (a : Fin 512) (b : Fin 704) :
    iblk m c 2 t (ix4 h j a b) = ((P (X1 m c) (X2 m c) (row t a) (col h j b) : ℝ) : EReal) := by
  refine Eq.trans ?_ (P_eq hr (row t a) (col h j b))
  blk_simp [iblk]
  entry_read
  pointwise
  blk_point [idx t, row, col]

include hr in
theorem dot_kernel (t : Fin cfg0.N) (j : Fin 4) (a : Fin 512) (b : Fin 704) :
    (∑ x : Fin 1024, @HMul.hMul EReal EReal EReal _ (iblk m c 0 t (ix2 a x)) (iblk m c 1 t (ix3 j b x))) = ((A (X0 m c) (X3 m c) (row t a) ⟨j.val * 704 + b.val, by omega⟩ : ℝ) : EReal) := by
  refine Eq.trans ?_ (A_eq hr (row t a) ⟨j.val * 704 + b.val, by omega⟩)
  exact Finset.sum_congr rfl fun x _ => by rw [read_0, read_1]

/-- 3hat the two halves' slopes leave is the gradient's column. -/
theorem gate_at (r : Fin 4096) (j : Fin 4) (b : Fin 704) :
    A (X0 m c) (X3 m c) r ⟨j.val * 704 + b.val, by omega⟩ * gate (P (X1 m c) (X2 m c) r (col 0 j b)) (P (X1 m c) (X2 m c) r (col 1 j b))
      = D (X0 m c) (X1 m c) (X2 m c) (X3 m c) r (col 0 j b) := by
  have h : (col 0 j b).val < 2816 := by show 0 * 2816 + j.val * 704 + b.val < 2816; omega
  have e : (⟨j.val * 704 + b.val, by omega⟩ : Fin 2816) = ⟨(col 0 j b).val, h⟩ :=
    Fin.ext (by show j.val * 704 + b.val = 0 * 2816 + j.val * 704 + b.val; omega)
  have e' : col 1 j b = ⟨2816 + (col 0 j b).val, by omega⟩ :=
    Fin.ext (by show 1 * 2816 + j.val * 704 + b.val = 2816 + (0 * 2816 + j.val * 704 + b.val); omega)
  rw [D, dif_pos h, e, e']
theorem linear_at (r : Fin 4096) (j : Fin 4) (b : Fin 704) :
    A (X0 m c) (X3 m c) r ⟨j.val * 704 + b.val, by omega⟩ * linear (P (X1 m c) (X2 m c) r (col 0 j b))
      = D (X0 m c) (X1 m c) (X2 m c) (X3 m c) r (col 1 j b) := by
  have h : ¬ (col 1 j b).val < 2816 := by show ¬ 1 * 2816 + j.val * 704 + b.val < 2816; omega
  have e : (⟨j.val * 704 + b.val, by omega⟩ : Fin 2816) = ⟨(col 1 j b).val - 2816, by omega⟩ :=
    Fin.ext (by show j.val * 704 + b.val = 1 * 2816 + j.val * 704 + b.val - 2816; omega)
  have e' : col 0 j b = ⟨(col 1 j b).val - 2816, by omega⟩ :=
    Fin.ext (by show 0 * 2816 + j.val * 704 + b.val = 1 * 2816 + j.val * 704 + b.val - 2816; omega)
  rw [D, dif_neg h, e, e']

/-- The gradient in blocks, as the kernel stores it. -/
def T : FVec Ideal S2x4x4096x704 .bf16 := fun y => ((D (X0 m c) (X1 m c) (X2 m c) (X3 m c) (y 2) (col (y 0) (y 1) (y 3)) : ℝ) : EReal)

include hr in
theorem final_3 : (dats m 0 c).arrAt 3 (cfgs 0).N = T m (c := c) := by
  refine (dats m 0 c).arrAt_eq_of_covers 3 _ (by decide +kernel) fun t hf y => ?_
  blk_simp; rw [after0_3]
  obtain ⟨h, j, a, b, rfl⟩ : ∃ (h : Fin 2) (j : Fin 4) (a : Fin 512) (b : Fin 704), y = ix4 h j a b := ⟨y 0, y 1, y 2, y 3, eq_ix4 y⟩
  rw [show ((cfg0.win 3).blk t).view.emb (ix4 h j a b) = (ix4 h j (row t a) b : S2x4x4096x704.Idx) from by blk_ext [idx t, row]]
  canon_tiles x h
  all_goals
    open_payloads
    obtain ⟨p, q, a', b', rfl⟩ : ∃ (p : Fin 1) (q : Fin 1) (a' : Fin 512) (b' : Fin 704), x = ix4 p q a' b' := ⟨x 0, x 1, x 2, x 3, eq_ix4 x⟩
    obtain rfl : a = a' := Fin.ext h2
    obtain rfl : b = b' := Fin.ext h3
    have e0 : h.val = _ := h0
    have e1 : j.val = _ := h1
    show _ = ((D (X0 m c) (X1 m c) (X2 m c) (X3 m c) (row t a) (col h j b) : ℝ) : EReal)
  case piece0 =>
    obtain rfl : h = 1 := Fin.ext (by show h.val = 1; omega)
    obtain rfl : j = 3 := Fin.ext (by show j.val = 3; omega)
    pointwise
    rw [dot_kernel m hr]; simp only [read_2 m hr]
    exact (linear_kernel _ _).trans (congrArg _ (linear_at m _ 3 _))
  case piece1 =>
    obtain rfl : h = 0 := Fin.ext (by show h.val = 0; omega)
    obtain rfl : j = 3 := Fin.ext (by show j.val = 3; omega)
    pointwise
    rw [dot_kernel m hr]; simp only [read_2 m hr]
    exact (gate_kernel _ _ _).trans (congrArg _ (gate_at m _ 3 _))
  case piece2 =>
    obtain rfl : h = 1 := Fin.ext (by show h.val = 1; omega)
    obtain rfl : j = 2 := Fin.ext (by show j.val = 2; omega)
    pointwise
    rw [dot_kernel m hr]; simp only [read_2 m hr]
    exact (linear_kernel _ _).trans (congrArg _ (linear_at m _ 2 _))
  case piece3 =>
    obtain rfl : h = 0 := Fin.ext (by show h.val = 0; omega)
    obtain rfl : j = 2 := Fin.ext (by show j.val = 2; omega)
    pointwise
    rw [dot_kernel m hr]; simp only [read_2 m hr]
    exact (gate_kernel _ _ _).trans (congrArg _ (gate_at m _ 2 _))
  case piece4 =>
    obtain rfl : h = 1 := Fin.ext (by show h.val = 1; omega)
    obtain rfl : j = 1 := Fin.ext (by show j.val = 1; omega)
    pointwise
    rw [dot_kernel m hr]; simp only [read_2 m hr]
    exact (linear_kernel _ _).trans (congrArg _ (linear_at m _ 1 _))
  case piece5 =>
    obtain rfl : h = 0 := Fin.ext (by show h.val = 0; omega)
    obtain rfl : j = 1 := Fin.ext (by show j.val = 1; omega)
    pointwise
    rw [dot_kernel m hr]; simp only [read_2 m hr]
    exact (gate_kernel _ _ _).trans (congrArg _ (gate_at m _ 1 _))
  case piece6 =>
    obtain rfl : h = 1 := Fin.ext (by show h.val = 1; omega)
    obtain rfl : j = 0 := Fin.ext (by show j.val = 0; omega)
    pointwise
    rw [dot_kernel m hr]; simp only [read_2 m hr]
    exact (linear_kernel _ _).trans (congrArg _ (linear_at m _ 0 _))
  case piece7 =>
    obtain rfl : h = 0 := Fin.ext (by show h.val = 0; omega)
    obtain rfl : j = 0 := Fin.ext (by show j.val = 0; omega)
    pointwise
    rw [dot_kernel m hr]; simp only [read_2 m hr]
    exact (gate_kernel _ _ _).trans (congrArg _ (gate_at m _ 0 _))

include hr in
theorem reference_T : val_main_v13 (F := Ideal) (X0 m c) (X1 m c) (X2 m c) (X3 m c) = T m (c := c) := by
  funext y
  obtain ⟨h, j, a, b, rfl⟩ : ∃ (h : Fin 2) (j : Fin 4) (a : Fin 4096) (b : Fin 704), y = ix4 h j a b := ⟨y 0, y 1, y 2, y 3, eq_ix4 y⟩
  pointwise [val_main_v0, val_main_v1, val_main_v2, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v7, val_main_v8, val_main_call1_v0, val_main_call1_v1, val_main_call1_v2, val_main_v9, val_main_v10, val_main_v11, val_main_v12, val_main_v13]
  show _ = ((D (X0 m c) (X1 m c) (X2 m c) (X3 m c) a (col h j b) : ℝ) : EReal)
  unfold D
  split
  · rename_i hn
    rw [dif_pos (show (col h j b).val < 2816 from hn)]
    refine Eq.trans ?_ (gate_reference _ _ _)
    rw [← A_eq hr, ← P_eq hr, ← P_eq hr]
    rfl
  · rename_i hn
    rw [dif_neg (show ¬ (col h j b).val < 2816 from hn)]
    refine Eq.trans ?_ (linear_reference _ _)
    rw [← A_eq hr, ← P_eq hr]
    rfl

theorem real_of_pre (h : Cert.Pre_Kernel4Ideal_finite3 m) : Real4 (X0 m c) (X1 m c) (X2 m c) (X3 m c) := by
  constructor
  · intro r k
    have := congrFun (h c).1 (ix2 r k)
    unfold Cert.Pre_finite3.fn at this; dsimp only at this; pointwise at this
    exact real_of_lt this
  · intro r k
    have := congrFun (h c).2.1 (ix2 r k)
    unfold Cert.Pre_finite3.fn at this; dsimp only at this; pointwise at this
    exact real_of_lt this
  · intro r k
    have := congrFun (h c).2.2.1 (ix2 r k)
    unfold Cert.Pre_finite3.fn at this; dsimp only at this; pointwise at this
    exact real_of_lt this
  · intro r k
    have := congrFun (h c).2.2.2 (ix2 r k)
    unfold Cert.Pre_finite3.fn at this; dsimp only at this; pointwise at this
    exact real_of_lt this

/-- The kernel's results are the reference's. -/
theorem algebraic : Cert.algebraic_Kernel4Ideal_Reference4Ideal_pre_finite3 := by
  pair_intro
  · run_from Cert.Kernel4Ideal.Gen.run_main m g
  · run_from Reference4Ideal.Value.run m' g'
    · have hr := real_of_pre (c := c) m (by assumption)
      exact (val_main_v13_eq _ _ _ _).trans ((hagree c).2.2.2 ▸ (reference_T m hr).trans (final_3 m hr).symm)

/-- The reference leaves its arguments alone. -/
theorem quiescent : Cert.quiescent_Reference4Ideal := fun m' ρ _ =>
  Idealize.ShloMosaic.θ_run_mono (Reference4Ideal.Value.run m' ρ) fun r h =>
    ⟨fun c => (h c).2, sem_eq_zero_of_no_sems (by decide) r.2⟩

end Cert.Ffn4

end
-- ==== Proof.Ada.lean ====
/- The gradient of the modulation's weight: the transpose of the gated condition times the cotangent. -/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ada

open Cert.Kernel5Ideal Cert.Kernel5Ideal.Gen Cert.Reference5Ideal.Read

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem read_0 (c : Dev nD) (t : Fin cfg0.N) (r : Fin 8) (k : Fin 1024) : iblk m c 0 t (ix2 r k) = m ((c : Thread nD τ).loc main_arg0) (ix2 r k) := by
  blk_ext [iblk, V, idx t]
theorem read_1 (c : Dev nD) (t : Fin cfg0.N) (r : Fin 8) (k : Fin 1152) : iblk m c 1 t (ix2 r k) = m ((c : Thread nD τ).loc main_arg1) (ix2 r k) := by
  blk_ext [iblk, V, idx t]

theorem final_2 (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  blk_simp; rw [after0_2]
  obtain ⟨a, b, rfl⟩ : ∃ (a : Fin 1024) (b : Fin 1152), y = ix2 a b := ⟨y 0, y 1, eq_ix2 y⟩
  rw [show ((cfg0.win 2).blk t).view.emb (ix2 a b) = (ix2 a b : S1024x1152.Idx) from by blk_ext [idx t]]
  frame_out
  unfold_payloads
  pointwise [val_main_cst, val_main_v0, val_main_cst_0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8]
  simp only [read_0, read_1]
  refine Finset.sum_congr (M := EReal) rfl fun x _ => ?_
  rw [zero_sub (G := EReal)]
  exact mul_comm (G := EReal) _ _

theorem algebraic : Cert.algebraic_Kernel5Ideal_Reference5Ideal := by
  pair_intro
  · run_from Cert.Kernel5Ideal.Gen.run_main m g
  · run_from Reference5Ideal.Value.run m' g'
    · exact (val_main_v8_eq _ _).trans (final_2 m c).symm

theorem quiescent : Cert.quiescent_Reference5Ideal := fun m' ρ _ =>
  Idealize.ShloMosaic.θ_run_mono (Reference5Ideal.Value.run m' ρ) fun r h =>
    ⟨fun c => (h c).2, sem_eq_zero_of_no_sems (by decide) r.2⟩

end Cert.Ada

end
-- ==== Proof.Merge.lean ====
/- The gradient of the gated merge: the two branches, their gates and the gates' bias. -/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Merge

open Cert.Kernel6Ideal Cert.Kernel6Ideal.Gen Cert.Reference6Ideal.Read

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 3] ∧ win0_3.index t = ![t.val, 4]
    ∧ win0_4.index t = ![t.val, 0] ∧ win0_5.index t = ![t.val, 0] ∧ win0_6.index t = ![0, 0] ∧ win0_7.index t = ![t.val, 0] ∧ win0_8.index t = ![t.val, 0]
    ∧ win0_9.index t = ![t.val, 0] ∧ win0_10.index t = ![t.val, 0] ∧ win0_11.index t = ![0, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x1024 .f32 := m ((c : Thread nD τ).loc main_arg0)
abbrev X1 : FVec Ideal S4096x512 .f32 := m ((c : Thread nD τ).loc main_arg1)
abbrev X2 : FVec Ideal S4096x512 .f32 := m ((c : Thread nD τ).loc main_arg2)
abbrev X3 : FVec Ideal S4096x5120 .f32 := m ((c : Thread nD τ).loc main_arg3)
abbrev X4 : FVec Ideal S512x1024 .f32 := m ((c : Thread nD τ).loc main_arg4)
abbrev X5 : FVec Ideal S512x1024 .f32 := m ((c : Thread nD τ).loc main_arg5)
abbrev X6 : FVec Ideal S2x1024 .f32 := m ((c : Thread nD τ).loc main_arg6)
abbrev X7 : FVec Ideal S1024x1024 .f32 := m ((c : Thread nD τ).loc main_arg7)

/-! The kernel's blocks, read from the arguments. -/
section
variable (t : Fin cfg0.N) (a : Fin 512) (b : Fin 1024)
theorem read_0 : iblk m c 0 t (ix2 a b) = X0 m c (ix2 (row t a) b) := by
  blk_simp [iblk]
  entry_read
  pointwise
  blk_ext [idx t, row]
theorem read_1 (x : Fin 1024) : iblk m c 1 t (ix2 x b) = X7 m c (ix2 x b) := by
  blk_simp [iblk]
  entry_read
  pointwise
  blk_ext [idx t, row]
theorem read_2 : iblk m c 2 t (ix2 a b) = X3 m c (ix2 (row t a) ⟨3072 + b.val, by omega⟩) := by
  blk_simp [iblk]
  entry_read
  pointwise
  blk_ext [idx t, row]
theorem read_3 : iblk m c 3 t (ix2 a b) = X3 m c (ix2 (row t a) ⟨4096 + b.val, by omega⟩) := by
  blk_simp [iblk]
  entry_read
  pointwise
  blk_ext [idx t, row]
theorem read_4 : iblk m c 4 t (ix2 a b) = ∑ x : Fin 512, @HMul.hMul EReal EReal EReal _ (X1 m c (ix2 (row t a) x)) (X4 m c (ix2 x b)) := by
  blk_simp [iblk]
  entry_read
  pointwise
  blk_point [idx t, row]
theorem read_5 : iblk m c 5 t (ix2 a b) = ∑ x : Fin 512, @HMul.hMul EReal EReal EReal _ (X2 m c (ix2 (row t a) x)) (X5 m c (ix2 x b)) := by
  blk_simp [iblk]
  entry_read
  pointwise
  blk_point [idx t, row]
theorem read_6 (h : Fin 2) : iblk m c 6 t (ix2 h b) = X6 m c (ix2 h b) := by
  blk_simp [iblk]
  entry_read
  pointwise
  blk_ext [idx t, row]
end

attribute [local pointwise] val_main_v0 val_main_v1 val_main_v2 val_main_v3 val_main_v4 val_main_v5 val_main_v6 val_main_v7 val_main_v8 val_main_v9 val_main_v10 val_main_v11 val_main_cst val_main_v12 val_main_v13 val_main_cst_0 val_main_v14 val_main_v15 val_main_cst_1 val_main_v16 val_main_v17 val_main_v18 val_main_v19 val_main_v20 val_main_v21 val_main_v22 val_main_v23 val_main_v24 val_main_v25 val_main_v26 val_main_cst_2 val_main_v27 val_main_v28 val_main_cst_3 val_main_v29 val_main_v30 val_main_cst_4 val_main_v31 val_main_v32 val_main_v33 val_main_v34 val_main_v35 val_main_v36 val_main_v37 val_main_v38 val_main_v39 val_main_v40 val_main_cst_5 val_main_v41 val_main_v42 val_main_cst_6 val_main_v43 val_main_v44 val_main_cst_7 val_main_v45 val_main_v46 val_main_v47 val_main_v48 val_main_cst_8 val_main_v49 val_main_v50 val_main_cst_9 val_main_v51 val_main_v52 val_main_cst_10 val_main_v53 val_main_v54 val_main_v55 val_main_v56 val_main_v57 val_main_v58

theorem final_7 : (dats m 0 c).arrAt 7 (cfgs 0).N = val_main_v55 (F := Ideal) (X0 m c) (X3 m c) (X6 m c) (X7 m c) := by
  refine (dats m 0 c).arrAt_eq_of_covers 7 _ (by decide +kernel) fun t hf y => ?_
  blk_simp; rw [after0_7]
  obtain ⟨a, b, rfl⟩ : ∃ (a : Fin 512) (b : Fin 1024), y = ix2 a b := ⟨y 0, y 1, eq_ix2 y⟩
  rw [show ((cfg0.win 7).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, zero_sub, mul_assoc]
    exact mul_comm (G := EReal) _ _

theorem final_8 : (dats m 0 c).arrAt 8 (cfgs 0).N = val_main_v56 (F := Ideal) (X0 m c) (X3 m c) (X6 m c) (X7 m c) := by
  refine (dats m 0 c).arrAt_eq_of_covers 8 _ (by decide +kernel) fun t hf y => ?_
  blk_simp; rw [after0_8]
  obtain ⟨a, b, rfl⟩ : ∃ (a : Fin 512) (b : Fin 1024), y = ix2 a b := ⟨y 0, y 1, eq_ix2 y⟩
  rw [show ((cfg0.win 8).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, zero_sub, mul_assoc]
    exact mul_comm (G := EReal) _ _

theorem final_9 : (dats m 0 c).arrAt 9 (cfgs 0).N = val_main_v57 (F := Ideal) (X0 m c) (X1 m c) (X3 m c) (X4 m c) (X6 m c) (X7 m c) := by
  refine (dats m 0 c).arrAt_eq_of_covers 9 _ (by decide +kernel) fun t hf y => ?_
  blk_simp; rw [after0_9]
  obtain ⟨a, b, rfl⟩ : ∃ (a : Fin 512) (b : Fin 1024), y = ix2 a b := ⟨y 0, y 1, eq_ix2 y⟩
  rw [show ((cfg0.win 9).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, zero_sub, mul_assoc]

theorem final_10 : (dats m 0 c).arrAt 10 (cfgs 0).N = val_main_v58 (F := Ideal) (X0 m c) (X2 m c) (X3 m c) (X5 m c) (X6 m c) (X7 m c) := by
  refine (dats m 0 c).arrAt_eq_of_covers 10 _ (by decide +kernel) fun t hf y => ?_
  blk_simp; rw [after0_10]
  obtain ⟨a, b, rfl⟩ : ∃ (a : Fin 512) (b : Fin 1024), y = ix2 a b := ⟨y 0, y 1, eq_ix2 y⟩
  rw [show ((cfg0.win 10).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, zero_sub, mul_assoc]

/-- The gate's gradient at row `r`, column `b`, of branch `h`. -/
def G (h : Fin 2) (r : Fin 4096) (b : Fin 1024) : EReal :=
  if h = 0 then val_main_v57 (F := Ideal) (X0 m c) (X1 m c) (X3 m c) (X4 m c) (X6 m c) (X7 m c) (ix2 r b) else val_main_v58 (F := Ideal) (X0 m c) (X2 m c) (X3 m c) (X5 m c) (X6 m c) (X7 m c) (ix2 r b)

theorem step_B (t : Fin cfg0.N) (h0 : ¬ t.val % 8 = 0) (h : Fin 2) (b : Fin 1024) :
    (outsAt0 m c t.val t.isLt).2.2.2.2 (ix2 h b) = (outsAt0 m c (t.val - 1) (Nat.lt_of_le_of_lt (Nat.sub_le _ _) t.isLt)).2.2.2.2 (ix2 h b) + ∑ a : Fin 512, G m c h (row t a) b := by
  rw [outsAt0_B m c t h0]
  frame_out
  canon_tiles x hh
  all_goals
    open_payloads
    obtain ⟨p, b', rfl⟩ : ∃ (p : Fin 1) (b' : Fin 1024), x = ix2 p b' := ⟨x 0, x 1, eq_ix2 x⟩
    obtain rfl : b = b' := Fin.ext hh1
    have e0 : h.val = _ := hh0
    pointwise
  case piece0 =>
    obtain rfl : h = 1 := Fin.ext (by show h.val = 1; omega)
    refine congrArg (_ + ·) (Finset.sum_congr rfl fun a _ => ?_)
    rw [G, if_neg (by decide)]
    pointwise
    simp only [read_0, read_1, read_2, read_3, read_4, read_5, read_6, zero_sub, mul_assoc]
  case piece1 =>
    obtain rfl : h = 0 := Fin.ext (by show h.val = 0; omega)
    refine congrArg (_ + ·) (Finset.sum_congr rfl fun a _ => ?_)
    rw [G, if_pos rfl]
    pointwise
    simp only [read_0, read_1, read_2, read_3, read_4, read_5, read_6, zero_sub, mul_assoc]

theorem step_A (t : Fin cfg0.N) (h0 : t.val % 8 = 0) (h : Fin 2) (b : Fin 1024) :
    (outsAt0 m c t.val t.isLt).2.2.2.2 (ix2 h b) = 0 + ∑ a : Fin 512, G m c h (row t a) b := by
  rw [outsAt0_A m c t h0]
  frame_out
  obtain rfl | rfl : h = 0 ∨ h = 1 := by omega
  · refine (View.canon_cons_of_not_mem _ _ ?n).trans ?_
    case n => exact fun hm => Nat.not_succ_le_zero 0 ((Rect.mem_set_unit (inb := inb_S2x1024_S1x1024_1_0)).mp hm 0).1
    refine ((congrArg (View.canon _) ?e).trans (View.canon_cons_emb _ _ _ (ix2 0 b))).trans ?_
    case e => blk_ext []
    open_payloads
    pointwise
    refine (congrArg (· + _) (congrFun (View.readCov_fill (ms0_11 t).view inb_S2x1024_S2x1024_0_0 _ [] (Rect.unit ![0, 0] ![1, 1024] inb_S2x1024_S1x1024_0_0) (by decide)) _)).trans ?_
    refine (congrArg₂ (· + ·) rfl (Finset.sum_congr rfl fun a _ => ?_)).trans (zero_add _)
    rw [G, if_pos rfl]
    pointwise
    simp only [read_0, read_1, read_2, read_3, read_4, read_5, read_6, zero_sub, mul_assoc]
  · refine ((congrArg (View.canon _) ?e).trans (View.canon_cons_emb _ _ _ (ix2 0 b))).trans ?_
    case e => blk_ext []
    open_payloads
    pointwise
    refine (congrArg (· + _) ((congrFun (View.readCov_skip _ _ _ _ _ (by decide +kernel)) _).trans
      (congrFun (View.readCov_fill (ms0_11 t).view inb_S2x1024_S2x1024_0_0 _ [] (Rect.unit ![1, 0] ![1, 1024] inb_S2x1024_S1x1024_1_0) (by decide)) _))).trans ?_
    refine (congrArg₂ (· + ·) rfl (Finset.sum_congr rfl fun a _ => ?_)).trans (zero_add _)
    rw [G, if_neg (by decide)]
    pointwise
    simp only [read_0, read_1, read_2, read_3, read_4, read_5, read_6, zero_sub, mul_assoc]

theorem href (h : Fin 2) (b : Fin 1024) : val_main_v54 (F := Ideal) (X0 m c) (X1 m c) (X2 m c) (X3 m c) (X4 m c) (X5 m c) (X6 m c) (X7 m c) (ix2 h b) = ∑ r : Fin 4096, G m c h r b := by
  obtain rfl | rfl : h = 0 ∨ h = 1 := by omega
  · pointwise
    rw [Fin.sum_univ_one]
    refine Finset.sum_congr rfl fun r _ => ?_
    rw [G, if_pos rfl]
    pointwise
  · pointwise
    rw [Fin.sum_univ_one]
    refine Finset.sum_congr rfl fun r _ => ?_
    rw [G, if_neg (by decide)]
    pointwise

theorem final_11 : (dats m 0 c).arrAt 11 (cfgs 0).N = val_main_v54 (F := Ideal) (X0 m c) (X1 m c) (X2 m c) (X3 m c) (X4 m c) (X5 m c) (X6 m c) (X7 m c) := by
  refine (dats m 0 c).arrAt_eq_of_after_last 11 t0_7 (by decide +kernel) _ fun j => ?_
  blk_simp
  obtain ⟨h, b, rfl⟩ : ∃ (h : Fin 2) (b : Fin 1024), j = ix2 h b := ⟨j 0, j 1, eq_ix2 j⟩
  rw [after0_11, Pipeline.eq_sum_fin_of_reset_step_apply_last (fun n h => (outsAt0 m c n h).2.2.2.2) 8 (fun _ => 0)
    (fun t j => ∑ a : Fin 512, G m c (j 0) (row t a) (j 1))
    (fun t h0 j => by rw [show j = ix2 (j 0) (j 1) from eq_ix2 j]; exact step_A m c t h0 _ _)
    (fun t h0 j => by rw [show j = ix2 (j 0) (j 1) from eq_ix2 j]; exact step_B m c t h0 _ _) (le_of_eq N_0) t0_7 rfl (ix2 h b), zero_add, href]
  exact Fin.sum_mul_add_congr (fun t k hl => rfl) (by show 4096 = grid0.N * 512; rw [N_0])

set_option maxHeartbeats 4000000 in
/-- The kernel's results are the reference's. -/
theorem algebraic : Cert.algebraic_Kernel6Ideal_Reference6Ideal := by
  pair_intro
  · run_from Cert.Kernel6Ideal.Gen.run_main m g
  · run_from Reference6Ideal.Value.run m' g'
    · exact (val_main_v55_eq _ _ _ _).trans (final_7 m c).symm
    · exact (val_main_v56_eq _ _ _ _).trans (final_8 m c).symm
    · exact (val_main_v57_eq _ _ _ _ _ _).trans (final_9 m c).symm
    · exact (val_main_v58_eq _ _ _ _ _ _).trans (final_10 m c).symm
    · exact (val_main_v54_eq _ _ _ _ _ _ _ _).trans (final_11 m c).symm

/-- The reference leaves its arguments alone. -/
theorem quiescent : Cert.quiescent_Reference6Ideal := fun m' ρ _ =>
  Idealize.ShloMosaic.θ_run_mono (Reference6Ideal.Value.run m' ρ) fun r h =>
    ⟨fun c => (h c).2.2.2.2.2, sem_eq_zero_of_no_sems (by decide) r.2⟩

end Cert.Merge

end
-- ==== Proof.Norm.lean ====
/- The gradient of a root mean square, of real numbers: the two ways of writing it. -/
module

public import proofs.«01_k».proof.Proof.Reals
public import Mathlib.Analysis.SpecialFunctions.Pow.Real

@[expose] public section

noncomputable section

namespace Cert.Norm

open Idealize.ShloMosaic Cert.Reals

theorem add_real {a b : EReal} (ha : a = ((a.toReal : ℝ) : EReal)) (hb : b = ((b.toReal : ℝ) : EReal)) : a + b = (((a + b).toReal : ℝ) : EReal) := by
  rw [ha, hb, ← EReal.coe_add, EReal.toReal_coe]
theorem mul_real {a b : EReal} (ha : a = ((a.toReal : ℝ) : EReal)) (hb : b = ((b.toReal : ℝ) : EReal)) : a * b = (((a * b).toReal : ℝ) : EReal) := by
  rw [ha, hb, ← EReal.coe_mul, EReal.toReal_coe]
theorem one_real : (1 : EReal) = (((1 : EReal).toReal : ℝ) : EReal) := by simp

theorem half : Ideal.ofBits .f32 1056964608#32 = ((1 / 2 : ℝ) : EReal) := by
  simp [Ideal.ofBits, Ideal.ieee, -EReal.coe_mul]; norm_num
theorem half_real : Ideal.ofBits .f32 1056964608#32 = (((Ideal.ofBits .f32 1056964608#32).toReal : ℝ) : EReal) := by
  rw [half, EReal.toReal_coe]
/-- Half of a sum, of any numbers. -/
theorem half_sum {n : ℕ} (f : Fin n → EReal) : Ideal.ofBits .f32 1056964608#32 * ∑ a, f a = ∑ a, Ideal.ofBits .f32 1056964608#32 * f a := by
  rw [half]
  refine Finset.induction_on (motive := fun S => ((1 / 2 : ℝ) : EReal) * ∑ a ∈ S, f a = ∑ a ∈ S, ((1 / 2 : ℝ) : EReal) * f a) Finset.univ (by simp) fun a S ha ih => ?_
  rw [Finset.sum_insert ha, Finset.sum_insert ha, ← ih]
  exact EReal.left_distrib_of_nonneg_of_ne_top (by exact_mod_cast (by norm_num : (0 : ℝ) ≤ 1 / 2)) (EReal.coe_ne_top _) _ _

/-- The mean of the squares of a row, the small constant added, and its root's inverse. -/
def V (x : Fin 1024 → EReal) : EReal := Ideal.div (∑ k, x k * x k) (Ideal.ofBits .f32 1149239296#32) + Ideal.ofBits .f32 897988541#32
def R (x : Fin 1024 → EReal) : EReal := Ideal.rsqrt (V x)

theorem width : Ideal.ofBits .f32 1149239296#32 = ((1024 : ℝ) : EReal) := by
  simp [Ideal.ofBits, Ideal.ieee, -EReal.coe_mul]; norm_num
theorem small : ∃ e : ℝ, 0 < e ∧ Ideal.ofBits .f32 897988541#32 = (e : EReal) := by
  refine ⟨8796093 * (2 : ℝ) ^ (-43 : ℤ), by positivity, ?_⟩
  simp [Ideal.ofBits, Ideal.ieee, -EReal.coe_mul]
theorem neg_half : Ideal.ofBits .f32 3204448256#32 = ((-(1 / 2) : ℝ) : EReal) := by
  simp [Ideal.ofBits, Ideal.ieee, -EReal.coe_mul]; norm_num

/-- Of a real row the mean is positive and the root's inverse is real. -/
theorem V_real {x : Fin 1024 → EReal} (hx : ∀ k, x k = (((x k).toReal : ℝ) : EReal)) :
    ∃ v r : ℝ, 0 < v ∧ r * r * v = 1 ∧ V x = (v : EReal) ∧ R x = (r : EReal) := by
  obtain ⟨e, he, hs⟩ := small
  have h : V x = (((∑ k, (x k).toReal * (x k).toReal) * (1 / 1024) + e : ℝ) : EReal) := by
    rw [V, coe_dot hx hx, width, hs, Ideal.div_coe (by norm_num)]; norm_cast
  have hv : 0 < (∑ k, (x k).toReal * (x k).toReal) * (1 / 1024) + e := by
    have := Finset.sum_nonneg (s := Finset.univ) fun (k : Fin 1024) _ => mul_self_nonneg (x k).toReal
    positivity
  refine ⟨_, (√((∑ k, (x k).toReal * (x k).toReal) * (1 / 1024) + e))⁻¹, hv, ?_, h, ?_⟩
  · rw [← mul_inv, Real.mul_self_sqrt hv.le, inv_mul_cancel₀ hv.ne']
  · rw [R, h, Ideal.rsqrt_coe, if_neg (not_lt.mpr hv.le), if_neg hv.ne']

/-- The gradient of a row `x` whose normalised row has gradient `d`, added to `o`: the version's form on the left, the product rule's on the right. -/
theorem gradient {x d : Fin 1024 → EReal} (hx : ∀ k, x k = (((x k).toReal : ℝ) : EReal)) (hd : ∀ k, d k = (((d k).toReal : ℝ) : EReal)) (o : EReal) (b : Fin 1024) :
    o + R x * (d b - x b * R x * Ideal.div (∑ k, d k * (x k * R x)) (Ideal.ofBits .f32 1149239296#32))
      = o + d b * R x + x b * (∑ _k : Fin 1, Ideal.div ((∑ k, x k * d k) * (Ideal.ofBits .f32 3204448256#32 * Ideal.div (R x) (V x))) (Ideal.ofBits .f32 1149239296#32))
        + (∑ _k : Fin 1, Ideal.div ((∑ k, x k * d k) * (Ideal.ofBits .f32 3204448256#32 * Ideal.div (R x) (V x))) (Ideal.ofBits .f32 1149239296#32)) * x b := by
  obtain ⟨v, r, hv, hr, eV, eR⟩ := V_real hx
  have e1 : (∑ k, d k * (x k * R x)) = ((∑ k, (d k).toReal * ((x k).toReal * r) : ℝ) : EReal) :=
    coe_dot hd fun k => by rw [eR, hx k, ← EReal.coe_mul, EReal.toReal_coe]
  rw [Fin.sum_univ_one, e1, coe_dot hx hd, eV, eR, hx b, hd b, width, neg_half, Ideal.div_coe (by norm_num), Ideal.div_coe hv.ne', Ideal.div_coe (by norm_num)]
  simp only [← EReal.coe_mul, ← EReal.coe_sub, ← EReal.coe_add, add_assoc]
  refine congrArg (o + ·) (congrArg _ ?_)
  have e2 : (∑ k, (d k).toReal * ((x k).toReal * r)) = (∑ k, (x k).toReal * (d k).toReal) * r := by
    rw [Finset.sum_mul]; exact Finset.sum_congr rfl fun k _ => by ring
  have e3 : 1 / v = r * r := by field_simp; linarith
  rw [e2, e3]; ring

end Cert.Norm

end
-- ==== Proof.Norm3.lean ====
/- The gradient of the third modulated norm. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference7Ideal

open Read

/-- The reference's run, its results named by the stages of its text. -/
theorem run_reference (m' : (ℓ : Loc nD τ sig) → Buf (Elt Ideal) ℓ) (ρ : Dev nD → PrngReg) :
    θ_run defs (onTc (τ := τ) main) ⟨m', fun _ => 0, ρ⟩ fun r =>
      ∀ c : Dev nD,
        let A (b : Ref sig .tc) := m' ((c.tc : Thread nD τ).loc b)
        let B (b : Ref sig .tc) := r.2.mem ((c.tc : Thread nD τ).loc b)
        B main_v51 = val_main_v51 (F := Ideal) (A main_arg0) (A main_arg1) (A main_arg2) (A main_arg3) (A main_arg4) (A main_arg5) (A main_arg7)
        ∧ B main_v26 = val_main_v26 (F := Ideal) (A main_arg0)
        ∧ B main_v29 = val_main_v29 (F := Ideal) (A main_arg0) (A main_arg2) (A main_arg3) (A main_arg4) (A main_arg5)
        ∧ B main_v34 = val_main_v34 (F := Ideal) (A main_arg0) (A main_arg2) (A main_arg3) (A main_arg4) (A main_arg7)
        ∧ B main_v58 = val_main_v58 (F := Ideal) (A main_arg0) (A main_arg1) (A main_arg2) (A main_arg3) (A main_arg4) (A main_arg5) (A main_arg7)
        ∧ B main_v57 = val_main_v57 (F := Ideal) (A main_arg0) (A main_arg1) (A main_arg2) (A main_arg3) (A main_arg4) (A main_arg5) (A main_arg7)
        ∧ B main_arg0 = A main_arg0
        ∧ B main_arg1 = A main_arg1
        ∧ B main_arg2 = A main_arg2
        ∧ B main_arg3 = A main_arg3
        ∧ B main_arg4 = A main_arg4
        ∧ B main_arg5 = A main_arg5
        ∧ B main_arg6 = A main_arg6
        ∧ B main_arg7 = A main_arg7 :=
  Idealize.ShloMosaic.θ_run_mono (Value.run m' ρ) fun r h c =>
    ⟨(h c).1.trans (val_main_v51_eq m' c),
      (h c).2.1.trans (val_main_v26_eq _),
      (h c).2.2.1.trans (val_main_v29_eq _ _ _ _ _),
      (h c).2.2.2.1.trans (val_main_v34_eq _ _ _ _ _),
      (h c).2.2.2.2.1.trans (val_main_v58_eq m' c),
      (h c).2.2.2.2.2.1.trans (val_main_v57_eq m' c),
      (h c).2.2.2.2.2.2⟩

end Cert.Reference7Ideal

namespace Cert.Norm3

open Cert.Kernel7Ideal Cert.Kernel7Ideal.Gen Cert.Reference7Ideal.Read Cert.Norm Cert.Reals

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] ∧ win0_7.index t = ![t.val, 0] ∧ win0_8.index t = ![0, 0] ∧ win0_9.index t = ![0, 0] ∧ win0_10.index t = ![0, 0] ∧ win0_11.index t = ![t.val, 0] ∧ win0_12.index t = ![0, 0] :=
  (by decide +kernel : ∀ t : Fin grid0.N, _)

/-- The row of the arrays that row `b` of point `t`'s blocks is. -/
def row (t : Fin cfg0.N) (b : Fin 256) : Fin 4096 := ⟨t.val * 256 + b.val, by
  have := lt_of_lt_of_eq t.isLt N_0; omega⟩

abbrev X0 : FVec Ideal S4096x1024 .f32 := m ((c : Thread nD τ).loc main_arg0)
abbrev X1 : FVec Ideal S4096x1024 .f32 := m ((c : Thread nD τ).loc main_arg1)
abbrev X2 : FVec Ideal S4096x1024 .f32 := m ((c : Thread nD τ).loc main_arg2)
abbrev X3 : FVec Ideal S4096x1024 .f32 := m ((c : Thread nD τ).loc main_arg3)
abbrev X4 : FVec Ideal S1x1024 .f32 := m ((c : Thread nD τ).loc main_arg4)
abbrev X5 : FVec Ideal S1x1024 .f32 := m ((c : Thread nD τ).loc main_arg5)
abbrev X7 : FVec Ideal S1x1024 .f32 := m ((c : Thread nD τ).loc main_arg7)

/-- The norm's input, the gradient of its output, and the gradient of the normalised row. -/
abbrev x (r : Fin 4096) (k : Fin 1024) : EReal := X2 m c (ix2 r k) + @HMul.hMul EReal EReal EReal _ (X4 m c (ix2 0 k)) (X3 m c (ix2 r k))
abbrev u (r : Fin 4096) (k : Fin 1024) : EReal := X0 m c (ix2 r k)
abbrev g (k : Fin 1024) : EReal := X5 m c (ix2 0 k)
abbrev s (k : Fin 1024) : EReal := X7 m c (ix2 0 k)
abbrev o (r : Fin 4096) (k : Fin 1024) : EReal := X1 m c (ix2 r k)
abbrev d (r : Fin 4096) (k : Fin 1024) : EReal := u m c r k * (1 + s m c k) * g m c k
abbrev h (k : Fin 1024) : EReal := X4 m c (ix2 0 k)
abbrev y (r : Fin 4096) (k : Fin 1024) : EReal := X3 m c (ix2 r k)
/-- The gradient of the norm's input. -/
abbrev dx (r : Fin 4096) (b : Fin 1024) : EReal :=
  o m c r b + R (x m c r) * (d m c r b - x m c r b * R (x m c r) * Ideal.div (∑ k, d m c r k * (x m c r k * R (x m c r))) (Ideal.ofBits .f32 1149239296#32))

theorem read_0 (t : Fin cfg0.N) (a : Fin 256) (b : Fin 1024) : iblk m c 0 t (ix2 a b) = u m c (row t a) b := by
  blk_simp [iblk]
  entry_read
  pointwise
  blk_ext [idx t, row]
theorem read_1 (t : Fin cfg0.N) (a : Fin 256) (b : Fin 1024) : iblk m c 1 t (ix2 a b) = x m c (row t a) b := by
  blk_simp [iblk]
  entry_read
  pointwise
  unfold x; blk_point [idx t, row]
theorem read_2 (t : Fin cfg0.N) (a : Fin 256) (b : Fin 1024) : iblk m c 2 t (ix2 a b) = o m c (row t a) b := by
  blk_simp [iblk]
  entry_read
  pointwise
  blk_ext [idx t, row]
theorem read_3 (t : Fin cfg0.N) (b : Fin 1024) : iblk m c 3 t (ix2 0 b) = g m c b := by
  blk_simp [iblk]
  entry_read
  pointwise
  blk_ext [idx t]
theorem read_4 (t : Fin cfg0.N) (b : Fin 1024) : iblk m c 4 t (ix2 0 b) = s m c b := by
  blk_simp [iblk]
  entry_read
  pointwise
  blk_ext [idx t]
theorem read_5 (t : Fin cfg0.N) (b : Fin 1024) : iblk m c 5 t (ix2 0 b) = h m c b := by
  blk_simp [iblk]
  entry_read
  pointwise
  blk_ext [idx t]
theorem read_6 (t : Fin cfg0.N) (a : Fin 256) (b : Fin 1024) : iblk m c 6 t (ix2 a b) = y m c (row t a) b := by
  blk_simp [iblk]
  entry_read
  pointwise
  blk_ext [idx t, row]

instance facts : Cert.Pre_finite7.Facts where
  bcast_S_S1x1024 := by decide
  bcast_S_S4096x1024 := by decide

section
variable (hp : Cert.Pre_Kernel7Ideal_finite7 m)
include hp
theorem r0 (r : Fin 4096) (k : Fin 1024) : X0 m c (ix2 r k) = (((X0 m c (ix2 r k)).toReal : ℝ) : EReal) := by
  have := congrFun (hp c).1 (ix2 r k)
  unfold Cert.Pre_finite7.fn at this; dsimp only at this; pointwise at this
  exact real_of_lt this
theorem r2 (r : Fin 4096) (k : Fin 1024) : X2 m c (ix2 r k) = (((X2 m c (ix2 r k)).toReal : ℝ) : EReal) := by
  have := congrFun (hp c).2.1 (ix2 r k)
  unfold Cert.Pre_finite7.fn at this; dsimp only at this; pointwise at this
  exact real_of_lt this
theorem r3 (r : Fin 4096) (k : Fin 1024) : X3 m c (ix2 r k) = (((X3 m c (ix2 r k)).toReal : ℝ) : EReal) := by
  have := congrFun (hp c).2.2.1 (ix2 r k)
  unfold Cert.Pre_finite7.fn at this; dsimp only at this; pointwise at this
  exact real_of_lt this
theorem r4 (r : Fin 1) (k : Fin 1024) : X4 m c (ix2 r k) = (((X4 m c (ix2 r k)).toReal : ℝ) : EReal) := by
  have := congrFun (hp c).2.2.2.1 (ix2 r k)
  unfold Cert.Pre_finite7.fn at this; dsimp only at this; pointwise at this
  exact real_of_lt this
theorem r5 (r : Fin 1) (k : Fin 1024) : X5 m c (ix2 r k) = (((X5 m c (ix2 r k)).toReal : ℝ) : EReal) := by
  have := congrFun (hp c).2.2.2.2.1 (ix2 r k)
  unfold Cert.Pre_finite7.fn at this; dsimp only at this; pointwise at this
  exact real_of_lt this
theorem r7 (r : Fin 1) (k : Fin 1024) : X7 m c (ix2 r k) = (((X7 m c (ix2 r k)).toReal : ℝ) : EReal) := by
  have := congrFun (hp c).2.2.2.2.2 (ix2 r k)
  unfold Cert.Pre_finite7.fn at this; dsimp only at this; pointwise at this
  exact real_of_lt this
theorem x_real (r : Fin 4096) (k : Fin 1024) : x m c r k = (((x m c r k).toReal : ℝ) : EReal) := add_real (r2 m c hp r k) (mul_real (r4 m c hp 0 k) (r3 m c hp r k))
theorem d_real (r : Fin 4096) (k : Fin 1024) : d m c r k = (((d m c r k).toReal : ℝ) : EReal) :=
  mul_real (mul_real (r0 m c hp r k) (add_real one_real (r7 m c hp 0 k))) (r5 m c hp 0 k)
end

attribute [local pointwise] val_main_v0 val_main_v1 val_main_v2 val_main_v3 val_main_cst val_main_v4 val_main_v5 val_main_cst_0 val_main_v6 val_main_v7 val_main_cst_1 val_main_v8 val_main_v9 val_main_v10 val_main_v11 val_main_cst_2 val_main_v12 val_main_v13 val_main_v14 val_main_v15 val_main_v16 val_main_v17 val_main_cst_3 val_main_v18 val_main_v19 val_main_v20 val_main_v21 val_main_v22 val_main_v23 val_main_v24 val_main_cst_4 val_main_v25 val_main_v26 val_main_v27 val_main_cst_5 val_main_v28 val_main_v29 val_main_v30 val_main_v31 val_main_v32 val_main_cst_6 val_main_v33 val_main_v34 val_main_v35 val_main_v36 val_main_v37 val_main_cst_7 val_main_v38 val_main_v39 val_main_v40 val_main_v41 val_main_v42 val_main_v43 val_main_cst_8 val_main_v44 val_main_v45 val_main_cst_9 val_main_v46 val_main_v47 val_main_v48 val_main_v49 val_main_v50 val_main_v51 val_main_v52 val_main_v53 val_main_v54 val_main_v55 val_main_cst_10 val_main_v56 val_main_v57 val_main_v58

theorem final_7 (hp : Cert.Pre_Kernel7Ideal_finite7 m) : (dats m 0 c).arrAt 7 (cfgs 0).N = val_main_v51 (F := Ideal) (X0 m c) (X1 m c) (X2 m c) (X3 m c) (X4 m c) (X5 m c) (X7 m c) := by
  refine (dats m 0 c).arrAt_eq_of_covers 7 _ (by decide +kernel) fun t hf y => ?_
  blk_simp; rw [after0_7]
  obtain ⟨a, b, rfl⟩ : ∃ (a : Fin 256) (b : Fin 1024), y = ix2 a b := ⟨y 0, y 1, eq_ix2 y⟩
  rw [show ((cfg0.win 7).blk t).view.emb (ix2 a b) = (ix2 (row t a) b : S4096x1024.Idx) from by blk_ext [idx t, row]]
  by_cases h0 : t.val % 16 = 0
  on_goal 1 => rw [outsAt0_A m c t h0]
  on_goal 2 => rw [outsAt0_B m c t h0]
  all_goals
    frame_out
    unfold_payloads
    pointwise
    simp only [read_0, read_1, read_2, read_3, read_4, read_5, read_6]
    exact gradient (fun k => x_real m c hp (row t a) k) (fun k => d_real m c hp (row t a) k) _ b

def F_8 (r : Fin 4096) (b : Fin 1024) : EReal := u m c r b
theorem ref_8 (b : Fin 1024) : val_main_v26 (F := Ideal) (X0 m c) (ix2 0 b) = ∑ r : Fin 4096, F_8 m c r b := by
  pointwise
  exact rfl
theorem step_A_8 (t : Fin cfg0.N) (h0 : t.val % 16 = 0) (b : Fin 1024) :
    (outsAt0 m c t.val t.isLt).2.1 (ix2 0 b) = 0 + ∑ a : Fin 256, F_8 m c (row t a) b := by
  rw [outsAt0_A m c t h0]
  frame_out
  unfold_payloads
  pointwise
  simp only [read_0, read_1, read_2, read_3, read_4, read_5, read_6]
  rfl
theorem step_B_8 (t : Fin cfg0.N) (h0 : ¬ t.val % 16 = 0) (b : Fin 1024) :
    (outsAt0 m c t.val t.isLt).2.1 (ix2 0 b) = (outsAt0 m c (t.val - 1) (Nat.lt_of_le_of_lt (Nat.sub_le _ _) t.isLt)).2.1 (ix2 0 b)
      + ∑ a : Fin 256, F_8 m c (row t a) b := by
  rw [outsAt0_B m c t h0]
  frame_out
  unfold_payloads
  pointwise
  simp only [read_0, read_1, read_2, read_3, read_4, read_5, read_6]
  rfl
theorem final_8 : (dats m 0 c).arrAt 8 (cfgs 0).N = val_main_v26 (F := Ideal) (X0 m c) := by
  refine (dats m 0 c).arrAt_eq_of_after_last 8 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_8, Pipeline.eq_sum_fin_of_reset_step_apply_last (fun n h => (outsAt0 m c n h).2.1) 16 (fun _ => 0)
    (fun t j => ∑ a : Fin 256, F_8 m c (row t a) (j 1))
    (fun t h0 j => by rw [show j = ix2 0 (j 1) from (eq_ix2 j).trans (congrArg (ix2 · _) (Subsingleton.elim _ _))]; exact step_A_8 m c t h0 _)
    (fun t h0 j => by rw [show j = ix2 0 (j 1) from (eq_ix2 j).trans (congrArg (ix2 · _) (Subsingleton.elim _ _))]; exact step_B_8 m c t h0 _)
    (le_of_eq N_0) t0_15 rfl (ix2 0 b), zero_add, ref_8]
  exact Fin.sum_mul_add_congr (fun t k hl => rfl) (by show 4096 = grid0.N * 256; rw [N_0])

def F_9 (r : Fin 4096) (b : Fin 1024) : EReal := u m c r b * (x m c r b * R (x m c r) * g m c b)
theorem ref_9 (b : Fin 1024) : val_main_v29 (F := Ideal) (X0 m c) (X2 m c) (X3 m c) (X4 m c) (X5 m c) (ix2 0 b) = ∑ r : Fin 4096, F_9 m c r b := by
  pointwise
  exact Finset.sum_congr rfl fun r _ => mul_comm (G := EReal) _ _
theorem step_A_9 (t : Fin cfg0.N) (h0 : t.val % 16 = 0) (b : Fin 1024) :
    (outsAt0 m c t.val t.isLt).2.2.1 (ix2 0 b) = 0 + ∑ a : Fin 256, F_9 m c (row t a) b := by
  rw [outsAt0_A m c t h0]
  frame_out
  unfold_payloads
  pointwise
  simp only [read_0, read_1, read_2, read_3, read_4, read_5, read_6]
  rfl
theorem step_B_9 (t : Fin cfg0.N) (h0 : ¬ t.val % 16 = 0) (b : Fin 1024) :
    (outsAt0 m c t.val t.isLt).2.2.1 (ix2 0 b) = (outsAt0 m c (t.val - 1) (Nat.lt_of_le_of_lt (Nat.sub_le _ _) t.isLt)).2.2.1 (ix2 0 b)
      + ∑ a : Fin 256, F_9 m c (row t a) b := by
  rw [outsAt0_B m c t h0]
  frame_out
  unfold_payloads
  pointwise
  simp only [read_0, read_1, read_2, read_3, read_4, read_5, read_6]
  rfl
theorem final_9 : (dats m 0 c).arrAt 9 (cfgs 0).N = val_main_v29 (F := Ideal) (X0 m c) (X2 m c) (X3 m c) (X4 m c) (X5 m c) := by
  refine (dats m 0 c).arrAt_eq_of_after_last 9 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_9, Pipeline.eq_sum_fin_of_reset_step_apply_last (fun n h => (outsAt0 m c n h).2.2.1) 16 (fun _ => 0)
    (fun t j => ∑ a : Fin 256, F_9 m c (row t a) (j 1))
    (fun t h0 j => by rw [show j = ix2 0 (j 1) from (eq_ix2 j).trans (congrArg (ix2 · _) (Subsingleton.elim _ _))]; exact step_A_9 m c t h0 _)
    (fun t h0 j => by rw [show j = ix2 0 (j 1) from (eq_ix2 j).trans (congrArg (ix2 · _) (Subsingleton.elim _ _))]; exact step_B_9 m c t h0 _)
    (le_of_eq N_0) t0_15 rfl (ix2 0 b), zero_add, ref_9]
  exact Fin.sum_mul_add_congr (fun t k hl => rfl) (by show 4096 = grid0.N * 256; rw [N_0])

def F_10 (r : Fin 4096) (b : Fin 1024) : EReal := u m c r b * (1 + s m c b) * (x m c r b * R (x m c r))
theorem ref_10 (b : Fin 1024) : val_main_v34 (F := Ideal) (X0 m c) (X2 m c) (X3 m c) (X4 m c) (X7 m c) (ix2 0 b) = ∑ r : Fin 4096, F_10 m c r b := by
  pointwise
  exact Finset.sum_congr rfl fun r _ => mul_comm (G := EReal) _ _
theorem step_A_10 (t : Fin cfg0.N) (h0 : t.val % 16 = 0) (b : Fin 1024) :
    (outsAt0 m c t.val t.isLt).2.2.2.1 (ix2 0 b) = 0 + ∑ a : Fin 256, F_10 m c (row t a) b := by
  rw [outsAt0_A m c t h0]
  frame_out
  unfold_payloads
  pointwise
  simp only [read_0, read_1, read_2, read_3, read_4, read_5, read_6]
  rfl
theorem step_B_10 (t : Fin cfg0.N) (h0 : ¬ t.val % 16 = 0) (b : Fin 1024) :
    (outsAt0 m c t.val t.isLt).2.2.2.1 (ix2 0 b) = (outsAt0 m c (t.val - 1) (Nat.lt_of_le_of_lt (Nat.sub_le _ _) t.isLt)).2.2.2.1 (ix2 0 b)
      + ∑ a : Fin 256, F_10 m c (row t a) b := by
  rw [outsAt0_B m c t h0]
  frame_out
  unfold_payloads
  pointwise
  simp only [read_0, read_1, read_2, read_3, read_4, read_5, read_6]
  rfl
theorem final_10 : (dats m 0 c).arrAt 10 (cfgs 0).N = val_main_v34 (F := Ideal) (X0 m c) (X2 m c) (X3 m c) (X4 m c) (X7 m c) := by
  refine (dats m 0 c).arrAt_eq_of_after_last 10 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_10, Pipeline.eq_sum_fin_of_reset_step_apply_last (fun n h => (outsAt0 m c n h).2.2.2.1) 16 (fun _ => 0)
    (fun t j => ∑ a : Fin 256, F_10 m c (row t a) (j 1))
    (fun t h0 j => by rw [show j = ix2 0 (j 1) from (eq_ix2 j).trans (congrArg (ix2 · _) (Subsingleton.elim _ _))]; exact step_A_10 m c t h0 _)
    (fun t h0 j => by rw [show j = ix2 0 (j 1) from (eq_ix2 j).trans (congrArg (ix2 · _) (Subsingleton.elim _ _))]; exact step_B_10 m c t h0 _)
    (le_of_eq N_0) t0_15 rfl (ix2 0 b), zero_add, ref_10]
  exact Fin.sum_mul_add_congr (fun t k hl => rfl) (by show 4096 = grid0.N * 256; rw [N_0])

theorem final_11 (hp : Cert.Pre_Kernel7Ideal_finite7 m) : (dats m 0 c).arrAt 11 (cfgs 0).N = val_main_v58 (F := Ideal) (X0 m c) (X1 m c) (X2 m c) (X3 m c) (X4 m c) (X5 m c) (X7 m c) := by
  refine (dats m 0 c).arrAt_eq_of_covers 11 _ (by decide +kernel) fun t hf y => ?_
  blk_simp; rw [after0_11]
  obtain ⟨a, b, rfl⟩ : ∃ (a : Fin 256) (b : Fin 1024), y = ix2 a b := ⟨y 0, y 1, eq_ix2 y⟩
  rw [show ((cfg0.win 11).blk t).view.emb (ix2 a b) = (ix2 (row t a) b : S4096x1024.Idx) from by blk_ext [idx t, row]]
  by_cases h0 : t.val % 16 = 0
  on_goal 1 => rw [outsAt0_A m c t h0]
  on_goal 2 => rw [outsAt0_B m c t h0]
  all_goals
    frame_out
    unfold_payloads
    pointwise
    simp only [read_0, read_1, read_2, read_3, read_4, read_5, read_6]
    exact congrArg (_ * ·) (gradient (fun k => x_real m c hp (row t a) k) (fun k => d_real m c hp (row t a) k) _ b)

def F_12 (r : Fin 4096) (b : Fin 1024) : EReal := dx m c r b * y m c r b
theorem ref_12 (hp : Cert.Pre_Kernel7Ideal_finite7 m) (b : Fin 1024) : val_main_v57 (F := Ideal) (X0 m c) (X1 m c) (X2 m c) (X3 m c) (X4 m c) (X5 m c) (X7 m c) (ix2 0 b) = ∑ r : Fin 4096, F_12 m c r b := by
  pointwise
  exact Finset.sum_congr (M := EReal) rfl fun r _ => congrArg (· * _) (gradient (fun k => x_real m c hp r k) (fun k => d_real m c hp r k) _ b).symm
theorem step_A_12 (t : Fin cfg0.N) (h0 : t.val % 16 = 0) (b : Fin 1024) :
    (outsAt0 m c t.val t.isLt).2.2.2.2.2 (ix2 0 b) = 0 + ∑ a : Fin 256, F_12 m c (row t a) b := by
  rw [outsAt0_A m c t h0]
  frame_out
  unfold_payloads
  pointwise
  simp only [read_0, read_1, read_2, read_3, read_4, read_5, read_6]
  rfl
theorem step_B_12 (t : Fin cfg0.N) (h0 : ¬ t.val % 16 = 0) (b : Fin 1024) :
    (outsAt0 m c t.val t.isLt).2.2.2.2.2 (ix2 0 b) = (outsAt0 m c (t.val - 1) (Nat.lt_of_le_of_lt (Nat.sub_le _ _) t.isLt)).2.2.2.2.2 (ix2 0 b)
      + ∑ a : Fin 256, F_12 m c (row t a) b := by
  rw [outsAt0_B m c t h0]
  frame_out
  unfold_payloads
  pointwise
  simp only [read_0, read_1, read_2, read_3, read_4, read_5, read_6]
  rfl
theorem final_12 (hp : Cert.Pre_Kernel7Ideal_finite7 m) : (dats m 0 c).arrAt 12 (cfgs 0).N = val_main_v57 (F := Ideal) (X0 m c) (X1 m c) (X2 m c) (X3 m c) (X4 m c) (X5 m c) (X7 m c) := by
  refine (dats m 0 c).arrAt_eq_of_after_last 12 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_12, Pipeline.eq_sum_fin_of_reset_step_apply_last (fun n h => (outsAt0 m c n h).2.2.2.2.2) 16 (fun _ => 0)
    (fun t j => ∑ a : Fin 256, F_12 m c (row t a) (j 1))
    (fun t h0 j => by rw [show j = ix2 0 (j 1) from (eq_ix2 j).trans (congrArg (ix2 · _) (Subsingleton.elim _ _))]; exact step_A_12 m c t h0 _)
    (fun t h0 j => by rw [show j = ix2 0 (j 1) from (eq_ix2 j).trans (congrArg (ix2 · _) (Subsingleton.elim _ _))]; exact step_B_12 m c t h0 _)
    (le_of_eq N_0) t0_15 rfl (ix2 0 b), zero_add, ref_12 m c hp]
  exact Fin.sum_mul_add_congr (fun t k hl => rfl) (by show 4096 = grid0.N * 256; rw [N_0])

set_option maxHeartbeats 4000000 in
/-- The kernel's results are the reference's. -/
theorem algebraic : Cert.algebraic_Kernel7Ideal_Reference7Ideal_pre_finite7 := by
  pair_intro
  · run_from Cert.Kernel7Ideal.Gen.run_main m g
  · run_from Reference7Ideal.run_reference m' g'
    · exact (final_7 m c (by assumption)).symm
    · exact (final_8 m c).symm
    · exact (final_9 m c).symm
    · exact (final_10 m c).symm
    · exact (final_11 m c (by assumption)).symm
    · exact (final_12 m c (by assumption)).symm

/-- The reference leaves its arguments alone. -/
theorem quiescent : Cert.quiescent_Reference7Ideal := fun m' ρ _ =>
  Idealize.ShloMosaic.θ_run_mono (Reference7Ideal.Value.run m' ρ) fun r h =>
    ⟨fun c => (h c).2.2.2.2.2.2, sem_eq_zero_of_no_sems (by decide) r.2⟩

end Cert.Norm3

end
-- ==== Proof.Norm2.lean ====
/- The gradient of the second modulated norm. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference8Ideal

open Read

/-- The reference's run, its results named by the stages of its text. -/
theorem run_reference (m' : (ℓ : Loc nD τ sig) → Buf (Elt Ideal) ℓ) (ρ : Dev nD → PrngReg) :
    θ_run defs (onTc (τ := τ) main) ⟨m', fun _ => 0, ρ⟩ fun r =>
      ∀ c : Dev nD,
        let A (b : Ref sig .tc) := m' ((c.tc : Thread nD τ).loc b)
        let B (b : Ref sig .tc) := r.2.mem ((c.tc : Thread nD τ).loc b)
        B main_v54 = val_main_v54 (F := Ideal) (A main_arg0) (A main_arg1) (A main_arg2) (A main_arg3) (A main_arg4) (A main_arg5) (A main_arg7) (A main_arg8)
        ∧ B main_v29 = val_main_v29 (F := Ideal) (A main_arg0) (A main_arg8)
        ∧ B main_v32 = val_main_v32 (F := Ideal) (A main_arg0) (A main_arg2) (A main_arg3) (A main_arg4) (A main_arg5) (A main_arg8)
        ∧ B main_v37 = val_main_v37 (F := Ideal) (A main_arg0) (A main_arg2) (A main_arg3) (A main_arg4) (A main_arg7) (A main_arg8)
        ∧ B main_v63 = val_main_v63 (F := Ideal) (A main_arg0) (A main_arg1) (A main_arg2) (A main_arg3) (A main_arg4) (A main_arg5) (A main_arg7) (A main_arg8)
        ∧ B main_v62 = val_main_v62 (F := Ideal) (A main_arg0) (A main_arg1) (A main_arg2) (A main_arg3) (A main_arg4) (A main_arg5) (A main_arg7) (A main_arg8)
        ∧ B main_arg0 = A main_arg0
        ∧ B main_arg1 = A main_arg1
        ∧ B main_arg2 = A main_arg2
        ∧ B main_arg3 = A main_arg3
        ∧ B main_arg4 = A main_arg4
        ∧ B main_arg5 = A main_arg5
        ∧ B main_arg6 = A main_arg6
        ∧ B main_arg7 = A main_arg7
        ∧ B main_arg8 = A main_arg8 :=
  Idealize.ShloMosaic.θ_run_mono (Value.run m' ρ) fun r h c =>
    ⟨(h c).1.trans (val_main_v54_eq m' c),
      (h c).2.1.trans (val_main_v29_eq _ _),
      (h c).2.2.1.trans (val_main_v32_eq _ _ _ _ _ _),
      (h c).2.2.2.1.trans (val_main_v37_eq _ _ _ _ _ _),
      (h c).2.2.2.2.1.trans (val_main_v63_eq m' c),
      (h c).2.2.2.2.2.1.trans (val_main_v62_eq m' c),
      (h c).2.2.2.2.2.2⟩

end Cert.Reference8Ideal

namespace Cert.Norm2

open Cert.Kernel8Ideal Cert.Kernel8Ideal.Gen Cert.Reference8Ideal.Read Cert.Norm Cert.Reals

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0] ∧ win0_3.index t = ![t.val, 0] ∧ win0_4.index t = ![0, 0] ∧ win0_5.index t = ![0, 0] ∧ win0_6.index t = ![0, 0] ∧ win0_7.index t = ![t.val, 0] ∧ win0_8.index t = ![t.val, 0] ∧ win0_9.index t = ![0, 0] ∧ win0_10.index t = ![0, 0] ∧ win0_11.index t = ![0, 0] ∧ win0_12.index t = ![t.val, 0] ∧ win0_13.index t = ![0, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x5120 .f32 := m ((c : Thread nD τ).loc main_arg0)
abbrev X1 : FVec Ideal S4096x1024 .f32 := m ((c : Thread nD τ).loc main_arg1)
abbrev X2 : FVec Ideal S4096x1024 .f32 := m ((c : Thread nD τ).loc main_arg2)
abbrev X3 : FVec Ideal S4096x1024 .f32 := m ((c : Thread nD τ).loc main_arg3)
abbrev X4 : FVec Ideal S1x1024 .f32 := m ((c : Thread nD τ).loc main_arg4)
abbrev X5 : FVec Ideal S1x1024 .f32 := m ((c : Thread nD τ).loc main_arg5)
abbrev X7 : FVec Ideal S1x1024 .f32 := m ((c : Thread nD τ).loc main_arg7)
abbrev X8 : FVec Ideal S1024x5120 .f32 := m ((c : Thread nD τ).loc main_arg8)

/-- The norm's input, the gradient of its output, and the gradient of the normalised row. -/
abbrev x (r : Fin 4096) (k : Fin 1024) : EReal := X2 m c (ix2 r k) + @HMul.hMul EReal EReal EReal _ (@HMul.hMul EReal EReal EReal _ (Ideal.ofBits .f32 1056964608#32) (X4 m c (ix2 0 k))) (X3 m c (ix2 r k))
abbrev u (r : Fin 4096) (k : Fin 1024) : EReal := ∑ j : Fin 5120, @HMul.hMul EReal EReal EReal _ (X0 m c (ix2 r j)) (X8 m c (ix2 k j))
abbrev g (k : Fin 1024) : EReal := X5 m c (ix2 0 k)
abbrev s (k : Fin 1024) : EReal := X7 m c (ix2 0 k)
abbrev o (r : Fin 4096) (k : Fin 1024) : EReal := X1 m c (ix2 r k)
abbrev d (r : Fin 4096) (k : Fin 1024) : EReal := u m c r k * (1 + s m c k) * g m c k
abbrev h (k : Fin 1024) : EReal := X4 m c (ix2 0 k)
abbrev y (r : Fin 4096) (k : Fin 1024) : EReal := X3 m c (ix2 r k)
/-- The gradient of the norm's input. -/
abbrev dx (r : Fin 4096) (b : Fin 1024) : EReal :=
  o m c r b + R (x m c r) * (d m c r b - x m c r b * R (x m c r) * Ideal.div (∑ k, d m c r k * (x m c r k * R (x m c r))) (Ideal.ofBits .f32 1149239296#32))

theorem read_0 (t : Fin cfg0.N) (a : Fin 512) (j : Fin 5120) : iblk m c 0 t (ix2 a j) = X0 m c (ix2 (row t a) j) := by
  blk_simp [iblk]
  entry_read
  pointwise
  blk_ext [idx t, row]
theorem read_1 (t : Fin cfg0.N) (q : Fin 8) (b : Fin 1024) (j : Fin 640) : iblk m c 1 t (ix3 q b j) = X8 m c (ix2 b ⟨q.val * 640 + j.val, by omega⟩) := by
  blk_simp [iblk]
  entry_read
  pointwise
  blk_ext [idx t]
theorem read_2 (t : Fin cfg0.N) (a : Fin 512) (b : Fin 1024) : iblk m c 2 t (ix2 a b) = x m c (row t a) b := by
  blk_simp [iblk]
  entry_read
  pointwise
  unfold x; blk_point [idx t, row]
theorem read_3 (t : Fin cfg0.N) (a : Fin 512) (b : Fin 1024) : iblk m c 3 t (ix2 a b) = o m c (row t a) b := by
  blk_simp [iblk]
  entry_read
  pointwise
  blk_ext [idx t, row]
theorem read_4 (t : Fin cfg0.N) (b : Fin 1024) : iblk m c 4 t (ix2 0 b) = g m c b := by
  blk_simp [iblk]
  entry_read
  pointwise
  blk_ext [idx t]
theorem read_5 (t : Fin cfg0.N) (b : Fin 1024) : iblk m c 5 t (ix2 0 b) = s m c b := by
  blk_simp [iblk]
  entry_read
  pointwise
  blk_ext [idx t]
theorem read_6 (t : Fin cfg0.N) (b : Fin 1024) : iblk m c 6 t (ix2 0 b) = h m c b := by
  blk_simp [iblk]
  entry_read
  pointwise
  blk_ext [idx t]
theorem read_7 (t : Fin cfg0.N) (a : Fin 512) (b : Fin 1024) : iblk m c 7 t (ix2 a b) = y m c (row t a) b := by
  blk_simp [iblk]
  entry_read
  pointwise
  blk_ext [idx t, row]
/-- The product's share of one block of columns; the body takes the blocks in four pairs. -/
def part (r : Fin 4096) (k : Fin 1024) (q : Fin 8) : EReal :=
  ∑ j : Fin 640, @HMul.hMul EReal EReal EReal _ (X0 m c (ix2 r ⟨q.val * 640 + j.val, by omega⟩)) (X8 m c (ix2 k ⟨q.val * 640 + j.val, by omega⟩))
theorem part_0 (r : Fin 4096) (k : Fin 1024) : (∑ j : Fin 640, @HMul.hMul EReal EReal EReal _ (X0 m c (ix2 r ⟨j.val, by omega⟩)) (X8 m c (ix2 k ⟨(0 : Fin 8).val * 640 + j.val, by omega⟩))) = part m c r k 0 :=
  Finset.sum_congr rfl fun j _ => by rw [show (⟨j.val, by omega⟩ : Fin 5120) = ⟨(0 : Fin 8).val * 640 + j.val, by omega⟩ from Fin.ext (by show j.val = 0 * 640 + j.val; omega)]
theorem part_1 (r : Fin 4096) (k : Fin 1024) : (∑ j : Fin 640, @HMul.hMul EReal EReal EReal _ (X0 m c (ix2 r ⟨640 + j.val, by omega⟩)) (X8 m c (ix2 k ⟨(1 : Fin 8).val * 640 + j.val, by omega⟩))) = part m c r k 1 :=
  Finset.sum_congr rfl fun j _ => by rw [show (⟨640 + j.val, by omega⟩ : Fin 5120) = ⟨(1 : Fin 8).val * 640 + j.val, by omega⟩ from Fin.ext (by show 640 + j.val = 1 * 640 + j.val; omega)]
theorem part_2 (r : Fin 4096) (k : Fin 1024) : (∑ j : Fin 640, @HMul.hMul EReal EReal EReal _ (X0 m c (ix2 r ⟨1280 + j.val, by omega⟩)) (X8 m c (ix2 k ⟨(2 : Fin 8).val * 640 + j.val, by omega⟩))) = part m c r k 2 :=
  Finset.sum_congr rfl fun j _ => by rw [show (⟨1280 + j.val, by omega⟩ : Fin 5120) = ⟨(2 : Fin 8).val * 640 + j.val, by omega⟩ from Fin.ext (by show 1280 + j.val = 2 * 640 + j.val; omega)]
theorem part_3 (r : Fin 4096) (k : Fin 1024) : (∑ j : Fin 640, @HMul.hMul EReal EReal EReal _ (X0 m c (ix2 r ⟨1280 + (640 + j.val), by omega⟩)) (X8 m c (ix2 k ⟨(3 : Fin 8).val * 640 + j.val, by omega⟩))) = part m c r k 3 :=
  Finset.sum_congr rfl fun j _ => by rw [show (⟨1280 + (640 + j.val), by omega⟩ : Fin 5120) = ⟨(3 : Fin 8).val * 640 + j.val, by omega⟩ from Fin.ext (by show 1280 + (640 + j.val) = 3 * 640 + j.val; omega)]
theorem part_4 (r : Fin 4096) (k : Fin 1024) : (∑ j : Fin 640, @HMul.hMul EReal EReal EReal _ (X0 m c (ix2 r ⟨2560 + j.val, by omega⟩)) (X8 m c (ix2 k ⟨(4 : Fin 8).val * 640 + j.val, by omega⟩))) = part m c r k 4 :=
  Finset.sum_congr rfl fun j _ => by rw [show (⟨2560 + j.val, by omega⟩ : Fin 5120) = ⟨(4 : Fin 8).val * 640 + j.val, by omega⟩ from Fin.ext (by show 2560 + j.val = 4 * 640 + j.val; omega)]
theorem part_5 (r : Fin 4096) (k : Fin 1024) : (∑ j : Fin 640, @HMul.hMul EReal EReal EReal _ (X0 m c (ix2 r ⟨2560 + (640 + j.val), by omega⟩)) (X8 m c (ix2 k ⟨(5 : Fin 8).val * 640 + j.val, by omega⟩))) = part m c r k 5 :=
  Finset.sum_congr rfl fun j _ => by rw [show (⟨2560 + (640 + j.val), by omega⟩ : Fin 5120) = ⟨(5 : Fin 8).val * 640 + j.val, by omega⟩ from Fin.ext (by show 2560 + (640 + j.val) = 5 * 640 + j.val; omega)]
theorem part_6 (r : Fin 4096) (k : Fin 1024) : (∑ j : Fin 640, @HMul.hMul EReal EReal EReal _ (X0 m c (ix2 r ⟨3840 + j.val, by omega⟩)) (X8 m c (ix2 k ⟨(6 : Fin 8).val * 640 + j.val, by omega⟩))) = part m c r k 6 :=
  Finset.sum_congr rfl fun j _ => by rw [show (⟨3840 + j.val, by omega⟩ : Fin 5120) = ⟨(6 : Fin 8).val * 640 + j.val, by omega⟩ from Fin.ext (by show 3840 + j.val = 6 * 640 + j.val; omega)]
theorem part_7 (r : Fin 4096) (k : Fin 1024) : (∑ j : Fin 640, @HMul.hMul EReal EReal EReal _ (X0 m c (ix2 r ⟨3840 + (640 + j.val), by omega⟩)) (X8 m c (ix2 k ⟨(7 : Fin 8).val * 640 + j.val, by omega⟩))) = part m c r k 7 :=
  Finset.sum_congr rfl fun j _ => by rw [show (⟨3840 + (640 + j.val), by omega⟩ : Fin 5120) = ⟨(7 : Fin 8).val * 640 + j.val, by omega⟩ from Fin.ext (by show 3840 + (640 + j.val) = 7 * 640 + j.val; omega)]
theorem u_parts (r : Fin 4096) (k : Fin 1024) : part m c r k 0 + part m c r k 1 + (part m c r k 2 + part m c r k 3) + (part m c r k 4 + part m c r k 5)
    + (part m c r k 6 + part m c r k 7) = u m c r k := by
  have e := Fin.sum_mul_add_fin 8 640 fun j : Fin 5120 => @HMul.hMul EReal EReal EReal _ (X0 m c (ix2 r j)) (X8 m c (ix2 k j))
  rw [Fin.sum_univ_eight] at e
  rw [← add_assoc, ← add_assoc, ← add_assoc]
  exact e

instance facts : Cert.Pre_finite8.Facts where
  bcast_S_S1024x5120 := by decide
  bcast_S_S1x1024 := by decide
  bcast_S_S4096x1024 := by decide
  bcast_S_S4096x5120 := by decide

section
variable (hp : Cert.Pre_Kernel8Ideal_finite8 m)
include hp
theorem r0 (r : Fin 4096) (k : Fin 5120) : X0 m c (ix2 r k) = (((X0 m c (ix2 r k)).toReal : ℝ) : EReal) := by
  have := congrFun (hp c).1 (ix2 r k)
  unfold Cert.Pre_finite8.fn at this; dsimp only at this; pointwise at this
  exact real_of_lt this
theorem r2 (r : Fin 4096) (k : Fin 1024) : X2 m c (ix2 r k) = (((X2 m c (ix2 r k)).toReal : ℝ) : EReal) := by
  have := congrFun (hp c).2.1 (ix2 r k)
  unfold Cert.Pre_finite8.fn at this; dsimp only at this; pointwise at this
  exact real_of_lt this
theorem r3 (r : Fin 4096) (k : Fin 1024) : X3 m c (ix2 r k) = (((X3 m c (ix2 r k)).toReal : ℝ) : EReal) := by
  have := congrFun (hp c).2.2.1 (ix2 r k)
  unfold Cert.Pre_finite8.fn at this; dsimp only at this; pointwise at this
  exact real_of_lt this
theorem r4 (r : Fin 1) (k : Fin 1024) : X4 m c (ix2 r k) = (((X4 m c (ix2 r k)).toReal : ℝ) : EReal) := by
  have := congrFun (hp c).2.2.2.1 (ix2 r k)
  unfold Cert.Pre_finite8.fn at this; dsimp only at this; pointwise at this
  exact real_of_lt this
theorem r5 (r : Fin 1) (k : Fin 1024) : X5 m c (ix2 r k) = (((X5 m c (ix2 r k)).toReal : ℝ) : EReal) := by
  have := congrFun (hp c).2.2.2.2.1 (ix2 r k)
  unfold Cert.Pre_finite8.fn at this; dsimp only at this; pointwise at this
  exact real_of_lt this
theorem r7 (r : Fin 1) (k : Fin 1024) : X7 m c (ix2 r k) = (((X7 m c (ix2 r k)).toReal : ℝ) : EReal) := by
  have := congrFun (hp c).2.2.2.2.2.1 (ix2 r k)
  unfold Cert.Pre_finite8.fn at this; dsimp only at this; pointwise at this
  exact real_of_lt this
theorem r8 (r : Fin 1024) (k : Fin 5120) : X8 m c (ix2 r k) = (((X8 m c (ix2 r k)).toReal : ℝ) : EReal) := by
  have := congrFun (hp c).2.2.2.2.2.2 (ix2 r k)
  unfold Cert.Pre_finite8.fn at this; dsimp only at this; pointwise at this
  exact real_of_lt this
theorem x_real (r : Fin 4096) (k : Fin 1024) : x m c r k = (((x m c r k).toReal : ℝ) : EReal) := add_real (r2 m c hp r k) (mul_real (mul_real half_real (r4 m c hp 0 k)) (r3 m c hp r k))
theorem d_real (r : Fin 4096) (k : Fin 1024) : d m c r k = (((d m c r k).toReal : ℝ) : EReal) :=
  mul_real (mul_real (by rw [u, coe_dot (fun j => r0 m c hp r j) fun j => r8 m c hp k j, EReal.toReal_coe]) (add_real one_real (r7 m c hp 0 k))) (r5 m c hp 0 k)
end

attribute [local pointwise] val_main_cst val_main_v0 val_main_v1 val_main_v2 val_main_v3 val_main_v4 val_main_v5 val_main_cst_0 val_main_v6 val_main_v7 val_main_cst_1 val_main_v8 val_main_v9 val_main_cst_2 val_main_v10 val_main_v11 val_main_v12 val_main_v13 val_main_cst_3 val_main_v14 val_main_v15 val_main_v16 val_main_v17 val_main_v18 val_main_v19 val_main_cst_4 val_main_v20 val_main_v21 val_main_v22 val_main_v23 val_main_v24 val_main_v25 val_main_v26 val_main_v27 val_main_cst_5 val_main_v28 val_main_v29 val_main_v30 val_main_cst_6 val_main_v31 val_main_v32 val_main_v33 val_main_v34 val_main_v35 val_main_cst_7 val_main_v36 val_main_v37 val_main_v38 val_main_v39 val_main_v40 val_main_cst_8 val_main_v41 val_main_v42 val_main_v43 val_main_v44 val_main_v45 val_main_v46 val_main_cst_9 val_main_v47 val_main_v48 val_main_cst_10 val_main_v49 val_main_v50 val_main_v51 val_main_v52 val_main_v53 val_main_v54 val_main_v55 val_main_v56 val_main_v57 val_main_v58 val_main_cst_11 val_main_v59 val_main_v60 val_main_cst_12 val_main_v61 val_main_v62 val_main_v63

theorem final_8 (hp : Cert.Pre_Kernel8Ideal_finite8 m) : (dats m 0 c).arrAt 8 (cfgs 0).N = val_main_v54 (F := Ideal) (X0 m c) (X1 m c) (X2 m c) (X3 m c) (X4 m c) (X5 m c) (X7 m c) (X8 m c) := by
  refine (dats m 0 c).arrAt_eq_of_covers 8 _ (by decide +kernel) fun t hf y => ?_
  blk_simp; rw [after0_8]
  obtain ⟨a, b, rfl⟩ : ∃ (a : Fin 512) (b : Fin 1024), y = ix2 a b := ⟨y 0, y 1, eq_ix2 y⟩
  rw [show ((cfg0.win 8).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, read_7, part_0, part_1, part_2, part_3, part_4, part_5, part_6, part_7, u_parts]
    exact gradient (fun k => x_real m c hp (row t a) k) (fun k => d_real m c hp (row t a) k) _ b

def F_9 (r : Fin 4096) (b : Fin 1024) : EReal := u m c r b
theorem ref_9 (b : Fin 1024) : val_main_v29 (F := Ideal) (X0 m c) (X8 m c) (ix2 0 b) = ∑ r : Fin 4096, F_9 m c r b := by
  pointwise
  exact rfl
theorem step_A_9 (t : Fin cfg0.N) (h0 : t.val % 8 = 0) (b : Fin 1024) :
    (outsAt0 m c t.val t.isLt).2.1 (ix2 0 b) = 0 + ∑ a : Fin 512, F_9 m c (row t a) b := by
  rw [outsAt0_A m c t h0]
  frame_out
  unfold_payloads
  pointwise
  simp only [read_0, read_1, read_2, read_3, read_4, read_5, read_6, read_7, part_0, part_1, part_2, part_3, part_4, part_5, part_6, part_7, u_parts]
  rfl
theorem step_B_9 (t : Fin cfg0.N) (h0 : ¬ t.val % 8 = 0) (b : Fin 1024) :
    (outsAt0 m c t.val t.isLt).2.1 (ix2 0 b) = (outsAt0 m c (t.val - 1) (Nat.lt_of_le_of_lt (Nat.sub_le _ _) t.isLt)).2.1 (ix2 0 b)
      + ∑ a : Fin 512, F_9 m c (row t a) b := by
  rw [outsAt0_B m c t h0]
  frame_out
  unfold_payloads
  pointwise
  simp only [read_0, read_1, read_2, read_3, read_4, read_5, read_6, read_7, part_0, part_1, part_2, part_3, part_4, part_5, part_6, part_7, u_parts]
  rfl
theorem final_9 : (dats m 0 c).arrAt 9 (cfgs 0).N = val_main_v29 (F := Ideal) (X0 m c) (X8 m c) := by
  refine (dats m 0 c).arrAt_eq_of_after_last 9 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_9, Pipeline.eq_sum_fin_of_reset_step_apply_last (fun n h => (outsAt0 m c n h).2.1) 8 (fun _ => 0)
    (fun t j => ∑ a : Fin 512, F_9 m c (row t a) (j 1))
    (fun t h0 j => by rw [show j = ix2 0 (j 1) from (eq_ix2 j).trans (congrArg (ix2 · _) (Subsingleton.elim _ _))]; exact step_A_9 m c t h0 _)
    (fun t h0 j => by rw [show j = ix2 0 (j 1) from (eq_ix2 j).trans (congrArg (ix2 · _) (Subsingleton.elim _ _))]; exact step_B_9 m c t h0 _)
    (le_of_eq N_0) t0_7 rfl (ix2 0 b), zero_add, ref_9]
  exact Fin.sum_mul_add_congr (fun t k hl => rfl) (by show 4096 = grid0.N * 512; rw [N_0])

def F_10 (r : Fin 4096) (b : Fin 1024) : EReal := u m c r b * (x m c r b * R (x m c r) * g m c b)
theorem ref_10 (b : Fin 1024) : val_main_v32 (F := Ideal) (X0 m c) (X2 m c) (X3 m c) (X4 m c) (X5 m c) (X8 m c) (ix2 0 b) = ∑ r : Fin 4096, F_10 m c r b := by
  pointwise
  exact Finset.sum_congr rfl fun r _ => mul_comm (G := EReal) _ _
theorem step_A_10 (t : Fin cfg0.N) (h0 : t.val % 8 = 0) (b : Fin 1024) :
    (outsAt0 m c t.val t.isLt).2.2.1 (ix2 0 b) = 0 + ∑ a : Fin 512, F_10 m c (row t a) b := by
  rw [outsAt0_A m c t h0]
  frame_out
  unfold_payloads
  pointwise
  simp only [read_0, read_1, read_2, read_3, read_4, read_5, read_6, read_7, part_0, part_1, part_2, part_3, part_4, part_5, part_6, part_7, u_parts]
  rfl
theorem step_B_10 (t : Fin cfg0.N) (h0 : ¬ t.val % 8 = 0) (b : Fin 1024) :
    (outsAt0 m c t.val t.isLt).2.2.1 (ix2 0 b) = (outsAt0 m c (t.val - 1) (Nat.lt_of_le_of_lt (Nat.sub_le _ _) t.isLt)).2.2.1 (ix2 0 b)
      + ∑ a : Fin 512, F_10 m c (row t a) b := by
  rw [outsAt0_B m c t h0]
  frame_out
  unfold_payloads
  pointwise
  simp only [read_0, read_1, read_2, read_3, read_4, read_5, read_6, read_7, part_0, part_1, part_2, part_3, part_4, part_5, part_6, part_7, u_parts]
  rfl
theorem final_10 : (dats m 0 c).arrAt 10 (cfgs 0).N = val_main_v32 (F := Ideal) (X0 m c) (X2 m c) (X3 m c) (X4 m c) (X5 m c) (X8 m c) := by
  refine (dats m 0 c).arrAt_eq_of_after_last 10 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_10, Pipeline.eq_sum_fin_of_reset_step_apply_last (fun n h => (outsAt0 m c n h).2.2.1) 8 (fun _ => 0)
    (fun t j => ∑ a : Fin 512, F_10 m c (row t a) (j 1))
    (fun t h0 j => by rw [show j = ix2 0 (j 1) from (eq_ix2 j).trans (congrArg (ix2 · _) (Subsingleton.elim _ _))]; exact step_A_10 m c t h0 _)
    (fun t h0 j => by rw [show j = ix2 0 (j 1) from (eq_ix2 j).trans (congrArg (ix2 · _) (Subsingleton.elim _ _))]; exact step_B_10 m c t h0 _)
    (le_of_eq N_0) t0_7 rfl (ix2 0 b), zero_add, ref_10]
  exact Fin.sum_mul_add_congr (fun t k hl => rfl) (by show 4096 = grid0.N * 512; rw [N_0])

def F_11 (r : Fin 4096) (b : Fin 1024) : EReal := u m c r b * (1 + s m c b) * (x m c r b * R (x m c r))
theorem ref_11 (b : Fin 1024) : val_main_v37 (F := Ideal) (X0 m c) (X2 m c) (X3 m c) (X4 m c) (X7 m c) (X8 m c) (ix2 0 b) = ∑ r : Fin 4096, F_11 m c r b := by
  pointwise
  exact Finset.sum_congr rfl fun r _ => mul_comm (G := EReal) _ _
theorem step_A_11 (t : Fin cfg0.N) (h0 : t.val % 8 = 0) (b : Fin 1024) :
    (outsAt0 m c t.val t.isLt).2.2.2.1 (ix2 0 b) = 0 + ∑ a : Fin 512, F_11 m c (row t a) b := by
  rw [outsAt0_A m c t h0]
  frame_out
  unfold_payloads
  pointwise
  simp only [read_0, read_1, read_2, read_3, read_4, read_5, read_6, read_7, part_0, part_1, part_2, part_3, part_4, part_5, part_6, part_7, u_parts]
  rfl
theorem step_B_11 (t : Fin cfg0.N) (h0 : ¬ t.val % 8 = 0) (b : Fin 1024) :
    (outsAt0 m c t.val t.isLt).2.2.2.1 (ix2 0 b) = (outsAt0 m c (t.val - 1) (Nat.lt_of_le_of_lt (Nat.sub_le _ _) t.isLt)).2.2.2.1 (ix2 0 b)
      + ∑ a : Fin 512, F_11 m c (row t a) b := by
  rw [outsAt0_B m c t h0]
  frame_out
  unfold_payloads
  pointwise
  simp only [read_0, read_1, read_2, read_3, read_4, read_5, read_6, read_7, part_0, part_1, part_2, part_3, part_4, part_5, part_6, part_7, u_parts]
  rfl
theorem final_11 : (dats m 0 c).arrAt 11 (cfgs 0).N = val_main_v37 (F := Ideal) (X0 m c) (X2 m c) (X3 m c) (X4 m c) (X7 m c) (X8 m c) := by
  refine (dats m 0 c).arrAt_eq_of_after_last 11 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_11, Pipeline.eq_sum_fin_of_reset_step_apply_last (fun n h => (outsAt0 m c n h).2.2.2.1) 8 (fun _ => 0)
    (fun t j => ∑ a : Fin 512, F_11 m c (row t a) (j 1))
    (fun t h0 j => by rw [show j = ix2 0 (j 1) from (eq_ix2 j).trans (congrArg (ix2 · _) (Subsingleton.elim _ _))]; exact step_A_11 m c t h0 _)
    (fun t h0 j => by rw [show j = ix2 0 (j 1) from (eq_ix2 j).trans (congrArg (ix2 · _) (Subsingleton.elim _ _))]; exact step_B_11 m c t h0 _)
    (le_of_eq N_0) t0_7 rfl (ix2 0 b), zero_add, ref_11]
  exact Fin.sum_mul_add_congr (fun t k hl => rfl) (by show 4096 = grid0.N * 512; rw [N_0])

theorem final_12 (hp : Cert.Pre_Kernel8Ideal_finite8 m) : (dats m 0 c).arrAt 12 (cfgs 0).N = val_main_v63 (F := Ideal) (X0 m c) (X1 m c) (X2 m c) (X3 m c) (X4 m c) (X5 m c) (X7 m c) (X8 m c) := by
  refine (dats m 0 c).arrAt_eq_of_covers 12 _ (by decide +kernel) fun t hf y => ?_
  blk_simp; rw [after0_12]
  obtain ⟨a, b, rfl⟩ : ∃ (a : Fin 512) (b : Fin 1024), y = ix2 a b := ⟨y 0, y 1, eq_ix2 y⟩
  rw [show ((cfg0.win 12).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, read_6, read_7, part_0, part_1, part_2, part_3, part_4, part_5, part_6, part_7, u_parts]
    exact congrArg (_ * ·) (gradient (fun k => x_real m c hp (row t a) k) (fun k => d_real m c hp (row t a) k) _ b)

def F_13 (r : Fin 4096) (b : Fin 1024) : EReal := Ideal.ofBits .f32 1056964608#32 * (dx m c r b * y m c r b)
theorem ref_13 (hp : Cert.Pre_Kernel8Ideal_finite8 m) (b : Fin 1024) : val_main_v62 (F := Ideal) (X0 m c) (X1 m c) (X2 m c) (X3 m c) (X4 m c) (X5 m c) (X7 m c) (X8 m c) (ix2 0 b) = ∑ r : Fin 4096, F_13 m c r b := by
  pointwise
  exact (congrArg (_ * ·) (Finset.sum_congr (M := EReal) rfl fun r _ => congrArg (· * _) (gradient (fun k => x_real m c hp r k) (fun k => d_real m c hp r k) _ b).symm)).trans (half_sum _)
theorem step_A_13 (t : Fin cfg0.N) (h0 : t.val % 8 = 0) (b : Fin 1024) :
    (outsAt0 m c t.val t.isLt).2.2.2.2.2 (ix2 0 b) = 0 + ∑ a : Fin 512, F_13 m c (row t a) b := by
  rw [outsAt0_A m c t h0]
  frame_out
  unfold_payloads
  pointwise
  simp only [read_0, read_1, read_2, read_3, read_4, read_5, read_6, read_7, part_0, part_1, part_2, part_3, part_4, part_5, part_6, part_7, u_parts]
  exact half_sum _
theorem step_B_13 (t : Fin cfg0.N) (h0 : ¬ t.val % 8 = 0) (b : Fin 1024) :
    (outsAt0 m c t.val t.isLt).2.2.2.2.2 (ix2 0 b) = (outsAt0 m c (t.val - 1) (Nat.lt_of_le_of_lt (Nat.sub_le _ _) t.isLt)).2.2.2.2.2 (ix2 0 b)
      + ∑ a : Fin 512, F_13 m c (row t a) b := by
  rw [outsAt0_B m c t h0]
  frame_out
  unfold_payloads
  pointwise
  simp only [read_0, read_1, read_2, read_3, read_4, read_5, read_6, read_7, part_0, part_1, part_2, part_3, part_4, part_5, part_6, part_7, u_parts]
  exact congrArg (_ + ·) (half_sum _)
theorem final_13 (hp : Cert.Pre_Kernel8Ideal_finite8 m) : (dats m 0 c).arrAt 13 (cfgs 0).N = val_main_v62 (F := Ideal) (X0 m c) (X1 m c) (X2 m c) (X3 m c) (X4 m c) (X5 m c) (X7 m c) (X8 m c) := by
  refine (dats m 0 c).arrAt_eq_of_after_last 13 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_13, Pipeline.eq_sum_fin_of_reset_step_apply_last (fun n h => (outsAt0 m c n h).2.2.2.2.2) 8 (fun _ => 0)
    (fun t j => ∑ a : Fin 512, F_13 m c (row t a) (j 1))
    (fun t h0 j => by rw [show j = ix2 0 (j 1) from (eq_ix2 j).trans (congrArg (ix2 · _) (Subsingleton.elim _ _))]; exact step_A_13 m c t h0 _)
    (fun t h0 j => by rw [show j = ix2 0 (j 1) from (eq_ix2 j).trans (congrArg (ix2 · _) (Subsingleton.elim _ _))]; exact step_B_13 m c t h0 _)
    (le_of_eq N_0) t0_7 rfl (ix2 0 b), zero_add, ref_13 m c hp]
  exact Fin.sum_mul_add_congr (fun t k hl => rfl) (by show 4096 = grid0.N * 512; rw [N_0])

set_option maxHeartbeats 4000000 in
/-- The kernel's results are the reference's. -/
theorem algebraic : Cert.algebraic_Kernel8Ideal_Reference8Ideal_pre_finite8 := by
  pair_intro
  · run_from Cert.Kernel8Ideal.Gen.run_main m g
  · run_from Reference8Ideal.run_reference m' g'
    · exact (final_8 m c (by assumption)).symm
    · exact (final_9 m c).symm
    · exact (final_10 m c).symm
    · exact (final_11 m c).symm
    · exact (final_12 m c (by assumption)).symm
    · exact (final_13 m c (by assumption)).symm

/-- The reference leaves its arguments alone. -/
theorem quiescent : Cert.quiescent_Reference8Ideal := fun m' ρ _ =>
  Idealize.ShloMosaic.θ_run_mono (Reference8Ideal.Value.run m' ρ) fun r h =>
    ⟨fun c => (h c).2.2.2.2.2.2, sem_eq_zero_of_no_sems (by decide) r.2⟩

end Cert.Norm2

end
-- ==== Proof.Norm1.lean ====
/- The gradient of the first modulated norm. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference9Ideal

open Read

/-- The reference's run, its results named by the stages of its text. -/
theorem run_reference (m' : (ℓ : Loc nD τ sig) → Buf (Elt Ideal) ℓ) (ρ : Dev nD → PrngReg) :
    θ_run defs (onTc (τ := τ) main) ⟨m', fun _ => 0, ρ⟩ fun r =>
      ∀ c : Dev nD,
        let A (b : Ref sig .tc) := m' ((c.tc : Thread nD τ).loc b)
        let B (b : Ref sig .tc) := r.2.mem ((c.tc : Thread nD τ).loc b)
        B main_v48 = val_main_v48 (F := Ideal) (A main_arg0) (A main_arg1) (A main_arg2) (A main_arg3) (A main_arg5)
        ∧ B main_v23 = val_main_v23 (F := Ideal) (A main_arg0)
        ∧ B main_v26 = val_main_v26 (F := Ideal) (A main_arg0) (A main_arg2) (A main_arg3)
        ∧ B main_v31 = val_main_v31 (F := Ideal) (A main_arg0) (A main_arg2) (A main_arg5)
        ∧ B main_arg0 = A main_arg0
        ∧ B main_arg1 = A main_arg1
        ∧ B main_arg2 = A main_arg2
        ∧ B main_arg3 = A main_arg3
        ∧ B main_arg4 = A main_arg4
        ∧ B main_arg5 = A main_arg5 :=
  Idealize.ShloMosaic.θ_run_mono (Value.run m' ρ) fun r h c =>
    ⟨(h c).1.trans (val_main_v48_eq m' c),
      (h c).2.1.trans (val_main_v23_eq _),
      (h c).2.2.1.trans (val_main_v26_eq _ _ _),
      (h c).2.2.2.1.trans (val_main_v31_eq _ _ _),
      (h c).2.2.2.2⟩

end Cert.Reference9Ideal

namespace Cert.Norm1

open Cert.Kernel9Ideal Cert.Kernel9Ideal.Gen Cert.Reference9Ideal.Read Cert.Norm Cert.Reals

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![0, 0] ∧ win0_8.index t = ![0, 0] :=
  (by decide +kernel : ∀ t : Fin grid0.N, _)

/-- The row of the arrays that row `b` of point `t`'s blocks is. -/
def row (t : Fin cfg0.N) (b : Fin 256) : Fin 4096 := ⟨t.val * 256 + b.val, by
  have := lt_of_lt_of_eq t.isLt N_0; omega⟩

abbrev X0 : FVec Ideal S4096x1024 .f32 := m ((c : Thread nD τ).loc main_arg0)
abbrev X1 : FVec Ideal S4096x1024 .f32 := m ((c : Thread nD τ).loc main_arg1)
abbrev X2 : FVec Ideal S4096x1024 .f32 := m ((c : Thread nD τ).loc main_arg2)
abbrev X3 : FVec Ideal S1x1024 .f32 := m ((c : Thread nD τ).loc main_arg3)
abbrev X5 : FVec Ideal S1x1024 .f32 := m ((c : Thread nD τ).loc main_arg5)

/-- The norm's input, the gradient of its output, and the gradient of the normalised row. -/
abbrev x (r : Fin 4096) (k : Fin 1024) : EReal := X2 m c (ix2 r k)
abbrev u (r : Fin 4096) (k : Fin 1024) : EReal := X0 m c (ix2 r k)
abbrev g (k : Fin 1024) : EReal := X3 m c (ix2 0 k)
abbrev s (k : Fin 1024) : EReal := X5 m c (ix2 0 k)
abbrev o (r : Fin 4096) (k : Fin 1024) : EReal := X1 m c (ix2 r k)
abbrev d (r : Fin 4096) (k : Fin 1024) : EReal := u m c r k * (1 + s m c k) * g m c k
/-- The gradient of the norm's input. -/
abbrev dx (r : Fin 4096) (b : Fin 1024) : EReal :=
  o m c r b + R (x m c r) * (d m c r b - x m c r b * R (x m c r) * Ideal.div (∑ k, d m c r k * (x m c r k * R (x m c r))) (Ideal.ofBits .f32 1149239296#32))

theorem read_0 (t : Fin cfg0.N) (a : Fin 256) (b : Fin 1024) : iblk m c 0 t (ix2 a b) = u m c (row t a) b := by
  blk_simp [iblk]
  entry_read
  pointwise
  blk_ext [idx t, row]
theorem read_1 (t : Fin cfg0.N) (a : Fin 256) (b : Fin 1024) : iblk m c 1 t (ix2 a b) = x m c (row t a) b := by
  blk_simp [iblk]
  entry_read
  pointwise
  blk_ext [idx t, row]
theorem read_2 (t : Fin cfg0.N) (a : Fin 256) (b : Fin 1024) : iblk m c 2 t (ix2 a b) = o m c (row t a) b := by
  blk_simp [iblk]
  entry_read
  pointwise
  blk_ext [idx t, row]
theorem read_3 (t : Fin cfg0.N) (b : Fin 1024) : iblk m c 3 t (ix2 0 b) = g m c b := by
  blk_simp [iblk]
  entry_read
  pointwise
  blk_ext [idx t]
theorem read_4 (t : Fin cfg0.N) (b : Fin 1024) : iblk m c 4 t (ix2 0 b) = s m c b := by
  blk_simp [iblk]
  entry_read
  pointwise
  blk_ext [idx t]

instance facts : Cert.Pre_finite9.Facts where
  bcast_S_S1x1024 := by decide
  bcast_S_S4096x1024 := by decide

section
variable (hp : Cert.Pre_Kernel9Ideal_finite9 m)
include hp
theorem r0 (r : Fin 4096) (k : Fin 1024) : X0 m c (ix2 r k) = (((X0 m c (ix2 r k)).toReal : ℝ) : EReal) := by
  have := congrFun (hp c).1 (ix2 r k)
  unfold Cert.Pre_finite9.fn at this; dsimp only at this; pointwise at this
  exact real_of_lt this
theorem r2 (r : Fin 4096) (k : Fin 1024) : X2 m c (ix2 r k) = (((X2 m c (ix2 r k)).toReal : ℝ) : EReal) := by
  have := congrFun (hp c).2.1 (ix2 r k)
  unfold Cert.Pre_finite9.fn at this; dsimp only at this; pointwise at this
  exact real_of_lt this
theorem r3 (r : Fin 1) (k : Fin 1024) : X3 m c (ix2 r k) = (((X3 m c (ix2 r k)).toReal : ℝ) : EReal) := by
  have := congrFun (hp c).2.2.1 (ix2 r k)
  unfold Cert.Pre_finite9.fn at this; dsimp only at this; pointwise at this
  exact real_of_lt this
theorem r5 (r : Fin 1) (k : Fin 1024) : X5 m c (ix2 r k) = (((X5 m c (ix2 r k)).toReal : ℝ) : EReal) := by
  have := congrFun (hp c).2.2.2 (ix2 r k)
  unfold Cert.Pre_finite9.fn at this; dsimp only at this; pointwise at this
  exact real_of_lt this
theorem x_real (r : Fin 4096) (k : Fin 1024) : x m c r k = (((x m c r k).toReal : ℝ) : EReal) := r2 m c hp r k
theorem d_real (r : Fin 4096) (k : Fin 1024) : d m c r k = (((d m c r k).toReal : ℝ) : EReal) :=
  mul_real (mul_real (r0 m c hp r k) (add_real one_real (r5 m c hp 0 k))) (r3 m c hp 0 k)
end

attribute [local pointwise] val_main_v0 val_main_cst val_main_v1 val_main_v2 val_main_cst_0 val_main_v3 val_main_v4 val_main_cst_1 val_main_v5 val_main_v6 val_main_v7 val_main_v8 val_main_cst_2 val_main_v9 val_main_v10 val_main_v11 val_main_v12 val_main_v13 val_main_v14 val_main_cst_3 val_main_v15 val_main_v16 val_main_v17 val_main_v18 val_main_v19 val_main_v20 val_main_v21 val_main_cst_4 val_main_v22 val_main_v23 val_main_v24 val_main_cst_5 val_main_v25 val_main_v26 val_main_v27 val_main_v28 val_main_v29 val_main_cst_6 val_main_v30 val_main_v31 val_main_v32 val_main_v33 val_main_v34 val_main_cst_7 val_main_v35 val_main_v36 val_main_v37 val_main_v38 val_main_v39 val_main_v40 val_main_cst_8 val_main_v41 val_main_v42 val_main_cst_9 val_main_v43 val_main_v44 val_main_v45 val_main_v46 val_main_v47 val_main_v48

theorem final_5 (hp : Cert.Pre_Kernel9Ideal_finite9 m) : (dats m 0 c).arrAt 5 (cfgs 0).N = val_main_v48 (F := Ideal) (X0 m c) (X1 m c) (X2 m c) (X3 m c) (X5 m c) := by
  refine (dats m 0 c).arrAt_eq_of_covers 5 _ (by decide +kernel) fun t hf y => ?_
  blk_simp; rw [after0_5]
  obtain ⟨a, b, rfl⟩ : ∃ (a : Fin 256) (b : Fin 1024), y = ix2 a b := ⟨y 0, y 1, eq_ix2 y⟩
  rw [show ((cfg0.win 5).blk t).view.emb (ix2 a b) = (ix2 (row t a) b : S4096x1024.Idx) from by blk_ext [idx t, row]]
  by_cases h0 : t.val % 16 = 0
  on_goal 1 => rw [outsAt0_A m c t h0]
  on_goal 2 => rw [outsAt0_B m c t h0]
  all_goals
    frame_out
    unfold_payloads
    pointwise
    simp only [read_0, read_1, read_2, read_3, read_4]
    exact gradient (fun k => x_real m c hp (row t a) k) (fun k => d_real m c hp (row t a) k) _ b

def F_6 (r : Fin 4096) (b : Fin 1024) : EReal := u m c r b
theorem ref_6 (b : Fin 1024) : val_main_v23 (F := Ideal) (X0 m c) (ix2 0 b) = ∑ r : Fin 4096, F_6 m c r b := by
  pointwise
  exact rfl
theorem step_A_6 (t : Fin cfg0.N) (h0 : t.val % 16 = 0) (b : Fin 1024) :
    (outsAt0 m c t.val t.isLt).2.1 (ix2 0 b) = 0 + ∑ a : Fin 256, F_6 m c (row t a) b := by
  rw [outsAt0_A m c t h0]
  frame_out
  unfold_payloads
  pointwise
  simp only [read_0, read_1, read_2, read_3, read_4]
  rfl
theorem step_B_6 (t : Fin cfg0.N) (h0 : ¬ t.val % 16 = 0) (b : Fin 1024) :
    (outsAt0 m c t.val t.isLt).2.1 (ix2 0 b) = (outsAt0 m c (t.val - 1) (Nat.lt_of_le_of_lt (Nat.sub_le _ _) t.isLt)).2.1 (ix2 0 b)
      + ∑ a : Fin 256, F_6 m c (row t a) b := by
  rw [outsAt0_B m c t h0]
  frame_out
  unfold_payloads
  pointwise
  simp only [read_0, read_1, read_2, read_3, read_4]
  rfl
theorem final_6 : (dats m 0 c).arrAt 6 (cfgs 0).N = val_main_v23 (F := Ideal) (X0 m c) := by
  refine (dats m 0 c).arrAt_eq_of_after_last 6 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_6, Pipeline.eq_sum_fin_of_reset_step_apply_last (fun n h => (outsAt0 m c n h).2.1) 16 (fun _ => 0)
    (fun t j => ∑ a : Fin 256, F_6 m c (row t a) (j 1))
    (fun t h0 j => by rw [show j = ix2 0 (j 1) from (eq_ix2 j).trans (congrArg (ix2 · _) (Subsingleton.elim _ _))]; exact step_A_6 m c t h0 _)
    (fun t h0 j => by rw [show j = ix2 0 (j 1) from (eq_ix2 j).trans (congrArg (ix2 · _) (Subsingleton.elim _ _))]; exact step_B_6 m c t h0 _)
    (le_of_eq N_0) t0_15 rfl (ix2 0 b), zero_add, ref_6]
  exact Fin.sum_mul_add_congr (fun t k hl => rfl) (by show 4096 = grid0.N * 256; rw [N_0])

def F_7 (r : Fin 4096) (b : Fin 1024) : EReal := u m c r b * (x m c r b * R (x m c r) * g m c b)
theorem ref_7 (b : Fin 1024) : val_main_v26 (F := Ideal) (X0 m c) (X2 m c) (X3 m c) (ix2 0 b) = ∑ r : Fin 4096, F_7 m c r b := by
  pointwise
  exact Finset.sum_congr rfl fun r _ => mul_comm (G := EReal) _ _
theorem step_A_7 (t : Fin cfg0.N) (h0 : t.val % 16 = 0) (b : Fin 1024) :
    (outsAt0 m c t.val t.isLt).2.2.1 (ix2 0 b) = 0 + ∑ a : Fin 256, F_7 m c (row t a) b := by
  rw [outsAt0_A m c t h0]
  frame_out
  unfold_payloads
  pointwise
  simp only [read_0, read_1, read_2, read_3, read_4]
  rfl
theorem step_B_7 (t : Fin cfg0.N) (h0 : ¬ t.val % 16 = 0) (b : Fin 1024) :
    (outsAt0 m c t.val t.isLt).2.2.1 (ix2 0 b) = (outsAt0 m c (t.val - 1) (Nat.lt_of_le_of_lt (Nat.sub_le _ _) t.isLt)).2.2.1 (ix2 0 b)
      + ∑ a : Fin 256, F_7 m c (row t a) b := by
  rw [outsAt0_B m c t h0]
  frame_out
  unfold_payloads
  pointwise
  simp only [read_0, read_1, read_2, read_3, read_4]
  rfl
theorem final_7 : (dats m 0 c).arrAt 7 (cfgs 0).N = val_main_v26 (F := Ideal) (X0 m c) (X2 m c) (X3 m c) := by
  refine (dats m 0 c).arrAt_eq_of_after_last 7 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_7, Pipeline.eq_sum_fin_of_reset_step_apply_last (fun n h => (outsAt0 m c n h).2.2.1) 16 (fun _ => 0)
    (fun t j => ∑ a : Fin 256, F_7 m c (row t a) (j 1))
    (fun t h0 j => by rw [show j = ix2 0 (j 1) from (eq_ix2 j).trans (congrArg (ix2 · _) (Subsingleton.elim _ _))]; exact step_A_7 m c t h0 _)
    (fun t h0 j => by rw [show j = ix2 0 (j 1) from (eq_ix2 j).trans (congrArg (ix2 · _) (Subsingleton.elim _ _))]; exact step_B_7 m c t h0 _)
    (le_of_eq N_0) t0_15 rfl (ix2 0 b), zero_add, ref_7]
  exact Fin.sum_mul_add_congr (fun t k hl => rfl) (by show 4096 = grid0.N * 256; rw [N_0])

def F_8 (r : Fin 4096) (b : Fin 1024) : EReal := u m c r b * (1 + s m c b) * (x m c r b * R (x m c r))
theorem ref_8 (b : Fin 1024) : val_main_v31 (F := Ideal) (X0 m c) (X2 m c) (X5 m c) (ix2 0 b) = ∑ r : Fin 4096, F_8 m c r b := by
  pointwise
  exact Finset.sum_congr rfl fun r _ => mul_comm (G := EReal) _ _
theorem step_A_8 (t : Fin cfg0.N) (h0 : t.val % 16 = 0) (b : Fin 1024) :
    (outsAt0 m c t.val t.isLt).2.2.2 (ix2 0 b) = 0 + ∑ a : Fin 256, F_8 m c (row t a) b := by
  rw [outsAt0_A m c t h0]
  frame_out
  unfold_payloads
  pointwise
  simp only [read_0, read_1, read_2, read_3, read_4]
  rfl
theorem step_B_8 (t : Fin cfg0.N) (h0 : ¬ t.val % 16 = 0) (b : Fin 1024) :
    (outsAt0 m c t.val t.isLt).2.2.2 (ix2 0 b) = (outsAt0 m c (t.val - 1) (Nat.lt_of_le_of_lt (Nat.sub_le _ _) t.isLt)).2.2.2 (ix2 0 b)
      + ∑ a : Fin 256, F_8 m c (row t a) b := by
  rw [outsAt0_B m c t h0]
  frame_out
  unfold_payloads
  pointwise
  simp only [read_0, read_1, read_2, read_3, read_4]
  rfl
theorem final_8 : (dats m 0 c).arrAt 8 (cfgs 0).N = val_main_v31 (F := Ideal) (X0 m c) (X2 m c) (X5 m c) := by
  refine (dats m 0 c).arrAt_eq_of_after_last 8 t0_15 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_8, Pipeline.eq_sum_fin_of_reset_step_apply_last (fun n h => (outsAt0 m c n h).2.2.2) 16 (fun _ => 0)
    (fun t j => ∑ a : Fin 256, F_8 m c (row t a) (j 1))
    (fun t h0 j => by rw [show j = ix2 0 (j 1) from (eq_ix2 j).trans (congrArg (ix2 · _) (Subsingleton.elim _ _))]; exact step_A_8 m c t h0 _)
    (fun t h0 j => by rw [show j = ix2 0 (j 1) from (eq_ix2 j).trans (congrArg (ix2 · _) (Subsingleton.elim _ _))]; exact step_B_8 m c t h0 _)
    (le_of_eq N_0) t0_15 rfl (ix2 0 b), zero_add, ref_8]
  exact Fin.sum_mul_add_congr (fun t k hl => rfl) (by show 4096 = grid0.N * 256; rw [N_0])

set_option maxHeartbeats 4000000 in
/-- The kernel's results are the reference's. -/
theorem algebraic : Cert.algebraic_Kernel9Ideal_Reference9Ideal_pre_finite9 := by
  pair_intro
  · run_from Cert.Kernel9Ideal.Gen.run_main m g
  · run_from Reference9Ideal.run_reference m' g'
    · exact (final_5 m c (by assumption)).symm
    · exact (final_6 m c).symm
    · exact (final_7 m c).symm
    · exact (final_8 m c).symm

/-- The reference leaves its arguments alone. -/
theorem quiescent : Cert.quiescent_Reference9Ideal := fun m' ρ _ =>
  Idealize.ShloMosaic.θ_run_mono (Reference9Ideal.Value.run m' ρ) fun r h =>
    ⟨fun c => (h c).2.2.2.2, sem_eq_zero_of_no_sems (by decide) r.2⟩

end Cert.Norm1

end
-- ==== Proof.Loss.lean ====
/- The loss of the last feed-forward layer's output, with the gradients of its norm and of the layer's gate. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference10Ideal

open Read

/-- The reference's run, its results named by the stages of its text. -/
theorem run_reference (m' : (ℓ : Loc nD τ sig) → Buf (Elt Ideal) ℓ) (ρ : Dev nD → PrngReg) :
    θ_run defs (onTc (τ := τ) main) ⟨m', fun _ => 0, ρ⟩ fun r =>
      ∀ c : Dev nD,
        let A (b : Ref sig .tc) := m' ((c.tc : Thread nD τ).loc b)
        let B (b : Ref sig .tc) := r.2.mem ((c.tc : Thread nD τ).loc b)
        B main_v29 = val_main_v29 (F := Ideal) (A main_arg0) (A main_arg1) (A main_arg2) (A main_arg3) (A main_arg4) (A main_arg5)
        ∧ B main_v54 = val_main_v54 (F := Ideal) (A main_arg0) (A main_arg1) (A main_arg2) (A main_arg3) (A main_arg4) (A main_arg5)
        ∧ B main_v62 = val_main_v62 (F := Ideal) (A main_arg0) (A main_arg1) (A main_arg2) (A main_arg3) (A main_arg4) (A main_arg5)
        ∧ B main_v61 = val_main_v61 (F := Ideal) (A main_arg0) (A main_arg1) (A main_arg2) (A main_arg3) (A main_arg4) (A main_arg5)
        ∧ B main_v38 = val_main_v38 (F := Ideal) (A main_arg0) (A main_arg1) (A main_arg2) (A main_arg3) (A main_arg4) (A main_arg5)
        ∧ B main_arg0 = A main_arg0
        ∧ B main_arg1 = A main_arg1
        ∧ B main_arg2 = A main_arg2
        ∧ B main_arg3 = A main_arg3
        ∧ B main_arg4 = A main_arg4
        ∧ B main_arg5 = A main_arg5 :=
  Idealize.ShloMosaic.θ_run_mono (Value.run m' ρ) fun r h c =>
    ⟨(h c).1.trans (val_main_v29_eq _ _ _ _ _ _),
      (h c).2.1.trans (val_main_v54_eq m' c),
      (h c).2.2.1.trans (val_main_v62_eq m' c),
      (h c).2.2.2.1.trans (val_main_v61_eq m' c),
      (h c).2.2.2.2.1.trans (val_main_v38_eq _ _ _ _ _ _),
      (h c).2.2.2.2.2⟩

end Cert.Reference10Ideal

namespace Cert.Loss

open Cert.Kernel10Ideal Cert.Kernel10Ideal.Gen Cert.Reference10Ideal.Read Cert.Norm Cert.Reals

variable (m : (ℓ : Loc nD τ sig) → Buf (Elt Ideal) ℓ) (c : Dev nD)

theorem idx : ∀ t : Fin cfg0.N, win0_0.index t = ![0, t.val, 0] ∧ win0_1.index t = ![0, 0, 0] ∧ win0_2.index t = ![t.val, 0] ∧ win0_3.index t = ![0, 0] ∧ win0_4.index t = ![t.val, 0] ∧ win0_5.index t = ![0, 0] ∧ win0_6.index t = ![t.val, 0] ∧ win0_7.index t = ![t.val, 0] ∧ win0_8.index t = ![0, 0] ∧ win0_9.index t = ![0, 0] ∧ win0_10.index t = ![0, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x2816 .f32 := m ((c : Thread nD τ).loc main_arg0)
abbrev X1 : FVec Ideal S2816x1024 .f32 := m ((c : Thread nD τ).loc main_arg1)
abbrev X2 : FVec Ideal S4096x1024 .f32 := m ((c : Thread nD τ).loc main_arg2)
abbrev X3 : FVec Ideal S1x1024 .f32 := m ((c : Thread nD τ).loc main_arg3)
abbrev X4 : FVec Ideal S4096x1024 .f32 := m ((c : Thread nD τ).loc main_arg4)
abbrev X5 : FVec Ideal S1x1024 .f32 := m ((c : Thread nD τ).loc main_arg5)

/-- The layer's output, the norm's input, the error, and the gradient of the normalised row. -/
abbrev y (r : Fin 4096) (b : Fin 1024) : EReal := ∑ j : Fin 2816, @HMul.hMul EReal EReal EReal _ (X0 m c (ix2 r j)) (X1 m c (ix2 j b))
abbrev gate (b : Fin 1024) : EReal := X3 m c (ix2 0 b)
abbrev target (r : Fin 4096) (b : Fin 1024) : EReal := X4 m c (ix2 r b)
abbrev g (b : Fin 1024) : EReal := X5 m c (ix2 0 b)
abbrev x (r : Fin 4096) (b : Fin 1024) : EReal := X2 m c (ix2 r b) + @HMul.hMul EReal EReal EReal _ (@HMul.hMul EReal EReal EReal _ (Ideal.ofBits .f32 1056964608#32) (X3 m c (ix2 0 b))) (y m c r b)
abbrev e (r : Fin 4096) (b : Fin 1024) : EReal := x m c r b * R (x m c r) * g m c b - target m c r b
abbrev d (r : Fin 4096) (b : Fin 1024) : EReal := e m c r b * Ideal.ofBits .f32 981467136#32 * g m c b
/-- The gradient of the norm's input. -/
abbrev dx (r : Fin 4096) (b : Fin 1024) : EReal :=
  R (x m c r) * (d m c r b - x m c r b * R (x m c r) * Ideal.div (∑ k, d m c r k * (x m c r k * R (x m c r))) (Ideal.ofBits .f32 1149239296#32))

theorem read_0 (t : Fin cfg0.N) (q : Fin 4) (a : Fin 512) (j : Fin 704) : iblk m c 0 t (ix3 q a j) = X0 m c (ix2 (row t a) ⟨q.val * 704 + j.val, by omega⟩) := by
  blk_simp [iblk]
  entry_read
  simp only [List.flatten_cons, List.flatten_nil, List.append_nil]
  entry_read
  pointwise
  blk_ext [idx t, row]
theorem read_1 (t : Fin cfg0.N) (q : Fin 4) (j : Fin 704) (b : Fin 1024) : iblk m c 1 t (ix3 q j b) = X1 m c (ix2 ⟨q.val * 704 + j.val, by omega⟩ b) := by
  blk_simp [iblk]
  entry_read
  simp only [List.flatten_cons, List.flatten_nil, List.append_nil]
  entry_read
  pointwise
  blk_ext [idx t]
theorem read_2 (t : Fin cfg0.N) (a : Fin 512) (b : Fin 1024) : iblk m c 2 t (ix2 a b) = X2 m c (ix2 (row t a) b) := by
  blk_simp [iblk]
  entry_read
  pointwise
  blk_ext [idx t, row]
theorem read_3 (t : Fin cfg0.N) (b : Fin 1024) : iblk m c 3 t (ix2 0 b) = gate m c b := by
  blk_simp [iblk]
  entry_read
  pointwise
  blk_ext [idx t, row]
theorem read_4 (t : Fin cfg0.N) (a : Fin 512) (b : Fin 1024) : iblk m c 4 t (ix2 a b) = target m c (row t a) b := by
  blk_simp [iblk]
  entry_read
  pointwise
  blk_ext [idx t, row]
theorem read_5 (t : Fin cfg0.N) (b : Fin 1024) : iblk m c 5 t (ix2 0 b) = g m c b := by
  blk_simp [iblk]
  entry_read
  pointwise
  blk_ext [idx t, row]
/-- The product's share of one block of columns. -/
def part (r : Fin 4096) (b : Fin 1024) (q : Fin 4) : EReal :=
  ∑ j : Fin 704, @HMul.hMul EReal EReal EReal _ (X0 m c (ix2 r ⟨q.val * 704 + j.val, by omega⟩)) (X1 m c (ix2 ⟨q.val * 704 + j.val, by omega⟩ b))
theorem part_0 (r : Fin 4096) (b : Fin 1024) : (∑ j : Fin 704, @HMul.hMul EReal EReal EReal _ (X0 m c (ix2 r ⟨(0 : Fin 4).val * 704 + j.val, by omega⟩)) (X1 m c (ix2 ⟨(0 : Fin 4).val * 704 + j.val, by omega⟩ b))) = part m c r b 0 := rfl
theorem part_1 (r : Fin 4096) (b : Fin 1024) : (∑ j : Fin 704, @HMul.hMul EReal EReal EReal _ (X0 m c (ix2 r ⟨(1 : Fin 4).val * 704 + j.val, by omega⟩)) (X1 m c (ix2 ⟨(1 : Fin 4).val * 704 + j.val, by omega⟩ b))) = part m c r b 1 := rfl
theorem part_2 (r : Fin 4096) (b : Fin 1024) : (∑ j : Fin 704, @HMul.hMul EReal EReal EReal _ (X0 m c (ix2 r ⟨(2 : Fin 4).val * 704 + j.val, by omega⟩)) (X1 m c (ix2 ⟨(2 : Fin 4).val * 704 + j.val, by omega⟩ b))) = part m c r b 2 := rfl
theorem part_3 (r : Fin 4096) (b : Fin 1024) : (∑ j : Fin 704, @HMul.hMul EReal EReal EReal _ (X0 m c (ix2 r ⟨(3 : Fin 4).val * 704 + j.val, by omega⟩)) (X1 m c (ix2 ⟨(3 : Fin 4).val * 704 + j.val, by omega⟩ b))) = part m c r b 3 := rfl
theorem y_parts (r : Fin 4096) (b : Fin 1024) : part m c r b 0 + part m c r b 1 + part m c r b 2 + part m c r b 3 = y m c r b := by
  have h := Fin.sum_mul_add_fin 4 704 fun j : Fin 2816 => @HMul.hMul EReal EReal EReal _ (X0 m c (ix2 r j)) (X1 m c (ix2 j b))
  rw [Fin.sum_univ_four] at h
  exact h

theorem inv_width : Ideal.ofBits .f32 981467136#32 = ((1 / 1024 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem half_inv_width : Ideal.ofBits .f32 973078528#32 = ((1 / 2048 : ℝ) : EReal) := by
  simp [Ideal.ofBits, Ideal.ieee, -EReal.coe_mul]; norm_num
/-- The error's factor: the halved mean of twice the error. -/
theorem factor (v : EReal) : Ideal.div (Ideal.ofBits .f32 1056964608#32) (Ideal.ofBits .f32 1149239296#32) * (Ideal.ofBits .f32 1073741824#32 * v) = v * Ideal.ofBits .f32 981467136#32 := by
  rw [half, width, two, inv_width, Ideal.div_coe (by norm_num), ← mul_assoc, mul_comm (G := EReal) v, ← EReal.coe_mul, ← EReal.coe_mul]
  norm_num

instance facts : Cert.Pre_finite10.Facts where
  bcast_S_S1x1024 := by decide
  bcast_S_S2816x1024 := by decide
  bcast_S_S4096x1024 := by decide
  bcast_S_S4096x2816 := by decide

section
variable (hp : Cert.Pre_Kernel10Ideal_finite10 m)
include hp
theorem r0 (r : Fin 4096) (k : Fin 2816) : X0 m c (ix2 r k) = (((X0 m c (ix2 r k)).toReal : ℝ) : EReal) := by
  have := congrFun (hp c).1 (ix2 r k)
  unfold Cert.Pre_finite10.fn at this; dsimp only at this; pointwise at this
  exact real_of_lt this
theorem r1 (r : Fin 2816) (k : Fin 1024) : X1 m c (ix2 r k) = (((X1 m c (ix2 r k)).toReal : ℝ) : EReal) := by
  have := congrFun (hp c).2.1 (ix2 r k)
  unfold Cert.Pre_finite10.fn at this; dsimp only at this; pointwise at this
  exact real_of_lt this
theorem r2 (r : Fin 4096) (k : Fin 1024) : X2 m c (ix2 r k) = (((X2 m c (ix2 r k)).toReal : ℝ) : EReal) := by
  have := congrFun (hp c).2.2.1 (ix2 r k)
  unfold Cert.Pre_finite10.fn at this; dsimp only at this; pointwise at this
  exact real_of_lt this
theorem r3 (r : Fin 1) (k : Fin 1024) : X3 m c (ix2 r k) = (((X3 m c (ix2 r k)).toReal : ℝ) : EReal) := by
  have := congrFun (hp c).2.2.2.1 (ix2 r k)
  unfold Cert.Pre_finite10.fn at this; dsimp only at this; pointwise at this
  exact real_of_lt this
theorem r4 (r : Fin 4096) (k : Fin 1024) : X4 m c (ix2 r k) = (((X4 m c (ix2 r k)).toReal : ℝ) : EReal) := by
  have := congrFun (hp c).2.2.2.2.1 (ix2 r k)
  unfold Cert.Pre_finite10.fn at this; dsimp only at this; pointwise at this
  exact real_of_lt this
theorem r5 (r : Fin 1) (k : Fin 1024) : X5 m c (ix2 r k) = (((X5 m c (ix2 r k)).toReal : ℝ) : EReal) := by
  have := congrFun (hp c).2.2.2.2.2 (ix2 r k)
  unfold Cert.Pre_finite10.fn at this; dsimp only at this; pointwise at this
  exact real_of_lt this
theorem x_real (r : Fin 4096) (k : Fin 1024) : x m c r k = (((x m c r k).toReal : ℝ) : EReal) :=
  add_real (r2 m c hp r k) (mul_real (mul_real half_real (r3 m c hp 0 k)) (by rw [y, coe_dot (fun j => r0 m c hp r j) fun j => r1 m c hp j k, EReal.toReal_coe]))
theorem e_real (r : Fin 4096) (k : Fin 1024) : e m c r k = (((e m c r k).toReal : ℝ) : EReal) := by
  obtain ⟨v, q, _, _, _, h⟩ := V_real (x_real m c hp r)
  have h1 : x m c r k * R (x m c r) * g m c k = (((x m c r k * R (x m c r) * g m c k).toReal : ℝ) : EReal) :=
    mul_real (mul_real (x_real m c hp r k) (by rw [h, EReal.toReal_coe])) (r5 m c hp 0 k)
  rw [e, h1, target, r4 m c hp r k, ← EReal.coe_sub, EReal.toReal_coe]
theorem d_real (r : Fin 4096) (k : Fin 1024) : d m c r k = (((d m c r k).toReal : ℝ) : EReal) :=
  mul_real (mul_real (e_real m c hp r k) (by rw [inv_width, EReal.toReal_coe])) (r5 m c hp 0 k)
theorem dx_eq (r : Fin 4096) (b : Fin 1024) : dx m c r b = d m c r b * R (x m c r) + x m c r b * (∑ _k : Fin 1, Ideal.div ((∑ k, x m c r k * d m c r k) * (Ideal.ofBits .f32 3204448256#32 * Ideal.div (R (x m c r)) (V (x m c r)))) (Ideal.ofBits .f32 1149239296#32))
        + (∑ _k : Fin 1, Ideal.div ((∑ k, x m c r k * d m c r k) * (Ideal.ofBits .f32 3204448256#32 * Ideal.div (R (x m c r)) (V (x m c r)))) (Ideal.ofBits .f32 1149239296#32)) * x m c r b := by
  have h := gradient (x_real m c hp r) (d_real m c hp r) 0 b
  rwa [zero_add, zero_add] at h
end

attribute [local pointwise] val_main_v0 val_main_cst val_main_v1 val_main_v2 val_main_v3 val_main_v4 val_main_v5 val_main_v6 val_main_cst_0 val_main_v7 val_main_v8 val_main_cst_1 val_main_v9 val_main_v10 val_main_cst_2 val_main_v11 val_main_v12 val_main_v13 val_main_v14 val_main_cst_3 val_main_v15 val_main_v16 val_main_v17 val_main_v18 val_main_v19 val_main_v20 val_main_v21 val_main_v22 val_main_cst_4 val_main_v23 val_main_v24 val_main_cst_5 val_main_v25 val_main_cst_6 val_main_v26 val_main_v27 val_main_cst_7 val_main_v28 val_main_cst_8 val_main_v29 val_main_cst_9 val_main_cst_10 val_main_v30 val_main_v31 val_main_cst_11 val_main_v32 val_main_v33 val_main_v34 val_main_v35 val_main_v36 val_main_cst_12 val_main_v37 val_main_v38 val_main_v39 val_main_v40 val_main_v41 val_main_cst_13 val_main_v42 val_main_v43 val_main_v44 val_main_v45 val_main_v46 val_main_cst_14 val_main_v47 val_main_v48 val_main_cst_15 val_main_v49 val_main_v50 val_main_v51 val_main_v52 val_main_v53 val_main_v54 val_main_v55 val_main_v56 val_main_v57 val_main_cst_16 val_main_v58 val_main_v59 val_main_cst_17 val_main_v60 val_main_v61 val_main_v62

theorem final_6 (hp : Cert.Pre_Kernel10Ideal_finite10 m) : (dats m 0 c).arrAt 6 (cfgs 0).N = val_main_v54 (F := Ideal) (X0 m c) (X1 m c) (X2 m c) (X3 m c) (X4 m c) (X5 m c) := by
  refine (dats m 0 c).arrAt_eq_of_covers 6 _ (by decide +kernel) fun t hf y => ?_
  blk_simp; rw [after0_6]
  obtain ⟨a, b, rfl⟩ : ∃ (a : Fin 512) (b : Fin 1024), y = ix2 a b := ⟨y 0, y 1, eq_ix2 y⟩
  rw [show ((cfg0.win 6).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, part_0, part_1, part_2, part_3, y_parts]
    simp only [factor]
    exact dx_eq m c hp (row t a) b

theorem final_7 (hp : Cert.Pre_Kernel10Ideal_finite10 m) : (dats m 0 c).arrAt 7 (cfgs 0).N = val_main_v62 (F := Ideal) (X0 m c) (X1 m c) (X2 m c) (X3 m c) (X4 m c) (X5 m c) := by
  refine (dats m 0 c).arrAt_eq_of_covers 7 _ (by decide +kernel) fun t hf y => ?_
  blk_simp; rw [after0_7]
  obtain ⟨a, b, rfl⟩ : ∃ (a : Fin 512) (b : Fin 1024), y = ix2 a b := ⟨y 0, y 1, eq_ix2 y⟩
  rw [show ((cfg0.win 7).blk t).view.emb (ix2 a b) = (ix2 (row t a) b : S4096x1024.Idx) from by blk_ext [idx t, row]]
  by_cases h0 : t.val % 8 = 0
  on_goal 1 => rw [outsAt0_A m c t h0]
  on_goal 2 => rw [outsAt0_B m c t h0]
  all_goals
    frame_out
    unfold_payloads
    pointwise
    simp only [read_0, read_1, read_2, read_3, read_4, read_5, part_0, part_1, part_2, part_3, y_parts]
    simp only [factor]
    exact congrArg (_ * ·) (dx_eq m c hp (row t a) b)

def F_8 (r : Fin 4096) (b : Fin 1024) : EReal := Ideal.ofBits .f32 1056964608#32 * (dx m c r b * y m c r b)
theorem ref_8 (hp : Cert.Pre_Kernel10Ideal_finite10 m) (b : Fin 1024) : val_main_v61 (F := Ideal) (X0 m c) (X1 m c) (X2 m c) (X3 m c) (X4 m c) (X5 m c) (ix2 0 b) = ∑ r : Fin 4096, F_8 m c r b := by
  pointwise
  simp only [factor]
  exact (congrArg (_ * ·) (Finset.sum_congr (M := EReal) rfl fun r _ => congrArg (· * _) (dx_eq m c hp r b).symm)).trans (half_sum _)
theorem step_A_8 (t : Fin cfg0.N) (h0 : t.val % 8 = 0) (b : Fin 1024) :
    (outsAt0 m c t.val t.isLt).2.2.1 (ix2 0 b) = 0 + ∑ a : Fin 512, F_8 m c (row t a) b := by
  rw [outsAt0_A m c t h0]
  frame_out
  unfold_payloads
  pointwise
  simp only [read_0, read_1, read_2, read_3, read_4, read_5, part_0, part_1, part_2, part_3, y_parts]
  exact half_sum _
theorem step_B_8 (t : Fin cfg0.N) (h0 : ¬ t.val % 8 = 0) (b : Fin 1024) :
    (outsAt0 m c t.val t.isLt).2.2.1 (ix2 0 b) = (outsAt0 m c (t.val - 1) (Nat.lt_of_le_of_lt (Nat.sub_le _ _) t.isLt)).2.2.1 (ix2 0 b)
      + ∑ a : Fin 512, F_8 m c (row t a) b := by
  rw [outsAt0_B m c t h0]
  frame_out
  unfold_payloads
  pointwise
  simp only [read_0, read_1, read_2, read_3, read_4, read_5, part_0, part_1, part_2, part_3, y_parts]
  exact congrArg (_ + ·) (half_sum _)
theorem final_8 (hp : Cert.Pre_Kernel10Ideal_finite10 m) : (dats m 0 c).arrAt 8 (cfgs 0).N = val_main_v61 (F := Ideal) (X0 m c) (X1 m c) (X2 m c) (X3 m c) (X4 m c) (X5 m c) := by
  refine (dats m 0 c).arrAt_eq_of_after_last 8 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_8, Pipeline.eq_sum_fin_of_reset_step_apply_last (fun n h => (outsAt0 m c n h).2.2.1) 8 (fun _ => 0)
    (fun t j => ∑ a : Fin 512, F_8 m c (row t a) (j 1))
    (fun t h0 j => by rw [show j = ix2 0 (j 1) from (eq_ix2 j).trans (congrArg (ix2 · _) (Subsingleton.elim _ _))]; exact step_A_8 m c t h0 _)
    (fun t h0 j => by rw [show j = ix2 0 (j 1) from (eq_ix2 j).trans (congrArg (ix2 · _) (Subsingleton.elim _ _))]; exact step_B_8 m c t h0 _)
    (le_of_eq N_0) t0_7 rfl (ix2 0 b), zero_add, ref_8 m c hp]
  exact Fin.sum_mul_add_congr (fun t k hl => rfl) (by show 4096 = grid0.N * 512; rw [N_0])

def F_9 (r : Fin 4096) (b : Fin 1024) : EReal := e m c r b * Ideal.ofBits .f32 981467136#32 * (x m c r b * R (x m c r))
theorem ref_9 (b : Fin 1024) : val_main_v38 (F := Ideal) (X0 m c) (X1 m c) (X2 m c) (X3 m c) (X4 m c) (X5 m c) (ix2 0 b) = ∑ r : Fin 4096, F_9 m c r b := by
  pointwise
  simp only [factor]
  exact Finset.sum_congr rfl fun r _ => mul_comm (G := EReal) _ _
theorem step_A_9 (t : Fin cfg0.N) (h0 : t.val % 8 = 0) (b : Fin 1024) :
    (outsAt0 m c t.val t.isLt).2.2.2.1 (ix2 0 b) = 0 + ∑ a : Fin 512, F_9 m c (row t a) b := by
  rw [outsAt0_A m c t h0]
  frame_out
  unfold_payloads
  pointwise
  simp only [read_0, read_1, read_2, read_3, read_4, read_5, part_0, part_1, part_2, part_3, y_parts]
  rfl
theorem step_B_9 (t : Fin cfg0.N) (h0 : ¬ t.val % 8 = 0) (b : Fin 1024) :
    (outsAt0 m c t.val t.isLt).2.2.2.1 (ix2 0 b) = (outsAt0 m c (t.val - 1) (Nat.lt_of_le_of_lt (Nat.sub_le _ _) t.isLt)).2.2.2.1 (ix2 0 b)
      + ∑ a : Fin 512, F_9 m c (row t a) b := by
  rw [outsAt0_B m c t h0]
  frame_out
  unfold_payloads
  pointwise
  simp only [read_0, read_1, read_2, read_3, read_4, read_5, part_0, part_1, part_2, part_3, y_parts]
  rfl
theorem final_9 : (dats m 0 c).arrAt 9 (cfgs 0).N = val_main_v38 (F := Ideal) (X0 m c) (X1 m c) (X2 m c) (X3 m c) (X4 m c) (X5 m c) := by
  refine (dats m 0 c).arrAt_eq_of_after_last 9 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_9, Pipeline.eq_sum_fin_of_reset_step_apply_last (fun n h => (outsAt0 m c n h).2.2.2.1) 8 (fun _ => 0)
    (fun t j => ∑ a : Fin 512, F_9 m c (row t a) (j 1))
    (fun t h0 j => by rw [show j = ix2 0 (j 1) from (eq_ix2 j).trans (congrArg (ix2 · _) (Subsingleton.elim _ _))]; exact step_A_9 m c t h0 _)
    (fun t h0 j => by rw [show j = ix2 0 (j 1) from (eq_ix2 j).trans (congrArg (ix2 · _) (Subsingleton.elim _ _))]; exact step_B_9 m c t h0 _)
    (le_of_eq N_0) t0_7 rfl (ix2 0 b), zero_add, ref_9]
  exact Fin.sum_mul_add_congr (fun t k hl => rfl) (by show 4096 = grid0.N * 512; rw [N_0])

def F_10 (r : Fin 4096) (b : Fin 1024) : EReal := e m c r b * e m c r b
theorem step_A_10 (t : Fin cfg0.N) (h0 : t.val % 8 = 0) (b : Fin 1024) :
    (outsAt0 m c t.val t.isLt).2.2.2.2 (ix2 0 b) = 0 + ∑ a : Fin 512, F_10 m c (row t a) b := by
  rw [outsAt0_A m c t h0]
  frame_out
  unfold_payloads
  pointwise
  simp only [read_0, read_1, read_2, read_3, read_4, read_5, part_0, part_1, part_2, part_3, y_parts]
  rfl
theorem step_B_10 (t : Fin cfg0.N) (h0 : ¬ t.val % 8 = 0) (b : Fin 1024) :
    (outsAt0 m c t.val t.isLt).2.2.2.2 (ix2 0 b) = (outsAt0 m c (t.val - 1) (Nat.lt_of_le_of_lt (Nat.sub_le _ _) t.isLt)).2.2.2.2 (ix2 0 b)
      + ∑ a : Fin 512, F_10 m c (row t a) b := by
  rw [outsAt0_B m c t h0]
  frame_out
  unfold_payloads
  pointwise
  simp only [read_0, read_1, read_2, read_3, read_4, read_5, part_0, part_1, part_2, part_3, y_parts]
  rfl
theorem final_10 : (dats m 0 c).arrAt 10 (cfgs 0).N = fun j : S1x1024.Idx => ∑ r : Fin 4096, F_10 m c r (j 1) := by
  refine (dats m 0 c).arrAt_eq_of_after_last 10 t0_7 (by decide +kernel) _ fun j => ?_
  blk_simp
  obtain ⟨q, b, rfl⟩ : ∃ (q : Fin 1) (b : Fin 1024), j = ix2 q b := ⟨j 0, j 1, eq_ix2 j⟩
  obtain rfl : q = 0 := Subsingleton.elim _ _
  rw [after0_10, Pipeline.eq_sum_fin_of_reset_step_apply_last (fun n h => (outsAt0 m c n h).2.2.2.2) 8 (fun _ => 0)
    (fun t j => ∑ a : Fin 512, F_10 m c (row t a) (j 1))
    (fun t h0 j => by rw [show j = ix2 0 (j 1) from (eq_ix2 j).trans (congrArg (ix2 · _) (Subsingleton.elim _ _))]; exact step_A_10 m c t h0 _)
    (fun t h0 j => by rw [show j = ix2 0 (j 1) from (eq_ix2 j).trans (congrArg (ix2 · _) (Subsingleton.elim _ _))]; exact step_B_10 m c t h0 _)
    (le_of_eq N_0) t0_7 rfl (ix2 0 b), zero_add]
  exact Fin.sum_mul_add_congr (fun t k hl => rfl) (by show 4096 = grid0.N * 512; rw [N_0])

section
variable (hp : Cert.Pre_Kernel10Ideal_finite10 m)
include hp
/-- Half the sum of the rows' means, and the scaled sum of the columns' sums. -/
theorem sums : Ideal.ofBits .f32 973078528#32 * ∑ b : Fin 1024, ∑ r : Fin 4096, e m c r b * e m c r b
    = Ideal.ofBits .f32 1056964608#32 * ∑ r : Fin 4096, Ideal.div (∑ b : Fin 1024, e m c r b * e m c r b) (Ideal.ofBits .f32 1149239296#32) := by
  have h1 (b : Fin 1024) : ∑ r : Fin 4096, e m c r b * e m c r b = ((∑ r : Fin 4096, (e m c r b).toReal * (e m c r b).toReal : ℝ) : EReal) :=
    coe_dot (fun r => e_real m c hp r b) fun r => e_real m c hp r b
  have h2 (r : Fin 4096) : Ideal.div (∑ b : Fin 1024, e m c r b * e m c r b) (Ideal.ofBits .f32 1149239296#32)
      = (((∑ b : Fin 1024, (e m c r b).toReal * (e m c r b).toReal) * (1 / 1024) : ℝ) : EReal) := by
    rw [coe_dot (e_real m c hp r) (e_real m c hp r), width, Ideal.div_coe (by norm_num), ← EReal.coe_mul]
  simp only [h1, h2]
  rw [half_inv_width, half, coe_sum, coe_sum, ← EReal.coe_mul, ← EReal.coe_mul, ← Finset.sum_mul, Finset.sum_comm]
  exact congrArg _ (by ring)
theorem tail : val_main_v29 (F := Ideal) (X0 m c) (X1 m c) (X2 m c) (X3 m c) (X4 m c) (X5 m c) = Pipeline.afterTail₀ cfgs (dats m) 0 (V0 m) [hostOps1] c main_v7 := by
  unfold Pipeline.afterTail₀
  simp only [List.flatten_cons, List.flatten_nil, List.append_nil]
  after_results
  have h : Pipeline.withArrays (cfgs 0).spec c (V0 m c) (fun w => (dats m 0 c).arrAt w (cfgs 0).N) (Proc.tc.devRef main_v5_4)
      = fun j : S1x1024.Idx => ∑ r : Fin 4096, F_10 m c r (j 1) := (Pipeline.withArrays_arr (cfgs 0).spec (by decide) c (V0 m c) _ 10).trans (final_10 m c)
  rw [h]
  funext i
  pointwise
  exact (sums m c hp).symm.trans (congrArg (_ * ·) (Fin.sum_univ_one (M := EReal) fun _ => ∑ b : Fin 1024, ∑ r : Fin 4096, F_10 m c r b).symm)
end

set_option maxHeartbeats 4000000 in
/-- The kernel's results are the reference's. -/
theorem algebraic : Cert.algebraic_Kernel10Ideal_Reference10Ideal_pre_finite10 := by
  pair_intro
  · run_from Cert.Kernel10Ideal.Gen.run_main m g & Cert.Kernel10Ideal.Gen.unchanged m g
  · run_from Reference10Ideal.run_reference m' g'
    · exact tail m c (by assumption)
    · exact (final_6 m c (by assumption)).symm
    · exact (final_7 m c (by assumption)).symm
    · exact (final_8 m c (by assumption)).symm
    · exact (final_9 m c).symm

/-- The reference leaves its arguments alone. -/
theorem quiescent : Cert.quiescent_Reference10Ideal := fun m' ρ _ =>
  Idealize.ShloMosaic.θ_run_mono (Reference10Ideal.Value.run m' ρ) fun r h =>
    ⟨fun c => (h c).2.2.2.2.2, sem_eq_zero_of_no_sems (by decide) r.2⟩

end Cert.Loss

end
-- ==== Proof.Att.Words.lean ====
/- The words that steer the attention's gradient: the first key block of a query block is a word the kernel
   reads, clipped between zero and the query block's own number, so whatever was read the loop over the earlier
   blocks runs inside the array and the loop of the remainder runs no trip. -/
module

public import proofs.«01_k».proof.Proof.Gen.Kernel2Ideal.Launch

@[expose] public section

noncomputable section

namespace Cert.Kernel2Ideal.Hand

open Idealize.ShloMosaic Cert.Kernel2Ideal Cert.Kernel2Ideal.Gen

/-- The first key block of the query block `i`, once the word `v` that was read is clipped. -/
abbrev start (i : grid0.Coords) (v : BitVec 32) : Nat := (min ((i 1).val : Int) (max 0 v.toInt)).toNat

theorem start_le (i : grid0.Coords) (v : BitVec 32) : start i v ≤ (i 1).val := by
  unfold start; omega

/-- What the clip computes, as an integer. -/
theorem clip (i : grid0.Coords) (v : BitVec 32) :
    Affine.IsInt (Scalar.minsi (BitVec.ofNat 32 (i 1).val) (Scalar.maxsi 0#32 v)) ((start i v : Nat) : Int) := by
  have hi : (i 1).val < 16 := (i 1).isLt
  refine Affine.minsi (Affine.ofNat _ (by omega) : Affine.IsInt _ ((i 1).val : Int)) (Affine.maxsi (Affine.ofNat 0 (by omega) : Affine.IsInt 0#32 0) (Affine.word v) rfl) ?_
  unfold start; omega

/-- The upper bound of the loop over the earlier blocks. -/
theorem upper (i : grid0.Coords) (v : BitVec 32) : Affine.IsInt (k0_t1_loop i v).ub ((i 1).val : Int) := by
  have hi : (i 1).val < 16 := (i 1).isLt
  have hs := start_le i v
  have h91 : Affine.IsInt _ (((i 1).val : Int) - start i v) := Affine.subi (Affine.ofNat _ (by omega) : Affine.IsInt (BitVec.ofNat 32 (i 1).val) ((i 1).val : Int)) (clip i v) (by omega)
  have h93 : Affine.IsInt _ (((i 1).val : Int) - start i v) := Affine.divsi h91 (Affine.ofNat 1 (by omega) : Affine.IsInt 1#32 1) (by omega)
  have h94 : Affine.IsInt _ (((i 1).val : Int) - start i v) := Affine.muli h93 (Affine.ofNat 1 (by omega) : Affine.IsInt 1#32 1) (by omega)
  exact Affine.addi (clip i v) h94 (by omega)

/-- The upper bound of the loop of the remainder. -/
theorem upper2 (i : grid0.Coords) (v : BitVec 32) : Affine.IsInt (k0_t2_loop i v).ub ((i 1).val : Int) := by
  have hi : (i 1).val < 16 := (i 1).isLt
  have hs := start_le i v
  have h91 : Affine.IsInt _ (((i 1).val : Int) - start i v) := Affine.subi (Affine.ofNat _ (by omega) : Affine.IsInt (BitVec.ofNat 32 (i 1).val) ((i 1).val : Int)) (clip i v) (by omega)
  exact Affine.addi (clip i v) h91 (by omega)

theorem one32 : Affine.IsInt 1#32 1 := Affine.ofNat 1 (by omega)

theorem t1_ok (i : grid0.Coords) (v : BitVec 32) : (k0_t1_loop i v).OK := by
  have hi : (i 1).val < 16 := (i 1).isLt
  have hs := start_le i v
  exact Affine.ok (clip i v) (upper i v) one32 (by omega)

theorem trips1 (i : grid0.Coords) (v : BitVec 32) : (k0_t1_loop i v).trips = (i 1).val - start i v := by
  have hi : (i 1).val < 16 := (i 1).isLt
  have hs := start_le i v
  exact Affine.trips_eq (clip i v) (upper i v) one32 _ (by omega)

theorem t2_ok (i : grid0.Coords) (v : BitVec 32) : (k0_t2_loop i v).OK := by
  have hi : (i 1).val < 16 := (i 1).isLt
  exact Affine.ok (upper i v) (upper2 i v) one32 (by omega)

theorem trips2 (i : grid0.Coords) (v : BitVec 32) : (k0_t2_loop i v).trips = 0 := by
  have hi : (i 1).val < 16 := (i 1).isLt
  exact Affine.trips_eq (upper i v) (upper2 i v) one32 _ (by omega)

/-- The row of the arrays where trip `k` of the loop over the earlier blocks works. -/
theorem row1 (i : grid0.Coords) (v : BitVec 32) (k : Fin (k0_t1_loop i v).trips) :
    Affine.IsInt (k0_mult1 i v k) (256 * ((start i v : Nat) : Int) + 256 * (k.val : Int)) := by
  have hi : (i 1).val < 16 := (i 1).isLt
  have hs := start_le i v
  have hk : k.val < (i 1).val - start i v := lt_of_lt_of_eq k.isLt (trips1 i v)
  have hiv : Affine.IsInt _ (((start i v : Nat) : Int) + (k.val : Int)) := Affine.iv (clip i v) one32 k.val (by omega)
  exact Affine.muli hiv (Affine.ofNat 256 (by omega) : Affine.IsInt 256#32 256) (by omega)

theorem off1_eq (i : grid0.Coords) (v : BitVec 32) (k : Fin (k0_t1_loop i v).trips) :
    k0_off1 i v k = ![256 * (start i v + k.val), 0] := by
  have hi : (i 1).val < 16 := (i 1).isLt
  have hs := start_le i v
  have hk : k.val < (i 1).val - start i v := lt_of_lt_of_eq k.isLt (trips1 i v)
  exact Affine.vec_cons (Affine.indexCast (row1 i v k)) (by omega) <|
    Affine.vec_cons (Affine.ofNat 0 (by omega) : Affine.IsInt 0#32 0) (by omega) <| Affine.vec_nil

theorem none2 (i : grid0.Coords) (v : BitVec 32) {α : Prop} (k : Fin (k0_t2_loop i v).trips) : α :=
  absurd (lt_of_lt_of_eq k.isLt (trips2 i v)) (Nat.not_lt_zero _)

theorem off2_eq (i : grid0.Coords) (v : BitVec 32) (k : Fin (k0_t2_loop i v).trips) :
    k0_off2 i v k = ![256 * (i 1).val, 0] := none2 i v k

instance closedOff1 (i : grid0.Coords) (v : BitVec 32) (k : Fin (k0_t1_loop i v).trips) : ClosedOff (k0_off1 i v k) :=
  ⟨![256 * (start i v + k.val), 0], off1_eq i v k⟩
instance closedOff2 (i : grid0.Coords) (v : BitVec 32) (k : Fin (k0_t2_loop i v).trips) : ClosedOff (k0_off2 i v k) :=
  ⟨![256 * (i 1).val, 0], off2_eq i v k⟩

/-- What the kernel assumes of the word it read holds of every word. -/
theorem chk_all (i : grid0.Coords) (v : BitVec 32) : k0_chk1 i v := by
  have hi : (i 1).val < 16 := (i 1).isLt
  have hs := start_le i v
  refine ⟨t1_ok i v, fun k => ?_, fun k a => ?_, t2_ok i v, fun k => none2 i v k, fun k => none2 i v k⟩
  · exact Affine.dvd_of (row1 i v k) 256 (by have hk : k.val < (i 1).val - start i v := lt_of_lt_of_eq k.isLt (trips1 i v); omega)
  · have hk : k.val < (i 1).val - start i v := lt_of_lt_of_eq k.isLt (trips1 i v)
    rw [off1_eq]
    revert a
    exact Fin.forall_fin_two.mpr ⟨by show 256 * (start i v + k.val) + 256 ≤ 4096; omega, by show 0 + 256 ≤ 256; omega⟩

end Cert.Kernel2Ideal.Hand

end
-- ==== Proof.Att.RunFirst.lean ====
/- One run of the attention gradient's body on whole staging buffers, at any float algebra. -/
module

public import proofs.«01_k».proof.Proof.Gen.Kernel2Ideal.Frame
public import proofs.«01_k».proof.Proof.Gen.Kernel2Ideal.Loops
public import proofs.«01_k».proof.Proof.Att.Words

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

/-- The body's branch: the first query block of a head group. -/
abbrev cond (i : grid0.Coords) : Prop :=
  (Scalar.cmpi .ne (Scalar.extui (Scalar.cmpi .eq (BitVec.ofNat 32 (i 1).val) 0#32)) 0#32) = 1#1

set_option maxHeartbeats 2000000 in
/-- The body at the first query block: what its stores leave in the three results, last first, with the proof
   that it runs. The two carried results are covered by the zeros it stores before it reads them. -/
noncomputable def first (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i)
    (x0 : Vec F S256x256 .bf16) (x1 : Vec F S4096x256 .bf16) (x2 : Vec F S4096x256 .bf16) (x3 : Vec F S256x256 .bf16) (x4 : Vec F S256x256 .f32) (x5 : Vec F S1x1x8x128 .f32) :
    Σ' (L6 : List (View.Piece (Elt F) S256x256 .bf16)), Σ' (L7 : List (View.Piece (Elt F) S4096x256 .f32)), { L8 : List (View.Piece (Elt F) S4096x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | exact chk_all _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

end Cert.Kernel2Ideal.Hand

end
-- ==== Proof.Att.RunLater.lean ====
/- One run of the attention gradient's body on whole staging buffers, at any float algebra. -/
module

public import proofs.«01_k».proof.Proof.Gen.Kernel2Ideal.Frame
public import proofs.«01_k».proof.Proof.Gen.Kernel2Ideal.Loops
public import proofs.«01_k».proof.Proof.Att.RunFirst

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

set_option maxHeartbeats 2000000 in
/-- The body at a later query block: the two carried results are read at what the block before left. -/
noncomputable def later (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : ¬cond i)
    (x0 : Vec F S256x256 .bf16) (x1 : Vec F S4096x256 .bf16) (x2 : Vec F S4096x256 .bf16) (x3 : Vec F S256x256 .bf16) (x4 : Vec F S256x256 .f32) (x5 : Vec F S1x1x8x128 .f32) (y7 y8 : Vec F S4096x256 .f32) :
    Σ' (L6 : List (View.Piece (Elt F) S256x256 .bf16)), Σ' (L7 : List (View.Piece (Elt F) S4096x256 .f32)), { L8 : List (View.Piece (Elt F) S4096x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread y7) L7) ∗ (arg10.view.loc (c : Thread nD τ) ↦[arg10.view.set]{fullShare} arg10.view.writes (Elt F) (harg10.unread y8) L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | exact chk_all _ _)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    iexact H8

end Cert.Kernel2Ideal.Hand

end
-- ==== Proof.Att.Frame.lean ====
/- The attention gradient's frame, at any float algebra: what each point of the grid leaves in the three results,
   the body's triple at a point, and the run of the whole program. -/
module

public import proofs.«01_k».proof.Proof.Att.RunLater
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Idealize.ShloMosaic.Pipeline (Dat Cfg Window BodyObligation cellOf)

variable {F : FTy → Type} [FloatOps F] (m : (ℓ : Loc nD τ sig) → Buf (Elt F) ℓ) (ρ : Dev nD → PrngReg)

theorem cond_iff (t : Fin cfg0.N) : cond (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [cond, e1]
  word_cmp

/-! ## The staging buffers at a point -/

abbrev stg0 (t : Fin cfg0.N) : Memref sig .tc .vmem S256x256 .bf16 := win0_0.stage (cfg0.slots t 0)
abbrev whole0 (t : Fin cfg0.N) : (stg0 t).IsWhole := hstage0_0 ((cfg0.slots t 0).cast nbuf0_0)
abbrev stg1 (t : Fin cfg0.N) : Memref sig .tc .vmem S4096x256 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S4096x256 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S256x256 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S256x256 .f32 := win0_4.stage (cfg0.slots t 4)
abbrev whole4 (t : Fin cfg0.N) : (stg4 t).IsWhole := hstage0_4 ((cfg0.slots t 4).cast nbuf0_4)
abbrev stg5 (t : Fin cfg0.N) : Memref sig .tc .vmem S1x1x8x128 .f32 := win0_5.stage (cfg0.slots t 5)
abbrev whole5 (t : Fin cfg0.N) : (stg5 t).IsWhole := hstage0_5 ((cfg0.slots t 5).cast nbuf0_5)
abbrev stg6 (t : Fin cfg0.N) : Memref sig .tc .vmem S256x256 .bf16 := win0_6.stage (cfg0.slots t 6)
abbrev whole6 (t : Fin cfg0.N) : (stg6 t).IsWhole := hstage0_6 ((cfg0.slots t 6).cast nbuf0_6)
abbrev stg7 (t : Fin cfg0.N) : Memref sig .tc .vmem S4096x256 .f32 := win0_7.stage (cfg0.slots t 7)
abbrev whole7 (t : Fin cfg0.N) : (stg7 t).IsWhole := hstage0_7 ((cfg0.slots t 7).cast nbuf0_7)
abbrev stg8 (t : Fin cfg0.N) : Memref sig .tc .vmem S4096x256 .f32 := win0_8.stage (cfg0.slots t 8)
abbrev whole8 (t : Fin cfg0.N) : (stg8 t).IsWhole := hstage0_8 ((cfg0.slots t 8).cast nbuf0_8)

/-- The run at the first query block of a head group. -/
abbrev runFirst (c : Dev nD) (t : Fin cfg0.N) (h : t.val % 16 = 0) :=
  first c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) ((cond_iff t).mpr h) (iblk m c 0 t) (iblk m c 1 t) (iblk m c 2 t) (iblk m c 3 t) (iblk m c 4 t) (iblk m c 5 t)
/-- The run at a later one, over what the point before left in the two carried results. -/
abbrev runLater (c : Dev nD) (t : Fin cfg0.N) (h : ¬t.val % 16 = 0) (y7 y8 : Vec F S4096x256 .f32) :=
  later c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (fun hc => h ((cond_iff t).mp hc)) (iblk m c 0 t) (iblk m c 1 t) (iblk m c 2 t) (iblk m c 3 t) (iblk m c 4 t) (iblk m c 5 t) y7 y8

/-! ## The stores cover -/

theorem first_covers6 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i)
    (x0 : Vec F S256x256 .bf16) (x1 : Vec F S4096x256 .bf16) (x2 : Vec F S4096x256 .bf16) (x3 : Vec F S256x256 .bf16) (x4 : Vec F S256x256 .f32) (x5 : Vec F S1x1x8x128 .f32) (y : S256x256.Idx) : ∃ pc ∈ (first c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (first c i arg2 harg2 arg3 harg3 arg4 harg4 arg5 harg5 arg6 harg6 arg7 harg7 arg8 harg8 arg9 harg9 arg10 harg10 hc0 x0 x1 x2 x3 x4 x5).1 S256x256.size (by sl_kernel_rfl) y
theorem first_covers7 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i)
    (x0 : Vec F S256x256 .bf16) (x1 : Vec F S4096x256 .bf16) (x2 : Vec F S4096x256 .bf16) (x3 : Vec F S256x256 .bf16) (x4 : Vec F S256x256 .f32) (x5 : Vec F S1x1x8x128 .f32) (y : S4096x256.Idx) : ∃ pc ∈ (first c i arg2 harg2 arg3 harg3 arg4 harg4 arg5 harg5 arg6 harg6 arg7 harg7 arg8 harg8 arg9 harg9 arg10 harg10 hc0 x0 x1 x2 x3 x4 x5).2.1, y ∈ pc.1.set :=
  View.cover_of_wholeMem (first c i arg2 harg2 arg3 harg3 arg4 harg4 arg5 harg5 arg6 harg6 arg7 harg7 arg8 harg8 arg9 harg9 arg10 harg10 hc0 x0 x1 x2 x3 x4 x5).2.1 (by sl_whole_mem) y
theorem first_covers8 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i)
    (x0 : Vec F S256x256 .bf16) (x1 : Vec F S4096x256 .bf16) (x2 : Vec F S4096x256 .bf16) (x3 : Vec F S256x256 .bf16) (x4 : Vec F S256x256 .f32) (x5 : Vec F S1x1x8x128 .f32) (y : S4096x256.Idx) : ∃ pc ∈ (first c i arg2 harg2 arg3 harg3 arg4 harg4 arg5 harg5 arg6 harg6 arg7 harg7 arg8 harg8 arg9 harg9 arg10 harg10 hc0 x0 x1 x2 x3 x4 x5).2.2.1, y ∈ pc.1.set :=
  View.cover_of_wholeMem (first c i arg2 harg2 arg3 harg3 arg4 harg4 arg5 harg5 arg6 harg6 arg7 harg7 arg8 harg8 arg9 harg9 arg10 harg10 hc0 x0 x1 x2 x3 x4 x5).2.2.1 (by sl_whole_mem) y
theorem later_covers6 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : ¬cond i)
    (x0 : Vec F S256x256 .bf16) (x1 : Vec F S4096x256 .bf16) (x2 : Vec F S4096x256 .bf16) (x3 : Vec F S256x256 .bf16) (x4 : Vec F S256x256 .f32) (x5 : Vec F S1x1x8x128 .f32) (y7 y8 : Vec F S4096x256 .f32) (y : S256x256.Idx) : ∃ pc ∈ (later c i arg2 harg2 arg3 harg3 arg4 harg4 arg5 harg5 arg6 harg6 arg7 harg7 arg8 harg8 arg9 harg9 arg10 harg10 hc0 x0 x1 x2 x3 x4 x5 y7 y8).1, y ∈ pc.1.set :=
  View.cover_of_tiledL (later c i arg2 harg2 arg3 harg3 arg4 harg4 arg5 harg5 arg6 harg6 arg7 harg7 arg8 harg8 arg9 harg9 arg10 harg10 hc0 x0 x1 x2 x3 x4 x5 y7 y8).1 S256x256.size (by sl_kernel_rfl) y

/-! ## What a point leaves -/

/-- One staging buffer of each result, to read its pieces through. -/
abbrev view6 : View sig .tc .vmem S256x256 .bf16 := (Memref.whole cc0_stg6_0 : Memref sig .tc .vmem S256x256 .bf16).view
abbrev view7 : View sig .tc .vmem S4096x256 .f32 := (Memref.whole cc0_stg7_0 : Memref sig .tc .vmem S4096x256 .f32).view
abbrev view8 : View sig .tc .vmem S4096x256 .f32 := (Memref.whole cc0_stg8_0 : Memref sig .tc .vmem S4096x256 .f32).view

def leftFirst (c : Dev nD) (t : Fin cfg0.N) (h : t.val % 16 = 0) : Vec F S256x256 .bf16 × Vec F S4096x256 .f32 × Vec F S4096x256 .f32 :=
  (view6.read (Elt F) (view6.writes (Elt F) view6.junk (runFirst m c t h).1),
   view7.read (Elt F) (view7.writes (Elt F) view7.junk (runFirst m c t h).2.1),
   view8.read (Elt F) (view8.writes (Elt F) view8.junk (runFirst m c t h).2.2.1))

def leftLater (c : Dev nD) (t : Fin cfg0.N) (h : ¬t.val % 16 = 0) (y7 y8 : Vec F S4096x256 .f32) :
    Vec F S256x256 .bf16 × Vec F S4096x256 .f32 × Vec F S4096x256 .f32 :=
  (view6.read (Elt F) (view6.writes (Elt F) view6.junk (runLater m c t h y7 y8).1),
   (stg7 t).view.read (Elt F) ((stg7 t).view.writes (Elt F) ((whole7 t).unread y7) (runLater m c t h y7 y8).2.1),
   (stg8 t).view.read (Elt F) ((stg8 t).view.writes (Elt F) ((whole8 t).unread y8) (runLater m c t h y7 y8).2.2.1))

/-- The three results' staging buffers after the first `n + 1` points. -/
def left (c : Dev nD) : (n : ℕ) → n < cfg0.N → Vec F S256x256 .bf16 × Vec F S4096x256 .f32 × Vec F S4096x256 .f32
  | 0, hn => leftFirst m c ⟨0, hn⟩ (Nat.zero_mod _)
  | n + 1, hn =>
    if h : (n + 1) % 16 = 0 then leftFirst m c ⟨n + 1, hn⟩ h
    else leftLater m c ⟨n + 1, hn⟩ h (left c n (Nat.lt_of_succ_lt hn)).2.1 (left c n (Nat.lt_of_succ_lt hn)).2.2

theorem left_first (c : Dev nD) (t : Fin cfg0.N) (h : t.val % 16 = 0) : left m c t.val t.isLt = leftFirst m c t h := by
  obtain ⟨_ | n, hn⟩ := t
  · rfl
  · exact dif_pos h

theorem left_later (c : Dev nD) (t : Fin cfg0.N) (h : ¬t.val % 16 = 0) :
    left m c t.val t.isLt = leftLater m c t h (left m c (t.val - 1) (Nat.lt_of_le_of_lt (Nat.sub_le _ _) t.isLt)).2.1
      (left m c (t.val - 1) (Nat.lt_of_le_of_lt (Nat.sub_le _ _) t.isLt)).2.2 := by
  obtain ⟨_ | n, hn⟩ := t
  · exact absurd (Nat.zero_mod _) h
  · exact dif_neg h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (left m c t.val t.isLt).1
    | ⟨7, _⟩ => (left m c t.val t.isLt).2.1
    | ⟨8, _⟩ => (left m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (left m c t.val t.isLt).1 := by dsimp only [dats]
theorem after7 (c : Dev nD) (t : Fin cfg0.N) : (dats m 0 c).after 7 t = (left m c t.val t.isLt).2.1 := by dsimp only [dats]
theorem after8 (c : Dev nD) (t : Fin cfg0.N) : (dats m 0 c).after 8 t = (left m c t.val t.isLt).2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At a later query block a carried result's buffer still holds what the point before left. -/
theorem kept7 (c : Dev nD) (t : Fin cfg0.N) (h : ¬t.val % 16 = 0) (d) :
    (dats m 0 c).before 7 t d = (left m c (t.val - 1) (Nat.lt_of_le_of_lt (Nat.sub_le _ _) t.isLt)).2.1 := by
  have hN : t.val < 32 := lt_of_lt_of_eq t.isLt (show cfg0.N = 32 from N_0)
  rw [Dat.before_out_kept _ 7 rfl t (by omega)
    (Bool.eq_false_iff.mpr fun hf => by have := (flush0_7 _).mp hf; dsimp only at this; omega) (fun _ => rfl) (fun _ _ => rfl)]
  dsimp only [dats]
theorem kept8 (c : Dev nD) (t : Fin cfg0.N) (h : ¬t.val % 16 = 0) (d) :
    (dats m 0 c).before 8 t d = (left m c (t.val - 1) (Nat.lt_of_le_of_lt (Nat.sub_le _ _) t.isLt)).2.2 := by
  have hN : t.val < 32 := lt_of_lt_of_eq t.isLt (show cfg0.N = 32 from N_0)
  rw [Dat.before_out_kept _ 8 rfl t (by omega)
    (Bool.eq_false_iff.mpr fun hf => by have := (flush0_8 _).mp hf; dsimp only at this; omega) (fun _ => rfl) (fun _ _ => rfl)]
  dsimp only [dats]

/-! ## The body at a point -/

/-- What the body is called with. -/
def before (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))
/-- What it returns. -/
def after (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t))

set_option maxHeartbeats 3200000 in
theorem body_at (c : Dev nD) (t : Fin cfg0.N) :
    before m c t ⊢ wp frame (wpE (defs₀ (F := F)) Variants.none c none) Set.univ (bodyAt0 t) (fun _ => after m c t) := by
  unfold before after bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h : t.val % 16 = 0
  · rw [left_first m c t h]
    unfold leftFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst m c t h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (first_covers6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (first_covers7 c _ _ _ _ _ _ _ _ _ _ _ _ _ _ _ _ _ _ _ _ _ _ _ _ _ _)
    unfold owns; iexists _; isplitr
    swap; · iexact H8
    ipureintro; exact View.read_writes_of_cover _ _ _ _ _ (first_covers8 c _ _ _ _ _ _ _ _ _ _ _ _ _ _ _ _ _ _ _ _ _ _ _ _ _ _)
  · rw [left_later m c t h]
    simp only [kept7 m c t h, kept8 m c t h]
    unfold leftLater; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLater m c t h _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (later_covers6 c _ _ _ _ _ _ _ _ _ _ _ _ _ _ _ _ _ _ _ _ _ _ _ _ _ _ _ _)
    isplitl [H7]
    · unfold owns; iexists _; isplitr
      swap; · iexact H7
      ipureintro; rfl
    unfold owns; iexists _; isplitr
    swap; · iexact H8
    ipureintro; rfl

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

/-! ## The run and the frame -/

set_option backward.isDefEq.respectTransparency.types false in
/-- The whole program runs, and every counter ends at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_and (frame_of m ρ (dats m) (A_eq m) (run_main m ρ)) ((θ_run defs _ _).mono (fun _ h => h.2) (run_quiet m ρ))

end Cert.Kernel2Ideal.Hand

end
-- ==== Proof.Att.Real.lean ====
/- The real functions of the attention gradient, and real sums among the extended reals. -/
module

public import Idealize.ShloMosaic.Lib.Pointwise

@[expose] public section

noncomputable section

namespace Att

open Idealize.ShloMosaic

/-- A finite sum of real numbers, read among the extended reals. -/
theorem coe_sum {ι : Type*} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

theorem coe_max (a b : ℝ) : max ((a : ℝ) : EReal) (b : EReal) = ((max a b : ℝ) : EReal) :=
  (EReal.coe_strictMono.monotone.map_max).symm

/-- Softplus, as both programs compute it. -/
def sp (x : ℝ) : ℝ := max x 0 + Real.log (1 + Real.exp (-|x|))

theorem sp_neg (x : ℝ) : sp (-x) = sp x - x := by
  have h : max (-x) 0 = max x 0 - x := by
    rcases le_total x 0 with h | h
    · rw [max_eq_left (by linarith), max_eq_right h]; ring
    · rw [max_eq_right (by linarith), max_eq_left h]; ring
  unfold sp
  rw [abs_neg, h]; ring

theorem sp_eq (x : ℝ) : sp x = Real.log (1 + Real.exp x) := by
  have hp : ∀ y : ℝ, 0 < 1 + Real.exp y := fun y => by positivity
  unfold sp
  rcases le_total x 0 with h | h
  · rw [max_eq_right h, abs_of_nonpos h, neg_neg, zero_add]
  · rw [max_eq_left h, abs_of_nonneg h]
    have h1 : (1 : ℝ) + Real.exp x = Real.exp x * (1 + Real.exp (-x)) := by
      rw [mul_add, mul_one, ← Real.exp_add, add_neg_cancel, Real.exp_zero, add_comm]
    rw [h1, Real.log_mul (Real.exp_pos _).ne' (hp _).ne', Real.log_exp]

/-- The two slopes of softplus add up to one. -/
theorem slopes (x : ℝ) : Real.exp (-x - sp (-x)) = 1 - Real.exp (x - sp x) := by
  have hp : 0 < 1 + Real.exp x := by positivity
  rw [sp_neg, show -x - (sp x - x) = -sp x by ring, Real.exp_neg, Real.exp_sub, sp_eq, Real.exp_log hp]
  field_simp
  ring

variable (z u : ℕ → ℕ → ℝ)

/-- The softplus of a row's first `n` scores. -/
def E (r n : ℕ) : ℝ := ∑ s ∈ Finset.range n, sp (z r s)
/-- A weight of the attention. -/
def A (r s : ℕ) : ℝ := Real.exp (z r s - (E z r r - E z r s))
/-- The cotangent of a weight's logarithm. -/
def g (r s : ℕ) : ℝ := A z r s * u r s
/-- The sum of a row's first `n` of them. -/
def G (r n : ℕ) : ℝ := ∑ s ∈ Finset.range n, g z u r s
/-- The cotangent of a score. -/
def D (r s : ℕ) : ℝ := g z u r s - Real.exp (z r s - sp (z r s)) * G z u r (s + 1)

theorem range_step (f : ℕ → ℝ) (n b : ℕ) :
    ∑ s ∈ Finset.range (n + b), f s = ∑ s ∈ Finset.range n, f s + ∑ t ∈ Finset.range b, f (n + t) :=
  Finset.sum_range_add f n b

/-- The part of a block's sum that lies before position `b`. -/
theorem sum_before (f : ℕ → ℝ) (b : ℕ) (hb : b ≤ 256) :
    (∑ x : Fin 256, f x.val * (if x.val < b then 1 else 0)) = ∑ t ∈ Finset.range b, f t := by
  rw [← Finset.sum_range fun x => f x * (if x < b then (1 : ℝ) else 0)]
  simp only [mul_ite, mul_one, mul_zero]
  rw [← Finset.sum_filter]
  congr 1
  ext t
  simp only [Finset.mem_filter, Finset.mem_range]
  omega

theorem sum_block (f : ℕ → ℝ) : (∑ x : Fin 256, f x.val) = ∑ t ∈ Finset.range 256, f t :=
  (Finset.sum_range f).symm

theorem E_before (r n b : ℕ) (hb : b ≤ 256) :
    E z r (n + b) = E z r n + ∑ x : Fin 256, sp (z r (n + x.val)) * (if x.val < b then 1 else 0) := by
  rw [sum_before (fun t => sp (z r (n + t))) b hb]; exact range_step _ n b
theorem G_before (r n b : ℕ) (hb : b ≤ 256) :
    G z u r (n + b) = G z u r n + ∑ x : Fin 256, g z u r (n + x.val) * (if x.val < b then 1 else 0) := by
  rw [sum_before (fun t => g z u r (n + t)) b hb]; exact range_step _ n b
theorem E_block (r n : ℕ) : E z r (n + 256) = E z r n + ∑ x : Fin 256, sp (z r (n + x.val)) := by
  rw [sum_block fun t => sp (z r (n + t))]; exact range_step _ n 256
theorem G_block (r n : ℕ) : G z u r (n + 256) = G z u r n + ∑ x : Fin 256, g z u r (n + x.val) := by
  rw [sum_block fun t => g z u r (n + t)]; exact range_step _ n 256

end Att

end
-- ==== Proof.Att.Pay.lean ====
/- What each piece of the attention gradient's body computes on real blocks. -/
module

public import proofs.«01_k».proof.Proof.Gen.Kernel2Ideal.Skeleton
public import proofs.«01_k».proof.Proof.Att.Real
public import Idealize.ShloMosaic.Lib.WordCmp

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum sp E A g G D)

/-! ## The masks -/

theorem abs_coe (x : ℝ) : FloatOps.absf (F := Ideal) (φ := .f32) (x : EReal) = ((|x| : ℝ) : EReal) := by
  show max (x : EReal) (-(x : EReal)) = _
  rw [← EReal.coe_neg, Att.coe_max]; rfl

/-- A truth value, widened and read as a number. -/
theorem flag_coe (p : Prop) [Decidable p] :
    FloatOps.sitofp (F := Ideal) .f32 (BitVec.setWidth 32 (BitVec.ofBool (decide p))) = ((if p then 1 else 0 : ℝ) : EReal) := by
  by_cases h : p
  · rw [if_pos h, decide_eq_true h]
    show (((BitVec.setWidth 32 (BitVec.ofBool true)).toInt : ℝ) : EReal) = _
    rw [show (BitVec.setWidth 32 (BitVec.ofBool true)).toInt = 1 by decide, Int.cast_one]
  · rw [if_neg h, decide_eq_false h]
    show (((BitVec.setWidth 32 (BitVec.ofBool false)).toInt : ℝ) : EReal) = _
    rw [show (BitVec.setWidth 32 (BitVec.ofBool false)).toInt = 0 by decide, Int.cast_zero]

theorem before_at (a b : Fin 256) : k0_pay75 (F := Ideal) (ix2 a b) = ((if a.val < b.val then 1 else 0 : ℝ) : EReal) := by
  pointwise [k0_pay75]
  rw [Idealize.ShloMosaic.WordCmp.cmpi_slt_ofNat (show a.val < 2 ^ (32 - 1) by omega) (show b.val < 2 ^ (32 - 1) by omega), flag_coe]
theorem upto_at (a b : Fin 256) : k0_pay76 (F := Ideal) (ix2 a b) = ((if a.val < b.val + 1 then 1 else 0 : ℝ) : EReal) := by
  pointwise [k0_pay76]
  rw [Idealize.ShloMosaic.WordCmp.cmpi_sle_ofNat (show a.val < 2 ^ (32 - 1) by omega) (show b.val < 2 ^ (32 - 1) by omega), flag_coe]
  simp only [Nat.lt_succ_iff]
theorem causal_at (a b : Fin 256) : k0_pay77 (ix2 a b) = BitVec.ofBool (decide (b.val < a.val)) := by
  pointwise [k0_pay77]
  rw [Idealize.ShloMosaic.WordCmp.cmpi_slt_ofNat (show b.val < 2 ^ (32 - 1) by omega) (show a.val < 2 ^ (32 - 1) by omega)]

/-! ## One head, one block of keys before the diagonal -/

section Off
variable {q d k v : FVec Ideal S256x256 .bf16} {T En Gn : FVec Ideal S256x1 .f32} {z u : ℕ → ℕ → ℝ} {R n : ℕ}
  (hz : ∀ a b : Fin 256, (∑ l : Fin 256, q (ix2 a l) * k (ix2 b l)) = ((z (R + a) (n + b) : ℝ) : EReal))
  (hu : ∀ a b : Fin 256, (∑ l : Fin 256, d (ix2 a l) * v (ix2 b l)) = ((u (R + a) (n + b) : ℝ) : EReal))
  (hT : ∀ a : Fin 256, T (ix2 a 0) = ((E z (R + a) (R + a) : ℝ) : EReal))
  (hE : ∀ a : Fin 256, En (ix2 a 0) = ((E z (R + a) n : ℝ) : EReal))
  (hG : ∀ a : Fin 256, Gn (ix2 a 0) = ((G z u (R + a) n : ℝ) : EReal))
include hz

theorem z_at (a b : Fin 256) : k0_pay6 q k (ix2 a b) = ((z (R + a) (n + b) : ℝ) : EReal) := by
  pointwise [k0_pay6, k0_pay4, hz]

theorem sp_at (a b : Fin 256) : k0_pay7 q k (ix2 a b) = ((sp (z (R + a) (n + b)) : ℝ) : EReal) := by
  pointwise [k0_pay7, z_at hz]
  rw [abs_coe, ← EReal.coe_zero, ← EReal.coe_sub, Ideal.exp_coe, ← EReal.coe_one, ← EReal.coe_add, Ideal.log_coe, if_neg (not_le.mpr (by positivity)), Att.coe_max, ← EReal.coe_add, zero_sub]
  rfl

include hT hE
theorem a_at (a b : Fin 256) : k0_pay8 k0_pay75 q T En k (ix2 a b) = ((A z (R + a) (n + b) : ℝ) : EReal) := by
  pointwise [k0_pay8, z_at hz, sp_at hz, before_at, hT, hE]
  simp only [← EReal.coe_mul, coe_sum, ← EReal.coe_sub, Ideal.exp_coe]
  rw [A, Att.E_before z _ n b.val b.isLt.le, sub_sub]

include hu
theorem g_at (a b : Fin 256) : k0_pay9 k0_pay75 q d T En k v (ix2 a b) = ((g z u (R + a) (n + b) : ℝ) : EReal) := by
  pointwise [k0_pay9, k0_pay5, a_at hz hT hE, hu]
  rw [← EReal.coe_mul]; rfl

include hG
theorem dz_at (a b : Fin 256) : k0_pay11 k0_pay75 k0_pay76 q d T En Gn k v (ix2 a b) = ((D z u (R + a) (n + b) : ℝ) : EReal) := by
  pointwise [k0_pay11, z_at hz, sp_at hz, g_at hz hu hT hE, upto_at, hG]
  simp only [← EReal.coe_mul, coe_sum, ← EReal.coe_sub, Ideal.exp_coe, ← EReal.coe_add]
  rw [D, show n + b.val + 1 = n + (b.val + 1) from rfl, Att.G_before z u _ n (b.val + 1) b.isLt]
theorem gs_at (a : Fin 256) : k0_pay13 k0_pay75 q d T En Gn k v (ix2 a 0) = ((G z u (R + a) (n + 256) : ℝ) : EReal) := by
  pointwise [k0_pay13, g_at hz hu hT hE, hG]
  simp only [coe_sum, ← EReal.coe_add]
  rw [Att.G_block]
omit hG hu hT
theorem e_at (a : Fin 256) : k0_pay12 q En k (ix2 a 0) = ((E z (R + a) (n + 256) : ℝ) : EReal) := by
  pointwise [k0_pay12, sp_at hz, hE]
  simp only [coe_sum, ← EReal.coe_add]
  rw [Att.E_block]
end Off

/-! ## One head, the block of keys on the diagonal -/

section Diag
variable {q d k v : FVec Ideal S256x256 .bf16} {T En Gn : FVec Ideal S256x1 .f32} {z u : ℕ → ℕ → ℝ} {R : ℕ}
  (hz : ∀ a b : Fin 256, (∑ l : Fin 256, q (ix2 a l) * k (ix2 b l)) = ((z (R + a) (R + b) : ℝ) : EReal))
  (hu : ∀ a b : Fin 256, (∑ l : Fin 256, d (ix2 a l) * v (ix2 b l)) = ((u (R + a) (R + b) : ℝ) : EReal))
  (hT : ∀ a : Fin 256, T (ix2 a 0) = ((E z (R + a) (R + a) : ℝ) : EReal))
  (hE : ∀ a : Fin 256, En (ix2 a 0) = ((E z (R + a) R : ℝ) : EReal))
  (hG : ∀ a : Fin 256, Gn (ix2 a 0) = ((G z u (R + a) R : ℝ) : EReal))
include hz

theorem dz0_at (a b : Fin 256) : k0_pay134 q k (ix2 a b) = ((z (R + a) (R + b) : ℝ) : EReal) := by
  pointwise [k0_pay134, hz]

theorem dsp_at (a b : Fin 256) :
    k0_pay135 k0_pay77 q k (ix2 a b) = ((if b.val < a.val then sp (z (R + a) (R + b)) else 0 : ℝ) : EReal) := by
  pointwise [k0_pay135, dz0_at hz, causal_at]
  split
  · rw [abs_coe, ← EReal.coe_zero, ← EReal.coe_sub, Ideal.exp_coe, ← EReal.coe_one, ← EReal.coe_add, Ideal.log_coe,
      if_neg (not_le.mpr (by positivity)), Att.coe_max, ← EReal.coe_add, zero_sub]
    rfl
  · rfl

include hT hE
theorem da_at (a b : Fin 256) :
    k0_pay136 k0_pay75 k0_pay77 q T En k (ix2 a b) = ((if b.val < a.val then A z (R + a) (R + b) else 0 : ℝ) : EReal) := by
  pointwise [k0_pay136, dz0_at hz, dsp_at hz, before_at, hT, hE, causal_at]
  split
  · next h =>
    simp only [← EReal.coe_mul, coe_sum, ← EReal.coe_sub, Ideal.exp_coe]
    rw [A, Att.E_before z _ R b.val b.isLt.le, sub_sub]
    refine congrArg (fun t : ℝ => ((Real.exp (z (R + a) (R + b) - (E z (R + a) (R + a) - (E z (R + a) R + t))) : ℝ) : EReal))
      (Finset.sum_congr rfl fun x _ => ?_)
    by_cases hx : x.val < b.val
    · rw [if_pos (hx.trans h)]
    · rw [if_neg hx, mul_zero, mul_zero]
  · rfl
theorem da16_at (a b : Fin 256) :
    k0_pay137 k0_pay75 k0_pay77 q T En k (ix2 a b) = ((if b.val < a.val then A z (R + a) (R + b) else 0 : ℝ) : EReal) := by
  pointwise [k0_pay137, da_at hz hT hE]

include hu hG
theorem ddz_at (a b : Fin 256) :
    k0_pay138 k0_pay75 k0_pay76 k0_pay77 q d T En Gn k v (ix2 a b)
      = ((if b.val < a.val then D z u (R + a) (R + b) else 0 : ℝ) : EReal) := by
  pointwise [k0_pay138, dz0_at hz, dsp_at hz, da_at hz hT hE, upto_at, hu, hG, causal_at]
  split
  · next h =>
    simp only [← EReal.coe_mul, coe_sum, ← EReal.coe_sub, Ideal.exp_coe, ← EReal.coe_add]
    rw [D, show R + b.val + 1 = R + (b.val + 1) from rfl, Att.G_before z u _ R (b.val + 1) b.isLt]
    refine congrArg (fun t : ℝ => ((g z u (R + a) (R + b) - Real.exp (z (R + a) (R + b) - sp (z (R + a) (R + b))) * (G z u (R + a) R + t) : ℝ) : EReal))
      (Finset.sum_congr rfl fun x _ => ?_)
    by_cases hx : x.val < b.val + 1
    · rw [if_pos (by omega)]; rfl
    · rw [if_neg hx, mul_zero, mul_zero]
  · rfl
end Diag

end Cert.Kernel2Ideal.Hand

end
-- ==== Proof.Att.Comb.lean ====
/- The four heads of a group put together: the masks of the heads, the stacked operands, and the products over all four. -/
module

public import proofs.«01_k».proof.Proof.Gen.Kernel2Ideal.Skeleton
public import proofs.«01_k».proof.Proof.Att.Pay
public import Idealize.ShloMosaic.Lib.WordCmp

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum)

/-! ## The masks of the heads -/

theorem and_flag (p r : Prop) [Decidable p] [Decidable r] :
    IntOp.andi (BitVec.ofBool (decide p)) (BitVec.ofBool (decide r)) = BitVec.ofBool (decide (p ∧ r)) := by
  by_cases hp : p <;> by_cases hr : r <;> simp only [hp, hr, decide_true, decide_false, and_true, and_false, false_and] <;> rfl
theorem flag_congr {p r : Prop} [Decidable p] [Decidable r] (h : p ↔ r) : BitVec.ofBool (decide p) = BitVec.ofBool (decide r) := by
  simp only [h]

abbrev lane : IVec S256x256 32 := iota .tc S256x256 32 [1] iota_S256x256_d1_w32
/-- The lanes of the fourth head. -/
abbrev mask3 : IVec S256x256 1 := k0_pay82 lane k0_pay81

theorem lane_ge (l : Fin 256) (n : ℕ) (hn : n < 2 ^ 31) :
    IntOp.cmpi .sge (BitVec.ofNat 32 l.val) (BitVec.ofNat 32 n) = BitVec.ofBool (decide (n ≤ l.val)) :=
  WordCmp.cmpi_sge_ofNat (show l.val < 2 ^ (32 - 1) by omega) hn
theorem lane_lt (l : Fin 256) (n : ℕ) (hn : n < 2 ^ 31) :
    IntOp.cmpi .slt (BitVec.ofNat 32 l.val) (BitVec.ofNat 32 n) = BitVec.ofBool (decide (l.val < n)) :=
  WordCmp.cmpi_slt_ofNat (show l.val < 2 ^ (32 - 1) by omega) hn

theorem mask0_at (a l : Fin 256) : k0_pay78 (ix2 a l) = BitVec.ofBool (decide (l.val / 64 = 0)) := by
  pointwise [k0_pay78]
  exact (congrArg₂ IntOp.andi (lane_ge l 0 (by omega)) (lane_lt l 64 (by omega))).trans ((and_flag _ _).trans (flag_congr (by omega)))
theorem mask1_at (a l : Fin 256) : k0_pay79 (ix2 a l) = BitVec.ofBool (decide (l.val / 64 = 1)) := by
  pointwise [k0_pay79]
  exact (congrArg₂ IntOp.andi (lane_ge l 64 (by omega)) (lane_lt l 128 (by omega))).trans ((and_flag _ _).trans (flag_congr (by omega)))
theorem mask2_at (a l : Fin 256) : k0_pay80 (ix2 a l) = BitVec.ofBool (decide (l.val / 64 = 2)) := by
  pointwise [k0_pay80]
  exact (congrArg₂ IntOp.andi (lane_ge l 128 (by omega)) (lane_lt l 192 (by omega))).trans ((and_flag _ _).trans (flag_congr (by omega)))
theorem mask3_at (a l : Fin 256) : mask3 (ix2 a l) = BitVec.ofBool (decide (l.val / 64 = 3)) := by
  pointwise [mask3, k0_pay82, k0_pay81]
  exact (congrArg₂ IntOp.andi (lane_ge l 192 (by omega)) (lane_lt l 256 (by omega))).trans ((and_flag _ _).trans (flag_congr (by omega)))

theorem head_cases (l : Fin 256) : l.val / 64 = 0 ∨ l.val / 64 = 1 ∨ l.val / 64 = 2 ∨ l.val / 64 = 3 := by omega

/-! ## The operands of each head -/

theorem eighth16 : Ideal.ofBits .bf16 0x3E00#16 = ((1 / 8 : ℝ) : EReal) := by
  simp [Ideal.ofBits, Ideal.ieee, -EReal.coe_mul]; norm_num
theorem eighth32 : Ideal.ofBits .f32 0x3E000000#32 = ((1 / 8 : ℝ) : EReal) := by
  simp [Ideal.ofBits, Ideal.ieee, -EReal.coe_mul]; norm_num

section Operands
variable {x : FVec Ideal S256x256 .bf16} {X : Fin 256 → Fin 256 → ℝ} (hx : ∀ a l : Fin 256, x (ix2 a l) = ((X a l : ℝ) : EReal))
include hx
theorem scaled_at (a l : Fin 256) : k0_pay83 (F := Ideal) x (ix2 a l) = ((X a l * (1 / 8) : ℝ) : EReal) := by
  pointwise [k0_pay83, hx]
  rw [eighth16, ← EReal.coe_mul]
theorem q0_at (a l : Fin 256) : k0_pay84 (F := Ideal) k0_pay78 x (ix2 a l) = ((if l.val / 64 = 0 then X a l * (1 / 8) else 0 : ℝ) : EReal) := by
  pointwise [k0_pay84, scaled_at hx, mask0_at]
  split <;> rfl
theorem q1_at (a l : Fin 256) : k0_pay85 (F := Ideal) k0_pay79 x (ix2 a l) = ((if l.val / 64 = 1 then X a l * (1 / 8) else 0 : ℝ) : EReal) := by
  pointwise [k0_pay85, scaled_at hx, mask1_at]
  split <;> rfl
theorem q2_at (a l : Fin 256) : k0_pay86 (F := Ideal) k0_pay80 x (ix2 a l) = ((if l.val / 64 = 2 then X a l * (1 / 8) else 0 : ℝ) : EReal) := by
  pointwise [k0_pay86, scaled_at hx, mask2_at]
  split <;> rfl
theorem q3_at (a l : Fin 256) : k0_pay87 (F := Ideal) lane k0_pay81 x (ix2 a l) = ((if l.val / 64 = 3 then X a l * (1 / 8) else 0 : ℝ) : EReal) := by
  pointwise [k0_pay87, scaled_at hx, mask3_at]
  split <;> rfl
theorem d0_at (a l : Fin 256) : k0_pay89 (F := Ideal) k0_pay78 x (ix2 a l) = ((if l.val / 64 = 0 then X a l else 0 : ℝ) : EReal) := by
  pointwise [k0_pay89, k0_pay88, hx, mask0_at]
  split <;> rfl
theorem d1_at (a l : Fin 256) : k0_pay90 (F := Ideal) k0_pay79 x (ix2 a l) = ((if l.val / 64 = 1 then X a l else 0 : ℝ) : EReal) := by
  pointwise [k0_pay90, k0_pay88, hx, mask1_at]
  split <;> rfl
theorem d2_at (a l : Fin 256) : k0_pay91 (F := Ideal) k0_pay80 x (ix2 a l) = ((if l.val / 64 = 2 then X a l else 0 : ℝ) : EReal) := by
  pointwise [k0_pay91, k0_pay88, hx, mask2_at]
  split <;> rfl
theorem d3_at (a l : Fin 256) : k0_pay92 (F := Ideal) lane k0_pay81 x (ix2 a l) = ((if l.val / 64 = 3 then X a l else 0 : ℝ) : EReal) := by
  pointwise [k0_pay92, k0_pay88, hx, mask3_at]
  split <;> rfl
end Operands

/-! ## The products over the four heads -/

/-- Four blocks of 256 laid end to end. -/
def cat4 (f0 f1 f2 f3 : Fin 256 → EReal) (x : Fin 1024) : EReal :=
  if h : x.val < 256 then f0 ⟨x.val, h⟩ else
    if h : x.val - 256 < 256 then f1 ⟨x.val - 256, h⟩ else
      if h : x.val - 256 - 256 < 256 then f2 ⟨x.val - 256 - 256, h⟩ else f3 ⟨x.val - 256 - 256 - 256, by omega⟩

section Cat
variable (f0 f1 f2 f3 : Fin 256 → EReal) (x : Fin 1024) (a : Fin 256)
theorem cat4_0 (h : x.val = 0 * 256 + a.val) : cat4 f0 f1 f2 f3 x = f0 a := by
  unfold cat4
  rw [dif_pos (by omega)]
  exact congrArg f0 (Fin.ext (show x.val = a.val by omega))
theorem cat4_1 (h : x.val = 1 * 256 + a.val) : cat4 f0 f1 f2 f3 x = f1 a := by
  unfold cat4
  rw [dif_neg (by omega), dif_pos (by omega)]
  exact congrArg f1 (Fin.ext (show x.val - 256 = a.val by omega))
theorem cat4_2 (h : x.val = 2 * 256 + a.val) : cat4 f0 f1 f2 f3 x = f2 a := by
  unfold cat4
  rw [dif_neg (by omega), dif_neg (by omega), dif_pos (by omega)]
  exact congrArg f2 (Fin.ext (show x.val - 256 - 256 = a.val by omega))
theorem cat4_3 (h : x.val = 3 * 256 + a.val) : cat4 f0 f1 f2 f3 x = f3 a := by
  unfold cat4
  rw [dif_neg (by omega), dif_neg (by omega), dif_neg (by omega)]
  exact congrArg f3 (Fin.ext (show x.val - 256 - 256 - 256 = a.val by omega))
end Cat

theorem sum_cat4 (f0 f1 f2 f3 g0 g1 g2 g3 : Fin 256 → EReal) :
    (∑ x : Fin 1024, cat4 f0 f1 f2 f3 x * cat4 g0 g1 g2 g3 x)
      = ∑ a, f0 a * g0 a + ∑ a, f1 a * g1 a + ∑ a, f2 a * g2 a + ∑ a, f3 a * g3 a := by
  rw [Fin.sum_univ_tiles 4 256 rfl, Fin.sum_univ_four]
  refine congrArg₂ (· + ·) (congrArg₂ (· + ·) (congrArg₂ (· + ·) ?_ ?_) ?_) ?_ <;>
    refine Finset.sum_congr rfl fun a _ => ?_
  · rw [cat4_0 _ _ _ _ _ a rfl, cat4_0 _ _ _ _ _ a rfl]
  · rw [cat4_1 _ _ _ _ _ a rfl, cat4_1 _ _ _ _ _ a rfl]
  · rw [cat4_2 _ _ _ _ _ a rfl, cat4_2 _ _ _ _ _ a rfl]
  · rw [cat4_3 _ _ _ _ _ a rfl, cat4_3 _ _ _ _ _ a rfl]

/-- Of the four heads' sums, the one whose lanes hold lane `l` is left. -/
theorem four_heads (l : Fin 256) (W : ℕ → Fin 256 → ℝ) (X : Fin 256 → ℝ) :
    (∑ a, ((W 0 a : ℝ) : EReal) * ((if l.val / 64 = 0 then X a else 0 : ℝ) : EReal) + ∑ a, ((W 1 a : ℝ) : EReal) * ((if l.val / 64 = 1 then X a else 0 : ℝ) : EReal)
      + ∑ a, ((W 2 a : ℝ) : EReal) * ((if l.val / 64 = 2 then X a else 0 : ℝ) : EReal) + ∑ a, ((W 3 a : ℝ) : EReal) * ((if l.val / 64 = 3 then X a else 0 : ℝ) : EReal))
      = ((∑ a, W (l.val / 64) a * X a : ℝ) : EReal) := by
  simp only [← EReal.coe_mul, coe_sum, ← EReal.coe_add]
  rcases head_cases l with h | h | h | h <;> simp [h]

section Four
variable {w0 w1 w2 w3 : FVec Ideal S256x256 .bf16} {W : ℕ → Fin 256 → Fin 256 → ℝ}
  (h0 : ∀ a b : Fin 256, w0 (ix2 a b) = ((W 0 a b : ℝ) : EReal)) (h1 : ∀ a b : Fin 256, w1 (ix2 a b) = ((W 1 a b : ℝ) : EReal))
  (h2 : ∀ a b : Fin 256, w2 (ix2 a b) = ((W 2 a b : ℝ) : EReal)) (h3 : ∀ a b : Fin 256, w3 (ix2 a b) = ((W 3 a b : ℝ) : EReal))
  {x0 x1 x2 x3 : FVec Ideal S256x256 .bf16} {X : Fin 256 → Fin 256 → ℝ}
  (e0 : ∀ a l : Fin 256, x0 (ix2 a l) = ((if l.val / 64 = 0 then X a l else 0 : ℝ) : EReal))
  (e1 : ∀ a l : Fin 256, x1 (ix2 a l) = ((if l.val / 64 = 1 then X a l else 0 : ℝ) : EReal))
  (e2 : ∀ a l : Fin 256, x2 (ix2 a l) = ((if l.val / 64 = 2 then X a l else 0 : ℝ) : EReal))
  (e3 : ∀ a l : Fin 256, x3 (ix2 a l) = ((if l.val / 64 = 3 then X a l else 0 : ℝ) : EReal))
  {y : FVec Ideal S256x256 .f32} {Y : Fin 256 → Fin 256 → ℝ} (hy : ∀ a l : Fin 256, y (ix2 a l) = ((Y a l : ℝ) : EReal))
include h0 h1 h2 h3 e0 e1 e2 e3 hy

/-- What a block of keys gains: the four heads' weights, transposed, times the heads' rows. -/
theorem gain_at (b l : Fin 256) :
    k0_pay1 (concatenate S1024x256 0 [⟨S256x256, x0⟩, ⟨S256x256, x1⟩, ⟨S256x256, x2⟩, ⟨S256x256, x3⟩] concatenates_S256x256_S256x256_S256x256_S256x256_S1024x256_d0) w0 w1 w2 w3 y (ix2 b l)
    = ((Y b l + ∑ a, W (l.val / 64) a b * X a l : ℝ) : EReal) := by
  pointwise [k0_pay1]
  rw [EReal.coe_add, ← four_heads l (fun h a => W h a b), ← hy]
  simp only [← h0, ← h1, ← h2, ← h3, ← e0, ← e1, ← e2, ← e3]
  exact congrArg (fun t : EReal => y (ix2 b l) + t) (sum_cat4 (fun a => w0 (ix2 a b)) (fun a => w1 (ix2 a b)) (fun a => w2 (ix2 a b)) (fun a => w3 (ix2 a b))
    (fun a => x0 (ix2 a l)) (fun a => x1 (ix2 a l)) (fun a => x2 (ix2 a l)) (fun a => x3 (ix2 a l)))
end Four

section Rows
variable {w0 w1 w2 w3 : FVec Ideal S256x256 .bf16} {W : ℕ → Fin 256 → Fin 256 → ℝ}
  (h0 : ∀ a b : Fin 256, w0 (ix2 a b) = ((W 0 a b : ℝ) : EReal)) (h1 : ∀ a b : Fin 256, w1 (ix2 a b) = ((W 1 a b : ℝ) : EReal))
  (h2 : ∀ a b : Fin 256, w2 (ix2 a b) = ((W 2 a b : ℝ) : EReal)) (h3 : ∀ a b : Fin 256, w3 (ix2 a b) = ((W 3 a b : ℝ) : EReal))
  {k : FVec Ideal S256x256 .bf16} {K : Fin 256 → Fin 256 → ℝ} (hk : ∀ a l : Fin 256, k (ix2 a l) = ((K a l : ℝ) : EReal))

/-- The rows of `k` that lie on a head's lanes. -/
abbrev onHead (M : IVec S256x256 1) (k : FVec Ideal S256x256 .bf16) : FVec Ideal S256x256 .bf16 :=
  select M k (broadcast S256x256 (Scalar.ofBits .bf16 0x0000#16))

/-- The four heads' weights side by side times the heads' keys one under another. -/
def mixRows (w0 w1 w2 w3 k : FVec Ideal S256x256 .bf16) : FVec Ideal S256x256 .f32 :=
  matmul dot_S256x1024_S1024x256_S256x256_1_0_0_1_n_n none
    (concatenate S256x1024 1 [⟨S256x256, w0⟩, ⟨S256x256, w1⟩, ⟨S256x256, w2⟩, ⟨S256x256, w3⟩] concatenates_S256x256_S256x256_S256x256_S256x256_S256x1024_d1)
    (concatenate S1024x256 0 [⟨S256x256, onHead k0_pay78 k⟩, ⟨S256x256, onHead k0_pay79 k⟩, ⟨S256x256, onHead k0_pay80 k⟩, ⟨S256x256, onHead mask3 k⟩] concatenates_S256x256_S256x256_S256x256_S256x256_S1024x256_d0)
    (constant S256x256 .f32 0x00000000#32)

include hk
theorem onHead0 (a l : Fin 256) : onHead k0_pay78 k (ix2 a l) = ((if l.val / 64 = 0 then K a l else 0 : ℝ) : EReal) := by
  pointwise [onHead, hk, mask0_at]
  split <;> rfl
theorem onHead1 (a l : Fin 256) : onHead k0_pay79 k (ix2 a l) = ((if l.val / 64 = 1 then K a l else 0 : ℝ) : EReal) := by
  pointwise [onHead, hk, mask1_at]
  split <;> rfl
theorem onHead2 (a l : Fin 256) : onHead k0_pay80 k (ix2 a l) = ((if l.val / 64 = 2 then K a l else 0 : ℝ) : EReal) := by
  pointwise [onHead, hk, mask2_at]
  split <;> rfl
theorem onHead3 (a l : Fin 256) : onHead mask3 k (ix2 a l) = ((if l.val / 64 = 3 then K a l else 0 : ℝ) : EReal) := by
  pointwise [onHead, hk, mask3_at]
  split <;> rfl

include h0 h1 h2 h3
theorem mixRows_at (a l : Fin 256) : mixRows w0 w1 w2 w3 k (ix2 a l) = ((∑ b, W (l.val / 64) a b * K b l : ℝ) : EReal) := by
  rw [← four_heads l (fun h b => W h a b)]
  have e0 := onHead0 hk
  have e1 := onHead1 hk
  have e2 := onHead2 hk
  have e3 := onHead3 hk
  simp only [← h0, ← h1, ← h2, ← h3, ← e0, ← e1, ← e2, ← e3]
  unfold mixRows
  generalize onHead k0_pay78 k = x0
  generalize onHead k0_pay79 k = x1
  generalize onHead k0_pay80 k = x2
  generalize onHead mask3 k = x3
  pointwise
  exact sum_cat4 (fun b => w0 (ix2 a b)) (fun b => w1 (ix2 a b)) (fun b => w2 (ix2 a b)) (fun b => w3 (ix2 a b))
    (fun b => x0 (ix2 b l)) (fun b => x1 (ix2 b l)) (fun b => x2 (ix2 b l)) (fun b => x3 (ix2 b l))
end Rows

end Cert.Kernel2Ideal.Hand

end
-- ==== Proof.Att.Step.lean ====
/- One trip of the attention gradient's loop, in short terms: the four heads' blocks, the next carried value, the pieces. -/
module

public import proofs.«01_k».proof.Proof.Att.Frame
public import proofs.«01_k».proof.Proof.Att.Comb

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

/-- What a block of queries brings: each head's scaled queries, cotangents and row totals. -/
structure Ops (F : FTy → Type) where
  (q0 q1 q2 q3 d0 d1 d2 d3 : FVec F S256x256 .bf16)
  (T0 T1 T2 T3 : FVec F S256x1 .f32)

/-- What the loop carries: each head's sum of softplus, each head's sum of gradients, the queries' gradient. -/
abbrev Carry (F : FTy → Type) := FVec F S256x1 .f32 × FVec F S256x1 .f32 × FVec F S256x1 .f32 × FVec F S256x1 .f32 × FVec F S256x1 .f32 × FVec F S256x1 .f32 × FVec F S256x1 .f32 × FVec F S256x1 .f32 × FVec F S256x256 .f32

variable {F : FTy → Type} [FloatOps F]

/-- Head 0 at a block before the diagonal: its weights and its scores' gradient; at the block on it likewise. -/
def offA0 (o : Ops F) (s : Carry F) (kb : Vec F S256x256 .bf16) : FVec F S256x256 .bf16 :=
  k0_pay10 k0_pay75 o.q0 o.T0 s.1 kb
def offD0 (o : Ops F) (s : Carry F) (kb vb : Vec F S256x256 .bf16) : FVec F S256x256 .bf16 :=
  k0_pay11 k0_pay75 k0_pay76 o.q0 o.d0 o.T0 s.1 s.2.2.2.2.1 kb vb
def onA0 (o : Ops F) (s : Carry F) (k : FVec F S256x256 .bf16) : FVec F S256x256 .bf16 :=
  k0_pay137 k0_pay75 k0_pay77 o.q0 o.T0 s.1 k
def onD0 (o : Ops F) (s : Carry F) (k v : FVec F S256x256 .bf16) : FVec F S256x256 .bf16 :=
  k0_pay138 k0_pay75 k0_pay76 k0_pay77 o.q0 o.d0 o.T0 s.1 s.2.2.2.2.1 k v
/-- Head 1 at a block before the diagonal: its weights and its scores' gradient; at the block on it likewise. -/
def offA1 (o : Ops F) (s : Carry F) (kb : Vec F S256x256 .bf16) : FVec F S256x256 .bf16 :=
  k0_pay10 k0_pay75 o.q1 o.T1 s.2.1 kb
def offD1 (o : Ops F) (s : Carry F) (kb vb : Vec F S256x256 .bf16) : FVec F S256x256 .bf16 :=
  k0_pay11 k0_pay75 k0_pay76 o.q1 o.d1 o.T1 s.2.1 s.2.2.2.2.2.1 kb vb
def onA1 (o : Ops F) (s : Carry F) (k : FVec F S256x256 .bf16) : FVec F S256x256 .bf16 :=
  k0_pay137 k0_pay75 k0_pay77 o.q1 o.T1 s.2.1 k
def onD1 (o : Ops F) (s : Carry F) (k v : FVec F S256x256 .bf16) : FVec F S256x256 .bf16 :=
  k0_pay138 k0_pay75 k0_pay76 k0_pay77 o.q1 o.d1 o.T1 s.2.1 s.2.2.2.2.2.1 k v
/-- Head 2 at a block before the diagonal: its weights and its scores' gradient; at the block on it likewise. -/
def offA2 (o : Ops F) (s : Carry F) (kb : Vec F S256x256 .bf16) : FVec F S256x256 .bf16 :=
  k0_pay10 k0_pay75 o.q2 o.T2 s.2.2.1 kb
def offD2 (o : Ops F) (s : Carry F) (kb vb : Vec F S256x256 .bf16) : FVec F S256x256 .bf16 :=
  k0_pay11 k0_pay75 k0_pay76 o.q2 o.d2 o.T2 s.2.2.1 s.2.2.2.2.2.2.1 kb vb
def onA2 (o : Ops F) (s : Carry F) (k : FVec F S256x256 .bf16) : FVec F S256x256 .bf16 :=
  k0_pay137 k0_pay75 k0_pay77 o.q2 o.T2 s.2.2.1 k
def onD2 (o : Ops F) (s : Carry F) (k v : FVec F S256x256 .bf16) : FVec F S256x256 .bf16 :=
  k0_pay138 k0_pay75 k0_pay76 k0_pay77 o.q2 o.d2 o.T2 s.2.2.1 s.2.2.2.2.2.2.1 k v
/-- Head 3 at a block before the diagonal: its weights and its scores' gradient; at the block on it likewise. -/
def offA3 (o : Ops F) (s : Carry F) (kb : Vec F S256x256 .bf16) : FVec F S256x256 .bf16 :=
  k0_pay10 k0_pay75 o.q3 o.T3 s.2.2.2.1 kb
def offD3 (o : Ops F) (s : Carry F) (kb vb : Vec F S256x256 .bf16) : FVec F S256x256 .bf16 :=
  k0_pay11 k0_pay75 k0_pay76 o.q3 o.d3 o.T3 s.2.2.2.1 s.2.2.2.2.2.2.2.1 kb vb
def onA3 (o : Ops F) (s : Carry F) (k : FVec F S256x256 .bf16) : FVec F S256x256 .bf16 :=
  k0_pay137 k0_pay75 k0_pay77 o.q3 o.T3 s.2.2.2.1 k
def onD3 (o : Ops F) (s : Carry F) (k v : FVec F S256x256 .bf16) : FVec F S256x256 .bf16 :=
  k0_pay138 k0_pay75 k0_pay76 k0_pay77 o.q3 o.d3 o.T3 s.2.2.2.1 s.2.2.2.2.2.2.2.1 k v

/-- The queries' gradient from a block of keys. -/
def mix (w0 w1 w2 w3 k : FVec F S256x256 .bf16) : FVec F S256x256 .f32 :=
  matmul dot_S256x1024_S1024x256_S256x256_1_0_0_1_n_n none
    (concatenate S256x1024 1 [⟨S256x256, w0⟩, ⟨S256x256, w1⟩, ⟨S256x256, w2⟩, ⟨S256x256, w3⟩] concatenates_S256x256_S256x256_S256x256_S256x256_S256x1024_d1)
    (concatenate S1024x256 0 [⟨S256x256, select k0_pay78 k (broadcast S256x256 (Scalar.ofBits .bf16 0x0000#16))⟩, ⟨S256x256, select k0_pay79 k (broadcast S256x256 (Scalar.ofBits .bf16 0x0000#16))⟩, ⟨S256x256, select k0_pay80 k (broadcast S256x256 (Scalar.ofBits .bf16 0x0000#16))⟩, ⟨S256x256, select mask3 k (broadcast S256x256 (Scalar.ofBits .bf16 0x0000#16))⟩] concatenates_S256x256_S256x256_S256x256_S256x256_S1024x256_d0)
    (constant S256x256 .f32 0x00000000#32)

/-- The carried value after a block of keys. -/
def next (o : Ops F) (s : Carry F) (kb vb : Vec F S256x256 .bf16) : Carry F :=
  (k0_pay12 o.q0 s.1 kb,
    k0_pay12 o.q1 s.2.1 kb,
    k0_pay12 o.q2 s.2.2.1 kb,
    k0_pay12 o.q3 s.2.2.2.1 kb,
    k0_pay13 k0_pay75 o.q0 o.d0 o.T0 s.1 s.2.2.2.2.1 kb vb,
    k0_pay13 k0_pay75 o.q1 o.d1 o.T1 s.2.1 s.2.2.2.2.2.1 kb vb,
    k0_pay13 k0_pay75 o.q2 o.d2 o.T2 s.2.2.1 s.2.2.2.2.2.2.1 kb vb,
    k0_pay13 k0_pay75 o.q3 o.d3 o.T3 s.2.2.2.1 s.2.2.2.2.2.2.2.1 kb vb,
    addf s.2.2.2.2.2.2.2.2 (mix (offD0 o s kb vb) (offD1 o s kb vb) (offD2 o s kb vb) (offD3 o s kb vb) (k0_pay4 kb)))

theorem mix_109 (q : FVec F S256x256 .f32) (k w0 w1 w2 : FVec F S256x256 .bf16) (g f e : FVec F S256x256 .f32) :
    k0_pay109 k0_pay78 k0_pay79 k0_pay80 mask3 q k w0 w1 w2 g f e = addf q (mix w0 w1 w2 (k0_pay106 g f e) k) := rfl
theorem mix_congr {w0 w1 w2 w3 k w0' w1' w2' w3' k' : FVec F S256x256 .bf16} (h0 : w0 = w0') (h1 : w1 = w1') (h2 : w2 = w2')
    (h3 : w3 = w3') (hk : k = k') : mix w0 w1 w2 w3 k = mix w0' w1' w2' w3' k' := by
  subst h0 h1 h2 h3 hk; rfl

set_option maxRecDepth 400000 in
set_option maxHeartbeats 1600000 in
theorem trip_carry (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (v49 : FVec F S256x256 .bf16) (v51 : FVec F S256x256 .bf16) (v53 : FVec F S256x256 .bf16) (v55 : FVec F S256x256 .bf16) (v59 : FVec F S256x256 .bf16) (v61 : FVec F S256x256 .bf16) (v63 : FVec F S256x256 .bf16) (v65 : FVec F S256x256 .bf16) (v66 : FVec F S1024x256 .bf16) (v67 : FVec F S1024x256 .bf16) (v69 : FVec F S256x256 .f32) (v73 : FVec F S256x1 .f32) (v77 : FVec F S256x1 .f32) (v79 : FVec F S256x256 .f32) (X_arg3 : BufTy.Contents (Elt F) arg3.view.ty) (X_arg4 : BufTy.Contents (Elt F) arg4.view.ty) (k : Fin (k0_t1_loop i v6).trips) (acc : FVec F S256x1 .f32 × FVec F S256x1 .f32 × FVec F S256x1 .f32 × FVec F S256x1 .f32 × FVec F S256x1 .f32 × FVec F S256x1 .f32 × FVec F S256x1 .f32 × FVec F S256x1 .f32 × FVec F S256x256 .f32) (f_arg9 : BufTy.Contents (Elt F) arg9.view.ty) (f_arg10 : BufTy.Contents (Elt F) arg10.view.ty) :
    tripR_k0_t1 (F := F) 𝒱 c bd i arg2 harg2 arg3 harg3 arg4 harg4 arg5 harg5 arg6 harg6 arg7 harg7 arg8 harg8 arg9 harg9 arg10 harg10 arg1 v6 k0_hw1 v8 k0_pay75 k0_pay76 k0_pay77 k0_pay78 k0_pay79 k0_pay80 mask3 v49 v51 v53 v55 v59 v61 v63 v65 v66 v67 v69 v73 v77 v79 X_arg3 X_arg4 k acc f_arg9 f_arg10
      = next ⟨v49, v51, v53, v55, v59, v61, v63, v65, v73, v77, k0_pay99 v79, k0_pay100 mask3 v69⟩ acc
        (arg3.view.readAt (Elt F) (Rect.unit (s := S4096x256) (k0_off1 i v6 k) S256x256.size (k0_off1_inb i v6 k0_hw1 k)).toLoadRect X_arg3) (arg4.view.readAt (Elt F) (Rect.unit (s := S4096x256) (k0_off1 i v6 k) S256x256.size (k0_off1_inb i v6 k0_hw1 k)).toLoadRect X_arg4) := by
  unfold tripR_k0_t1 trip_k0_t1; dsimp only
  unfold next; dsimp only
  refine Prod.ext rfl (Prod.ext ?_ (Prod.ext ?_ (Prod.ext ?_ (Prod.ext rfl (Prod.ext ?_ (Prod.ext ?_ (Prod.ext ?_ ?_)))))))
  · rfl
  · rfl
  · rfl
  · rfl
  · rfl
  · rfl
  · refine (mix_109 _ _ _ _ _ _ _ _).trans ?_
    refine congrArg (addf _) (mix_congr ?_ ?_ ?_ ?_ ?_)
    · rfl
    · rfl
    · rfl
    · rfl
    · rfl

theorem gain_congr {X : FVec F S1024x256 .bf16} {w0 w1 w2 w3 w0' w1' w2' w3' : FVec F S256x256 .bf16} {y : Vec F S256x256 .f32} (h0 : w0 = w0') (h1 : w1 = w1') (h2 : w2 = w2')
    (h3 : w3 = w3') : k0_pay1 X w0 w1 w2 w3 y = k0_pay1 X w0' w1' w2' w3' y := by
  subst h0 h1 h2 h3; rfl
theorem gain_110 (X : FVec F S1024x256 .bf16) (w0 w1 w2 : FVec F S256x256 .bf16) (g f e : FVec F S256x256 .f32) (y : Vec F S256x256 .f32) :
    k0_pay110 X w0 w1 w2 g f e y = k0_pay1 X w0 w1 w2 (k0_pay106 g f e) y := rfl
theorem gain_111 (X : FVec F S1024x256 .bf16) (w0 w1 w2 : FVec F S256x256 .bf16) (a : FVec F S256x256 .f32) (y : Vec F S256x256 .f32) :
    k0_pay111 X w0 w1 w2 a y = k0_pay1 X w0 w1 w2 (truncf .bf16 a bitsLt_bf16_f32) y := rfl
theorem piece_congr {off size : Fin 2 → ℕ} (inb : ∀ a : Fin 2, off a + size a ≤ S4096x256.size a)
    {w w' : (Rect.unit (s := S4096x256) off size inb).shape.Idx → Elt F .f32} (h : w = w') :
    ([⟨Rect.unit (s := S4096x256) off size inb, w⟩] : List (View.Piece (Elt F) S4096x256 .f32)) = [⟨Rect.unit (s := S4096x256) off size inb, w'⟩] := by
  subst h; rfl

set_option maxRecDepth 400000 in
set_option maxHeartbeats 1600000 in
theorem trip_pieces (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (v49 : FVec F S256x256 .bf16) (v51 : FVec F S256x256 .bf16) (v53 : FVec F S256x256 .bf16) (v55 : FVec F S256x256 .bf16) (v59 : FVec F S256x256 .bf16) (v61 : FVec F S256x256 .bf16) (v63 : FVec F S256x256 .bf16) (v65 : FVec F S256x256 .bf16) (v66 : FVec F S1024x256 .bf16) (v67 : FVec F S1024x256 .bf16) (v69 : FVec F S256x256 .f32) (v73 : FVec F S256x1 .f32) (v77 : FVec F S256x1 .f32) (v79 : FVec F S256x256 .f32) (X_arg3 : BufTy.Contents (Elt F) arg3.view.ty) (X_arg4 : BufTy.Contents (Elt F) arg4.view.ty) (k : Fin (k0_t1_loop i v6).trips) (acc : FVec F S256x1 .f32 × FVec F S256x1 .f32 × FVec F S256x1 .f32 × FVec F S256x1 .f32 × FVec F S256x1 .f32 × FVec F S256x1 .f32 × FVec F S256x1 .f32 × FVec F S256x1 .f32 × FVec F S256x256 .f32) (f_arg9 : BufTy.Contents (Elt F) arg9.view.ty) (f_arg10 : BufTy.Contents (Elt F) arg10.view.ty) :
    tripL_k0_t1 (F := F) 𝒱 c bd i arg2 harg2 arg3 harg3 arg4 harg4 arg5 harg5 arg6 harg6 arg7 harg7 arg8 harg8 arg9 harg9 arg10 harg10 arg1 v6 k0_hw1 v8 k0_pay75 k0_pay76 k0_pay77 k0_pay78 k0_pay79 k0_pay80 mask3 v49 v51 v53 v55 v59 v61 v63 v65 v66 v67 v69 v73 v77 v79 X_arg3 X_arg4 k acc f_arg9 f_arg10
      = ([⟨(Rect.unit (s := S4096x256) (k0_off1 i v6 k) ![256, 256] (k0_off1_inb i v6 k0_hw1 k)), k0_pay1 v66 (offD0 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3) (arg4.view.readAt (Elt F) (Rect.unit (s := S4096x256) (k0_off1 i v6 k) S256x256.size (k0_off1_inb i v6 k0_hw1 k)).toLoadRect X_arg4)) (offD1 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3) (arg4.view.readAt (Elt F) (Rect.unit (s := S4096x256) (k0_off1 i v6 k) S256x256.size (k0_off1_inb i v6 k0_hw1 k)).toLoadRect X_arg4)) (offD2 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3) (arg4.view.readAt (Elt F) (Rect.unit (s := S4096x256) (k0_off1 i v6 k) S256x256.size (k0_off1_inb i v6 k0_hw1 k)).toLoadRect X_arg4)) (offD3 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3) (arg4.view.readAt (Elt F) (Rect.unit (s := S4096x256) (k0_off1 i v6 k) S256x256.size (k0_off1_inb i v6 k0_hw1 k)).toLoadRect X_arg4)) (arg9.view.readAt (Elt F) (Rect.unit (s := S4096x256) (k0_off1 i v6 k) ![256, 256] (k0_off1_inb i v6 k0_hw1 k)).toLoadRect f_arg9)⟩],
         [⟨(Rect.unit (s := S4096x256) (k0_off1 i v6 k) ![256, 256] (k0_off1_inb i v6 k0_hw1 k)), k0_pay1 v67 (offA0 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3)) (offA1 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3)) (offA2 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3)) (offA3 (⟨v49, v51, v53, v55, v59, v61, v63, v65, v73, v77, k0_pay99 v79, k0_pay100 mask3 v69⟩ : Ops F) acc (arg3.view.readAt (Elt F) (Rect.unit (s := S4096x256) (k0_off1 i v6 k) S256x256.size (k0_off1_inb i v6 k0_hw1 k)).toLoadRect X_arg3)) (arg10.view.readAt (Elt F) (Rect.unit (s := S4096x256) (k0_off1 i v6 k) ![256, 256] (k0_off1_inb i v6 k0_hw1 k)).toLoadRect f_arg10)⟩]) := by
  unfold tripL_k0_t1 trip_k0_t1; dsimp only
  refine Prod.ext (piece_congr _ ?_) (piece_congr _ ?_)
  · refine (gain_110 _ _ _ _ _ _ _ _).trans (gain_congr ?_ ?_ ?_ ?_)
    · rfl
    · rfl
    · rfl
    · rfl
  · refine (gain_111 _ _ _ _ _ _).trans (gain_congr ?_ ?_ ?_ ?_)
    · rfl
    · rfl
    · rfl
    · rfl

/-- A sequence of states that the loop's trips step through, from nothing carried and nothing stored. -/
def Runs (i : grid0.Coords) (v6 : BitVec 32) (k0_hw1 : k0_chk1 i v6) (arg3 arg4 : Memref sig .tc .vmem S4096x256 .bf16) (arg9 arg10 : Memref sig .tc .vmem S4096x256 .f32) (X3 : BufTy.Contents (Elt F) arg3.view.ty) (X4 : BufTy.Contents (Elt F) arg4.view.ty) (G9 : BufTy.Contents (Elt F) arg9.view.ty) (G10 : BufTy.Contents (Elt F) arg10.view.ty) (o : Ops F) (QH DOH : FVec F S1024x256 .bf16) (s : ℕ → Carry F × List (View.Piece (Elt F) S4096x256 .f32) × List (View.Piece (Elt F) S4096x256 .f32)) : Prop :=
  s 0 = ((k0_pay101, k0_pay102, k0_pay103, k0_pay104, k0_pay101, k0_pay102, k0_pay103, k0_pay104, k0_pay105), [], []) ∧ ∀ k : Fin (k0_t1_loop i v6).trips, s (k.val + 1) = (next o (s k.val).1 (arg3.view.readAt (Elt F) (Rect.unit (s := S4096x256) (k0_off1 i v6 k) S256x256.size (k0_off1_inb i v6 k0_hw1 k)).toLoadRect X3) (arg4.view.readAt (Elt F) (Rect.unit (s := S4096x256) (k0_off1 i v6 k) S256x256.size (k0_off1_inb i v6 k0_hw1 k)).toLoadRect X4),
      ⟨(Rect.unit (s := S4096x256) (k0_off1 i v6 k) ![256, 256] (k0_off1_inb i v6 k0_hw1 k)), k0_pay1 QH (offD0 o (s k.val).1 (arg3.view.readAt (Elt F) (Rect.unit (s := S4096x256) (k0_off1 i v6 k) S256x256.size (k0_off1_inb i v6 k0_hw1 k)).toLoadRect X3) (arg4.view.readAt (Elt F) (Rect.unit (s := S4096x256) (k0_off1 i v6 k) S256x256.size (k0_off1_inb i v6 k0_hw1 k)).toLoadRect X4)) (offD1 o (s k.val).1 (arg3.view.readAt (Elt F) (Rect.unit (s := S4096x256) (k0_off1 i v6 k) S256x256.size (k0_off1_inb i v6 k0_hw1 k)).toLoadRect X3) (arg4.view.readAt (Elt F) (Rect.unit (s := S4096x256) (k0_off1 i v6 k) S256x256.size (k0_off1_inb i v6 k0_hw1 k)).toLoadRect X4)) (offD2 o (s k.val).1 (arg3.view.readAt (Elt F) (Rect.unit (s := S4096x256) (k0_off1 i v6 k) S256x256.size (k0_off1_inb i v6 k0_hw1 k)).toLoadRect X3) (arg4.view.readAt (Elt F) (Rect.unit (s := S4096x256) (k0_off1 i v6 k) S256x256.size (k0_off1_inb i v6 k0_hw1 k)).toLoadRect X4)) (offD3 o (s k.val).1 (arg3.view.readAt (Elt F) (Rect.unit (s := S4096x256) (k0_off1 i v6 k) S256x256.size (k0_off1_inb i v6 k0_hw1 k)).toLoadRect X3) (arg4.view.readAt (Elt F) (Rect.unit (s := S4096x256) (k0_off1 i v6 k) S256x256.size (k0_off1_inb i v6 k0_hw1 k)).toLoadRect X4)) (arg9.view.readAt (Elt F) (Rect.unit (s := S4096x256) (k0_off1 i v6 k) ![256, 256] (k0_off1_inb i v6 k0_hw1 k)).toLoadRect (arg9.view.writes (Elt F) G9 (s k.val).2.1))⟩ :: (s k.val).2.1,
      ⟨(Rect.unit (s := S4096x256) (k0_off1 i v6 k) ![256, 256] (k0_off1_inb i v6 k0_hw1 k)), k0_pay1 DOH (offA0 o (s k.val).1 (arg3.view.readAt (Elt F) (Rect.unit (s := S4096x256) (k0_off1 i v6 k) S256x256.size (k0_off1_inb i v6 k0_hw1 k)).toLoadRect X3)) (offA1 o (s k.val).1 (arg3.view.readAt (Elt F) (Rect.unit (s := S4096x256) (k0_off1 i v6 k) S256x256.size (k0_off1_inb i v6 k0_hw1 k)).toLoadRect X3)) (offA2 o (s k.val).1 (arg3.view.readAt (Elt F) (Rect.unit (s := S4096x256) (k0_off1 i v6 k) S256x256.size (k0_off1_inb i v6 k0_hw1 k)).toLoadRect X3)) (offA3 o (s k.val).1 (arg3.view.readAt (Elt F) (Rect.unit (s := S4096x256) (k0_off1 i v6 k) S256x256.size (k0_off1_inb i v6 k0_hw1 k)).toLoadRect X3)) (arg10.view.readAt (Elt F) (Rect.unit (s := S4096x256) (k0_off1 i v6 k) ![256, 256] (k0_off1_inb i v6 k0_hw1 k)).toLoadRect (arg10.view.writes (Elt F) G10 (s k.val).2.2))⟩ :: (s k.val).2.2)

theorem st_runs (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (arg1 : BitVec 32) (v6 : BitVec 32) (k0_hw1 : k0_chk1 i v6) (v8 : BitVec 32) (v49 : FVec F S256x256 .bf16) (v51 : FVec F S256x256 .bf16) (v53 : FVec F S256x256 .bf16) (v55 : FVec F S256x256 .bf16) (v59 : FVec F S256x256 .bf16) (v61 : FVec F S256x256 .bf16) (v63 : FVec F S256x256 .bf16) (v65 : FVec F S256x256 .bf16) (v66 : FVec F S1024x256 .bf16) (v67 : FVec F S1024x256 .bf16) (v69 : FVec F S256x256 .f32) (v73 : FVec F S256x1 .f32) (v77 : FVec F S256x1 .f32) (v79 : FVec F S256x256 .f32) (X_arg3 : BufTy.Contents (Elt F) arg3.view.ty) (X_arg4 : BufTy.Contents (Elt F) arg4.view.ty) (G9 : BufTy.Contents (Elt F) arg9.view.ty) (G10 : BufTy.Contents (Elt F) arg10.view.ty) :
    Runs i v6 k0_hw1 arg3 arg4 arg9 arg10 X_arg3 X_arg4 G9 G10 ⟨v49, v51, v53, v55, v59, v61, v63, v65, v73, v77, k0_pay99 v79, k0_pay100 mask3 v69⟩ v66 v67
      (fun n => st_k0_t1 (F := F) 𝒱 c bd i arg2 harg2 arg3 harg3 arg4 harg4 arg5 harg5 arg6 harg6 arg7 harg7 arg8 harg8 arg9 harg9 arg10 harg10 arg1 v6 k0_hw1 v8 k0_pay75 k0_pay76 k0_pay77 k0_pay78 k0_pay79 k0_pay80 mask3 v49 v51 v53 v55 v59 v61 v63 v65 v66 v67 v69 v73 v77 v79 X_arg3 X_arg4 G9 G10 (k0_pay101, k0_pay102, k0_pay103, k0_pay104, k0_pay101, k0_pay102, k0_pay103, k0_pay104, k0_pay105) n) :=
  ⟨rfl, fun k => (st_k0_t1_succ 𝒱 c bd i arg2 harg2 arg3 harg3 arg4 harg4 arg5 harg5 arg6 harg6 arg7 harg7 arg8 harg8 arg9 harg9 arg10 harg10 arg1 v6 k0_hw1 v8 k0_pay75 k0_pay76 k0_pay77 k0_pay78 k0_pay79 k0_pay80 mask3 v49 v51 v53 v55 v59 v61 v63 v65 v66 v67 v69 v73 v77 v79 X_arg3 X_arg4 G9 G10 (k0_pay101, k0_pay102, k0_pay103, k0_pay104, k0_pay101, k0_pay102, k0_pay103, k0_pay104, k0_pay105) k).trans (by rw [trip_carry, trip_pieces]; rfl)⟩

/-- What a block of queries stores, over what its loop carried out and had stored. -/
def Stores (i : grid0.Coords) (arg3 arg4 : Memref sig .tc .vmem S4096x256 .bf16) (arg9 arg10 : Memref sig .tc .vmem S4096x256 .f32) (X3 : BufTy.Contents (Elt F) arg3.view.ty) (X4 : BufTy.Contents (Elt F) arg4.view.ty) (G9 : BufTy.Contents (Elt F) arg9.view.ty) (G10 : BufTy.Contents (Elt F) arg10.view.ty) (o : Ops F) (QH DOH : FVec F S1024x256 .bf16)
    (e : Carry F) (M7 M8 : List (View.Piece (Elt F) S4096x256 .f32)) (L6 : List (View.Piece (Elt F) S256x256 .bf16)) (L7 L8 : List (View.Piece (Elt F) S4096x256 .f32)) : Prop :=
  ∃ (inb : ∀ a : Fin 2, (![0, 0] : Fin 2 → ℕ) a + (![256, 256] : Fin 2 → ℕ) a ≤ S256x256.size a) (inb3 : ∀ a : Fin 2, k0_off3 i a + (![256, 256] : Fin 2 → ℕ) a ≤ S4096x256.size a) (K3 V3 : Vec F S256x256 .bf16),
  K3 = arg3.view.readAt (Elt F) (Rect.unit (s := S4096x256) (k0_off3 i) ![256, 256] inb3).toLoadRect X3 ∧ V3 = arg4.view.readAt (Elt F) (Rect.unit (s := S4096x256) (k0_off3 i) ![256, 256] inb3).toLoadRect X4
  ∧ L6 = [⟨Rect.unit (s := S256x256) ![0, 0] ![256, 256] inb, k0_pay3 e.2.2.2.2.2.2.2.2
      (mix (onD0 o e (k0_pay118 K3) (k0_pay119 V3)) (onD1 o e (k0_pay118 K3) (k0_pay119 V3)) (onD2 o e (k0_pay118 K3) (k0_pay119 V3)) (onD3 o e (k0_pay118 K3) (k0_pay119 V3)) (k0_pay118 K3))⟩]
  ∧ L7 = ⟨(Rect.unit (s := S4096x256) (k0_off3 i) ![256, 256] inb3), k0_pay1 QH (onD0 o e (k0_pay118 K3) (k0_pay119 V3)) (onD1 o e (k0_pay118 K3) (k0_pay119 V3)) (onD2 o e (k0_pay118 K3) (k0_pay119 V3)) (onD3 o e (k0_pay118 K3) (k0_pay119 V3)) (arg9.view.readAt (Elt F) (Rect.unit (s := S4096x256) (k0_off3 i) ![256, 256] inb3).toLoadRect (arg9.view.writes (Elt F) G9 M7))⟩ :: M7
  ∧ L8 = ⟨(Rect.unit (s := S4096x256) (k0_off3 i) ![256, 256] inb3), k0_pay1 DOH (onA0 o e (k0_pay118 K3)) (onA1 o e (k0_pay118 K3)) (onA2 o e (k0_pay118 K3)) (onA3 o e (k0_pay118 K3)) (arg10.view.readAt (Elt F) (Rect.unit (s := S4096x256) (k0_off3 i) ![256, 256] inb3).toLoadRect (arg10.view.writes (Elt F) G10 M8))⟩ :: M8

/-- The heads' operands from the blocks of queries, cotangents and row totals. -/
def opsOf (x0 x3 : Vec F S256x256 .bf16) (x4 : Vec F S256x256 .f32) : Ops F :=
  ⟨k0_pay84 k0_pay78 x0, k0_pay85 k0_pay79 x0, k0_pay86 k0_pay80 x0, k0_pay87 lane k0_pay81 x0,
   k0_pay89 k0_pay78 x3, k0_pay90 k0_pay79 x3, k0_pay91 k0_pay80 x3, k0_pay92 lane k0_pay81 x3,
   k0_pay96 k0_pay78 x4, k0_pay97 k0_pay79 x4, k0_pay99 (k0_pay98 k0_pay80 x4), k0_pay100 mask3 (k0_pay95 x4)⟩
/-- The heads' scaled queries, and the cotangents, one head under another. -/
def stackQ (x0 : Vec F S256x256 .bf16) : FVec F S1024x256 .bf16 := k0_pay93 lane k0_pay78 k0_pay79 k0_pay80 k0_pay81 x0
def stackD (x3 : Vec F S256x256 .bf16) : FVec F S1024x256 .bf16 := k0_pay94 lane k0_pay78 k0_pay79 k0_pay80 k0_pay81 x3

set_option maxRecDepth 400000 in
set_option maxHeartbeats 1600000 in
theorem first_raw (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i) (x0 : Vec F S256x256 .bf16) (x1 : Vec F S4096x256 .bf16) (x2 : Vec F S4096x256 .bf16) (x3 : Vec F S256x256 .bf16) (x4 : Vec F S256x256 .f32) (x5 : Vec F S1x1x8x128 .f32) :
    Stores i arg3 arg4 arg9 arg10 (harg3.unread x1) (harg4.unread x2) arg9.view.junk arg10.view.junk (opsOf (arg2.view.readAt (Elt F) (Rect.unit (s := S256x256) ![0, 0] S256x256.size inb_S256x256_S256x256_0_0).toLoadRect (harg2.unread x0)) (arg5.view.readAt (Elt F) (Rect.unit (s := S256x256) ![0, 0] S256x256.size inb_S256x256_S256x256_0_0).toLoadRect (harg5.unread x3)) (arg6.view.readAt (Elt F) (Rect.unit (s := S256x256) ![0, 0] S256x256.size inb_S256x256_S256x256_0_0).toLoadRect (harg6.unread x4))) (stackQ (arg2.view.readAt (Elt F) (Rect.unit (s := S256x256) ![0, 0] S256x256.size inb_S256x256_S256x256_0_0).toLoadRect (harg2.unread x0))) (stackD (arg5.view.readAt (Elt F) (Rect.unit (s := S256x256) ![0, 0] S256x256.size inb_S256x256_S256x256_0_0).toLoadRect (harg5.unread x3)))
      (st_k0_t2 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (first.sl.v95 c i arg7 harg7 x5) (harg3.unread x1) (harg4.unread x2) (arg9.view.writes (Elt F) arg9.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.1 ++ first.sl.H7_1)) (arg10.view.writes (Elt F) arg10.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.2 ++ first.sl.H8_1)) (st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).1 (k0_t2_loop i (first.sl.v6 c arg7 harg7 x5)).trips).1 ((st_k0_t2 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (first.sl.v95 c i arg7 harg7 x5) (harg3.unread x1) (harg4.unread x2) (arg9.view.writes (Elt F) arg9.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.1 ++ first.sl.H7_1)) (arg10.view.writes (Elt F) arg10.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.2 ++ first.sl.H8_1)) (st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).1 (k0_t2_loop i (first.sl.v6 c arg7 harg7 x5)).trips).2.1 ++ ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.1 ++ first.sl.H7_1)) ((st_k0_t2 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (first.sl.v95 c i arg7 harg7 x5) (harg3.unread x1) (harg4.unread x2) (arg9.view.writes (Elt F) arg9.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.1 ++ first.sl.H7_1)) (arg10.view.writes (Elt F) arg10.view.junk ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.2 ++ first.sl.H8_1)) (st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).1 (k0_t2_loop i (first.sl.v6 c arg7 harg7 x5)).trips).2.2 ++ ((st_k0_t1 (F := F) Variants.none c none i arg2 harg2 arg3 harg3 arg4 harg4 arg5 harg5 arg6 harg6 arg7 harg7 arg8 harg8 arg9 harg9 arg10 harg10 (BitVec.ofNat 32 (i 1).val) (first.sl.v6 c arg7 harg7 x5) (chk_all _ _) (first.sl.v8 c i arg7 harg7 x5) k0_pay75 k0_pay76 k0_pay77 k0_pay78 k0_pay79 k0_pay80 mask3 (first.sl.r c arg2 harg2 x0) (first.sl.r_1 c arg2 harg2 x0) (first.sl.r_2 c arg2 harg2 x0) (first.sl.r_3 c arg2 harg2 x0) (first.sl.r_4 c arg5 harg5 x3) (first.sl.r_5 c arg5 harg5 x3) (first.sl.r_6 c arg5 harg5 x3) (first.sl.r_7 c arg5 harg5 x3) (first.sl.r_8 c arg2 harg2 x0) (first.sl.r_9 c arg5 harg5 x3) (first.sl.r_10 c arg6 harg6 x4) (first.sl.r_11 c arg6 harg6 x4) (first.sl.r_12 c arg6 harg6 x4) (first.sl.r_13 c arg6 harg6 x4) (harg3.unread x1) (harg4.unread x2) (arg9.view.writes (Elt F) arg9.view.junk first.sl.H7_1) (arg10.view.writes (Elt F) arg10.view.junk first.sl.H8_1) (k0_pay101, k0_pay102, k0_pay103, k0_pay104, k0_pay101, k0_pay102, k0_pay103, k0_pay104, k0_pay105) (k0_t1_loop i (first.sl.v6 c arg7 harg7 x5)).trips).2.2 ++ first.sl.H8_1)) (first c i arg2 harg2 arg3 harg3 arg4 harg4 arg5 harg5 arg6 harg6 arg7 harg7 arg8 harg8 arg9 harg9 arg10 harg10 hc0 x0 x1 x2 x3 x4 x5).1 (first c i arg2 harg2 arg3 harg3 arg4 harg4 arg5 harg5 arg6 harg6 arg7 harg7 arg8 harg8 arg9 harg9 arg10 harg10 hc0 x0 x1 x2 x3 x4 x5).2.1 (first c i arg2 harg2 arg3 harg3 arg4 harg4 arg5 harg5 arg6 harg6 arg7 harg7 arg8 harg8 arg9 harg9 arg10 harg10 hc0 x0 x1 x2 x3 x4 x5).2.2.1 := by
  refine ⟨inb_S256x256_S256x256_0_0, k0_off3_inb i, _, _, rfl, rfl, ?_, ?_, ?_⟩
  · unfold first; dsimp only
    rfl
  · unfold first; dsimp only
    rfl
  · unfold first; dsimp only
    rfl
theorem first_word (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i) (x0 : Vec F S256x256 .bf16) (x1 : Vec F S4096x256 .bf16) (x2 : Vec F S4096x256 .bf16) (x3 : Vec F S256x256 .bf16) (x4 : Vec F S256x256 .f32) (x5 : Vec F S1x1x8x128 .f32) : (first.sl.v6 c arg7 harg7 x5) = Scalar.fptosi 32 (k0_pay72 (arg7.view.readAt (Elt F) (Rect.unit (s := S1x1x8x128) ![0, 0, 0, 0] S1x1x8x128.size inb_S1x1x8x128_S1x1x8x128_0_0_0_0).toLoadRect (harg7.unread x5))) := rfl

set_option maxRecDepth 400000 in
set_option maxHeartbeats 1600000 in
theorem later_raw (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : ¬cond i) (x0 : Vec F S256x256 .bf16) (x1 : Vec F S4096x256 .bf16) (x2 : Vec F S4096x256 .bf16) (x3 : Vec F S256x256 .bf16) (x4 : Vec F S256x256 .f32) (x5 : Vec F S1x1x8x128 .f32) (y7 y8 : Vec F S4096x256 .f32) :
    Stores i arg3 arg4 arg9 arg10 (harg3.unread x1) (harg4.unread x2) (harg9.unread y7) (harg10.unread y8) (opsOf (arg2.view.readAt (Elt F) (Rect.unit (s := S256x256) ![0, 0] S256x256.size inb_S256x256_S256x256_0_0).toLoadRect (harg2.unread x0)) (arg5.view.readAt (Elt F) (Rect.unit (s := S256x256) ![0, 0] S256x256.size inb_S256x256_S256x256_0_0).toLoadRect (harg5.unread x3)) (arg6.view.readAt (Elt F) (Rect.unit (s := S256x256) ![0, 0] S256x256.size inb_S256x256_S256x256_0_0).toLoadRect (harg6.unread x4))) (stackQ (arg2.view.readAt (Elt F) (Rect.unit (s := S256x256) ![0, 0] S256x256.size inb_S256x256_S256x256_0_0).toLoadRect (harg2.unread x0))) (stackD (arg5.view.readAt (Elt F) (Rect.unit (s := S256x256) ![0, 0] S256x256.size inb_S256x256_S256x256_0_0).toLoadRect (harg5.unread x3)))
      (st_k0_t2 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (later.sl.v95 c i arg7 harg7 x5) (harg3.unread x1) (harg4.unread x2) (arg9.view.writes (Elt F) (harg9.unread y7) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.1) (arg10.view.writes (Elt F) (harg10.unread y8) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.2) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).1 (k0_t2_loop i (later.sl.v6 c arg7 harg7 x5)).trips).1 ((st_k0_t2 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (later.sl.v95 c i arg7 harg7 x5) (harg3.unread x1) (harg4.unread x2) (arg9.view.writes (Elt F) (harg9.unread y7) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.1) (arg10.view.writes (Elt F) (harg10.unread y8) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.2) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).1 (k0_t2_loop i (later.sl.v6 c arg7 harg7 x5)).trips).2.1 ++ (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.1) ((st_k0_t2 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (later.sl.v95 c i arg7 harg7 x5) (harg3.unread x1) (harg4.unread x2) (arg9.view.writes (Elt F) (harg9.unread y7) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.1) (arg10.view.writes (Elt F) (harg10.unread y8) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.2) (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).1 (k0_t2_loop i (later.sl.v6 c arg7 harg7 x5)).trips).2.2 ++ (st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) (k0_t1_loop i (later.sl.v6 c arg7 harg7 x5)).trips).2.2) (later c i arg2 harg2 arg3 harg3 arg4 harg4 arg5 harg5 arg6 harg6 arg7 harg7 arg8 harg8 arg9 harg9 arg10 harg10 hc0 x0 x1 x2 x3 x4 x5 y7 y8).1 (later c i arg2 harg2 arg3 harg3 arg4 harg4 arg5 harg5 arg6 harg6 arg7 harg7 arg8 harg8 arg9 harg9 arg10 harg10 hc0 x0 x1 x2 x3 x4 x5 y7 y8).2.1 (later c i arg2 harg2 arg3 harg3 arg4 harg4 arg5 harg5 arg6 harg6 arg7 harg7 arg8 harg8 arg9 harg9 arg10 harg10 hc0 x0 x1 x2 x3 x4 x5 y7 y8).2.2.1 := by
  refine ⟨inb_S256x256_S256x256_0_0, k0_off3_inb i, _, _, rfl, rfl, ?_, ?_, ?_⟩
  · unfold later; dsimp only
    rfl
  · unfold later; dsimp only
    rfl
  · unfold later; dsimp only
    rfl
theorem later_word (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : ¬cond i) (x0 : Vec F S256x256 .bf16) (x1 : Vec F S4096x256 .bf16) (x2 : Vec F S4096x256 .bf16) (x3 : Vec F S256x256 .bf16) (x4 : Vec F S256x256 .f32) (x5 : Vec F S1x1x8x128 .f32) : (later.sl.v6 c arg7 harg7 x5) = Scalar.fptosi 32 (k0_pay72 (arg7.view.readAt (Elt F) (Rect.unit (s := S1x1x8x128) ![0, 0, 0, 0] S1x1x8x128.size inb_S1x1x8x128_S1x1x8x128_0_0_0_0).toLoadRect (harg7.unread x5))) := rfl

end Cert.Kernel2Ideal.Hand

end
-- ==== Proof.Att.Block.lean ====
/- One block of queries against the blocks of keys before it and the one on the diagonal, on real numbers. -/
module

public import proofs.«01_k».proof.Proof.Att.Step

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum sp E A g G D)

/-- The products of the rows of `X` with the rows of `K`, over the lanes of head `h`. -/
def zz (X K : ℕ → Fin 256 → ℝ) (h r s : ℕ) : ℝ := ∑ l : Fin 256, (if l.val / 64 = h then X r l else 0) * K s l

/-- The heads' operands hold rows `R` to `R + 255` of the scaled queries, the cotangents and the row totals. -/
structure Good (o : Ops Ideal) (R : ℕ) (X Y K : ℕ → Fin 256 → ℝ) : Prop where
  q0 : ∀ a l : Fin 256, o.q0 (ix2 a l) = ((if l.val / 64 = 0 then X (R + a) l else 0 : ℝ) : EReal)
  d0 : ∀ a l : Fin 256, o.d0 (ix2 a l) = ((if l.val / 64 = 0 then Y (R + a) l else 0 : ℝ) : EReal)
  T0 : ∀ a : Fin 256, o.T0 (ix2 a 0) = ((E (zz X K 0) (R + a) (R + a) : ℝ) : EReal)
  q1 : ∀ a l : Fin 256, o.q1 (ix2 a l) = ((if l.val / 64 = 1 then X (R + a) l else 0 : ℝ) : EReal)
  d1 : ∀ a l : Fin 256, o.d1 (ix2 a l) = ((if l.val / 64 = 1 then Y (R + a) l else 0 : ℝ) : EReal)
  T1 : ∀ a : Fin 256, o.T1 (ix2 a 0) = ((E (zz X K 1) (R + a) (R + a) : ℝ) : EReal)
  q2 : ∀ a l : Fin 256, o.q2 (ix2 a l) = ((if l.val / 64 = 2 then X (R + a) l else 0 : ℝ) : EReal)
  d2 : ∀ a l : Fin 256, o.d2 (ix2 a l) = ((if l.val / 64 = 2 then Y (R + a) l else 0 : ℝ) : EReal)
  T2 : ∀ a : Fin 256, o.T2 (ix2 a 0) = ((E (zz X K 2) (R + a) (R + a) : ℝ) : EReal)
  q3 : ∀ a l : Fin 256, o.q3 (ix2 a l) = ((if l.val / 64 = 3 then X (R + a) l else 0 : ℝ) : EReal)
  d3 : ∀ a l : Fin 256, o.d3 (ix2 a l) = ((if l.val / 64 = 3 then Y (R + a) l else 0 : ℝ) : EReal)
  T3 : ∀ a : Fin 256, o.T3 (ix2 a 0) = ((E (zz X K 3) (R + a) (R + a) : ℝ) : EReal)

/-- What is carried holds the sums over the keys before key `n`. -/
structure Holds (s : Carry Ideal) (R n : ℕ) (X Y K V : ℕ → Fin 256 → ℝ) : Prop where
  E0 : ∀ a : Fin 256, s.1 (ix2 a 0) = ((E (zz X K 0) (R + a) n : ℝ) : EReal)
  G0 : ∀ a : Fin 256, s.2.2.2.2.1 (ix2 a 0) = ((G (zz X K 0) (zz Y V 0) (R + a) n : ℝ) : EReal)
  E1 : ∀ a : Fin 256, s.2.1 (ix2 a 0) = ((E (zz X K 1) (R + a) n : ℝ) : EReal)
  G1 : ∀ a : Fin 256, s.2.2.2.2.2.1 (ix2 a 0) = ((G (zz X K 1) (zz Y V 1) (R + a) n : ℝ) : EReal)
  E2 : ∀ a : Fin 256, s.2.2.1 (ix2 a 0) = ((E (zz X K 2) (R + a) n : ℝ) : EReal)
  G2 : ∀ a : Fin 256, s.2.2.2.2.2.2.1 (ix2 a 0) = ((G (zz X K 2) (zz Y V 2) (R + a) n : ℝ) : EReal)
  E3 : ∀ a : Fin 256, s.2.2.2.1 (ix2 a 0) = ((E (zz X K 3) (R + a) n : ℝ) : EReal)
  G3 : ∀ a : Fin 256, s.2.2.2.2.2.2.2.1 (ix2 a 0) = ((G (zz X K 3) (zz Y V 3) (R + a) n : ℝ) : EReal)
  dq : ∀ a l : Fin 256, s.2.2.2.2.2.2.2.2 (ix2 a l) = ((∑ t ∈ Finset.range n, D (zz X K (l.val / 64)) (zz Y V (l.val / 64)) (R + a) t * K t l : ℝ) : EReal)

theorem holds_zero (R : ℕ) (X Y K V : ℕ → Fin 256 → ℝ) :
    Holds ((k0_pay101, k0_pay102, k0_pay103, k0_pay104, k0_pay101, k0_pay102, k0_pay103, k0_pay104, k0_pay105) : Carry Ideal) R 0 X Y K V := by
  constructor <;> intros <;> pointwise [k0_pay101, k0_pay102, k0_pay103, k0_pay104, k0_pay105] <;> simp [E, G]

section Off
variable {o : Ops Ideal} {s : Carry Ideal} {R n : ℕ} {X Y K V : ℕ → Fin 256 → ℝ} (ho : Good o R X Y K) (hs : Holds s R n X Y K V)
  {k v : FVec Ideal S256x256 .bf16} (hk : ∀ b l : Fin 256, k (ix2 b l) = ((K (n + b) l : ℝ) : EReal))
  (hv : ∀ b l : Fin 256, v (ix2 b l) = ((V (n + b) l : ℝ) : EReal))
include hk
theorem prods (q : FVec Ideal S256x256 .bf16) (h : ℕ) (Z : ℕ → Fin 256 → ℝ) (hq : ∀ a l : Fin 256, q (ix2 a l) = ((if l.val / 64 = h then Z (R + a) l else 0 : ℝ) : EReal))
    (a b : Fin 256) : (∑ l : Fin 256, q (ix2 a l) * k (ix2 b l)) = ((zz Z K h (R + a) (n + b) : ℝ) : EReal) := by
  simp only [hq, hk, ← EReal.coe_mul]
  exact coe_sum _ _
theorem mix_at {w0 w1 w2 w3 : FVec Ideal S256x256 .bf16} {W : ℕ → Fin 256 → Fin 256 → ℝ}
    (h0 : ∀ a b : Fin 256, w0 (ix2 a b) = ((W 0 a b : ℝ) : EReal)) (h1 : ∀ a b : Fin 256, w1 (ix2 a b) = ((W 1 a b : ℝ) : EReal))
    (h2 : ∀ a b : Fin 256, w2 (ix2 a b) = ((W 2 a b : ℝ) : EReal)) (h3 : ∀ a b : Fin 256, w3 (ix2 a b) = ((W 3 a b : ℝ) : EReal))
    (a l : Fin 256) : mix w0 w1 w2 w3 k (ix2 a l) = ((∑ b : Fin 256, W (l.val / 64) a b * K (n + b) l : ℝ) : EReal) :=
  mixRows_at h0 h1 h2 h3 (K := fun b l => K (n + b) l) hk a l
include ho hs
theorem offA0_at (a b : Fin 256) : offA0 o s k (ix2 a b) = ((A (zz X K 0) (R + a) (n + b) : ℝ) : EReal) := by
  pointwise [offA0, k0_pay10, a_at (prods hk o.q0 0 X ho.q0) ho.T0 hs.E0]
theorem offA1_at (a b : Fin 256) : offA1 o s k (ix2 a b) = ((A (zz X K 1) (R + a) (n + b) : ℝ) : EReal) := by
  pointwise [offA1, k0_pay10, a_at (prods hk o.q1 1 X ho.q1) ho.T1 hs.E1]
theorem offA2_at (a b : Fin 256) : offA2 o s k (ix2 a b) = ((A (zz X K 2) (R + a) (n + b) : ℝ) : EReal) := by
  pointwise [offA2, k0_pay10, a_at (prods hk o.q2 2 X ho.q2) ho.T2 hs.E2]
theorem offA3_at (a b : Fin 256) : offA3 o s k (ix2 a b) = ((A (zz X K 3) (R + a) (n + b) : ℝ) : EReal) := by
  pointwise [offA3, k0_pay10, a_at (prods hk o.q3 3 X ho.q3) ho.T3 hs.E3]
include hv
theorem offD0_at (a b : Fin 256) : offD0 o s k v (ix2 a b) = ((D (zz X K 0) (zz Y V 0) (R + a) (n + b) : ℝ) : EReal) :=
  dz_at (prods hk o.q0 0 X ho.q0) (prods hv o.d0 0 Y ho.d0) ho.T0 hs.E0 hs.G0 a b
theorem offD1_at (a b : Fin 256) : offD1 o s k v (ix2 a b) = ((D (zz X K 1) (zz Y V 1) (R + a) (n + b) : ℝ) : EReal) :=
  dz_at (prods hk o.q1 1 X ho.q1) (prods hv o.d1 1 Y ho.d1) ho.T1 hs.E1 hs.G1 a b
theorem offD2_at (a b : Fin 256) : offD2 o s k v (ix2 a b) = ((D (zz X K 2) (zz Y V 2) (R + a) (n + b) : ℝ) : EReal) :=
  dz_at (prods hk o.q2 2 X ho.q2) (prods hv o.d2 2 Y ho.d2) ho.T2 hs.E2 hs.G2 a b
theorem offD3_at (a b : Fin 256) : offD3 o s k v (ix2 a b) = ((D (zz X K 3) (zz Y V 3) (R + a) (n + b) : ℝ) : EReal) :=
  dz_at (prods hk o.q3 3 X ho.q3) (prods hv o.d3 3 Y ho.d3) ho.T3 hs.E3 hs.G3 a b

theorem holds_next : Holds (next o s k v) R (n + 256) X Y K V where
  E0 := e_at (prods hk o.q0 0 X ho.q0) hs.E0
  G0 := gs_at (prods hk o.q0 0 X ho.q0) (prods hv o.d0 0 Y ho.d0) ho.T0 hs.E0 hs.G0
  E1 := e_at (prods hk o.q1 1 X ho.q1) hs.E1
  G1 := gs_at (prods hk o.q1 1 X ho.q1) (prods hv o.d1 1 Y ho.d1) ho.T1 hs.E1 hs.G1
  E2 := e_at (prods hk o.q2 2 X ho.q2) hs.E2
  G2 := gs_at (prods hk o.q2 2 X ho.q2) (prods hv o.d2 2 Y ho.d2) ho.T2 hs.E2 hs.G2
  E3 := e_at (prods hk o.q3 3 X ho.q3) hs.E3
  G3 := gs_at (prods hk o.q3 3 X ho.q3) (prods hv o.d3 3 Y ho.d3) ho.T3 hs.E3 hs.G3
  dq a l := by
    have hk4 : ∀ b l : Fin 256, k0_pay4 (F := Ideal) k (ix2 b l) = ((K (n + b) l : ℝ) : EReal) := fun b l => by pointwise [k0_pay4, hk]
    have e := mix_at hk4 (W := fun h a b => D (zz X K h) (zz Y V h) (R + a) (n + b)) (offD0_at ho hs hk hv) (offD1_at ho hs hk hv) (offD2_at ho hs hk hv) (offD3_at ho hs hk hv) a l
    refine (congrArg₂ (fun x y : EReal => x + y) (hs.dq a l) e).trans ?_
    rw [← EReal.coe_add, Finset.sum_range_add]
    exact congrArg (fun t : ℝ => ((_ + t : ℝ) : EReal)) (Finset.sum_range (fun b => D (zz X K (l.val / 64)) (zz Y V (l.val / 64)) (R + a) (n + b) * K (n + b) l)).symm
end Off

section On
variable {o : Ops Ideal} {s : Carry Ideal} {R : ℕ} {X Y K V : ℕ → Fin 256 → ℝ} (ho : Good o R X Y K) (hs : Holds s R R X Y K V)
  {k v : FVec Ideal S256x256 .bf16} (hk : ∀ b l : Fin 256, k (ix2 b l) = ((K (R + b) l : ℝ) : EReal))
  (hv : ∀ b l : Fin 256, v (ix2 b l) = ((V (R + b) l : ℝ) : EReal))
include ho hk hs
theorem onA0_at (a b : Fin 256) : onA0 o s k (ix2 a b) = ((if b.val < a.val then A (zz X K 0) (R + a) (R + b) else 0 : ℝ) : EReal) :=
  da16_at (prods hk o.q0 0 X ho.q0) ho.T0 hs.E0 a b
theorem onA1_at (a b : Fin 256) : onA1 o s k (ix2 a b) = ((if b.val < a.val then A (zz X K 1) (R + a) (R + b) else 0 : ℝ) : EReal) :=
  da16_at (prods hk o.q1 1 X ho.q1) ho.T1 hs.E1 a b
theorem onA2_at (a b : Fin 256) : onA2 o s k (ix2 a b) = ((if b.val < a.val then A (zz X K 2) (R + a) (R + b) else 0 : ℝ) : EReal) :=
  da16_at (prods hk o.q2 2 X ho.q2) ho.T2 hs.E2 a b
theorem onA3_at (a b : Fin 256) : onA3 o s k (ix2 a b) = ((if b.val < a.val then A (zz X K 3) (R + a) (R + b) else 0 : ℝ) : EReal) :=
  da16_at (prods hk o.q3 3 X ho.q3) ho.T3 hs.E3 a b
include hv
theorem onD0_at (a b : Fin 256) : onD0 o s k v (ix2 a b) = ((if b.val < a.val then D (zz X K 0) (zz Y V 0) (R + a) (R + b) else 0 : ℝ) : EReal) :=
  ddz_at (prods hk o.q0 0 X ho.q0) (prods hv o.d0 0 Y ho.d0) ho.T0 hs.E0 hs.G0 a b
theorem onD1_at (a b : Fin 256) : onD1 o s k v (ix2 a b) = ((if b.val < a.val then D (zz X K 1) (zz Y V 1) (R + a) (R + b) else 0 : ℝ) : EReal) :=
  ddz_at (prods hk o.q1 1 X ho.q1) (prods hv o.d1 1 Y ho.d1) ho.T1 hs.E1 hs.G1 a b
theorem onD2_at (a b : Fin 256) : onD2 o s k v (ix2 a b) = ((if b.val < a.val then D (zz X K 2) (zz Y V 2) (R + a) (R + b) else 0 : ℝ) : EReal) :=
  ddz_at (prods hk o.q2 2 X ho.q2) (prods hv o.d2 2 Y ho.d2) ho.T2 hs.E2 hs.G2 a b
theorem onD3_at (a b : Fin 256) : onD3 o s k v (ix2 a b) = ((if b.val < a.val then D (zz X K 3) (zz Y V 3) (R + a) (R + b) else 0 : ℝ) : EReal) :=
  ddz_at (prods hk o.q3 3 X ho.q3) (prods hv o.d3 3 Y ho.d3) ho.T3 hs.E3 hs.G3 a b

/-- The queries' gradient the block stores. -/
theorem dq_at (a l : Fin 256) :
    k0_pay3 s.2.2.2.2.2.2.2.2 (mix (onD0 o s k v) (onD1 o s k v) (onD2 o s k v) (onD3 o s k v) k) (ix2 a l)
      = (((∑ t ∈ Finset.range (R + a), D (zz X K (l.val / 64)) (zz Y V (l.val / 64)) (R + a) t * K t l) * (1 / 8) : ℝ) : EReal) := by
  have e := mix_at hk (W := fun h a b => if b.val < a.val then D (zz X K h) (zz Y V h) (R + a) (R + b) else 0) (onD0_at ho hs hk hv) (onD1_at ho hs hk hv) (onD2_at ho hs hk hv) (onD3_at ho hs hk hv) a l
  have e2 := hs.dq a l
  generalize mix (onD0 o s k v) (onD1 o s k v) (onD2 o s k v) (onD3 o s k v) k = w at e ⊢
  generalize s.2.2.2.2.2.2.2.2 = w2 at e2 ⊢
  pointwise [k0_pay3]
  rw [e, e2, eighth32, ← EReal.coe_add, ← EReal.coe_mul, Finset.sum_range_add]
  refine congrArg (fun t : ℝ => (((_ + t) * (1 / 8) : ℝ) : EReal)) ?_
  simp only [ite_mul, zero_mul]
  have e3 := Att.sum_before (fun t => D (zz X K (l.val / 64)) (zz Y V (l.val / 64)) (R + a) (R + t) * K (R + t) l) a.val a.isLt.le
  simp only [mul_ite, mul_one, mul_zero] at e3
  exact e3
end On

end Cert.Kernel2Ideal.Hand

end
-- ==== Proof.Att.Rows.lean ====
/- The row totals, the start word, and how a block of rows gains its part of the keys' and values' gradients. -/
module

public import proofs.«01_k».proof.Proof.Att.Block
public import Idealize.ShloMosaic.Lib.WritesUnit

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum sp E A g G D)

/-! ## The row totals -/

theorem sp_nonneg (x : ℝ) : 0 ≤ sp x := by
  rw [Att.sp_eq]; exact Real.log_nonneg (by have := Real.exp_pos x; linarith)
theorem E_nonneg (z : ℕ → ℕ → ℝ) (r n : ℕ) : 0 ≤ E z r n := Finset.sum_nonneg fun s _ => sp_nonneg _

/-- The greatest lane is the head's own total, the others being zero. -/
theorem fold_head (T : ℕ → ℝ) (h : ℕ) (hh : h < 4) (hT : 0 ≤ T h) :
    Finset.fold max (Ideal.ofBits .f32 0xFF800000#32) (fun x : Fin 256 => if x.val / 64 = h then ((T (x.val / 64) : ℝ) : EReal) else 0) Finset.univ
      = ((T h : ℝ) : EReal) := by
  rw [show Ideal.ofBits .f32 0xFF800000#32 = ⊥ by simp [Ideal.ofBits, Ideal.ieee]]
  refine le_antisymm ((Finset.fold_max_le _).mpr ⟨bot_le, fun x _ => ?_⟩)
    ((Finset.le_fold_max _).mpr (Or.inr ⟨⟨64 * h, by omega⟩, Finset.mem_univ _, ?_⟩))
  · split
    · next e => rw [e]
    · exact_mod_cast hT
  · rw [show (⟨64 * h, by omega⟩ : Fin 256).val / 64 = h by simp, if_pos rfl]

section Totals
variable {x : Vec Ideal S256x256 .f32} {T : Fin 256 → ℕ → ℝ} (hx : ∀ a l : Fin 256, x (ix2 a l) = ((T a (l.val / 64) : ℝ) : EReal)) (hT : ∀ a h, 0 ≤ T a h)
include hx hT
theorem T0_at (a : Fin 256) : k0_pay96 k0_pay78 x (ix2 a 0) = ((T a 0 : ℝ) : EReal) := by
  pointwise [k0_pay96, k0_pay95, hx, mask0_at]
  exact fold_head (T a) 0 (by omega) (hT a 0)
theorem T1_at (a : Fin 256) : k0_pay97 k0_pay79 x (ix2 a 0) = ((T a 1 : ℝ) : EReal) := by
  pointwise [k0_pay97, k0_pay95, hx, mask1_at]
  exact fold_head (T a) 1 (by omega) (hT a 1)
theorem T2_at (a : Fin 256) : k0_pay99 (k0_pay98 k0_pay80 x) (ix2 a 0) = ((T a 2 : ℝ) : EReal) := by
  pointwise [k0_pay99, k0_pay98, k0_pay95, hx, mask2_at]
  exact fold_head (T a) 2 (by omega) (hT a 2)
theorem T3_at (a : Fin 256) : k0_pay100 mask3 (k0_pay95 x) (ix2 a 0) = ((T a 3 : ℝ) : EReal) := by
  pointwise [k0_pay100, k0_pay95, hx, mask3_at]
  exact fold_head (T a) 3 (by omega) (hT a 3)
end Totals

set_option maxRecDepth 400000 in
/-- The blocks of queries, cotangents and totals give each head what it needs. -/
theorem good_ops {x0 x3 : Vec Ideal S256x256 .bf16} {x4 : Vec Ideal S256x256 .f32} {R : ℕ} {Q X Y K : ℕ → Fin 256 → ℝ}
    (hX : ∀ r l, X r l = Q r l * (1 / 8)) (h0 : ∀ a l : Fin 256, x0 (ix2 a l) = ((Q (R + a) l : ℝ) : EReal))
    (h3 : ∀ a l : Fin 256, x3 (ix2 a l) = ((Y (R + a) l : ℝ) : EReal))
    (h4 : ∀ a l : Fin 256, x4 (ix2 a l) = ((E (zz X K (l.val / 64)) (R + a) (R + a) : ℝ) : EReal)) : Good (opsOf x0 x3 x4) R X Y K := by
  obtain rfl : X = fun r l => Q r l * (1 / 8) := funext fun r => funext (hX r)
  have hT : ∀ (a : Fin 256) (h : ℕ), 0 ≤ E (zz (fun r l => Q r l * (1 / 8)) K h) (R + a) (R + a) := fun a h => E_nonneg _ _ _
  exact ⟨q0_at h0, d0_at h3, T0_at (T := fun (a : Fin 256) h => E (zz (fun r l => Q r l * (1 / 8)) K h) (R + a) (R + a)) h4 hT,
    q1_at h0, d1_at h3, T1_at (T := fun (a : Fin 256) h => E (zz (fun r l => Q r l * (1 / 8)) K h) (R + a) (R + a)) h4 hT,
    q2_at h0, d2_at h3, T2_at (T := fun (a : Fin 256) h => E (zz (fun r l => Q r l * (1 / 8)) K h) (R + a) (R + a)) h4 hT,
    q3_at h0, d3_at h3, T3_at (T := fun (a : Fin 256) h => E (zz (fun r l => Q r l * (1 / 8)) K h) (R + a) (R + a)) h4 hT⟩

/-! ## The start word -/

theorem word_zero (x : Vec Ideal S1x1x8x128 .f32) (hx : ∀ y, x y = 0) : Scalar.fptosi 32 (k0_pay72 x) = 0#32 := by
  have e : k0_pay72 x = 0 := by
    pointwise [k0_pay72, hx]
    rw [show Ideal.ofBits .f32 0xFF800000#32 = ⊥ by simp [Ideal.ofBits, Ideal.ieee]]
    exact le_antisymm ((Finset.fold_max_le _).mpr ⟨bot_le, fun _ _ => le_rfl⟩)
      ((Finset.le_fold_max _).mpr (Or.inr ⟨(0, 0), Finset.mem_univ _, le_rfl⟩))
  rw [e]
  show BitVec.ofInt 32 (max (-(2 ^ (32 - 1) : ℕ)) (min ((2 ^ (32 - 1) : ℕ) - 1) (if (0 : ℝ) ≤ 0 then ⌊(0 : ℝ)⌋ else ⌈(0 : ℝ)⌉))) = _
  norm_num

/-! ## Rows of a result -/

section Rows
variable {sig' : RefSig} {κ : Kind} {sp' : Space} (v : View sig' κ sp' S4096x256 .f32) (f : v.ty.Contents (Elt Ideal))

/-- A block of rows read out of a buffer. -/
theorem block_read {e : EltTy} (v : View sig' κ sp' S4096x256 e) (f : v.ty.Contents (Elt Ideal)) {n : ℕ} {off : Fin 2 → ℕ} (inb : ∀ a : Fin 2, off a + (![256, 256] : Fin 2 → ℕ) a ≤ S4096x256.size a) (hoff : off = ![n, 0]) (hn : n + 256 ≤ 4096)
    (b l : Fin 256) : v.readAt (Elt Ideal) (Rect.unit (s := S4096x256) off ![256, 256] inb).toLoadRect f (ix2 b l)
      = v.read (Elt Ideal) f (ix2 (⟨n + b.val, by omega⟩ : Fin 4096) l) := by
  subst hoff
  refine congrArg (v.read (Elt Ideal) f) (funext fun a => Fin.ext ?_)
  fin_cases a
  · show n + 1 * b.val = n + b.val
    omega
  · show 0 + 1 * l.val = l.val
    omega

/-- Rows gain a block's part where the newest piece lies, and stay elsewhere. -/
theorem rows_gain {n : ℕ} {off : Fin 2 → ℕ} (inb : ∀ a : Fin 2, off a + (![256, 256] : Fin 2 → ℕ) a ≤ S4096x256.size a) (hoff : off = ![n, 0]) (hn : n + 256 ≤ 4096)
    {L : List (View.Piece (Elt Ideal) S4096x256 .f32)} {Y : ℕ → Fin 256 → ℝ}
    (hL : ∀ (s : Fin 4096) (l : Fin 256), v.read (Elt Ideal) (v.writes (Elt Ideal) f L) (ix2 s l) = ((Y s l : ℝ) : EReal))
    {w0 w1 w2 w3 : FVec Ideal S256x256 .bf16} {W : ℕ → Fin 256 → ℕ → ℝ}
    (h0 : ∀ a b : Fin 256, w0 (ix2 a b) = ((W 0 a (n + b) : ℝ) : EReal)) (h1 : ∀ a b : Fin 256, w1 (ix2 a b) = ((W 1 a (n + b) : ℝ) : EReal))
    (h2 : ∀ a b : Fin 256, w2 (ix2 a b) = ((W 2 a (n + b) : ℝ) : EReal)) (h3 : ∀ a b : Fin 256, w3 (ix2 a b) = ((W 3 a (n + b) : ℝ) : EReal))
    {x0 x1 x2 x3 : FVec Ideal S256x256 .bf16} {X : Fin 256 → Fin 256 → ℝ}
    (e0 : ∀ a l : Fin 256, x0 (ix2 a l) = ((if l.val / 64 = 0 then X a l else 0 : ℝ) : EReal))
    (e1 : ∀ a l : Fin 256, x1 (ix2 a l) = ((if l.val / 64 = 1 then X a l else 0 : ℝ) : EReal))
    (e2 : ∀ a l : Fin 256, x2 (ix2 a l) = ((if l.val / 64 = 2 then X a l else 0 : ℝ) : EReal))
    (e3 : ∀ a l : Fin 256, x3 (ix2 a l) = ((if l.val / 64 = 3 then X a l else 0 : ℝ) : EReal))
    (s : Fin 4096) (l : Fin 256) :
    v.read (Elt Ideal) (v.writes (Elt Ideal) f (⟨Rect.unit (s := S4096x256) off ![256, 256] inb,
      k0_pay1 (concatenate S1024x256 0 [⟨S256x256, x0⟩, ⟨S256x256, x1⟩, ⟨S256x256, x2⟩, ⟨S256x256, x3⟩] concatenates_S256x256_S256x256_S256x256_S256x256_S1024x256_d0)
        w0 w1 w2 w3 (v.readAt (Elt Ideal) (Rect.unit (s := S4096x256) off ![256, 256] inb).toLoadRect (v.writes (Elt Ideal) f L))⟩ :: L)) (ix2 s l)
      = ((Y s l + (if n ≤ s.val ∧ s.val < n + 256 then ∑ a, W (l.val / 64) a s * X a l else 0) : ℝ) : EReal) := by
  by_cases h : n ≤ s.val ∧ s.val < n + 256
  · rw [if_pos h]
    have hy : ∀ b l : Fin 256, v.readAt (Elt Ideal) (Rect.unit (s := S4096x256) off ![256, 256] inb).toLoadRect (v.writes (Elt Ideal) f L) (ix2 b l) = ((Y (n + b) l : ℝ) : EReal) := fun b l =>
      (block_read v _ inb hoff hn b l).trans (hL _ l)
    have e := gain_at (W := fun h a b => W h a (n + b)) (X := X) h0 h1 h2 h3 e0 e1 e2 e3 (Y := fun b l => Y (n + b) l) hy ⟨s.val - n, by omega⟩ l
    refine (View.read_writes_cons_rows_of_mem v f inb _ L (ix2 s l) (ix2 (⟨s.val - n, by omega⟩ : Fin 256) l) hoff ?_ rfl).trans (e.trans ?_)
    · show s.val = n + (s.val - n)
      omega
    · simp only [show n + (s.val - n) = s.val by omega]
  · rw [if_neg h, add_zero]
    exact (View.read_writes_cons_rows_of_not_mem v f inb _ L (ix2 s l) (o := n) (W := 256) hoff rfl (by show s.val < n ∨ n + 256 ≤ s.val; omega)).trans (hL s l)
end Rows

end Cert.Kernel2Ideal.Hand

end
-- ==== Proof.Att.Point.lean ====
/- One block of 256 queries: what the loop over the earlier key blocks and the diagonal block add to the rows of the
   keys' and values' gradients, and the queries' own gradient. -/
module

public import proofs.«01_k».proof.Proof.Att.Rows
public import proofs.«01_k».proof.Proof.Att.Words
public import Idealize.ShloMosaic.Lib.VecWindow

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum sp E A g G D)

/-- What the 256 queries from row `R` on add to row `s` of the keys' gradient. -/
def partK (X Y K V : ℕ → Fin 256 → ℝ) (R s : ℕ) (l : Fin 256) : ℝ := ∑ a : Fin 256, D (zz X K (l.val / 64)) (zz Y V (l.val / 64)) (R + a) s * X (R + a) l
/-- The same of the values' gradient. -/
def partV (X Y K : ℕ → Fin 256 → ℝ) (R s : ℕ) (l : Fin 256) : ℝ := ∑ a : Fin 256, A (zz X K (l.val / 64)) (R + a) s * Y (R + a) l
/-- The parts of the diagonal block, where only the keys before a query count. -/
def diagK (X Y K V : ℕ → Fin 256 → ℝ) (R s : ℕ) (l : Fin 256) : ℝ := ∑ a : Fin 256, (if s < R + a then D (zz X K (l.val / 64)) (zz Y V (l.val / 64)) (R + a) s else 0) * X (R + a) l
def diagV (X Y K : ℕ → Fin 256 → ℝ) (R s : ℕ) (l : Fin 256) : ℝ := ∑ a : Fin 256, (if s < R + a then A (zz X K (l.val / 64)) (R + a) s else 0) * Y (R + a) l

theorem row3 (i : grid0.Coords) : Affine.IsInt (k0_mult3 i) (256 * ((i 1).val : Int)) := by
  have hi : (i 1).val < 16 := (i 1).isLt
  exact Affine.muli (Affine.ofNat _ (by omega) : Affine.IsInt (BitVec.ofNat 32 (i 1).val) ((i 1).val : Int)) (Affine.ofNat 256 (by omega) : Affine.IsInt 256#32 256) (by omega)
theorem off3_eq (i : grid0.Coords) : k0_off3 i = ![256 * (i 1).val, 0] := by
  have hi : (i 1).val < 16 := (i 1).isLt
  exact Affine.vec_cons (Affine.indexCast (row3 i)) (by omega) <|
    Affine.vec_cons (Affine.ofNat 0 (by omega) : Affine.IsInt 0#32 0) (by omega) <| Affine.vec_nil

theorem blk_at {arg : Memref sig .tc .vmem S4096x256 .bf16} {X : BufTy.Contents (Elt Ideal) arg.view.ty} {K : ℕ → Fin 256 → ℝ}
    (hK : ∀ (s : Fin 4096) (l : Fin 256), arg.view.read (Elt Ideal) X (ix2 s l) = ((K s l : ℝ) : EReal))
    {n : ℕ} {off : Fin 2 → ℕ} (inb : ∀ a : Fin 2, off a + (![256, 256] : Fin 2 → ℕ) a ≤ S4096x256.size a) (hoff : off = ![n, 0]) (hn : n + 256 ≤ 4096) (b l : Fin 256) :
    arg.view.readAt (Elt Ideal) (Rect.unit (s := S4096x256) off ![256, 256] inb).toLoadRect X (ix2 b l) = ((K (n + b) l : ℝ) : EReal) :=
  (block_read arg.view X inb hoff hn b l).trans (hK _ l)

theorem cast118_at {K3 : Vec Ideal S256x256 .bf16} {K : Fin 256 → Fin 256 → ℝ} (h : ∀ b l : Fin 256, K3 (ix2 b l) = ((K b l : ℝ) : EReal)) (b l : Fin 256) :
    k0_pay118 K3 (ix2 b l) = ((K b l : ℝ) : EReal) := by
  pointwise [k0_pay118, h]
theorem cast119_at {K3 : Vec Ideal S256x256 .bf16} {K : Fin 256 → Fin 256 → ℝ} (h : ∀ b l : Fin 256, K3 (ix2 b l) = ((K b l : ℝ) : EReal)) (b l : Fin 256) :
    k0_pay119 K3 (ix2 b l) = ((K b l : ℝ) : EReal) := by
  pointwise [k0_pay119, h]

section Point
variable {i : grid0.Coords} {arg3 arg4 : Memref sig .tc .vmem S4096x256 .bf16} {arg9 arg10 : Memref sig .tc .vmem S4096x256 .f32}
  {X3 : BufTy.Contents (Elt Ideal) arg3.view.ty} {X4 : BufTy.Contents (Elt Ideal) arg4.view.ty} {G9 : BufTy.Contents (Elt Ideal) arg9.view.ty} {G10 : BufTy.Contents (Elt Ideal) arg10.view.ty}
  {x0 x3 : Vec Ideal S256x256 .bf16} {x4 : Vec Ideal S256x256 .f32} {Q X Y K V Y7 Y8 : ℕ → Fin 256 → ℝ}
  (hX : ∀ r l, X r l = Q r l * (1 / 8)) (h0 : ∀ a l : Fin 256, x0 (ix2 a l) = ((Q (256 * (i 1).val + a) l : ℝ) : EReal))
  (h3 : ∀ a l : Fin 256, x3 (ix2 a l) = ((Y (256 * (i 1).val + a) l : ℝ) : EReal))
  (h4 : ∀ a l : Fin 256, x4 (ix2 a l) = ((E (zz X K (l.val / 64)) (256 * (i 1).val + a) (256 * (i 1).val + a) : ℝ) : EReal))
  (hK : ∀ (s : Fin 4096) (l : Fin 256), arg3.view.read (Elt Ideal) X3 (ix2 s l) = ((K s l : ℝ) : EReal))
  (hV : ∀ (s : Fin 4096) (l : Fin 256), arg4.view.read (Elt Ideal) X4 (ix2 s l) = ((V s l : ℝ) : EReal))
include hX h0 h3 h4 hK hV

set_option maxRecDepth 400000 in
/-- After `k` trips of the loop over the earlier blocks. -/
theorem runs_at {v6 : BitVec 32} {hw : k0_chk1 i v6} (hv6 : start i v6 = 0)
    {s : ℕ → Carry Ideal × List (View.Piece (Elt Ideal) S4096x256 .f32) × List (View.Piece (Elt Ideal) S4096x256 .f32)}
    (hs : Runs i v6 hw arg3 arg4 arg9 arg10 X3 X4 G9 G10 (opsOf x0 x3 x4) (stackQ x0) (stackD x3) s)
    (h7 : ∀ (s : Fin 4096) (l : Fin 256), arg9.view.read (Elt Ideal) G9 (ix2 s l) = ((Y7 s l : ℝ) : EReal))
    (h8 : ∀ (s : Fin 4096) (l : Fin 256), arg10.view.read (Elt Ideal) G10 (ix2 s l) = ((Y8 s l : ℝ) : EReal)) (k : ℕ) (hk : k ≤ (i 1).val) :
    Holds (s k).1 (256 * (i 1).val) (256 * k) X Y K V
    ∧ (∀ (r : Fin 4096) (l : Fin 256), arg9.view.read (Elt Ideal) (arg9.view.writes (Elt Ideal) G9 (s k).2.1) (ix2 r l)
        = ((Y7 r l + (if r.val < 256 * k then partK X Y K V (256 * (i 1).val) r l else 0) : ℝ) : EReal))
    ∧ (∀ (r : Fin 4096) (l : Fin 256), arg10.view.read (Elt Ideal) (arg10.view.writes (Elt Ideal) G10 (s k).2.2) (ix2 r l)
        = ((Y8 r l + (if r.val < 256 * k then partV X Y K (256 * (i 1).val) r l else 0) : ℝ) : EReal)) := by
  have hi : (i 1).val < 16 := (i 1).isLt
  have ho := good_ops (R := 256 * (i 1).val) hX h0 h3 h4
  obtain rfl : X = fun r l => Q r l * (1 / 8) := funext fun r => funext (hX r)
  induction k with
  | zero =>
    rw [hs.1]
    refine ⟨holds_zero _ _ _ _ _, fun r l => ?_, fun r l => ?_⟩
    · rw [if_neg (by omega), add_zero]; exact h7 r l
    · rw [if_neg (by omega), add_zero]; exact h8 r l
  | succ k ih =>
    obtain ⟨hh, e7, e8⟩ := ih (by omega)
    have hkt : k < (k0_t1_loop i v6).trips := by rw [trips1, hv6]; omega
    have hoff : k0_off1 i v6 ⟨k, hkt⟩ = ![256 * k, 0] := by rw [off1_eq, hv6, Nat.zero_add]
    have hk1 := blk_at hK (k0_off1_inb i v6 hw ⟨k, hkt⟩) hoff (by omega)
    have hv1 := blk_at hV (k0_off1_inb i v6 hw ⟨k, hkt⟩) hoff (by omega)
    have e := hs.2 ⟨k, hkt⟩
    dsimp only at e
    rw [e]
    refine ⟨holds_next ho hh hk1 hv1, fun r l => ?_, fun r l => ?_⟩
    · refine (rows_gain arg9.view G9 (k0_off1_inb i v6 hw ⟨k, hkt⟩) hoff (by omega) (Y := fun r l => Y7 r l + (if r < 256 * k then partK (fun r l => Q r l * (1 / 8)) Y K V (256 * (i 1).val) r l else 0)) e7
        (W := fun h a s => D (zz (fun r l => Q r l * (1 / 8)) K h) (zz Y V h) (256 * (i 1).val + a) s)
        (offD0_at ho hh hk1 hv1) (offD1_at ho hh hk1 hv1) (offD2_at ho hh hk1 hv1) (offD3_at ho hh hk1 hv1) (q0_at h0) (q1_at h0) (q2_at h0) (q3_at h0) r l).trans (congrArg _ ?_)
      rw [add_assoc]
      refine congrArg _ ?_
      by_cases h : r.val < 256 * k
      · rw [if_pos h, if_neg (by omega), if_pos (by omega), add_zero]
      · by_cases h' : r.val < 256 * (k + 1)
        · rw [if_neg h, if_pos (by omega), if_pos (by omega), zero_add]; rfl
        · rw [if_neg h, if_neg (by omega), if_neg (by omega), zero_add]
    · refine (rows_gain arg10.view G10 (k0_off1_inb i v6 hw ⟨k, hkt⟩) hoff (by omega) (Y := fun r l => Y8 r l + (if r < 256 * k then partV (fun r l => Q r l * (1 / 8)) Y K (256 * (i 1).val) r l else 0)) e8
        (W := fun h a s => A (zz (fun r l => Q r l * (1 / 8)) K h) (256 * (i 1).val + a) s)
        (offA0_at ho hh hk1) (offA1_at ho hh hk1) (offA2_at ho hh hk1) (offA3_at ho hh hk1) (d0_at h3) (d1_at h3) (d2_at h3) (d3_at h3) r l).trans (congrArg _ ?_)
      rw [add_assoc]
      refine congrArg _ ?_
      by_cases h : r.val < 256 * k
      · rw [if_pos h, if_neg (by omega), if_pos (by omega), add_zero]
      · by_cases h' : r.val < 256 * (k + 1)
        · rw [if_neg h, if_pos (by omega), if_pos (by omega), zero_add]; rfl
        · rw [if_neg h, if_neg (by omega), if_neg (by omega), zero_add]

set_option maxRecDepth 400000 in
/-- After the diagonal block. -/
theorem stores_at {e : Carry Ideal} {M7 M8 : List (View.Piece (Elt Ideal) S4096x256 .f32)} {L6 : List (View.Piece (Elt Ideal) S256x256 .bf16)} {L7 L8 : List (View.Piece (Elt Ideal) S4096x256 .f32)}
    (hst : Stores i arg3 arg4 arg9 arg10 X3 X4 G9 G10 (opsOf x0 x3 x4) (stackQ x0) (stackD x3) e M7 M8 L6 L7 L8)
    (hh : Holds e (256 * (i 1).val) (256 * (i 1).val) X Y K V)
    (h7 : ∀ (s : Fin 4096) (l : Fin 256), arg9.view.read (Elt Ideal) (arg9.view.writes (Elt Ideal) G9 M7) (ix2 s l) = ((Y7 s l : ℝ) : EReal))
    (h8 : ∀ (s : Fin 4096) (l : Fin 256), arg10.view.read (Elt Ideal) (arg10.view.writes (Elt Ideal) G10 M8) (ix2 s l) = ((Y8 s l : ℝ) : EReal)) :
    (∀ {κ : Kind} {sp' : Space} (v : View sig κ sp' S256x256 .bf16) (f : v.ty.Contents (Elt Ideal)) (a l : Fin 256), v.read (Elt Ideal) (v.writes (Elt Ideal) f L6) (ix2 a l)
      = (((∑ t ∈ Finset.range (256 * (i 1).val + a), D (zz X K (l.val / 64)) (zz Y V (l.val / 64)) (256 * (i 1).val + a) t * K t l) * (1 / 8) : ℝ) : EReal))
    ∧ (∀ (r : Fin 4096) (l : Fin 256), arg9.view.read (Elt Ideal) (arg9.view.writes (Elt Ideal) G9 L7) (ix2 r l)
        = ((Y7 r l + (if 256 * (i 1).val ≤ r.val ∧ r.val < 256 * (i 1).val + 256 then diagK X Y K V (256 * (i 1).val) r l else 0) : ℝ) : EReal))
    ∧ (∀ (r : Fin 4096) (l : Fin 256), arg10.view.read (Elt Ideal) (arg10.view.writes (Elt Ideal) G10 L8) (ix2 r l)
        = ((Y8 r l + (if 256 * (i 1).val ≤ r.val ∧ r.val < 256 * (i 1).val + 256 then diagV X Y K (256 * (i 1).val) r l else 0) : ℝ) : EReal)) := by
  have hi : (i 1).val < 16 := (i 1).isLt
  have ho := good_ops (R := 256 * (i 1).val) hX h0 h3 h4
  obtain rfl : X = fun r l => Q r l * (1 / 8) := funext fun r => funext (hX r)
  obtain ⟨inb, inb3, K3, V3, rfl, rfl, rfl, rfl, rfl⟩ := hst
  have hk1 := cast118_at (blk_at hK inb3 (off3_eq i) (by omega))
  have hv1 := cast119_at (blk_at hV inb3 (off3_eq i) (by omega))
  have cut : ∀ (R : ℕ) (a b : Fin 256) (x : ℝ), (if R + b.val < R + a.val then x else 0) = if b.val < a.val then x else 0 := fun R a b x => by
    simp only [Nat.add_lt_add_iff_left]
  refine ⟨fun v f a l => ?_, fun r l => ?_, fun r l => ?_⟩
  · refine (View.read_writes_cons_rows_of_mem v f inb _ [] (ix2 a l) (ix2 a l) rfl (by show a.val = 0 + a.val; omega) rfl).trans ?_
    exact dq_at ho hh hk1 hv1 a l
  · exact rows_gain arg9.view G9 inb3 (off3_eq i) (by omega) h7
        (W := fun h a s => if s < 256 * (i 1).val + a then D (zz (fun r l => Q r l * (1 / 8)) K h) (zz Y V h) (256 * (i 1).val + a) s else 0)
        (fun a b => (onD0_at ho hh hk1 hv1 a b).trans (congrArg _ (cut _ a b _).symm)) (fun a b => (onD1_at ho hh hk1 hv1 a b).trans (congrArg _ (cut _ a b _).symm))
        (fun a b => (onD2_at ho hh hk1 hv1 a b).trans (congrArg _ (cut _ a b _).symm)) (fun a b => (onD3_at ho hh hk1 hv1 a b).trans (congrArg _ (cut _ a b _).symm))
        (q0_at h0) (q1_at h0) (q2_at h0) (q3_at h0) r l
  · exact rows_gain arg10.view G10 inb3 (off3_eq i) (by omega) h8
        (W := fun h a s => if s < 256 * (i 1).val + a then A (zz (fun r l => Q r l * (1 / 8)) K h) (256 * (i 1).val + a) s else 0)
        (fun a b => (onA0_at ho hh hk1 a b).trans (congrArg _ (cut _ a b _).symm)) (fun a b => (onA1_at ho hh hk1 a b).trans (congrArg _ (cut _ a b _).symm))
        (fun a b => (onA2_at ho hh hk1 a b).trans (congrArg _ (cut _ a b _).symm)) (fun a b => (onA3_at ho hh hk1 a b).trans (congrArg _ (cut _ a b _).symm))
        (d0_at h3) (d1_at h3) (d2_at h3) (d3_at h3) r l
end Point

end Cert.Kernel2Ideal.Hand

end
-- ==== Proof.Att.Stores.lean ====
/- What a block of queries stores, of the blocks it reads: the states its loop steps through, and the stores at the end. -/
module

public import proofs.«01_k».proof.Proof.Att.Point

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

variable {F : FTy → Type} [FloatOps F]

set_option maxRecDepth 400000 in
set_option maxHeartbeats 1600000 in
theorem first_stores (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : cond i) (x0 : Vec F S256x256 .bf16) (x1 : Vec F S4096x256 .bf16) (x2 : Vec F S4096x256 .bf16) (x3 : Vec F S256x256 .bf16) (x4 : Vec F S256x256 .f32) (x5 : Vec F S1x1x8x128 .f32) (hi : (i 1).val = 0) :
    Stores i arg3 arg4 arg9 arg10 (harg3.unread x1) (harg4.unread x2) arg9.view.junk arg10.view.junk (opsOf x0 x3 x4) (stackQ x0) (stackD x3)
        ((k0_pay101, k0_pay102, k0_pay103, k0_pay104, k0_pay101, k0_pay102, k0_pay103, k0_pay104, k0_pay105) : Carry F) first.sl.H7_1 first.sl.H8_1 (first c i arg2 harg2 arg3 harg3 arg4 harg4 arg5 harg5 arg6 harg6 arg7 harg7 arg8 harg8 arg9 harg9 arg10 harg10 hc0 x0 x1 x2 x3 x4 x5).1 (first c i arg2 harg2 arg3 harg3 arg4 harg4 arg5 harg5 arg6 harg6 arg7 harg7 arg8 harg8 arg9 harg9 arg10 harg10 hc0 x0 x1 x2 x3 x4 x5).2.1 (first c i arg2 harg2 arg3 harg3 arg4 harg4 arg5 harg5 arg6 harg6 arg7 harg7 arg8 harg8 arg9 harg9 arg10 harg10 hc0 x0 x1 x2 x3 x4 x5).2.2.1 := by
  have h := first_raw c i arg2 harg2 arg3 harg3 arg4 harg4 arg5 harg5 arg6 harg6 arg7 harg7 arg8 harg8 arg9 harg9 arg10 harg10 hc0 x0 x1 x2 x3 x4 x5
  rw [trips2, show (k0_t1_loop i (first.sl.v6 c arg7 harg7 x5)).trips = 0 by rw [trips1, hi]; omega] at h
  have e2 : arg2.view.readAt (Elt F) (Rect.unit (s := S256x256) ![0, 0] S256x256.size inb_S256x256_S256x256_0_0).toLoadRect (harg2.unread x0) = x0 := (View.readAt_full _ _ _).trans (harg2.read_unread _)
  have e5 : arg5.view.readAt (Elt F) (Rect.unit (s := S256x256) ![0, 0] S256x256.size inb_S256x256_S256x256_0_0).toLoadRect (harg5.unread x3) = x3 := (View.readAt_full _ _ _).trans (harg5.read_unread _)
  have e6 : arg6.view.readAt (Elt F) (Rect.unit (s := S256x256) ![0, 0] S256x256.size inb_S256x256_S256x256_0_0).toLoadRect (harg6.unread x4) = x4 := (View.readAt_full _ _ _).trans (harg6.read_unread _)
  rw [e2, e5, e6] at h
  exact h

set_option maxRecDepth 400000 in
set_option maxHeartbeats 1600000 in
theorem later_stores (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S256x256 .bf16) (harg8 : arg8.IsWhole) (arg9 : Memref sig .tc .vmem S4096x256 .f32) (harg9 : arg9.IsWhole) (arg10 : Memref sig .tc .vmem S4096x256 .f32) (harg10 : arg10.IsWhole) (hc0 : ¬cond i) (x0 : Vec F S256x256 .bf16) (x1 : Vec F S4096x256 .bf16) (x2 : Vec F S4096x256 .bf16) (x3 : Vec F S256x256 .bf16) (x4 : Vec F S256x256 .f32) (x5 : Vec F S1x1x8x128 .f32) (y7 y8 : Vec F S4096x256 .f32) :
    ∃ (v6 : BitVec 32) (hw : k0_chk1 i v6) (s : ℕ → Carry F × List (View.Piece (Elt F) S4096x256 .f32) × List (View.Piece (Elt F) S4096x256 .f32)),
      v6 = Scalar.fptosi 32 (k0_pay72 x5)
      ∧ Runs i v6 hw arg3 arg4 arg9 arg10 (harg3.unread x1) (harg4.unread x2) (harg9.unread y7) (harg10.unread y8) (opsOf x0 x3 x4) (stackQ x0) (stackD x3) s
      ∧ Stores i arg3 arg4 arg9 arg10 (harg3.unread x1) (harg4.unread x2) (harg9.unread y7) (harg10.unread y8) (opsOf x0 x3 x4) (stackQ x0) (stackD x3)
        (s (k0_t1_loop i v6).trips).1 (s (k0_t1_loop i v6).trips).2.1 (s (k0_t1_loop i v6).trips).2.2 (later c i arg2 harg2 arg3 harg3 arg4 harg4 arg5 harg5 arg6 harg6 arg7 harg7 arg8 harg8 arg9 harg9 arg10 harg10 hc0 x0 x1 x2 x3 x4 x5 y7 y8).1 (later c i arg2 harg2 arg3 harg3 arg4 harg4 arg5 harg5 arg6 harg6 arg7 harg7 arg8 harg8 arg9 harg9 arg10 harg10 hc0 x0 x1 x2 x3 x4 x5 y7 y8).2.1 (later c i arg2 harg2 arg3 harg3 arg4 harg4 arg5 harg5 arg6 harg6 arg7 harg7 arg8 harg8 arg9 harg9 arg10 harg10 hc0 x0 x1 x2 x3 x4 x5 y7 y8).2.2.1 := by
  have h := later_raw c i arg2 harg2 arg3 harg3 arg4 harg4 arg5 harg5 arg6 harg6 arg7 harg7 arg8 harg8 arg9 harg9 arg10 harg10 hc0 x0 x1 x2 x3 x4 x5 y7 y8
  rw [trips2] at h
  have e2 : arg2.view.readAt (Elt F) (Rect.unit (s := S256x256) ![0, 0] S256x256.size inb_S256x256_S256x256_0_0).toLoadRect (harg2.unread x0) = x0 := (View.readAt_full _ _ _).trans (harg2.read_unread _)
  have e5 : arg5.view.readAt (Elt F) (Rect.unit (s := S256x256) ![0, 0] S256x256.size inb_S256x256_S256x256_0_0).toLoadRect (harg5.unread x3) = x3 := (View.readAt_full _ _ _).trans (harg5.read_unread _)
  have e6 : arg6.view.readAt (Elt F) (Rect.unit (s := S256x256) ![0, 0] S256x256.size inb_S256x256_S256x256_0_0).toLoadRect (harg6.unread x4) = x4 := (View.readAt_full _ _ _).trans (harg6.read_unread _)
  have e7 : arg7.view.readAt (Elt F) (Rect.unit (s := S1x1x8x128) ![0, 0, 0, 0] S1x1x8x128.size inb_S1x1x8x128_S1x1x8x128_0_0_0_0).toLoadRect (harg7.unread x5) = x5 := (View.readAt_full _ _ _).trans (harg7.read_unread _)
  have hv := later_word c i arg2 harg2 arg3 harg3 arg4 harg4 arg5 harg5 arg6 harg6 arg7 harg7 arg8 harg8 arg9 harg9 arg10 harg10 hc0 x0 x1 x2 x3 x4 x5
  rw [e7] at hv
  have hr : Runs i (later.sl.v6 c arg7 harg7 x5) (chk_all _ _) arg3 arg4 arg9 arg10 (harg3.unread x1) (harg4.unread x2) (harg9.unread y7) (harg10.unread y8) (opsOf (arg2.view.readAt (Elt F) (Rect.unit (s := S256x256) ![0, 0] S256x256.size inb_S256x256_S256x256_0_0).toLoadRect (harg2.unread x0)) (arg5.view.readAt (Elt F) (Rect.unit (s := S256x256) ![0, 0] S256x256.size inb_S256x256_S256x256_0_0).toLoadRect (harg5.unread x3)) (arg6.view.readAt (Elt F) (Rect.unit (s := S256x256) ![0, 0] S256x256.size inb_S256x256_S256x256_0_0).toLoadRect (harg6.unread x4))) (stackQ (arg2.view.readAt (Elt F) (Rect.unit (s := S256x256) ![0, 0] S256x256.size inb_S256x256_S256x256_0_0).toLoadRect (harg2.unread x0))) (stackD (arg5.view.readAt (Elt F) (Rect.unit (s := S256x256) ![0, 0] S256x256.size inb_S256x256_S256x256_0_0).toLoadRect (harg5.unread x3)))
      (fun n => st_k0_t1 (F := F) Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) k0_pay75 k0_pay76 k0_pay77 k0_pay78 k0_pay79 k0_pay80 mask3 (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8) (k0_pay101, k0_pay102, k0_pay103, k0_pay104, k0_pay101, k0_pay102, k0_pay103, k0_pay104, k0_pay105) n) := st_runs Variants.none c none i arg2 harg2 arg3 harg3 arg4 harg4 arg5 harg5 arg6 harg6 arg7 harg7 arg8 harg8 arg9 harg9 arg10 harg10 (BitVec.ofNat 32 (i 1).val) (later.sl.v6 c arg7 harg7 x5) (chk_all _ _) (later.sl.v8 c i arg7 harg7 x5) (later.sl.r c arg2 harg2 x0) (later.sl.r_1 c arg2 harg2 x0) (later.sl.r_2 c arg2 harg2 x0) (later.sl.r_3 c arg2 harg2 x0) (later.sl.r_4 c arg5 harg5 x3) (later.sl.r_5 c arg5 harg5 x3) (later.sl.r_6 c arg5 harg5 x3) (later.sl.r_7 c arg5 harg5 x3) (later.sl.r_8 c arg2 harg2 x0) (later.sl.r_9 c arg5 harg5 x3) (later.sl.r_10 c arg6 harg6 x4) (later.sl.r_11 c arg6 harg6 x4) (later.sl.r_12 c arg6 harg6 x4) (later.sl.r_13 c arg6 harg6 x4) (harg3.unread x1) (harg4.unread x2) (harg9.unread y7) (harg10.unread y8)
  rw [e2, e5, e6] at h hr
  exact ⟨_, _, _, hv, hr, h⟩

end Cert.Kernel2Ideal.Hand

end
-- ==== Proof.Att.Inv.lean ====
/- Every grid point: what the results' buffers hold after it, of the blocks it reads. -/
module

public import proofs.«01_k».proof.Proof.Att.Stores

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum sp E A g G D)

/-- The keys' gradient of the first `n` queries, and the values'. -/
def sumK (X Y K V : ℕ → Fin 256 → ℝ) (n s : ℕ) (l : Fin 256) : ℝ :=
  ∑ r ∈ Finset.range n, (if s < r then D (zz X K (l.val / 64)) (zz Y V (l.val / 64)) r s else 0) * X r l
def sumV (X Y K : ℕ → Fin 256 → ℝ) (n s : ℕ) (l : Fin 256) : ℝ :=
  ∑ r ∈ Finset.range n, (if s < r then A (zz X K (l.val / 64)) r s else 0) * Y r l

theorem cut_block (f : ℕ → ℝ) (R s : ℕ) : (if s < R then ∑ a : Fin 256, f a else 0) + (if R ≤ s ∧ s < R + 256 then ∑ a : Fin 256, (if s < R + a then f a else 0) else 0)
    = ∑ a : Fin 256, (if s < R + a then f a else 0) := by
  by_cases h : s < R
  · rw [if_pos h, if_neg (by omega), add_zero]
    exact Finset.sum_congr rfl fun a _ => (if_pos (by omega)).symm
  · by_cases h' : s < R + 256
    · rw [if_neg h, if_pos ⟨by omega, h'⟩, zero_add]
    · rw [if_neg h, if_neg (by omega), add_zero]
      exact (Finset.sum_eq_zero fun a _ => if_neg (by omega)).symm

theorem sumK_block (X Y K V : ℕ → Fin 256 → ℝ) (R s : ℕ) (l : Fin 256) :
    sumK X Y K V R s l + (if s < R then partK X Y K V R s l else 0) + (if R ≤ s ∧ s < R + 256 then diagK X Y K V R s l else 0) = sumK X Y K V (R + 256) s l := by
  have e := cut_block (fun a => D (zz X K (l.val / 64)) (zz Y V (l.val / 64)) (R + a) s * X (R + a) l) R s
  simp only [partK, diagK, sumK, ite_mul, zero_mul] at e ⊢
  rw [add_assoc, e, Finset.sum_range_add]
  exact congrArg _ (Finset.sum_range (fun a => if s < R + a then D (zz X K (l.val / 64)) (zz Y V (l.val / 64)) (R + a) s * X (R + a) l else 0)).symm
theorem sumV_block (X Y K : ℕ → Fin 256 → ℝ) (R s : ℕ) (l : Fin 256) :
    sumV X Y K R s l + (if s < R then partV X Y K R s l else 0) + (if R ≤ s ∧ s < R + 256 then diagV X Y K R s l else 0) = sumV X Y K (R + 256) s l := by
  have e := cut_block (fun a => A (zz X K (l.val / 64)) (R + a) s * Y (R + a) l) R s
  simp only [partV, diagV, sumV, ite_mul, zero_mul] at e ⊢
  rw [add_assoc, e, Finset.sum_range_add]
  exact congrArg _ (Finset.sum_range (fun a => if s < R + a then A (zz X K (l.val / 64)) (R + a) s * Y (R + a) l else 0)).symm

theorem zero7 {κ : Kind} {sp' : Space} (v : View sig κ sp' S4096x256 .f32) (f : v.ty.Contents (Elt Ideal)) (s : Fin 4096) (l : Fin 256) :
    v.read (Elt Ideal) (v.writes (Elt Ideal) f first.sl.H7_1) (ix2 s l) = ((0 : ℝ) : EReal) := by
  refine (View.read_writes_cons_rows_of_mem v f inb_S4096x256_S4096x256_0_0 (k0_pay73 (F := Ideal)) [] (ix2 s l) (ix2 s l) rfl (by show s.val = 0 + s.val; omega) rfl).trans ?_
  pointwise [k0_pay73]; rfl
theorem zero8 {κ : Kind} {sp' : Space} (v : View sig κ sp' S4096x256 .f32) (f : v.ty.Contents (Elt Ideal)) (s : Fin 4096) (l : Fin 256) :
    v.read (Elt Ideal) (v.writes (Elt Ideal) f first.sl.H8_1) (ix2 s l) = ((0 : ℝ) : EReal) := by
  refine (View.read_writes_cons_rows_of_mem v f inb_S4096x256_S4096x256_0_0 (k0_pay74 (F := Ideal)) [] (ix2 s l) (ix2 s l) rfl (by show s.val = 0 + s.val; omega) rfl).trans ?_
  pointwise [k0_pay74]; rfl

theorem coord1 (t : Fin cfg0.N) : (grid0.coords t 1).val = t.val % 16 :=
  (Pipeline.Grid.coords_val t 1 (by decide) rfl : (grid0.coords t 1).val = t.val / 1 % 16).trans (by rw [Nat.div_one])

variable (m : (ℓ : Loc nD τ sig) → Buf (Elt Ideal) ℓ)

section Inv
variable {c : Dev nD} {Q X Y K V : ℕ → ℕ → Fin 256 → ℝ} (hX : ∀ h r l, X h r l = Q h r l * (1 / 8))
  (h0 : ∀ (t : Fin cfg0.N) (a l : Fin 256), iblk m c 0 t (ix2 a l) = ((Q (t.val / 16) (256 * (t.val % 16) + a) l : ℝ) : EReal))
  (h1 : ∀ (t : Fin cfg0.N) (s : Fin 4096) (l : Fin 256), iblk m c 1 t (ix2 s l) = ((K (t.val / 16) s l : ℝ) : EReal))
  (h2 : ∀ (t : Fin cfg0.N) (s : Fin 4096) (l : Fin 256), iblk m c 2 t (ix2 s l) = ((V (t.val / 16) s l : ℝ) : EReal))
  (h3 : ∀ (t : Fin cfg0.N) (a l : Fin 256), iblk m c 3 t (ix2 a l) = ((Y (t.val / 16) (256 * (t.val % 16) + a) l : ℝ) : EReal))
  (h4 : ∀ (t : Fin cfg0.N) (a l : Fin 256), iblk m c 4 t (ix2 a l)
    = ((E (zz (X (t.val / 16)) (K (t.val / 16)) (l.val / 64)) (256 * (t.val % 16) + a) (256 * (t.val % 16) + a) : ℝ) : EReal))
  (h5 : ∀ (t : Fin cfg0.N) y, iblk m c 5 t y = (0 : EReal))

/-- What the three buffers hold after point `t`. -/
def After (X Y K V : ℕ → ℕ → Fin 256 → ℝ) (t : ℕ) (L : Vec Ideal S256x256 .bf16 × Vec Ideal S4096x256 .f32 × Vec Ideal S4096x256 .f32) : Prop :=
  (∀ a l : Fin 256, L.1 (ix2 a l) = (((∑ s ∈ Finset.range (256 * (t % 16) + a), D (zz (X (t / 16)) (K (t / 16)) (l.val / 64)) (zz (Y (t / 16)) (V (t / 16)) (l.val / 64)) (256 * (t % 16) + a) s * K (t / 16) s l) * (1 / 8) : ℝ) : EReal))
  ∧ (∀ (s : Fin 4096) (l : Fin 256), L.2.1 (ix2 s l) = ((sumK (X (t / 16)) (Y (t / 16)) (K (t / 16)) (V (t / 16)) (256 * (t % 16) + 256) s l : ℝ) : EReal))
  ∧ (∀ (s : Fin 4096) (l : Fin 256), L.2.2 (ix2 s l) = ((sumV (X (t / 16)) (Y (t / 16)) (K (t / 16)) (256 * (t % 16) + 256) s l : ℝ) : EReal))

include hX h0 h1 h2 h3 h4 h5

set_option maxHeartbeats 4000000 in
theorem after_first (t : Fin cfg0.N) (h : t.val % 16 = 0) : After X Y K V t.val (leftFirst m c t h) := by
  have hc := coord1 t
  have hi0 : (grid0.coords t 1).val = 0 := hc.trans h
  have hst := first_stores c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) ((cond_iff t).mpr h) (iblk m c 0 t) (iblk m c 1 t) (iblk m c 2 t) (iblk m c 3 t) (iblk m c 4 t) (iblk m c 5 t) hi0
  have key := stores_at (Q := Q (t.val / 16)) (X := X (t.val / 16)) (Y := Y (t.val / 16)) (K := K (t.val / 16)) (V := V (t.val / 16)) (Y7 := fun _ _ => 0) (Y8 := fun _ _ => 0) (hX _)
    (by rw [hc]; exact h0 t) (by rw [hc]; exact h3 t) (by rw [hc]; exact h4 t)
    (fun s l => (congrFun ((whole1 t).read_unread (iblk m c 1 t)) (ix2 s l)).trans (h1 t s l)) (fun s l => (congrFun ((whole2 t).read_unread (iblk m c 2 t)) (ix2 s l)).trans (h2 t s l))
    hst (by rw [hi0]; exact holds_zero _ _ _ _ _) (zero7 _ _) (zero8 _ _)
  rw [hc] at key
  obtain ⟨k6, k7, k8⟩ := key
  unfold leftFirst
  refine ⟨fun a l => k6 view6 view6.junk a l, fun s l => ?_, fun s l => ?_⟩
  · refine (congrFun (View.read_writes_of_cover view7 view7.junk _ _ _ (first_covers7 c _ _ _ _ _ _ _ _ _ _ _ _ _ _ _ _ _ _ _ _ _ _ _ _ _ _)) (ix2 s l)).trans ((k7 s l).trans (congrArg _ ?_))
    rw [← sumK_block, h, Nat.mul_zero, if_neg (Nat.not_lt_zero _)]
    simp [sumK]
  · refine (congrFun (View.read_writes_of_cover view8 view8.junk _ _ _ (first_covers8 c _ _ _ _ _ _ _ _ _ _ _ _ _ _ _ _ _ _ _ _ _ _ _ _ _ _)) (ix2 s l)).trans ((k8 s l).trans (congrArg _ ?_))
    rw [← sumV_block, h, Nat.mul_zero, if_neg (Nat.not_lt_zero _)]
    simp [sumV]

set_option maxHeartbeats 4000000 in
theorem after_later (t : Fin cfg0.N) (h : ¬t.val % 16 = 0) (L : Vec Ideal S256x256 .bf16 × Vec Ideal S4096x256 .f32 × Vec Ideal S4096x256 .f32)
    (hL : After X Y K V (t.val - 1) L) : After X Y K V t.val (leftLater m c t h L.2.1 L.2.2) := by
  have hc := coord1 t
  obtain ⟨v6, hw, s, hv, hr, hst⟩ := later_stores c (grid0.coords t) (stg0 t) (whole0 t) (stg1 t) (whole1 t) (stg2 t) (whole2 t) (stg3 t) (whole3 t) (stg4 t) (whole4 t) (stg5 t) (whole5 t) (stg6 t) (whole6 t) (stg7 t) (whole7 t) (stg8 t) (whole8 t) (fun hc => h ((cond_iff t).mp hc)) (iblk m c 0 t) (iblk m c 1 t) (iblk m c 2 t) (iblk m c 3 t) (iblk m c 4 t) (iblk m c 5 t) L.2.1 L.2.2
  have hv6 : start (grid0.coords t) v6 = 0 := by
    rw [hv, word_zero _ (h5 t)]; unfold start; simp
  have e1 : (t.val - 1) / 16 = t.val / 16 := by omega
  have e2 : 256 * ((t.val - 1) % 16) + 256 = 256 * (t.val % 16) := by omega
  obtain ⟨_, l7, l8⟩ := hL
  rw [e1, e2] at l7 l8
  have a0 : ∀ a l : Fin 256, iblk m c 0 t (ix2 a l) = ((Q (t.val / 16) (256 * (grid0.coords t 1).val + a) l : ℝ) : EReal) := by rw [hc]; exact h0 t
  have a3 : ∀ a l : Fin 256, iblk m c 3 t (ix2 a l) = ((Y (t.val / 16) (256 * (grid0.coords t 1).val + a) l : ℝ) : EReal) := by rw [hc]; exact h3 t
  have a4 : ∀ a l : Fin 256, iblk m c 4 t (ix2 a l)
      = ((E (zz (X (t.val / 16)) (K (t.val / 16)) (l.val / 64)) (256 * (grid0.coords t 1).val + a) (256 * (grid0.coords t 1).val + a) : ℝ) : EReal) := by rw [hc]; exact h4 t
  have aK : ∀ (s : Fin 4096) (l : Fin 256), (stg1 t).view.read (Elt Ideal) ((whole1 t).unread (iblk m c 1 t)) (ix2 s l) = ((K (t.val / 16) s l : ℝ) : EReal) :=
    fun s l => (congrFun ((whole1 t).read_unread (iblk m c 1 t)) (ix2 s l)).trans (h1 t s l)
  have aV : ∀ (s : Fin 4096) (l : Fin 256), (stg2 t).view.read (Elt Ideal) ((whole2 t).unread (iblk m c 2 t)) (ix2 s l) = ((V (t.val / 16) s l : ℝ) : EReal) :=
    fun s l => (congrFun ((whole2 t).read_unread (iblk m c 2 t)) (ix2 s l)).trans (h2 t s l)
  have run := runs_at (hX (t.val / 16)) a0 a3 a4 aK aV hv6 hr
    (fun s l => (congrFun ((whole7 t).read_unread L.2.1) (ix2 s l)).trans (l7 s l)) (fun s l => (congrFun ((whole8 t).read_unread L.2.2) (ix2 s l)).trans (l8 s l)) (grid0.coords t 1).val le_rfl
  have htr : (k0_t1_loop (grid0.coords t) v6).trips = (grid0.coords t 1).val := by rw [trips1, hv6]; rfl
  rw [htr] at hst
  have key := stores_at (hX (t.val / 16)) a0 a3 a4 aK aV hst run.1
    (Y7 := fun r l => sumK (X (t.val / 16)) (Y (t.val / 16)) (K (t.val / 16)) (V (t.val / 16)) (256 * (t.val % 16)) r l + (if r < 256 * (grid0.coords t 1).val then partK (X (t.val / 16)) (Y (t.val / 16)) (K (t.val / 16)) (V (t.val / 16)) (256 * (grid0.coords t 1).val) r l else 0))
    (Y8 := fun r l => sumV (X (t.val / 16)) (Y (t.val / 16)) (K (t.val / 16)) (256 * (t.val % 16)) r l + (if r < 256 * (grid0.coords t 1).val then partV (X (t.val / 16)) (Y (t.val / 16)) (K (t.val / 16)) (256 * (grid0.coords t 1).val) r l else 0))
    run.2.1 run.2.2
  rw [hc] at key
  obtain ⟨k6, k7, k8⟩ := key
  unfold leftLater
  exact ⟨fun a l => k6 view6 view6.junk a l, fun s l => (k7 s l).trans (congrArg _ (sumK_block _ _ _ _ _ _ _)), fun s l => (k8 s l).trans (congrArg _ (sumV_block _ _ _ _ _ _))⟩

theorem after_all : ∀ (n : ℕ) (hn : n < cfg0.N), After X Y K V n (left m c n hn) := by
  intro n
  induction n with
  | zero => exact fun hn => after_first m hX h0 h1 h2 h3 h4 h5 ⟨0, hn⟩ rfl
  | succ n ih =>
    intro hn
    by_cases h : (n + 1) % 16 = 0
    · rw [left_first m c ⟨n + 1, hn⟩ h]
      exact after_first m hX h0 h1 h2 h3 h4 h5 ⟨n + 1, hn⟩ h
    · rw [left_later m c ⟨n + 1, hn⟩ h]
      exact after_later m hX h0 h1 h2 h3 h4 h5 ⟨n + 1, hn⟩ h _ (ih (Nat.lt_of_succ_lt hn))
end Inv

end Cert.Kernel2Ideal.Hand

end
-- ==== Proof.Att.Vals.lean ====
/- The arrays the attention's gradient reads, as real numbers: the host's casts and row totals, and every block at every point. -/
module

public import proofs.«01_k».proof.Proof.Att.Inv
public import Idealize.ShloMosaic.Lib.Pipeline.ValueKit
public import Idealize.ShloMosaic.Lib.WordCmp

@[expose] public section

set_option maxRecDepth 16384

noncomputable section

namespace Cert.Kernel2Ideal.Hand

open Idealize.ShloMosaic Idealize.ShloMosaic.TcCoe Idealize.SL.Sem
open Cert.Kernel2Ideal Cert.Kernel2Ideal.Gen

open Att (coe_sum coe_max sp E A g G D)

/-- An entry of the projections as a real number, an entry of the cotangent likewise. -/
def col (p : FVec Ideal S4096x5120 .f32) (r k : ℕ) : ℝ := if h : r < 4096 ∧ k < 5120 then EReal.toReal (p (ix2 ⟨r, h.1⟩ ⟨k, h.2⟩)) else 0
def cot (d : FVec Ideal S4096x512 .f32) (r k : ℕ) : ℝ := if h : r < 4096 ∧ k < 512 then EReal.toReal (d (ix2 ⟨r, h.1⟩ ⟨k, h.2⟩)) else 0

/-- The columns of q, k and v are finite; the cotangent is. -/
def FinP (p : FVec Ideal S4096x5120 .f32) : Prop := ∀ (r : Fin 4096) (k : Fin 5120), 1536 ≤ k.val → k.val < 3072 → p (ix2 r k) = ((col p r k : ℝ) : EReal)
def FinD (d : FVec Ideal S4096x512 .f32) : Prop := ∀ (r : Fin 4096) (k : Fin 512), d (ix2 r k) = ((cot d r k : ℝ) : EReal)

/-- The score of head `H`'s query `r` against key `s`. -/
def score (p : FVec Ideal S4096x5120 .f32) (H r s : ℕ) : ℝ := ∑ d : Fin 64, (col p r (1536 + (64 * H + d)) * (1 / 8)) * col p s (2048 + (64 * H + d))
/-- The product of the cotangent's row `r` with value `s`, head `H`. -/
def dov (p : FVec Ideal S4096x5120 .f32) (x : FVec Ideal S4096x512 .f32) (H r s : ℕ) : ℝ := ∑ d : Fin 64, cot x r (64 * H + d) * col p s (2560 + (64 * H + d))

/-- The queries, keys, values and cotangents of a group of four heads. -/
def grpQ (p : FVec Ideal S4096x5120 .f32) (g r : ℕ) (l : Fin 256) : ℝ := col p r (1536 + (256 * g + l))
def grpX (p : FVec Ideal S4096x5120 .f32) (g r : ℕ) (l : Fin 256) : ℝ := col p r (1536 + (256 * g + l)) * (1 / 8)
def grpK (p : FVec Ideal S4096x5120 .f32) (g r : ℕ) (l : Fin 256) : ℝ := col p r (2048 + (256 * g + l))
def grpV (p : FVec Ideal S4096x5120 .f32) (g r : ℕ) (l : Fin 256) : ℝ := col p r (2560 + (256 * g + l))
def grpY (d : FVec Ideal S4096x512 .f32) (g r : ℕ) (l : Fin 256) : ℝ := cot d r (256 * g + l)

/-- A sum over the lanes of one head of a group. -/
theorem head_lanes (f : ℕ → ℝ) (g h : ℕ) (hh : h < 4) : (∑ l : Fin 256, if l.val / 64 = h then f (256 * g + l) else 0) = ∑ d : Fin 64, f (64 * (4 * g + h) + d) := by
  rw [← Finset.sum_filter]
  refine (Finset.sum_bij (fun (d : Fin 64) _ => (⟨64 * h + d.val, by omega⟩ : Fin 256)) (fun d _ => ?_) (fun a _ b _ e => ?_) (fun l hl => ?_) (fun d _ => ?_)).symm
  · simp only [Finset.mem_filter, Finset.mem_univ, true_and]; omega
  · have := congrArg Fin.val e; dsimp only at this; exact Fin.ext (by omega)
  · have := (Finset.mem_filter.mp hl).2
    exact ⟨⟨l.val - 64 * h, by omega⟩, Finset.mem_univ _, Fin.ext (by dsimp only; omega)⟩
  · exact congrArg f (by dsimp only; omega)

theorem zz_score (p : FVec Ideal S4096x5120 .f32) (g h : ℕ) (hh : h < 4) : zz (grpX p g) (grpK p g) h = score p (4 * g + h) := by
  funext r s
  unfold zz score grpX grpK
  rw [← head_lanes (fun k => (col p r (1536 + k) * (1 / 8)) * col p s (2048 + k)) g h hh]
  exact Finset.sum_congr rfl fun l _ => by split <;> simp
theorem zz_dov (p : FVec Ideal S4096x5120 .f32) (x : FVec Ideal S4096x512 .f32) (g h : ℕ) (hh : h < 4) : zz (grpY x g) (grpV p g) h = dov p x (4 * g + h) := by
  funext r s
  unfold zz dov grpY grpV
  rw [← head_lanes (fun k => cot x r k * col p s (2560 + k)) g h hh]
  exact Finset.sum_congr rfl fun l _ => by split <;> simp

/-! ## The host's row totals -/

/-- The scores as the host computes them. -/
def hostZ (p : FVec Ideal S4096x5120 .f32) : FVec Ideal S8x4096x4096 .f32 :=
  Host.dotGeneral dot_S4096x8x64_S4096x8x64_S8x4096x4096_2_2_0_0_1_1 none
    (mulf (shapeCast S4096x8x64 (extractStridedSlice S4096x512 ![0, 1536] p slices_S4096x5120_S4096x512_0_1536) shapeCasts_S4096x512_S4096x8x64)
      (broadcastInDim S4096x8x64 ![] bcast_S_S4096x8x64 (constant S_ FTy.f32 1040187392#32)))
    (shapeCast S4096x8x64 (extractStridedSlice S4096x512 ![0, 2048] p slices_S4096x5120_S4096x512_0_2048) shapeCasts_S4096x512_S4096x8x64)
/-- Their softplus where the key comes before the query. -/
def hostS (z : FVec Ideal S8x4096x4096 .f32) : FVec Ideal S8x4096x4096 .f32 :=
  select (cmpi CmpIPredicate.slt (iotaInDim S8x4096x4096 32 2) (iotaInDim S8x4096x4096 32 1))
    (addf (maximumf z (broadcastInDim S8x4096x4096 ![] bcast_S_S8x4096x4096 (constant S_ FTy.f32 0#32)))
      (Host.log (addf (broadcastInDim S8x4096x4096 ![] bcast_S_S8x4096x4096 (constant S_ FTy.f32 1065353216#32)) (Host.exp (Host.negf (Host.absf z))))))
    (broadcastInDim S8x4096x4096 ![] bcast_S_S8x4096x4096 (constant S_ FTy.f32 0#32))
/-- The row totals, on every lane of their head. -/
def hostTot (z : FVec Ideal S8x4096x4096 .f32) : FVec Ideal S4096x512 .f32 :=
  shapeCast S4096x512 (broadcastInDim S4096x8x64 ![0, 1, 2] bcast_S4096x8x1_S4096x8x64_0_1_2
    (broadcastInDim S4096x8x1 ![0, 1] bcast_S4096x8_S4096x8x1_0_1
      (transpose S4096x8 [1, 0] (Host.reduceAdd (hostS z) (constant S_ FTy.f32 0#32) reducesTo_S8x4096x4096_S8x4096_d2 h_S_) transposes_S8x4096_S4096x8_1_0)))
    shapeCasts_S4096x8x64_S4096x512

theorem hostZ_at {p : FVec Ideal S4096x5120 .f32} (hp : FinP p) (H : Fin 8) (r s : Fin 4096) : hostZ p (ix3 H r s) = ((score p H r s : ℝ) : EReal) := by
  pointwise [hostZ]
  rw [eighth32]
  refine (Finset.sum_congr rfl fun d _ => ?_).trans (coe_sum _ _)
  rw [hp r _ (by dsimp only; omega) (by dsimp only; omega), hp s _ (by dsimp only; omega) (by dsimp only; omega), ← EReal.coe_mul, ← EReal.coe_mul]
  dsimp only
  simp only [Nat.mul_comm H.val 64]

theorem hostS_at {z : FVec Ideal S8x4096x4096 .f32} {Z : ℕ → ℕ → ℕ → ℝ} (hz : ∀ (H : Fin 8) (r s : Fin 4096), z (ix3 H r s) = ((Z H r s : ℝ) : EReal)) (H : Fin 8) (r s : Fin 4096) :
    hostS z (ix3 H r s) = ((if s.val < r.val then sp (Z H r s) else 0 : ℝ) : EReal) := by
  pointwise [hostS, hz]
  rw [WordCmp.cmpi_slt_ofNat (show s.val < 2 ^ (32 - 1) by omega) (show r.val < 2 ^ (32 - 1) by omega)]
  by_cases h : s.val < r.val
  · rw [if_pos h, decide_eq_true h]
    show max (↑(Z H r s)) 0 + Ideal.log (1 + Ideal.exp (-FloatOps.absf (F := Ideal) (φ := .f32) ((Z H r s : ℝ) : EReal))) = _
    rw [abs_coe, ← EReal.coe_zero, coe_max, ← EReal.coe_neg, Ideal.exp_coe, ← EReal.coe_one, ← EReal.coe_add, Ideal.log_coe, if_neg (not_le.mpr (by positivity)), ← EReal.coe_add]
    rfl
  · rw [if_neg h, decide_eq_false h]; rfl

theorem hostTot_at {z : FVec Ideal S8x4096x4096 .f32} {Z : ℕ → ℕ → ℕ → ℝ} (hz : ∀ (H : Fin 8) (r s : Fin 4096), z (ix3 H r s) = ((Z H r s : ℝ) : EReal)) (r : Fin 4096) (k : Fin 512) :
    hostTot z (ix2 r k) = ((E (Z (k.val / 64)) r r : ℝ) : EReal) := by
  pointwise [hostTot]
  refine (Finset.sum_congr rfl fun x _ => hostS_at hz ⟨k.val / 64, by omega⟩ r x).trans ((coe_sum _ _).trans (congrArg _ ?_))
  rw [Finset.sum_ite, Finset.sum_const_zero, add_zero]
  unfold E
  refine Finset.sum_bij (fun x _ => x.val) (fun x hx => Finset.mem_range.mpr (Finset.mem_filter.mp hx).2) (fun a _ b _ e => Fin.ext e)
    (fun n hn => ⟨⟨n, by have := Finset.mem_range.mp hn; omega⟩, Finset.mem_filter.mpr ⟨Finset.mem_univ _, Finset.mem_range.mp hn⟩, rfl⟩) (fun x _ => rfl)

variable (m : (ℓ : Loc nD τ sig) → Buf (Elt Ideal) ℓ) (c : Dev nD)

abbrev argD : FVec Ideal S4096x512 .f32 := m ((c : Thread nD τ).loc main_arg0)
abbrev argP : FVec Ideal S4096x5120 .f32 := m ((c : Thread nD τ).loc main_arg1)

theorem V26 : V m c main_v26 = (truncf .bf16 (argP m c) bitsLt_bf16_f32 : FVec Ideal S4096x5120 .bf16) := by
  show StableHlo.after (List.flatten [hostOps0, hostOps0_1, hostOps0_2]) _ _ = _
  simp only [hostOps0, hostOps0_1, hostOps0_2, List.flatten_cons, List.flatten_nil, List.append_nil, List.cons_append, List.nil_append]
  entry_read
  rfl
theorem V27 : V m c main_v27 = (truncf .bf16 (argD m c) bitsLt_bf16_f32 : FVec Ideal S4096x512 .bf16) := by
  show StableHlo.after (List.flatten [hostOps0, hostOps0_1, hostOps0_2]) _ _ = _
  simp only [hostOps0, hostOps0_1, hostOps0_2, List.flatten_cons, List.flatten_nil, List.append_nil, List.cons_append, List.nil_append]
  entry_read
  rfl
theorem V25 : V m c main_v25 = (broadcastInDim S2x16x8x128 ![] bcast_S_S2x16x8x128 (constant S_ FTy.f32 0#32) : FVec Ideal S2x16x8x128 .f32) := by
  show StableHlo.after (List.flatten [hostOps0, hostOps0_1, hostOps0_2]) _ _ = _
  simp only [hostOps0, hostOps0_1, hostOps0_2, List.flatten_cons, List.flatten_nil, List.append_nil, List.cons_append, List.nil_append]
  entry_read
  rfl
theorem V24 : V m c main_v24 = hostTot (hostZ (argP m c)) := by
  show StableHlo.after (List.flatten [hostOps0, hostOps0_1, hostOps0_2]) _ _ = _
  simp only [hostOps0, hostOps0_1, hostOps0_2, List.flatten_cons, List.flatten_nil, List.append_nil, List.cons_append, List.nil_append]
  entry_read
  rfl

/-! ## The blocks -/

theorem idx : ∀ t : Fin cfg0.N, win0_0.index t = ![t.val % 16, 6 + t.val / 16] ∧ win0_1.index t = ![0, 8 + t.val / 16] ∧ win0_2.index t = ![0, 10 + t.val / 16]
    ∧ win0_3.index t = ![t.val % 16, t.val / 16] ∧ win0_4.index t = ![t.val % 16, t.val / 16] ∧ win0_5.index t = ![t.val / 16, t.val % 16, 0, 0]
    ∧ win0_6.index t = ![t.val % 16, t.val / 16] ∧ win0_7.index t = ![0, t.val / 16] ∧ win0_8.index t = ![0, t.val / 16] :=
  (by decide +kernel : ∀ t : Fin grid0.N, _)

/-- The row, and the column among the eight heads' lanes, of a point's block. -/
def row (t : Fin cfg0.N) (a : Fin 256) : Fin 4096 := ⟨256 * (t.val % 16) + a.val, by omega⟩
def lan (t : Fin cfg0.N) (l : Fin 256) : Fin 512 := ⟨256 * (t.val / 16) + l.val, by have := lt_of_lt_of_eq t.isLt N_0; omega⟩

theorem read_0 (t : Fin cfg0.N) (a l : Fin 256) : iblk m c 0 t (ix2 a l) = V m c main_v26 (ix2 (row t a) ⟨1536 + (lan t l).val, by omega⟩ : S4096x5120.Idx) := by
  blk_ext [iblk, idx t, row, lan]
theorem read_1 (t : Fin cfg0.N) (s : Fin 4096) (l : Fin 256) : iblk m c 1 t (ix2 s l) = V m c main_v26 (ix2 s ⟨2048 + (lan t l).val, by omega⟩ : S4096x5120.Idx) := by
  blk_ext [iblk, idx t, row, lan]
theorem read_2 (t : Fin cfg0.N) (s : Fin 4096) (l : Fin 256) : iblk m c 2 t (ix2 s l) = V m c main_v26 (ix2 s ⟨2560 + (lan t l).val, by omega⟩ : S4096x5120.Idx) := by
  blk_ext [iblk, idx t, row, lan]
theorem read_3 (t : Fin cfg0.N) (a l : Fin 256) : iblk m c 3 t (ix2 a l) = V m c main_v27 (ix2 (row t a) (lan t l) : S4096x512.Idx) := by
  blk_ext [iblk, idx t, row, lan]
theorem read_4 (t : Fin cfg0.N) (a l : Fin 256) : iblk m c 4 t (ix2 a l) = V m c main_v24 (ix2 (row t a) (lan t l) : S4096x512.Idx) := by
  blk_ext [iblk, idx t, row, lan]

theorem read_5 (t : Fin cfg0.N) (y : S1x1x8x128.Idx) : iblk m c 5 t y = (0 : EReal) := by
  have e : V m c main_v25 = fun _ => (0 : EReal) := by
    rw [V25]; funext z; pointwise
  show (V m c main_v25) _ = _
  rw [e]

section Blocks
variable {m c} (hp : FinP (argP m c)) (hd : FinD (argD m c))
include hp hd
theorem blk_0 (t : Fin cfg0.N) (a l : Fin 256) : iblk m c 0 t (ix2 a l) = ((grpQ (argP m c) (t.val / 16) (256 * (t.val % 16) + a) l : ℝ) : EReal) := by
  rw [read_0, V26]
  exact hp (row t a) ⟨1536 + (lan t l).val, by omega⟩ (by dsimp only; omega) (by dsimp only; omega)
theorem blk_1 (t : Fin cfg0.N) (s : Fin 4096) (l : Fin 256) : iblk m c 1 t (ix2 s l) = ((grpK (argP m c) (t.val / 16) s l : ℝ) : EReal) := by
  rw [read_1, V26]
  exact hp s ⟨2048 + (lan t l).val, by omega⟩ (by dsimp only; omega) (by dsimp only; omega)
theorem blk_2 (t : Fin cfg0.N) (s : Fin 4096) (l : Fin 256) : iblk m c 2 t (ix2 s l) = ((grpV (argP m c) (t.val / 16) s l : ℝ) : EReal) := by
  rw [read_2, V26]
  exact hp s ⟨2560 + (lan t l).val, by omega⟩ (by dsimp only; omega) (by dsimp only; omega)
theorem blk_3 (t : Fin cfg0.N) (a l : Fin 256) : iblk m c 3 t (ix2 a l) = ((grpY (argD m c) (t.val / 16) (256 * (t.val % 16) + a) l : ℝ) : EReal) := by
  rw [read_3, V27]
  exact hd (row t a) (lan t l)
theorem blk_4 (t : Fin cfg0.N) (a l : Fin 256) : iblk m c 4 t (ix2 a l)
    = ((E (zz (grpX (argP m c) (t.val / 16)) (grpK (argP m c) (t.val / 16)) (l.val / 64)) (256 * (t.val % 16) + a) (256 * (t.val % 16) + a) : ℝ) : EReal) := by
  rw [read_4, V24, zz_score _ _ _ (by omega), hostTot_at (hostZ_at hp)]
  refine congrArg _ ?_
  rw [show (lan t l).val / 64 = 4 * (t.val / 16) + l.val / 64 by unfold lan; dsimp only; omega]
  rfl

theorem after_point (t : Fin cfg0.N) : After (grpX (argP m c)) (grpY (argD m c)) (grpK (argP m c)) (grpV (argP m c)) t.val (left m c t.val t.isLt) :=
  after_all m (Q := grpQ (argP m c)) (fun _ _ _ => rfl) (blk_0 hp hd) (blk_1 hp hd) (blk_2 hp hd) (blk_3 hp hd) (blk_4 hp hd) (read_5 m c) t.val t.isLt
end Blocks

/-! ## The three results -/

/-- The queries' gradient, the keys' and the values', as real numbers: row and lane. -/
def realQ (p : FVec Ideal S4096x5120 .f32) (x : FVec Ideal S4096x512 .f32) (r k : ℕ) : ℝ :=
  (∑ s ∈ Finset.range r, D (score p (k / 64)) (dov p x (k / 64)) r s * col p s (2048 + k)) * (1 / 8)
def realK (p : FVec Ideal S4096x5120 .f32) (x : FVec Ideal S4096x512 .f32) (s k : ℕ) : ℝ :=
  ∑ r ∈ Finset.range 4096, (if s < r then D (score p (k / 64)) (dov p x (k / 64)) r s else 0) * (col p r (1536 + k) * (1 / 8))
def realV (p : FVec Ideal S4096x5120 .f32) (x : FVec Ideal S4096x512 .f32) (s k : ℕ) : ℝ :=
  ∑ r ∈ Finset.range 4096, (if s < r then A (score p (k / 64)) r s else 0) * cot x r k

theorem lan_head (t : Fin cfg0.N) (l : Fin 256) : (lan t l).val / 64 = 4 * (t.val / 16) + l.val / 64 := by unfold lan; dsimp only; omega

section Finals
variable {m c} (hp : FinP (argP m c)) (hd : FinD (argD m c))
include hp hd
theorem final_6 : (dats m 0 c).arrAt 6 (cfgs 0).N = (fun y : S4096x512.Idx => ((realQ (argP m c) (argD m c) (y 0).val (y 1).val : ℝ) : EReal) : FVec Ideal S4096x512 .bf16) := by
  refine (dats m 0 c).arrAt_eq_of_covers 6 _ (by decide +kernel) fun t hf y => ?_
  blk_simp
  rw [after6]
  obtain ⟨a, l, rfl⟩ : ∃ (a l : Fin 256), y = ix2 a l := ⟨y 0, y 1, eq_ix2 y⟩
  rw [show win0_6.index t 0 * 256 + ((ix2 a l : Shape.Idx _) 0).val = (row t a).val by rw [(idx t).2.2.2.2.2.2.1]; show t.val % 16 * 256 + a.val = 256 * (t.val % 16) + a.val; omega,
    show win0_6.index t 1 * 256 + ((ix2 a l : Shape.Idx _) 1).val = (lan t l).val by rw [(idx t).2.2.2.2.2.2.1]; show t.val / 16 * 256 + l.val = 256 * (t.val / 16) + l.val; omega]
  refine ((after_point hp hd t).1 a l).trans (congrArg _ ?_)
  rw [zz_score _ _ _ (by omega), zz_dov _ _ _ _ (by omega)]
  show _ = realQ _ _ (row t a).val (lan t l).val
  unfold realQ
  rw [lan_head]
  rfl
theorem final_7 : (dats m 0 c).arrAt 7 (cfgs 0).N = (fun y : S4096x512.Idx => ((realK (argP m c) (argD m c) (y 0).val (y 1).val : ℝ) : EReal) : FVec Ideal S4096x512 .f32) := by
  refine (dats m 0 c).arrAt_eq_of_covers 7 _ (by decide +kernel) fun t hf y => ?_
  have h15 : 256 * (t.val % 16) + 256 = 4096 := by have := (flush0_7 t).mp hf; omega
  blk_simp
  rw [after7]
  obtain ⟨s, l, rfl⟩ : ∃ (s : Fin 4096) (l : Fin 256), y = ix2 s l := ⟨y 0, y 1, eq_ix2 y⟩
  rw [show win0_7.index t 0 * 4096 + ((ix2 s l : Shape.Idx _) 0).val = s.val by rw [(idx t).2.2.2.2.2.2.2.1]; show 0 * 4096 + s.val = s.val; omega,
    show win0_7.index t 1 * 256 + ((ix2 s l : Shape.Idx _) 1).val = (lan t l).val by rw [(idx t).2.2.2.2.2.2.2.1]; show t.val / 16 * 256 + l.val = 256 * (t.val / 16) + l.val; omega]
  refine ((after_point hp hd t).2.1 s l).trans (congrArg _ ?_)
  unfold sumK
  rw [h15, zz_score _ _ _ (by omega), zz_dov _ _ _ _ (by omega)]
  show _ = realK _ _ s.val (lan t l).val
  unfold realK
  rw [lan_head]
  rfl
theorem final_8 : (dats m 0 c).arrAt 8 (cfgs 0).N = (fun y : S4096x512.Idx => ((realV (argP m c) (argD m c) (y 0).val (y 1).val : ℝ) : EReal) : FVec Ideal S4096x512 .f32) := by
  refine (dats m 0 c).arrAt_eq_of_covers 8 _ (by decide +kernel) fun t hf y => ?_
  have h15 : 256 * (t.val % 16) + 256 = 4096 := by have := (flush0_8 t).mp hf; omega
  blk_simp
  rw [after8]
  obtain ⟨s, l, rfl⟩ : ∃ (s : Fin 4096) (l : Fin 256), y = ix2 s l := ⟨y 0, y 1, eq_ix2 y⟩
  rw [show win0_8.index t 0 * 4096 + ((ix2 s l : Shape.Idx _) 0).val = s.val by rw [(idx t).2.2.2.2.2.2.2.2]; show 0 * 4096 + s.val = s.val; omega,
    show win0_8.index t 1 * 256 + ((ix2 s l : Shape.Idx _) 1).val = (lan t l).val by rw [(idx t).2.2.2.2.2.2.2.2]; show t.val / 16 * 256 + l.val = 256 * (t.val / 16) + l.val; omega]
  refine ((after_point hp hd t).2.2 s l).trans (congrArg _ ?_)
  unfold sumV
  rw [h15, zz_score _ _ _ (by omega)]
  show _ = realV _ _ s.val (lan t l).val
  unfold realV
  rw [lan_head]
  rfl
end Finals

end Cert.Kernel2Ideal.Hand

end
-- ==== Proof.Att.Ref.lean ====
/- The derivative of the attention as the reference writes it, entry by entry, as real numbers. -/
module

public import proofs.«01_k».proof.Proof.Att.Vals
public import proofs.«01_k».proof.Proof.Gen.Reference2Ideal.Read
public import Idealize.ShloMosaic.Lib.Pointwise
public import Idealize.ShloMosaic.Lib.WordCmp

@[expose] public section

set_option maxRecDepth 16384

noncomputable section

namespace Cert.Reference2Ideal.Hand

open Idealize.ShloMosaic Idealize.ShloMosaic.TcCoe Idealize.SL.Sem
open Cert.Reference2Ideal Cert.Reference2Ideal.Read

open Att (coe_sum coe_max sp sp_neg slopes E A g G D)
open Cert.Kernel2Ideal.Hand (FinP FinD col cot score dov realQ realK realV abs_coe eighth32)

/-! ## A running sum over the lanes -/

/-- A fold of additions is the sum of what it adds. -/
theorem foldl_add {ι : Type} (f : ι → EReal) : ∀ (l : List ι) (v : EReal), l.foldl (fun r n => r + f n) v = v + (l.map f).sum
  | [], v => by simp
  | a :: l, v => by rw [List.foldl_cons, foldl_add f l, List.map_cons, List.sum_cons, add_assoc]

/-- A window position's index. -/
def pos (n : Fin (⟨3, ![1, 1, 4096]⟩ : Shape).numel) : (⟨3, ![1, 1, 4096]⟩ : Shape).Idx := (⟨3, ![1, 1, 4096]⟩ : Shape).rowMajor.symm n

/-- A window one wide on the first two axes and 4096 on the last has one position for each lane. -/
theorem pos_val (n : Fin (⟨3, ![1, 1, 4096]⟩ : Shape).numel) (a : Fin 3) :
    (pos n a).val = if a = 2 then n.val else 0 := by
  set y := pos n with hy
  have e : (⟨3, ![1, 1, 4096]⟩ : Shape).rowMajor y = n := by rw [hy]; unfold pos; exact Equiv.apply_symm_apply _ _
  have h := congrArg Fin.val e
  rw [Shape.rowMajor_val_three] at h
  have h0 : (y 0).val < 1 := (y 0).isLt
  have h1 : (y 1).val < 1 := (y 1).isLt
  have h2 : ((y 0).val * 1 + (y 1).val) * 4096 + (y 2).val = n.val := h
  fin_cases a
  · show (y 0).val = 0; omega
  · show (y 1).val = 0; omega
  · show (y 2).val = n.val; omega

theorem numel_pos : (⟨3, ![1, 1, 4096]⟩ : Shape).numel = 4096 := by decide +kernel

variable {x : FVec Ideal S8x4096x4096 .f32} {f : ℕ → ℕ → ℕ → ℝ} (hx : ∀ (H : Fin 8) (r s : Fin 4096), x (ix3 H r s) = ((f H r s : ℝ) : EReal))
  {init : FVec Ideal S_ .f32} (hi : ∀ i, init i = (0 : EReal))
include hx hi

/-- The sum of the lanes from `s` on. -/
theorem suffix_at (h) (hu) (H : Fin 8) (r s : Fin 4096) :
    Host.reduceWindowAdd (F := Ideal) ![1, 1, 4096] ![1, 1, 1] ![0, 0, 0] ![0, 0, 4095] x init h hu (ix3 H r s)
      = ((∑ t ∈ Finset.range 4096, if s.val ≤ t then f H r t else 0 : ℝ) : EReal) := by
  unfold Host.reduceWindowAdd
  rw [Ideal.hostReduceWindowAdd_def]
  unfold Ideal.hostReduceWindowAdd Host.reduceWindow
  dsimp only
  rw [hi, foldl_add, zero_add, ← Fin.sum_univ_def]
  trans ∑ n : Fin (⟨3, ![1, 1, 4096]⟩ : Shape).numel, (((fun w : ℕ => if s.val + w < 4096 then f H r (s + w) else 0) n.val : ℝ) : EReal)
  · refine Finset.sum_congr rfl fun n _ => ?_
    have e0 := pos_val n 0
    have e1 := pos_val n 1
    have e2 := pos_val n 2
    rw [if_neg (by decide)] at e0 e1
    rw [if_pos rfl] at e2
    split
    · next hin =>
      have h2 : s.val * 1 + (pos n 2).val - 0 < 4096 := (hin 2).2
      dsimp only
      rw [if_pos (by omega)]
      refine (congrArg x (funext fun a => Fin.ext ?_)).trans (hx H r ⟨s.val + n.val, by omega⟩)
      fin_cases a
      · show H.val * 1 + (pos n 0).val - 0 = H.val; omega
      · show r.val * 1 + (pos n 1).val - 0 = r.val; omega
      · show s.val * 1 + (pos n 2).val - 0 = s.val + n.val; omega
    · next hin =>
      dsimp only
      rw [if_neg fun hlt => hin fun a => ?_]; rfl
      fin_cases a
      · show 0 ≤ H.val * 1 + (pos n 0).val ∧ H.val * 1 + (pos n 0).val - 0 < 8; omega
      · show 0 ≤ r.val * 1 + (pos n 1).val ∧ r.val * 1 + (pos n 1).val - 0 < 4096; omega
      · show 0 ≤ s.val * 1 + (pos n 2).val ∧ s.val * 1 + (pos n 2).val - 0 < 4096; omega
  · rw [coe_sum, Fin.sum_univ_eq_sum_range (fun w : ℕ => if s.val + w < 4096 then f H r (s + w) else 0), numel_pos]
    refine congrArg _ ?_
    rw [← Finset.sum_filter, ← Finset.sum_filter]
    exact Finset.sum_bij (fun w _ => s.val + w) (fun w hw => by simp only [Finset.mem_filter, Finset.mem_range] at hw ⊢; omega) (fun a _ b _ e => by omega)
      (fun t ht => by simp only [Finset.mem_filter, Finset.mem_range] at ht ⊢; exact ⟨t - s.val, by omega, by omega⟩) (fun w _ => rfl)

/-- The sum of the lanes up to and with `s`. -/
theorem prefix_at (h) (hu) (H : Fin 8) (r s : Fin 4096) :
    Host.reduceWindowAdd (F := Ideal) ![1, 1, 4096] ![1, 1, 1] ![0, 0, 4095] ![0, 0, 0] x init h hu (ix3 H r s)
      = ((∑ t ∈ Finset.range (s.val + 1), f H r t : ℝ) : EReal) := by
  unfold Host.reduceWindowAdd
  rw [Ideal.hostReduceWindowAdd_def]
  unfold Ideal.hostReduceWindowAdd Host.reduceWindow
  dsimp only
  rw [hi, foldl_add, zero_add, ← Fin.sum_univ_def]
  trans ∑ n : Fin (⟨3, ![1, 1, 4096]⟩ : Shape).numel, (((fun w : ℕ => if 4095 ≤ s.val + w then f H r (s + w - 4095) else 0) n.val : ℝ) : EReal)
  · refine Finset.sum_congr rfl fun n _ => ?_
    have e0 := pos_val n 0
    have e1 := pos_val n 1
    have e2 := pos_val n 2
    rw [if_neg (by decide)] at e0 e1
    rw [if_pos rfl] at e2
    split
    · next hin =>
      have h2 : 4095 ≤ s.val * 1 + (pos n 2).val := (hin 2).1
      have hn : n.val < 4096 := lt_of_lt_of_eq n.isLt numel_pos
      dsimp only
      rw [if_pos (by omega)]
      refine (congrArg x (funext fun a => Fin.ext ?_)).trans (hx H r ⟨s.val + n.val - 4095, by omega⟩)
      fin_cases a
      · show H.val * 1 + (pos n 0).val - 0 = H.val; omega
      · show r.val * 1 + (pos n 1).val - 0 = r.val; omega
      · show s.val * 1 + (pos n 2).val - 4095 = s.val + n.val - 4095; omega
    · next hin =>
      dsimp only
      rw [if_neg fun hlt => hin fun a => ?_]; rfl
      fin_cases a
      · show 0 ≤ H.val * 1 + (pos n 0).val ∧ H.val * 1 + (pos n 0).val - 0 < 8; omega
      · show 0 ≤ r.val * 1 + (pos n 1).val ∧ r.val * 1 + (pos n 1).val - 0 < 4096; omega
      · show 4095 ≤ s.val * 1 + (pos n 2).val ∧ s.val * 1 + (pos n 2).val - 4095 < 4096; have hn : n.val < 4096 := lt_of_lt_of_eq n.isLt numel_pos; omega
  · rw [coe_sum, Fin.sum_univ_eq_sum_range (fun w : ℕ => if 4095 ≤ s.val + w then f H r (s + w - 4095) else 0), numel_pos]
    refine congrArg _ ?_
    rw [← Finset.sum_filter]
    exact Finset.sum_bij (fun w _ => s.val + w - 4095) (fun w hw => by simp only [Finset.mem_filter, Finset.mem_range] at hw ⊢; omega)
      (fun a ha b hb e => by simp only [Finset.mem_filter, Finset.mem_range] at ha hb; omega)
      (fun t ht => by simp only [Finset.mem_filter, Finset.mem_range] at ht ⊢; exact ⟨t + 4095 - s.val, by omega, by omega⟩) (fun w _ => rfl)
omit hx hi

variable {x0 : FVec Ideal S4096x512 .f32} {x1 : FVec Ideal S4096x5120 .f32} (hp : FinP x1) (hd : FinD x0)

/-- The softplus of a real number, with `log(1 + ·)` as the host writes it. -/
theorem softplus (z : ℝ) : max (z : EReal) 0 + Ideal.log1p ((Real.exp (-|z|) : ℝ) : EReal) = ((sp z : ℝ) : EReal) := by
  show max (z : EReal) 0 + Ideal.log (1 + ((Real.exp (-|z|) : ℝ) : EReal)) = _
  rw [← EReal.coe_zero, coe_max, ← EReal.coe_one, ← EReal.coe_add, Ideal.log_coe, if_neg (not_le.mpr (by positivity)), ← EReal.coe_add]
  rfl

include hp in
theorem v10_at (H : Fin 8) (r s : Fin 4096) : val_main_v10 (F := Ideal) x1 (ix3 H r s) = ((score x1 H r s : ℝ) : EReal) := by
  pointwise [val_main_v10, val_main_v9, val_main_cst, val_main_v8, val_main_v5, val_main_v6, val_main_v1, val_main_v2]
  rw [eighth32, Finset.sum_congr rfl fun d _ => show _ = (((col x1 r (1536 + (64 * H.val + d.val))) * (col x1 s (2048 + (64 * H.val + d.val))) : ℝ) : EReal) by
    rw [hp r _ (by dsimp only; omega) (by dsimp only; omega), hp s _ (by dsimp only; omega) (by dsimp only; omega), ← EReal.coe_mul]
    dsimp only
    rw [Nat.mul_comm H.val 64], coe_sum, ← EReal.coe_mul]
  refine congrArg _ ?_
  unfold score
  rw [Finset.sum_mul]
  exact Finset.sum_congr rfl fun d _ => by ring

include hp in
theorem v14_at (H : Fin 8) (r s : Fin 4096) : val_main_v14_0 (F := Ideal) x1 (ix3 H r s) = ((sp (score x1 H r s) : ℝ) : EReal) := by
  pointwise [val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v14_0, v10_at hp]
  rw [if_neg (fun h => h rfl), abs_coe, ← EReal.coe_neg, Ideal.exp_coe]
  exact softplus _

/-- The word comparison of two lanes or rows is the comparison of the numbers. -/
theorem mask {α : Type} (r s : Fin 4096) (a b : α) : Scalar.select (IntOp.cmpi CmpIPredicate.slt (BitVec.ofNat 32 s.val) (BitVec.ofNat 32 r.val)) a b = if s.val < r.val then a else b := by
  rw [WordCmp.cmpi_slt_ofNat (show s.val < 2 ^ (32 - 1) by omega) (show r.val < 2 ^ (32 - 1) by omega)]
  by_cases h : s.val < r.val
  · rw [if_pos h, decide_eq_true h]; rfl
  · rw [if_neg h, decide_eq_false h]; rfl
theorem top32 : Ideal.ofBits .f32 2139095040#32 = ⊤ := by simp [Ideal.ofBits, Ideal.ieee]
theorem coe_ite (P : Prop) [Decidable P] (a b : ℝ) : (if P then (a : EReal) else (b : EReal)) = ((if P then a else b : ℝ) : EReal) := by split <;> rfl

include hp in
theorem v15_at (H : Fin 8) (r s : Fin 4096) : val_main_v15_0 (F := Ideal) x1 (ix3 H r s) = ((if s.val < r.val then sp (score x1 H r s) else 0 : ℝ) : EReal) := by
  pointwise [val_main_v15_0, val_main_v13, val_main_v12, val_main_v11, val_main_call1_v1, val_main_call1_v0, val_main_cst_0, v14_at hp]
  have e : id (constant (F := Ideal) S_ FTy.f32 0#32) ix0 = ((0 : ℝ) : EReal) := by show constant (F := Ideal) S_ FTy.f32 0#32 ix0 = _; pointwise; rfl
  rw [mask, e, coe_ite]

include hp in
theorem v18_0_at (H : Fin 8) (r s : Fin 4096) : val_main_v18_0 (F := Ideal) x1 (ix3 H r s) = ((score x1 H r s - sp (score x1 H r s) : ℝ) : EReal) := by
  pointwise [val_main_v18_0, val_main_call3_v1_0, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, v10_at hp]
  rw [if_neg (fun h => h rfl), ← EReal.coe_neg, abs_coe, ← EReal.coe_neg, Ideal.exp_coe, softplus, sp_neg, ← EReal.coe_neg]
  exact congrArg _ (by ring)

include hp in
theorem v3_1_at (H : Fin 8) (r s : Fin 4096) : val_main_call3_v1_0 (F := Ideal) x1 (ix3 H r s) = ((sp (-score x1 H r s) : ℝ) : EReal) := by
  pointwise [val_main_call3_v1_0, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, v10_at hp]
  rw [if_neg (fun h => h rfl), ← EReal.coe_neg, abs_coe, ← EReal.coe_neg, Ideal.exp_coe, softplus]

include hp in
theorem v18_1_at (H : Fin 8) (r s : Fin 4096) : val_main_v18_1 (F := Ideal) x1 (ix3 H r s) = ((1 - Real.exp (score x1 H r s - sp (score x1 H r s)) : ℝ) : EReal) := by
  pointwise [val_main_v18_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_call0_cst_0, val_main_call3_call0_cst_1, val_main_call3_call0_cst_2, val_main_call3_call0_cst_3, val_main_call3_v0, v3_1_at hp, v10_at hp]
  rw [top32, ← EReal.coe_neg, if_neg (EReal.coe_ne_top _), if_neg (EReal.coe_ne_top _), ← EReal.coe_sub, Ideal.exp_coe, slopes]

include hp in
theorem v14_1_at (H : Fin 8) (r s : Fin 4096) : val_main_v14_1 (F := Ideal) x1 (ix3 H r s) = ((Real.exp (score x1 H r s - sp (score x1 H r s)) : ℝ) : EReal) := by
  pointwise [val_main_v14_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3, v14_at hp, v10_at hp]
  rw [top32, if_neg (EReal.coe_ne_top _), if_neg (EReal.coe_ne_top _), ← EReal.coe_sub, Ideal.exp_coe]

/-! ## The weights and their gradient -/

section Sums
variable (z u : ℕ → ℕ → ℝ)

/-- The lanes from `s` on that come before the row, without `s`, are what the running sum misses. -/
theorem rem_eq {r s : ℕ} (hr : r ≤ 4096) (h : s < r) :
    (∑ t ∈ Finset.range 4096, if s ≤ t then (if t < r then sp (z r t) else 0) else 0) - (if s < r then sp (z r s) else 0) = E z r r - E z r (s + 1) := by
  have e : (∑ t ∈ Finset.range 4096, if s ≤ t then (if t < r then sp (z r t) else 0) else 0) + E z r s = E z r r := by
    unfold E
    have e1 : ∑ t ∈ Finset.range s, sp (z r t) = ∑ t ∈ Finset.range 4096, if s ≤ t then 0 else (if t < r then sp (z r t) else 0) := by
      rw [← Finset.sum_subset (Finset.range_subset_range.mpr (show s ≤ 4096 by omega)) (fun t _ ht => by rw [if_pos (by simpa using ht)])]
      exact Finset.sum_congr rfl fun t ht => by have := Finset.mem_range.mp ht; rw [if_neg (by omega), if_pos (by omega)]
    have e2 : ∑ t ∈ Finset.range r, sp (z r t) = ∑ t ∈ Finset.range 4096, (if t < r then sp (z r t) else 0) := by
      rw [← Finset.sum_subset (Finset.range_subset_range.mpr hr) (fun t _ ht => by rw [if_neg (by simpa using ht)])]
      exact Finset.sum_congr rfl fun t ht => by rw [if_pos (Finset.mem_range.mp ht)]
    rw [e1, e2, ← Finset.sum_add_distrib]
    exact Finset.sum_congr rfl fun t _ => by split <;> simp
  have e3 : E z r (s + 1) = E z r s + sp (z r s) := by unfold E; exact Finset.sum_range_succ _ _
  rw [if_pos h, e3]
  linarith

theorem weight_eq {r s : ℕ} : Real.exp (z r s - sp (z r s) - (E z r r - E z r (s + 1))) = A z r s := by
  have e3 : E z r (s + 1) = E z r s + sp (z r s) := by unfold E; exact Finset.sum_range_succ _ _
  unfold A
  rw [e3]
  exact congrArg _ (by ring)

theorem grad_eq {r s : ℕ} (h : s < r) :
    g z u r s * (1 - Real.exp (z r s - sp (z r s))) + (g z u r s + ∑ t ∈ Finset.range (s + 1), -(if t < r then g z u r t else 0)) * Real.exp (z r s - sp (z r s)) = D z u r s := by
  have e : (∑ t ∈ Finset.range (s + 1), -(if t < r then g z u r t else 0)) = - G z u r (s + 1) := by
    unfold G
    rw [← Finset.sum_neg_distrib]
    exact Finset.sum_congr rfl fun t ht => by have := Finset.mem_range.mp ht; rw [if_pos (by omega)]
  rw [e]
  unfold D
  ring
end Sums

theorem zero_v7 (i : S_.Idx) : val_main_call7_v0 (F := Ideal) i = (0 : EReal) := by
  obtain rfl : i = ix0 := funext fun a => a.elim0
  pointwise [val_main_call7_v0, val_main_call7_cst]
theorem zero_v2 (i : S_.Idx) : val_main_call2_v0 (F := Ideal) i = (0 : EReal) := by
  obtain rfl : i = ix0 := funext fun a => a.elim0
  pointwise [val_main_call2_v0, val_main_call2_cst]

/-- What the reference takes off a score's logarithm. -/
def rem (z : ℕ → ℕ → ℝ) (r s : ℕ) : ℝ :=
  (∑ t ∈ Finset.range 4096, if s ≤ t then (if t < r then sp (z r t) else 0) else 0) - (if s < r then sp (z r s) else 0)

include hp in
theorem v17_at (H : Fin 8) (r s : Fin 4096) : val_main_v17 (F := Ideal) x1 (ix3 H r s) = ((rem (score x1 H) r s : ℝ) : EReal) := by
  rw [val_main_v17_apply]
  unfold val_main_v16
  rw [suffix_at (f := fun H r s => if s < r then sp (score x1 H r s) else 0) (v15_at hp) zero_v2, v15_at hp]
  show _ - _ = _
  rw [← EReal.coe_sub]
  rfl

include hp in
theorem v20_at (H : Fin 8) (r s : Fin 4096) : val_main_v20 (F := Ideal) x1 (ix3 H r s)
    = ((Real.exp (score x1 H r s - sp (score x1 H r s) - rem (score x1 H) r s) : ℝ) : EReal) := by
  pointwise [val_main_v20, val_main_v19, v18_0_at hp, v17_at hp]
  rw [← EReal.coe_sub, Ideal.exp_coe]

include hp in
theorem v21_at (H : Fin 8) (r s : Fin 4096) : val_main_v21_0 (F := Ideal) x1 (ix3 H r s) = ((if s.val < r.val then A (score x1 H) r s else 0 : ℝ) : EReal) := by
  pointwise [val_main_v21_0, val_main_v13, val_main_v12, val_main_v11, val_main_call4_v1, val_main_call4_v0, val_main_cst_1, v20_at hp]
  have e : id (constant (F := Ideal) S_ FTy.f32 0#32) ix0 = ((0 : ℝ) : EReal) := by show constant (F := Ideal) S_ FTy.f32 0#32 ix0 = _; pointwise; rfl
  rw [mask, e, coe_ite]
  refine congrArg _ ?_
  by_cases h : s.val < r.val
  · rw [if_pos h, if_pos h, rem, rem_eq _ (by omega) h, weight_eq]
  · rw [if_neg h, if_neg h]

include hp hd in
theorem v27_at (H : Fin 8) (r s : Fin 4096) : val_main_v27 (F := Ideal) x0 x1 (ix3 H r s) = ((dov x1 x0 H r s : ℝ) : EReal) := by
  pointwise [val_main_v27, val_main_v26, val_main_v25, val_main_v7, val_main_v3]
  refine (Finset.sum_congr rfl fun d _ => ?_).trans (coe_sum _ _)
  rw [hd r _, hp s _ (by dsimp only; omega) (by dsimp only; omega), ← EReal.coe_mul]
  dsimp only
  rw [Nat.mul_comm H.val 64]

include hp hd in
theorem v31_at (H : Fin 8) (r s : Fin 4096) : val_main_v31 (F := Ideal) x0 x1 (ix3 H r s) = ((if s.val < r.val then g (score x1 H) (dov x1 x0 H) r s else 0 : ℝ) : EReal) := by
  pointwise [val_main_v31, val_main_v30, val_main_v13, val_main_v12, val_main_v11, val_main_call5_v0, val_main_call5_cst, v20_at hp, v27_at hp hd]
  rw [mask, ← EReal.coe_zero, ← EReal.coe_mul, coe_ite]
  refine congrArg _ ?_
  by_cases h : s.val < r.val
  · rw [if_pos h, if_pos h, rem, rem_eq _ (by omega) h, weight_eq]; unfold g; ring
  · rw [if_neg h, if_neg h]

include hp hd in
theorem v32_at (H : Fin 8) (r s : Fin 4096) : val_main_v32 (F := Ideal) x0 x1 (ix3 H r s) = ((-(if s.val < r.val then g (score x1 H) (dov x1 x0 H) r s else 0) : ℝ) : EReal) := by
  pointwise [val_main_v32, v31_at hp hd]
  rw [← EReal.coe_neg]

include hp hd in
theorem v35_at (H : Fin 8) (r s : Fin 4096) : val_main_v35 (F := Ideal) x0 x1 (ix3 H r s)
    = ((∑ t ∈ Finset.range (s.val + 1), -(if t < r.val then g (score x1 H) (dov x1 x0 H) r t else 0) : ℝ) : EReal) := by
  unfold val_main_v35
  rw [prefix_at (f := fun H r s => -(if s < r then g (score x1 H) (dov x1 x0 H) r s else 0)) (v32_at hp hd) zero_v7]

include hp hd in
theorem v39_at (H : Fin 8) (r s : Fin 4096) : val_main_v39 (F := Ideal) x0 x1 (ix3 H r s) = ((if s.val < r.val then D (score x1 H) (dov x1 x0 H) r s else 0 : ℝ) : EReal) := by
  pointwise [val_main_v39, val_main_v38, val_main_v37, val_main_v36, val_main_v34, val_main_v33, val_main_call6_v1, val_main_call6_v0, val_main_v13, val_main_v12, val_main_v11, val_main_call8_v0, val_main_call8_cst, v35_at hp hd, v32_at hp hd, v31_at hp hd, v18_1_at hp, v14_1_at hp]
  rw [mask]
  rw [← EReal.coe_zero]
  simp only [← EReal.coe_neg, ← EReal.coe_add, ← EReal.coe_mul, coe_ite]
  refine congrArg _ ?_
  by_cases h : s.val < r.val
  · simp only [if_pos h]
    rw [← grad_eq (score x1 H) (dov x1 x0 H) h]; ring
  · simp only [if_neg h]; ring

/-! ## The three results -/

include hp hd in
theorem v41_at (H : Fin 8) (r s : Fin 4096) : val_main_v41 (F := Ideal) x0 x1 (ix3 H r s) = (((if s.val < r.val then D (score x1 H) (dov x1 x0 H) r s else 0) * (1 / 8) : ℝ) : EReal) := by
  pointwise [val_main_v41, val_main_v40, val_main_cst_2, v39_at hp hd]
  rw [eighth32, ← EReal.coe_mul]

include hp hd in
theorem v49_at (r : Fin 4096) (k : Fin 512) : val_main_v49 (F := Ideal) x0 x1 (ix2 r k) = ((realQ x1 x0 r k : ℝ) : EReal) := by
  pointwise [val_main_v49, val_main_v48, val_main_v45, val_main_v44, val_main_v6, val_main_v2, v41_at hp hd]
  refine (Finset.sum_congr rfl fun s _ => show _ = (((fun n : ℕ => ((if n < r.val then D (score x1 (k.val / 64)) (dov x1 x0 (k.val / 64)) r n else 0) * (1 / 8)) * col x1 n (2048 + k.val)) s.val : ℝ) : EReal) by
    rw [hp s _ (by dsimp only; omega) (by dsimp only; omega), ← EReal.coe_mul]).trans ((coe_sum _ _).trans (congrArg _ ?_))
  rw [Fin.sum_univ_eq_sum_range (fun n : ℕ => ((if n < r.val then D (score x1 (k.val / 64)) (dov x1 x0 (k.val / 64)) r n else 0) * (1 / 8)) * col x1 n (2048 + k.val))]
  unfold realQ
  rw [Finset.sum_mul, ← Finset.sum_subset (Finset.range_subset_range.mpr (show r.val ≤ 4096 by omega)) (fun t _ ht => by rw [if_neg (by simpa using ht), zero_mul, zero_mul])]
  exact Finset.sum_congr rfl fun t ht => by rw [if_pos (Finset.mem_range.mp ht)]; ring

include hp hd in
theorem v47_at (s : Fin 4096) (k : Fin 512) : val_main_v47 (F := Ideal) x0 x1 (ix2 s k) = ((realK x1 x0 s k : ℝ) : EReal) := by
  pointwise [val_main_v47, val_main_v43, val_main_v42, val_main_v5, val_main_v1, v41_at hp hd]
  refine (Finset.sum_congr rfl fun r _ => show _ = (((fun n : ℕ => (if s.val < n then D (score x1 (k.val / 64)) (dov x1 x0 (k.val / 64)) n s else 0) * (col x1 n (1536 + k.val) * (1 / 8))) r.val : ℝ) : EReal) by
    rw [hp r _ (by dsimp only; omega) (by dsimp only; omega), ← EReal.coe_mul]; exact congrArg _ (by dsimp only; ring)).trans ((coe_sum _ _).trans (congrArg _ ?_))
  exact Fin.sum_univ_eq_sum_range (fun n : ℕ => (if s.val < n then D (score x1 (k.val / 64)) (dov x1 x0 (k.val / 64)) n s else 0) * (col x1 n (1536 + k.val) * (1 / 8))) 4096

include hp hd in
theorem v46_at (s : Fin 4096) (k : Fin 512) : val_main_v46 (F := Ideal) x0 x1 (ix2 s k) = ((realV x1 x0 s k : ℝ) : EReal) := by
  pointwise [val_main_v46, val_main_v29, val_main_v28, val_main_v26, val_main_v25, v21_at hp]
  refine (Finset.sum_congr rfl fun r _ => show _ = (((fun n : ℕ => (if s.val < n then A (score x1 (k.val / 64)) n s else 0) * cot x0 n k.val) r.val : ℝ) : EReal) by
    rw [hd r _, ← EReal.coe_mul]; exact congrArg _ (by dsimp only; ring)).trans ((coe_sum _ _).trans (congrArg _ ?_))
  exact Fin.sum_univ_eq_sum_range (fun n : ℕ => (if s.val < n then A (score x1 (k.val / 64)) n s else 0) * cot x0 n k.val) 4096

end Cert.Reference2Ideal.Hand
-- ==== Proof.Att.Claims.lean ====
/- The claims about the attention's gradient: what the precondition says of the arguments, the kernel's three results against the reference's, and the reference's frame. -/
module

public import proofs.«01_k».proof.Defs
public import proofs.«01_k».proof.Proof.Att.Ref
public import proofs.«01_k».proof.Proof.Gen.Reference2Ideal.Run
public import proofs.«01_k».proof.Proof.Gen.Kernel2
public import Idealize.ShloMosaic.Lib.Claim

@[expose] public section

set_option maxRecDepth 16384

noncomputable section

namespace Cert.Attention

open Idealize.ShloMosaic Idealize.ShloMosaic.TcCoe Idealize.SL.Sem
open Cert.Reference2Ideal.Read Cert.Kernel2Ideal.Hand

instance facts : Cert.Pre_finite2.Facts where
  bcast_S_S4096x512 := by decide
  slices_S4096x5120_S4096x1536_0_1536 := by decide
  bcast_S_S4096x1536 := by decide

/-- A number whose absolute value is below infinity is real. -/
theorem real_of_lt {x : EReal} (h : BitVec.ofBool (decide (FloatOps.absf (F := Ideal) (φ := .f32) x < Ideal.ofBits .f32 2139095040#32)) = 1#1) : x = ((x.toReal : ℝ) : EReal) := by
  rw [Cert.Reference2Ideal.Hand.top32] at h
  have h' : FloatOps.absf (F := Ideal) (φ := .f32) x < (⊤ : EReal) := by
    by_contra hn
    rw [decide_eq_false hn] at h
    exact absurd h (by decide)
  induction x with
  | bot => exact absurd h' (by show ¬ max (⊥ : EReal) (-⊥) < ⊤; simp)
  | top => exact absurd h' (by show ¬ max (⊤ : EReal) (-⊤) < ⊤; simp)
  | coe r => rfl

variable (m : (ℓ : Loc Cert.Kernel2Ideal.nD Cert.Kernel2Ideal.τ Cert.Kernel2Ideal.sig) → Buf (Elt Ideal) ℓ) (c : Dev Cert.Kernel2Ideal.nD)

theorem finD_of (h : Cert.Pre_Kernel2Ideal_finite2 m) : FinD (argD m c) := by
  intro r k
  have := congrFun (h c).1 (ix2 r k)
  unfold Cert.Pre_finite2.fn at this
  dsimp only at this
  pointwise at this
  refine (real_of_lt this).trans (congrArg _ ?_)
  unfold cot
  rw [dif_pos ⟨r.isLt, k.isLt⟩]
theorem finP_of (h : Cert.Pre_Kernel2Ideal_finite2 m) : FinP (argP m c) := by
  intro r k h1 h2
  have := congrFun (h c).2 (ix2 r ⟨k.val - 1536, by omega⟩)
  unfold Cert.Pre_finite2.fn at this
  dsimp only at this
  pointwise at this
  rw [show (⟨1536 + (k.val - 1536), by omega⟩ : Fin 5120) = k from Fin.ext (by dsimp only; omega)] at this
  refine (real_of_lt this).trans (congrArg _ ?_)
  unfold col
  rw [dif_pos ⟨r.isLt, k.isLt⟩]

/-- The reference's run, its results named by the stages of its text. -/
theorem run_reference (m' : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) Cert.Reference2Ideal.main) ⟨m', fun _ => 0, ρ⟩ fun r =>
      ∀ c : Dev Cert.Reference2Ideal.nD,
        let A (b : Ref Cert.Reference2Ideal.sig .tc) := m' ((c.tc : Thread Cert.Reference2Ideal.nD Cert.Reference2Ideal.τ).loc b)
        let B (b : Ref Cert.Reference2Ideal.sig .tc) := r.2.mem ((c.tc : Thread Cert.Reference2Ideal.nD Cert.Reference2Ideal.τ).loc b)
        B Cert.Reference2Ideal.main_v49 = val_main_v49 (F := Ideal) (A Cert.Reference2Ideal.main_arg0) (A Cert.Reference2Ideal.main_arg1)
        ∧ B Cert.Reference2Ideal.main_v47 = val_main_v47 (F := Ideal) (A Cert.Reference2Ideal.main_arg0) (A Cert.Reference2Ideal.main_arg1)
        ∧ B Cert.Reference2Ideal.main_v46 = val_main_v46 (F := Ideal) (A Cert.Reference2Ideal.main_arg0) (A Cert.Reference2Ideal.main_arg1)
        ∧ B Cert.Reference2Ideal.main_arg0 = A Cert.Reference2Ideal.main_arg0
        ∧ B Cert.Reference2Ideal.main_arg1 = A Cert.Reference2Ideal.main_arg1 :=
  Idealize.ShloMosaic.θ_run_mono (Cert.Reference2Ideal.Value.run m' ρ) fun r h c =>
    ⟨(h c).1.trans (val_main_v49_eq _ _), (h c).2.1.trans (val_main_v47_eq _ _), (h c).2.2.1.trans (val_main_v46_eq _ _), (h c).2.2.2⟩

open Cert.Kernel2Ideal.Gen in
/-- The host's lines before the launch leave the arguments alone. -/
theorem entry_arg0 : StableHlo.after (List.flatten [hostOps0 (F := Ideal), hostOps0_1, hostOps0_2]) (fun b => m (c, b)) (Proc.tc.devRef Cert.Kernel2Ideal.main_arg0) = m (c.tc.loc Cert.Kernel2Ideal.main_arg0) := by
  simp only [hostOps0, hostOps0_1, hostOps0_2, List.flatten_cons, List.flatten_nil, List.append_nil, List.cons_append, List.nil_append]
  entry_read
  rfl
open Cert.Kernel2Ideal.Gen in
theorem entry_arg1 : StableHlo.after (List.flatten [hostOps0 (F := Ideal), hostOps0_1, hostOps0_2]) (fun b => m (c, b)) (Proc.tc.devRef Cert.Kernel2Ideal.main_arg1) = m (c.tc.loc Cert.Kernel2Ideal.main_arg1) := by
  simp only [hostOps0, hostOps0_1, hostOps0_2, List.flatten_cons, List.flatten_nil, List.append_nil, List.cons_append, List.nil_append]
  entry_read
  rfl

variable {m c}
theorem same_6 (h : Cert.Pre_Kernel2Ideal_finite2 m) : val_main_v49 (F := Ideal) (argD m c) (argP m c) = (dats m 0 c).arrAt 6 (Cert.Kernel2Ideal.cfgs 0).N := by
  rw [final_6 (finP_of m c h) (finD_of m c h)]
  funext y
  obtain ⟨a, b, rfl⟩ : ∃ (a : Fin 4096) (b : Fin 512), y = ix2 a b := ⟨y 0, y 1, eq_ix2 y⟩
  exact Cert.Reference2Ideal.Hand.v49_at (finP_of m c h) (finD_of m c h) a b
theorem same_7 (h : Cert.Pre_Kernel2Ideal_finite2 m) : val_main_v47 (F := Ideal) (argD m c) (argP m c) = (dats m 0 c).arrAt 7 (Cert.Kernel2Ideal.cfgs 0).N := by
  rw [final_7 (finP_of m c h) (finD_of m c h)]
  funext y
  obtain ⟨a, b, rfl⟩ : ∃ (a : Fin 4096) (b : Fin 512), y = ix2 a b := ⟨y 0, y 1, eq_ix2 y⟩
  exact Cert.Reference2Ideal.Hand.v47_at (finP_of m c h) (finD_of m c h) a b
theorem same_8 (h : Cert.Pre_Kernel2Ideal_finite2 m) : val_main_v46 (F := Ideal) (argD m c) (argP m c) = (dats m 0 c).arrAt 8 (Cert.Kernel2Ideal.cfgs 0).N := by
  rw [final_8 (finP_of m c h) (finD_of m c h)]
  funext y
  obtain ⟨a, b, rfl⟩ : ∃ (a : Fin 4096) (b : Fin 512), y = ix2 a b := ⟨y 0, y 1, eq_ix2 y⟩
  exact Cert.Reference2Ideal.Hand.v46_at (finP_of m c h) (finD_of m c h) a b

/-- The kernel's gradients of the attention's queries, keys and values are the reference's. -/
theorem algebraic : Cert.algebraic_Kernel2Ideal_Reference2Ideal_pre_finite2 := by
  pair_intro
  · run_from Cert.Kernel2Ideal.Hand.run_main m g
    · exact entry_arg0 m c
    · exact entry_arg1 m c
  · run_from run_reference m' g'
    · exact same_6 (by assumption)
    · exact same_7 (by assumption)
    · exact same_8 (by assumption)

/-- The reference leaves its arguments alone. -/
theorem quiescent : Cert.quiescent_Reference2Ideal := fun m' ρ _ =>
  Idealize.ShloMosaic.θ_run_mono (Cert.Reference2Ideal.Value.run m' ρ) fun r h =>
    ⟨fun c => (h c).2.2.2, sem_eq_zero_of_no_sems (by decide) r.2⟩
theorem quiescent_pre : Cert.quiescent_Reference2Ideal_pre_finite2 := fun m' ρ _ => quiescent m' ρ trivial

/-- The kernel ends, at bits and at reals, with its arguments unchanged. -/
theorem frame_ideal : Cert.quiescent_Kernel2Ideal := fun m ρ _ => Cert.Kernel2Ideal.Hand.frame (F := Ideal) m ρ
theorem frame_ideal_pre : Cert.quiescent_Kernel2Ideal_pre_finite2 := fun m ρ _ => Cert.Kernel2Ideal.Hand.frame (F := Ideal) m ρ
theorem frame_bits : Cert.quiescent_Kernel2 := fun m ρ _ =>
  cast (by sl_kernel_rfl) (Cert.Kernel2Ideal.Hand.frame (F := Bits) m ρ)

end Cert.Attention

end
-- ==== Proof.AttF.While.lean ====
/- The attention's loop over the earlier key blocks, at any float algebra: a loop that runs while blocks remain and
   some row has not finished. One trip as a function of the carried values, the whole loop as a recursion on the
   trips to go, and the triple of its label at that recursion. -/
module

public import proofs.«01_k».proof.Proof.Gen.Kernel11Ideal.Launch
public import proofs.«01_k».proof.Proof.Gen.Kernel11Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal Cert.Kernel11Ideal.Gen

variable {F : FTy → Type} [FloatOps F] [Named F]

/-! ## The words -/

theorem row3 (i : grid0.Coords) (n : ℕ) (h : n < (i 1).val) :
    Affine.IsInt (k0_mult3 i (BitVec.ofNat 32 n)) (256 * (((i 1).val : Int) - 1 - (n : Int))) := by
  have hi : (i 1).val < 16 := (i 1).isLt
  have h1 : Affine.IsInt _ (((i 1).val : Int) - 1) := Affine.subi (Affine.ofNat _ (by omega) : Affine.IsInt (BitVec.ofNat 32 (i 1).val) ((i 1).val : Int)) (Affine.ofNat 1 (by omega) : Affine.IsInt 1#32 1) (by omega)
  have h2 : Affine.IsInt _ (((i 1).val : Int) - 1 - (n : Int)) := Affine.subi h1 (Affine.ofNat n (by omega) : Affine.IsInt (BitVec.ofNat 32 n) (n : Int)) (by omega)
  exact Affine.muli h2 (Affine.ofNat 256 (by omega) : Affine.IsInt 256#32 256) (by omega)

theorem off3_eq (i : grid0.Coords) (n : ℕ) (h : n < (i 1).val) :
    k0_off3 i (BitVec.ofNat 32 n) = ![256 * ((i 1).val - 1 - n), 0] := by
  have hi : (i 1).val < 16 := (i 1).isLt
  exact Affine.vec_cons (Affine.indexCast (row3 i n h)) (by omega) <|
    Affine.vec_cons (Affine.ofNat 0 (by omega) : Affine.IsInt 0#32 0) (by omega) <| Affine.vec_nil

theorem chk_of_lt (i : grid0.Coords) (n : ℕ) (h : n < (i 1).val) : k0_chk1 i (BitVec.ofNat 32 n) := by
  have hi : (i 1).val < 16 := (i 1).isLt
  refine ⟨Affine.dvd_of (row3 i n h) 256 (by omega), fun a => ?_⟩
  rw [off3_eq i n h]
  revert a
  exact Fin.forall_fin_two.mpr ⟨by show 256 * ((i 1).val - 1 - n) + 256 ≤ 4096; omega, by show 0 + 256 ≤ 256; omega⟩

/-- The loop goes on: blocks remain and the flag of the last trip is down. -/
abbrev More (i : grid0.Coords) (n flag : BitVec 32) : Prop :=
  Scalar.andi (Scalar.cmpi .slt n (BitVec.ofNat 32 (i 1).val)) (Scalar.cmpi .eq flag 0#32) = 1#1

theorem and_left {a b : BitVec 1} (h : Scalar.andi a b = 1#1) : a = 1#1 := by
  have : a &&& b = 1#1 := h
  revert a b; decide

theorem lt_of_more (i : grid0.Coords) (n : ℕ) (hn : n ≤ (i 1).val) {flag : BitVec 32} (h : More i (BitVec.ofNat 32 n) flag) : n < (i 1).val := by
  have hi : (i 1).val < 16 := (i 1).isLt
  have h1 := and_left h
  clear h
  revert h1
  word_cmp

/-! ## One trip, and the loop -/

/-- The values the loop carries: the trips run, the flag, the four heads' sums so far, the output so far. -/
abbrev St (F : FTy → Type) [FloatOps F] [Named F] := BitVec 32 × BitVec 32 × FVec F S256x1 .f32 × FVec F S256x1 .f32 × FVec F S256x1 .f32 × FVec F S256x1 .f32 × FVec F S256x256 .f32

/-- What a trip reads of an array of 4096 rows. -/
def rows (i : grid0.Coords) (arg : Memref sig .tc .vmem S4096x256 .bf16) (f : BufTy.Contents (Elt F) arg.view.ty) (n : BitVec 32) (h : k0_chk1 i n) : Vec F S256x256 .bf16 :=
  (arg.access (Rect.unit (s := S4096x256) (k0_off3 i n) S256x256.size (k0_off3_inb i n h)) : View sig .tc _ _ _).read (Elt F) f

/-- A load of some rows of a held array. -/
theorem load_rows (c : Dev nD) (k : ℕ) (E : Set ℕ) (arg : Memref sig .tc .vmem S4096x256 .bf16) (r : Rect S4096x256) {hl : arg.view.LoadsAt r.toLoadRect}
    {kk : (r.shape.Idx → Elt F .bf16) → Prog (TpuEff nD τ sig (Elt F) (Λ₀ F) .tc) (St F)} (f : BufTy.Contents (Elt F) arg.view.ty)
    (Q : St F → sProp (MT nD τ sig Unit (Elt F) ℕ (UR sig nD τ) ℕ)) :
    (arg.view.loc (c : Thread nD τ) ↦[arg.view.set]{fullShare} f)
      ⊢ iprop(((arg.view.loc (c : Thread nD τ) ↦[arg.view.set]{fullShare} f)
          -∗ wp frame (wpE (defs₀ (F := F)) Variants.nat (c : Thread nD τ) (some k)) E (kk ((arg.access r : View sig .tc _ _ _).read (Elt F) f)) Q)
        -∗ wp frame (wpE (defs₀ (F := F)) Variants.nat (c : Thread nD τ) (some k)) E (.op (.load arg r.toLoadRect hl) kk) Q) :=
  wp_load_rect Variants.nat (c : Thread nD τ) (some k) E (m := arg) (r := r) (S := arg.view.set) (f := f) (View.set_slice_subset _ _)

section Loop

variable (i : grid0.Coords) (arg3 : Memref sig .tc .vmem S4096x256 .bf16) (harg3 : arg3.IsWhole) (v33 v5 v35 v37 v39 : FVec F S256x256 .bf16)
  (arg4 : Memref sig .tc .vmem S4096x256 .bf16) (harg4 : arg4.IsWhole) (v12 v17 v22 v27 : IVec S256x256 1) (v67 v74 v81 v88 : FVec F S256x1 .f32)
  (f3 : BufTy.Contents (Elt F) arg3.view.ty) (f4 : BufTy.Contents (Elt F) arg4.view.ty)

/-- One trip's new values, over the blocks it read. -/
def tripOf (kb vb : Vec F S256x256 .bf16) (s : St F) : St F :=
  (Scalar.addi s.1 1#32,
   Scalar.extui (Scalar.cmpf .oge (k0_pay7 v67 v74 v81 v88 (k0_pay66 v33 s.2.2.1 kb) (k0_pay71 s.2.2.2.1 (k0_pay68 v35 kb)) (k0_pay75 v37 s.2.2.2.2.1 (k0_pay62 kb)) (k0_pay79 v39 s.2.2.2.2.2.1 (k0_pay62 kb))) (Scalar.ofBits .f32 0x00000000#32)),
   k0_pay66 v33 s.2.2.1 kb, k0_pay71 s.2.2.2.1 (k0_pay68 v35 kb), k0_pay75 v37 s.2.2.2.2.1 (k0_pay62 kb), k0_pay79 v39 s.2.2.2.2.2.1 (k0_pay62 kb),
   k0_pay6 v12 v17 v22 v27 s.2.2.2.2.2.2 (k0_pay65 v33 v5 s.2.2.1 kb) (k0_pay70 (k0_pay69 v5 v35 s.2.2.2.1 kb)) (k0_pay74 v5 v37 s.2.2.2.2.1 (k0_pay62 kb)) (k0_pay78 v5 v39 s.2.2.2.2.2.1 (k0_pay62 kb)) vb)

/-- The loop with at most `k` trips to go. -/
def loop : ℕ → St F → St F
  | 0, s => s
  | k + 1, s =>
    if h : k0_chk1 i s.1 ∧ More i s.1 s.2.1 then
      loop k (tripOf v33 v5 v35 v37 v39 v12 v17 v22 v27 v67 v74 v81 v88 (rows i arg3 f3 s.1 h.1) (rows i arg4 f4 s.1 h.1) s)
    else s

/-- The carried values, component by component. -/
def tup (s : St F) : St F := (s.1, s.2.1, s.2.2.1, s.2.2.2.1, s.2.2.2.2.1, s.2.2.2.2.2.1, s.2.2.2.2.2.2)

/-- The two arrays the loop reads. -/
def held (c : Dev nD) : sProp (MT nD τ sig Unit (Elt F) ℕ (UR sig nD τ) ℕ) :=
  iprop((arg3.view.loc (c : Thread nD τ) ↦[arg3.view.set]{fullShare} f3) ∗ (arg4.view.loc (c : Thread nD τ) ↦[arg4.view.set]{fullShare} f4))

/-- The label with at most `k` trips to go: it takes the two arrays, gives them back and returns the loop's values. -/
def spec (c : Dev nD) (k : ℕ) (s : St F) : sWPT (MT nD τ sig Unit (Elt F) ℕ (UR sig nD τ) ℕ) (St F) := do
  sWPT.consume (held arg3 arg4 f3 f4 c)
  sWPT.produce (held arg3 arg4 f3 f4 c)
  pure (tup (loop i arg3 v33 v5 v35 v37 v39 arg4 v12 v17 v22 v27 v67 v74 v81 v88 f3 f4 k s))

theorem spec_apply (c : Dev nD) (k : ℕ) (s : St F) (K : St F → sProp (MT nD τ sig Unit (Elt F) ℕ (UR sig nD τ) ℕ)) :
    spec i arg3 v33 v5 v35 v37 v39 arg4 v12 v17 v22 v27 v67 v74 v81 v88 f3 f4 c k s K
      = iprop(held arg3 arg4 f3 f4 c ∗ (held arg3 arg4 f3 f4 c -∗ K (tup (loop i arg3 v33 v5 v35 v37 v39 arg4 v12 v17 v22 v27 v67 v74 v81 v88 f3 f4 k s)))) := rfl

set_option maxHeartbeats 2000000 in
theorem spec_le (c : Dev nD) (E : Set ℕ) : ∀ k n, n ≤ (i 1).val → (i 1).val ≤ k + n → ∀ (s : St F), s.1 = BitVec.ofNat 32 n → ∀ K,
    spec i arg3 v33 v5 v35 v37 v39 arg4 v12 v17 v22 v27 v67 v74 v81 v88 f3 f4 c k s K
      ⊢ wp frame (wpE (defs₀ (F := F)) Variants.nat (c : Thread nD τ) (some k)) E
          (defs₀ (F := F) .tc 1 ⟨i, arg3, harg3, v33, v5, v35, v37, v39, arg4, harg4, v12, v17, v22, v27, v67, v74, v81, v88, s.1, s.2.1, s.2.2.1, s.2.2.2.1, s.2.2.2.2.1, s.2.2.2.2.2.1, s.2.2.2.2.2.2⟩) K := by
  intro k
  induction k with
  | zero =>
    intro n hn hk s hs K
    rw [spec_apply]
    show _ ⊢ wp frame (wpE (defs₀ (F := F)) Variants.nat (c : Thread nD τ) (some 0)) E
      (cc0_while1 i arg3 harg3 v33 v5 v35 v37 v39 arg4 harg4 v12 v17 v22 v27 v67 v74 v81 v88 s.1 s.2.1 s.2.2.1 s.2.2.2.1 s.2.2.2.2.1 s.2.2.2.2.2.1 s.2.2.2.2.2.2) K
    simp only [cc0_while1_eq_skeleton]; unfold cc0_while1_skel
    have ht : ¬More i s.1 s.2.1 := fun h => by
      rw [hs] at h
      have := lt_of_more i n hn h
      omega
    simp only [ht, ↓reduceIte, Prog.pure_eq_ret]
    iintro ⟨H, Hk⟩
    rw [wp_ret]; imodintro
    rw [show tup (loop i arg3 v33 v5 v35 v37 v39 arg4 v12 v17 v22 v27 v67 v74 v81 v88 f3 f4 0 s) = (s.1, s.2.1, s.2.2.1, s.2.2.2.1, s.2.2.2.2.1, s.2.2.2.2.2.1, s.2.2.2.2.2.2) from rfl]
    iapply Hk
    iexact H
  | succ k ih =>
    intro n hn hk s hs K
    rw [spec_apply]
    show _ ⊢ wp frame (wpE (defs₀ (F := F)) Variants.nat (c : Thread nD τ) (some (k + 1))) E
      (cc0_while1 i arg3 harg3 v33 v5 v35 v37 v39 arg4 harg4 v12 v17 v22 v27 v67 v74 v81 v88 s.1 s.2.1 s.2.2.1 s.2.2.2.1 s.2.2.2.2.1 s.2.2.2.2.2.1 s.2.2.2.2.2.2) K
    simp only [cc0_while1_eq_skeleton]; unfold cc0_while1_skel
    by_cases ht : More i s.1 s.2.1
    · have hlt : n < (i 1).val := lt_of_more i n hn (hs ▸ ht)
      have hchk : k0_chk1 i s.1 := hs ▸ chk_of_lt i n hlt
      simp only [ht, ↓reduceIte]
      simp only [k0_part6_eq_skeleton, k0_part7_eq_skeleton]; unfold k0_part6_skel k0_part7_skel
      simp only [Prog.lift, Prog.bind_op, Prog.bind_ret, Prog.pure_eq_ret]
      unfold held
      iintro ⟨⟨H3, H4⟩, Hk⟩
      iapply (wp_assume Variants.nat (c : Thread nD τ) (some (k + 1)) E hchk)
      iapply (load_rows c (k + 1) E arg3 _ f3 _) $$ H3; iintro H3
      iapply (load_rows c (k + 1) E arg4 _ f4 _) $$ H4; iintro H4
      iapply (wp_call_spec Variants.nat (c : Thread nD τ) (some (k + 1)) E
        (spec i arg3 v33 v5 v35 v37 v39 arg4 v12 v17 v22 v27 v67 v74 v81 v88 f3 f4 c k
          (tripOf v33 v5 v35 v37 v39 v12 v17 v22 v27 v67 v74 v81 v88 (rows i arg3 f3 s.1 hchk) (rows i arg4 f4 s.1 hchk) s)) k
        (fun u hu => by cases hu; exact Nat.lt_succ_self k)
        (ih (n + 1) hlt (by omega) _ (by show Scalar.addi s.1 1#32 = _; rw [hs]; exact (BitVec.ofNat_add n 1).symm)))
      rw [spec_apply]; unfold held
      isplitl [H3 H4]
      · isplitl [H3]; · iexact H3
        iexact H4
      iintro H
      rw [wp_ret]; imodintro
      have e : loop i arg3 v33 v5 v35 v37 v39 arg4 v12 v17 v22 v27 v67 v74 v81 v88 f3 f4 (k + 1) s
          = loop i arg3 v33 v5 v35 v37 v39 arg4 v12 v17 v22 v27 v67 v74 v81 v88 f3 f4 k
            (tripOf v33 v5 v35 v37 v39 v12 v17 v22 v27 v67 v74 v81 v88 (rows i arg3 f3 s.1 hchk) (rows i arg4 f4 s.1 hchk) s) :=
        dif_pos ⟨hchk, ht⟩
      rw [e]
      iapply Hk
      iexact H
    · simp only [ht, ↓reduceIte, Prog.pure_eq_ret]
      iintro ⟨H, Hk⟩
      rw [wp_ret]; imodintro
      have e : loop i arg3 v33 v5 v35 v37 v39 arg4 v12 v17 v22 v27 v67 v74 v81 v88 f3 f4 (k + 1) s = s := dif_neg fun h => ht h.2
      rw [e, show tup s = (s.1, s.2.1, s.2.2.1, s.2.2.2.1, s.2.2.2.2.1, s.2.2.2.2.2.1, s.2.2.2.2.2.2) from rfl]
      iapply Hk
      iexact H

end Loop

end Cert.Kernel11Ideal.Hand

end
-- ==== Proof.AttF.RunLater.lean ====
/- One run of the attention's body at a later query block: the keys' norms are in the scratch buffer already. -/
module

public import proofs.«01_k».proof.Proof.AttF.While
public import proofs.«01_k».proof.Proof.Gen.Kernel11Ideal.Loops
public import proofs.«01_k».proof.Proof.Gen.Kernel11Ideal.Points

@[expose] public section

set_option maxRecDepth 16384

noncomputable section

namespace Cert.Kernel11Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal Cert.Kernel11Ideal.Gen

variable {F : FTy → Type} [FloatOps F] [Named F]

abbrev cond (i : grid0.Coords) : Prop := k0_cond1 i = 1#1

set_option maxHeartbeats 2000000 in
/-- The body at a later query block. -/
noncomputable def later (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S4x1x1 .f32) (harg8 : arg8.IsWhole) (hc0 : ¬cond i)
    (x0 : Vec F S256x256 .bf16) (x1 : Vec F S4096x256 .bf16) (x2 : Vec F S4096x256 .bf16) (x6 : Vec F S4x1x1 .f32) :
    Σ' (L3 : List (View.Piece (Elt F) S256x256 .bf16)), Σ' (L4 : List (View.Piece (Elt F) S256x256 .f32)), { L5 : List (View.Piece (Elt F) S1x1x8x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare x6
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare x6) -∗ K ⟨⟩))
          ⊢ wp frame (wpE (defs₀ (F := F)) Variants.nat c none) E (cc0_attn_fwd i arg2 harg2 arg3 harg3 arg4 harg4 arg5 harg5 arg6 harg6 arg7 harg7 arg8 harg8) K } := by
  refine ⟨?_, ?_, ?_, fun E K => ?run⟩
  case run =>
    simp only [cc0_attn_fwd_eq_skeleton]; unfold cc0_attn_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, Hk⟩
    obtain rfl := harg2.eq_unread hf0; obtain rfl := harg3.eq_unread hf1; obtain rfl := harg4.eq_unread hf2; obtain rfl := harg8.eq_unread hf6
    sl_exec (disch := first | sl_exact hc0)
    iapply (wp_call_spec Variants.nat (c : Thread nD τ) none E
      (spec i arg3 _ _ _ _ _ arg4 _ _ _ _ _ _ _ _ (harg3.unread x1) (harg4.unread x2) c (i 1).val (_, _, _, _, _, _, _)) (i 1).val
      (fun u hu => nomatch hu)
      (spec_le i arg3 harg3 _ _ _ _ _ arg4 harg4 _ _ _ _ _ _ _ _ (harg3.unread x1) (harg4.unread x2) c E (i 1).val 0 (Nat.zero_le _) (Nat.le_refl _) (0#32, _, _, _, _, _, _) rfl))
    rw [spec_apply]; unfold held
    isplitl [H1 H2]
    · isplitl [H1]; · iexact H1
      iexact H2
    iintro ⟨H1, H2⟩
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H5]
    · iexists _; iexact H5
    iexists _; isplitr; · ipureintro; exact harg8.read_unread _
    iexact H6

end Cert.Kernel11Ideal.Hand

end
-- ==== Proof.AttF.RunFirst.lean ====
/- One run of the attention's body at the first query block of a head group: it measures the keys and leaves their norms in
   the scratch buffer. -/
module

public import proofs.«01_k».proof.Proof.AttF.RunLater

@[expose] public section

set_option maxRecDepth 16384

noncomputable section

namespace Cert.Kernel11Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal Cert.Kernel11Ideal.Gen

variable {F : FTy → Type} [FloatOps F] [Named F]

set_option maxHeartbeats 2000000 in
/-- The body at a first query block. -/
noncomputable def first (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S4x1x1 .f32) (harg8 : arg8.IsWhole) (hc0 : cond i)
    (x0 : Vec F S256x256 .bf16) (x1 : Vec F S4096x256 .bf16) (x2 : Vec F S4096x256 .bf16) :
    Σ' (L3 : List (View.Piece (Elt F) S256x256 .bf16)), Σ' (L4 : List (View.Piece (Elt F) S256x256 .f32)), Σ' (L5 : List (View.Piece (Elt F) S1x1x8x128 .f32)), { L6 : List (View.Piece (Elt F) S4x1x1 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.nat c none) E (cc0_attn_fwd i arg2 harg2 arg3 harg3 arg4 harg4 arg5 harg5 arg6 harg6 arg7 harg7 arg8 harg8) K } := by
  refine ⟨?_, ?_, ?_, ?_, fun E K => ?run⟩
  case run =>
    simp only [cc0_attn_fwd_eq_skeleton]; unfold cc0_attn_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2
    sl_exec (disch := first | sl_exact hc0)
    iapply (wp_call_spec Variants.nat (c : Thread nD τ) none E
      (spec i arg3 _ _ _ _ _ arg4 _ _ _ _ _ _ _ _ (harg3.unread x1) (harg4.unread x2) c (i 1).val (_, _, _, _, _, _, _)) (i 1).val
      (fun u hu => nomatch hu)
      (spec_le i arg3 harg3 _ _ _ _ _ arg4 harg4 _ _ _ _ _ _ _ _ (harg3.unread x1) (harg4.unread x2) c E (i 1).val 0 (Nat.zero_le _) (Nat.le_refl _) (0#32, _, _, _, _, _, _) rfl))
    rw [spec_apply]; unfold held
    isplitl [H1 H2]
    · isplitl [H1]; · iexact H1
      iexact H2
    iintro ⟨H1, H2⟩
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [H4]
    · iexists _; iexact H4
    isplitl [H5]
    · iexists _; iexact H5
    iexists _; iexact H6

end Cert.Kernel11Ideal.Hand

end
-- ==== Proof.AttF.Frame.lean ====
/- The attention forward's frame, at any float algebra: the arrays as the grid finds them, what each point leaves in
   the three results and in the kept key norms, the body's triple at a point, and the run of the whole program. -/
module

public import proofs.«01_k».proof.Proof.AttF.RunFirst
public import Idealize.ShloMosaic.Lib.Claim

@[expose] public section

set_option maxRecDepth 16384

noncomputable section

namespace Cert.Kernel11Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal Cert.Kernel11Ideal.Gen
open Idealize.ShloMosaic.Pipeline (Dat Cfg Window BodyObligation cellOf)

variable {F : FTy → Type} [FloatOps F] [Named F] (m : (ℓ : Loc nD τ sig) → Buf (Elt F) ℓ) (ρ : Dev nD → PrngReg)

/-! ## The arrays as the grid finds them -/

/-- A core's buffers once the one host operation has run. -/
abbrev V (c : Dev nD) (b : Ref sig .tc) : Buf (Elt F) ((c : Thread nD τ).loc b) :=
  StableHlo.after (List.flatten [hostOps0]) (fun b => m (c, b)) b

theorem host_fresh : (hostOps0 : List (HloOp τ sig (Elt F))).Forall fun op => op.fresh = ∅ := by
  simp only [List.Forall]; repeat' constructor

theorem to_grid : Pipeline.HMain (Ix := Unit) (Name := ℕ) (U := UR sig nD τ) (Lvl := ℕ) cfgs 0 defs₀ Variants.nat m (main (F := F)) (V m) :=
  Pipeline.hmain_prefixes cfgs 0 defs₀ Variants.nat m main [hostOps0] (by simp only [List.Forall]; exact hostOps0_sub)
    (by simp only [List.Forall]; exact host_fresh) main_chain

theorem V_arg (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes, Finset.mem_singleton]
    exact StableHlo.devRef_ne_of_ne (by decide)))

/-- What an argument's window shows at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem cond_iff (t : Fin (cfg0 (F := F)).N) : cond (grid0.coords t) ↔ t.val % 16 = 0 := by
  have ht : t.val < 32 := Nat.lt_of_lt_of_eq t.isLt N_0
  have e1 : (grid0.coords t 1).val = t.val / 1 % 16 := Pipeline.Grid.coords_val t 1 (show grid0.stride 1 = 1 from by decide) rfl
  simp only [cond, k0_cond1, e1]
  word_cmp

/-! ## The staging buffers at a point -/

abbrev stg0 (t : Fin (cfg0 (F := F)).N) : Memref sig .tc .vmem S256x256 .bf16 := win0_0.stage ((cfg0 (F := F)).slots t 0)
abbrev whole0 (t : Fin (cfg0 (F := F)).N) : (stg0 t).IsWhole := hstage0_0 (((cfg0 (F := F)).slots t 0).cast nbuf0_0)
abbrev stg1 (t : Fin (cfg0 (F := F)).N) : Memref sig .tc .vmem S4096x256 .bf16 := win0_1.stage ((cfg0 (F := F)).slots t 1)
abbrev whole1 (t : Fin (cfg0 (F := F)).N) : (stg1 t).IsWhole := hstage0_1 (((cfg0 (F := F)).slots t 1).cast nbuf0_1)
abbrev stg2 (t : Fin (cfg0 (F := F)).N) : Memref sig .tc .vmem S4096x256 .bf16 := win0_2.stage ((cfg0 (F := F)).slots t 2)
abbrev whole2 (t : Fin (cfg0 (F := F)).N) : (stg2 t).IsWhole := hstage0_2 (((cfg0 (F := F)).slots t 2).cast nbuf0_2)
abbrev stg3 (t : Fin (cfg0 (F := F)).N) : Memref sig .tc .vmem S256x256 .bf16 := win0_3.stage ((cfg0 (F := F)).slots t 3)
abbrev whole3 (t : Fin (cfg0 (F := F)).N) : (stg3 t).IsWhole := hstage0_3 (((cfg0 (F := F)).slots t 3).cast nbuf0_3)
abbrev stg4 (t : Fin (cfg0 (F := F)).N) : Memref sig .tc .vmem S256x256 .f32 := win0_4.stage ((cfg0 (F := F)).slots t 4)
abbrev whole4 (t : Fin (cfg0 (F := F)).N) : (stg4 t).IsWhole := hstage0_4 (((cfg0 (F := F)).slots t 4).cast nbuf0_4)
abbrev stg5 (t : Fin (cfg0 (F := F)).N) : Memref sig .tc .vmem S1x1x8x128 .f32 := win0_5.stage ((cfg0 (F := F)).slots t 5)
abbrev whole5 (t : Fin (cfg0 (F := F)).N) : (stg5 t).IsWhole := hstage0_5 (((cfg0 (F := F)).slots t 5).cast nbuf0_5)
abbrev norms : Memref sig .tc .vmem S4x1x1 .f32 := Memref.whole cc0_scratch0

/-- The run at the first query block of a head group. -/
abbrev runFirst (c : Dev nD) (t : Fin (cfg0 (F := F)).N) (h : t.val % 16 = 0) :=
  first c (grid0.coords t) (stg0 t) (whole0 t) (stg1 t) (whole1 t) (stg2 t) (whole2 t) (stg3 t) (whole3 t) (stg4 t) (whole4 t) (stg5 t) (whole5 t) norms (Memref.isWhole_whole _) ((cond_iff t).mpr h) (iblk m c 0 t) (iblk m c 1 t) (iblk m c 2 t)
/-- The run at a later one, over the key norms kept. -/
abbrev runLater (c : Dev nD) (t : Fin (cfg0 (F := F)).N) (h : ¬t.val % 16 = 0) (x6 : Vec F S4x1x1 .f32) :=
  later c (grid0.coords t) (stg0 t) (whole0 t) (stg1 t) (whole1 t) (stg2 t) (whole2 t) (stg3 t) (whole3 t) (stg4 t) (whole4 t) (stg5 t) (whole5 t) norms (Memref.isWhole_whole _) (fun hc => h ((cond_iff t).mp hc)) (iblk m c 0 t) (iblk m c 1 t) (iblk m c 2 t) x6

/-! ## The stores cover -/

section
variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S4x1x1 .f32) (harg8 : arg8.IsWhole)
  (x0 : Vec F S256x256 .bf16) (x1 : Vec F S4096x256 .bf16) (x2 : Vec F S4096x256 .bf16) (x6 : Vec F S4x1x1 .f32)
theorem first_covers3 (hc : cond i) (y : S256x256.Idx) : ∃ pc ∈ (first c i arg2 harg2 arg3 harg3 arg4 harg4 arg5 harg5 arg6 harg6 arg7 harg7 arg8 harg8 hc x0 x1 x2).1, y ∈ pc.1.set :=
  View.cover_of_tiledL (first c i arg2 harg2 arg3 harg3 arg4 harg4 arg5 harg5 arg6 harg6 arg7 harg7 arg8 harg8 hc x0 x1 x2).1 S256x256.size (by sl_kernel_rfl) y
theorem first_covers4 (hc : cond i) (y : S256x256.Idx) : ∃ pc ∈ (first c i arg2 harg2 arg3 harg3 arg4 harg4 arg5 harg5 arg6 harg6 arg7 harg7 arg8 harg8 hc x0 x1 x2).2.1, y ∈ pc.1.set :=
  View.cover_of_tiledL (first c i arg2 harg2 arg3 harg3 arg4 harg4 arg5 harg5 arg6 harg6 arg7 harg7 arg8 harg8 hc x0 x1 x2).2.1 S256x256.size (by sl_kernel_rfl) y
theorem first_covers5 (hc : cond i) (y : S1x1x8x128.Idx) : ∃ pc ∈ (first c i arg2 harg2 arg3 harg3 arg4 harg4 arg5 harg5 arg6 harg6 arg7 harg7 arg8 harg8 hc x0 x1 x2).2.2.1, y ∈ pc.1.set :=
  View.cover_of_tiledL (first c i arg2 harg2 arg3 harg3 arg4 harg4 arg5 harg5 arg6 harg6 arg7 harg7 arg8 harg8 hc x0 x1 x2).2.2.1 S1x1x8x128.size (by sl_kernel_rfl) y
theorem first_covers6 (hc : cond i) (y : S4x1x1.Idx) : ∃ pc ∈ (first c i arg2 harg2 arg3 harg3 arg4 harg4 arg5 harg5 arg6 harg6 arg7 harg7 arg8 harg8 hc x0 x1 x2).2.2.2.1, y ∈ pc.1.set :=
  View.cover_of_tiledL (first c i arg2 harg2 arg3 harg3 arg4 harg4 arg5 harg5 arg6 harg6 arg7 harg7 arg8 harg8 hc x0 x1 x2).2.2.2.1 ![1, 1, 1] (by sl_kernel_rfl) y
theorem later_covers3 (hc : ¬cond i) (y : S256x256.Idx) : ∃ pc ∈ (later c i arg2 harg2 arg3 harg3 arg4 harg4 arg5 harg5 arg6 harg6 arg7 harg7 arg8 harg8 hc x0 x1 x2 x6).1, y ∈ pc.1.set :=
  View.cover_of_tiledL (later c i arg2 harg2 arg3 harg3 arg4 harg4 arg5 harg5 arg6 harg6 arg7 harg7 arg8 harg8 hc x0 x1 x2 x6).1 S256x256.size (by sl_kernel_rfl) y
theorem later_covers4 (hc : ¬cond i) (y : S256x256.Idx) : ∃ pc ∈ (later c i arg2 harg2 arg3 harg3 arg4 harg4 arg5 harg5 arg6 harg6 arg7 harg7 arg8 harg8 hc x0 x1 x2 x6).2.1, y ∈ pc.1.set :=
  View.cover_of_tiledL (later c i arg2 harg2 arg3 harg3 arg4 harg4 arg5 harg5 arg6 harg6 arg7 harg7 arg8 harg8 hc x0 x1 x2 x6).2.1 S256x256.size (by sl_kernel_rfl) y
theorem later_covers5 (hc : ¬cond i) (y : S1x1x8x128.Idx) : ∃ pc ∈ (later c i arg2 harg2 arg3 harg3 arg4 harg4 arg5 harg5 arg6 harg6 arg7 harg7 arg8 harg8 hc x0 x1 x2 x6).2.2.1, y ∈ pc.1.set :=
  View.cover_of_tiledL (later c i arg2 harg2 arg3 harg3 arg4 harg4 arg5 harg5 arg6 harg6 arg7 harg7 arg8 harg8 hc x0 x1 x2 x6).2.2.1 S1x1x8x128.size (by sl_kernel_rfl) y
end

/-! ## What a point leaves -/

/-- One buffer of each, to read its pieces through. -/
abbrev view3 : View sig .tc .vmem S256x256 .bf16 := (Memref.whole cc0_stg3_0 : Memref sig .tc .vmem S256x256 .bf16).view
abbrev view4 : View sig .tc .vmem S256x256 .f32 := (Memref.whole cc0_stg4_0 : Memref sig .tc .vmem S256x256 .f32).view
abbrev view5 : View sig .tc .vmem S1x1x8x128 .f32 := (Memref.whole cc0_stg5_0 : Memref sig .tc .vmem S1x1x8x128 .f32).view
abbrev view6 : View sig .tc .vmem S4x1x1 .f32 := norms.view

/-- The key norms a first query block leaves. -/
def normsOf (c : Dev nD) (t : Fin (cfg0 (F := F)).N) (h : t.val % 16 = 0) : Vec F S4x1x1 .f32 :=
  view6.read (Elt F) (view6.writes (Elt F) view6.junk (runFirst m c t h).2.2.2.1)

/-- The key norms after the first `n + 1` points. -/
def kept (c : Dev nD) : (n : ℕ) → n < (cfg0 (F := F)).N → Vec F S4x1x1 .f32
  | 0, hn => normsOf m c ⟨0, hn⟩ (Nat.zero_mod _)
  | n + 1, hn => if h : (n + 1) % 16 = 0 then normsOf m c ⟨n + 1, hn⟩ h else kept c n (Nat.lt_of_succ_lt hn)

theorem kept_first (c : Dev nD) (t : Fin (cfg0 (F := F)).N) (h : t.val % 16 = 0) : kept m c t.val t.isLt = normsOf m c t h := by
  obtain ⟨_ | n, hn⟩ := t
  · rfl
  · exact dif_pos h

theorem kept_later (c : Dev nD) (t : Fin (cfg0 (F := F)).N) (h : ¬t.val % 16 = 0) :
    kept m c t.val t.isLt = kept m c (t.val - 1) (Nat.lt_of_le_of_lt (Nat.sub_le _ _) t.isLt) := by
  obtain ⟨_ | n, hn⟩ := t
  · exact absurd (Nat.zero_mod _) h
  · exact dif_neg h

/-- The three results a point leaves, read off the pieces stored. -/
def readings (L3 : List (View.Piece (Elt F) S256x256 .bf16)) (L4 : List (View.Piece (Elt F) S256x256 .f32))
    (L5 : List (View.Piece (Elt F) S1x1x8x128 .f32)) : Vec F S256x256 .bf16 × Vec F S256x256 .f32 × Vec F S1x1x8x128 .f32 :=
  (view3.read (Elt F) (view3.writes (Elt F) view3.junk L3), view4.read (Elt F) (view4.writes (Elt F) view4.junk L4),
   view5.read (Elt F) (view5.writes (Elt F) view5.junk L5))

def left (c : Dev nD) (t : Fin (cfg0 (F := F)).N) : Vec F S256x256 .bf16 × Vec F S256x256 .f32 × Vec F S1x1x8x128 .f32 :=
  if h : t.val % 16 = 0 then readings (runFirst m c t h).1 (runFirst m c t h).2.1 (runFirst m c t h).2.2.1
  else
    have x6 := kept m c (t.val - 1) (Nat.lt_of_le_of_lt (Nat.sub_le _ _) t.isLt)
    readings (runLater m c t h x6).1 (runLater m c t h x6).2.1 (runLater m c t h x6).2.2.1

/-! ## The proof data -/

/-- The key norms' buffer and the generator between points. -/
def between (c : Dev nD) : (n : ℕ) → n < (cfg0 (F := F)).N + 1 → sProp (MT nD τ sig Unit (Elt F) ℕ (UR sig nD τ) ℕ)
  | 0, _ => Pipeline.ΦA spec0 c
  | n + 1, hn => iprop(owns (c : Thread nD τ) norms fullShare (kept m c n (Nat.lt_of_succ_lt_succ hn)) ∗ ∃ r, prngReg c r)

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => (left m c t).1
    | ⟨4, _⟩ => (left m c t).2.1
    | ⟨5, _⟩ => (left m c t).2.2
  Φ t := between m c t.val t.isLt
  q w := Pipeline.shareOf spec0 w
  owed _ := 0

theorem A_eq (c : Dev nD) (w : Fin (cfg0 (F := F)).W) : (dats m 0 c).A w = V m c (Pipeline.arrRef spec0 w) := by dsimp only [dats]
theorem after0 (c : Dev nD) (t : Fin (cfg0 (F := F)).N) : (dats m 0 c).after 0 t = iblk m c 0 t := rfl
theorem after1 (c : Dev nD) (t : Fin (cfg0 (F := F)).N) : (dats m 0 c).after 1 t = iblk m c 1 t := rfl
theorem after2 (c : Dev nD) (t : Fin (cfg0 (F := F)).N) : (dats m 0 c).after 2 t = iblk m c 2 t := rfl
theorem after3 (c : Dev nD) (t : Fin (cfg0 (F := F)).N) : (dats m 0 c).after 3 t = (left m c t).1 := rfl
theorem after4 (c : Dev nD) (t : Fin (cfg0 (F := F)).N) : (dats m 0 c).after 4 t = (left m c t).2.1 := rfl
theorem after5 (c : Dev nD) (t : Fin (cfg0 (F := F)).N) : (dats m 0 c).after 5 t = (left m c t).2.2 := rfl
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- Before any point the key norms' buffer is held at some contents. -/
theorem between_any (c : Dev nD) (n : ℕ) (hn : n < (cfg0 (F := F)).N + 1) :
    between m c n hn ⊢ iprop((∃ d, owns (c : Thread nD τ) norms fullShare d) ∗ ∃ r, prngReg c r) := by
  cases n with
  | zero =>
    unfold between Pipeline.ΦA
    rw [scopedRest0_eq]
    iintro ⟨⟨%f, H⟩, Hr⟩
    isplitl [H]
    · iexists f; rw [owns_whole]; iexact H
    iexact Hr
  | succ n =>
    unfold between
    iintro ⟨H, Hr⟩
    isplitl [H]
    · iexists _; iexact H
    iexact Hr

theorem between_out (c : Dev nD) : (dats m 0 c).Φ (Fin.last (cfg0 (F := F)).N) ⊢ Pipeline.ΦA spec0 c := by
  refine (between_any m c (Fin.last (cfg0 (F := F)).N).val (Fin.last (cfg0 (F := F)).N).isLt).trans ?_
  unfold Pipeline.ΦA
  rw [scopedRest0_eq]
  iintro ⟨⟨%f, H⟩, Hr⟩
  isplitl [H]
  · iexists f; rw [← owns_whole]; iexact H
  iexact Hr

theorem between_later (c : Dev nD) (t : Fin (cfg0 (F := F)).N) (h : ¬t.val % 16 = 0) :
    (dats m 0 c).Φ t.castSucc ⊢ iprop(owns (c : Thread nD τ) norms fullShare (kept m c (t.val - 1) (Nat.lt_of_le_of_lt (Nat.sub_le _ _) t.isLt)) ∗ ∃ r, prngReg c r) := by
  obtain ⟨_ | n, hn⟩ := t
  · exact absurd (Nat.zero_mod _) h
  · exact .rfl

/-! ## The body at a point -/

/-- What the body is called with. -/
def before (c : Dev nD) (t : Fin (cfg0 (F := F)).N) : sProp (MT nD τ sig Unit (Elt F) ℕ (UR sig nD τ) ℕ) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))
/-- What it returns. -/
def after (c : Dev nD) (t : Fin (cfg0 (F := F)).N) : sProp (MT nD τ sig Unit (Elt F) ℕ (UR sig nD τ) ℕ) :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t))

set_option maxHeartbeats 3200000 in
theorem body_at (c : Dev nD) (t : Fin (cfg0 (F := F)).N) :
    before m c t ⊢ wp frame (wpE (defs₀ (F := F)) Variants.nat c none) Set.univ (bodyAt0 t) (fun _ => after m c t) := by
  unfold before after bodyAt0
  simp only [before0, before1, before2]
  rw [show (dats m 0 c).Φ t.succ = iprop(owns (c : Thread nD τ) norms fullShare (kept m c t.val t.isLt) ∗ ∃ r, prngReg c r) from rfl,
    show (dats m 0 c).owesAt () t.succ = (dats m 0 c).owesAt () t.castSucc from rfl,
    after0, after1, after2, after3, after4, after5]
  unfold left
  by_cases h : t.val % 16 = 0
  · rw [kept_first m c t h, dif_pos h]
    unfold readings normsOf; dsimp only
    rw [show (dats m 0 c).Φ t.castSucc = between m c t.castSucc.val t.castSucc.isLt from rfl]
    iintro ⟨HΦ, Ho, ⟨%d0, H0⟩, ⟨%d1, H1⟩, ⟨%d2, H2⟩, ⟨%d3, H3⟩, ⟨%d4, H4⟩, ⟨%d5, H5⟩⟩
    ihave HΦ := (between_any m c t.castSucc.val t.castSucc.isLt) $$ HΦ
    icases HΦ with ⟨⟨%d6, H6⟩, Hr⟩
    iapply ((runFirst m c t h).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [H6 Hr]
    · isplitl [H6]
      · unfold owns; iexists _; isplitr
        swap; · iexact H6
        ipureintro; exact View.read_writes_of_cover _ _ _ _ _ (first_covers6 c _ _ _ _ _ _ _ _ _ _ _ _ _ _ _ _ _ _ _)
      iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (first_covers3 c _ _ _ _ _ _ _ _ _ _ _ _ _ _ _ _ _ _ _)
    isplitl [H4]
    · unfold owns; iexists _; isplitr
      swap; · iexact H4
      ipureintro; exact View.read_writes_of_cover _ _ _ _ _ (first_covers4 c _ _ _ _ _ _ _ _ _ _ _ _ _ _ _ _ _ _ _)
    unfold owns; iexists _; isplitr
    swap; · iexact H5
    ipureintro; exact View.read_writes_of_cover _ _ _ _ _ (first_covers5 c _ _ _ _ _ _ _ _ _ _ _ _ _ _ _ _ _ _ _)
  · rw [kept_later m c t h, dif_neg h]
    unfold readings; dsimp only
    iintro ⟨HΦ, Ho, ⟨%d0, H0⟩, ⟨%d1, H1⟩, ⟨%d2, H2⟩, ⟨%d3, H3⟩, ⟨%d4, H4⟩, ⟨%d5, H5⟩⟩
    ihave HΦ := (between_later m c t h) $$ HΦ
    icases HΦ with ⟨H6, Hr⟩
    iapply ((runLater m c t h _).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexact H6
    iintro ⟨H0, H1, H2, ⟨%e3, H3⟩, ⟨%e4, H4⟩, ⟨%e5, H5⟩, H6⟩
    isplitl [H6 Hr]
    · isplitl [H6]; · iexact H6
      iexact Hr
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (later_covers3 c _ _ _ _ _ _ _ _ _ _ _ _ _ _ _ _ _ _ _ _)
    isplitl [H4]
    · unfold owns; iexists _; isplitr
      swap; · iexact H4
      ipureintro; exact View.read_writes_of_cover _ _ _ _ _ (later_covers4 c _ _ _ _ _ _ _ _ _ _ _ _ _ _ _ _ _ _ _ _)
    unfold owns; iexists _; isplitr
    swap; · iexact H5
    ipureintro; exact View.read_writes_of_cover _ _ _ _ _ (later_covers5 c _ _ _ _ _ _ _ _ _ _ _ _ _ _ _ _ _ _ _ _)

theorem obligation (c : Dev nD) : BodyObligation (dats (F := F) m 0 c) (defs₀ (F := F)) Variants.nat () Set.univ := fun t => by
  rw [bigSep_W0, bigSep_W0, show defs₀ (F := F) .tc (cfg0 (F := F)).body ((cfg0 (F := F)).bodyArgs t ((cfg0 (F := F)).slots t)) = bodyAt0 t from by
    unfold defs₀; rw [Defs.onTc_tc]]
  exact triple_restated (body_at m c t) rfl .rfl fun _ => .rfl

/-! ## The run and the frame -/

set_option backward.isDefEq.respectTransparency.types false in
/-- The whole program runs, and every counter ends at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.nat m ρ main
    (hbody := fun c => (obligation m c).loose) (hq := fun _ _ _ => rfl)
    (howed := fun _ _ => rfl) (V := V m) (hmain := to_grid m) (hA := A_eq m) (hin := fun _ => .rfl) (hout := between_out m)

theorem run_main : θ_run defs (onTc (τ := τ) (main (F := F))) (s₀ m ρ) (Pipeline.FramePost cfgs (dats m) 0 (V m)) :=
  (θ_run defs _ _).mono (fun _ h => h.1) (run_quiet m ρ)

/-- The argument ends as it began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0 (Pipeline.mem_restRefs_of main_arg0 (by decide) (show ∀ w : Fin 6, (spec0 w).arr.view.ref ≠ main_arg0 from by decide))).trans (V_arg m c), h.2⟩)
    (run_quiet m ρ)

end Cert.Kernel11Ideal.Hand

end
-- ==== Proof.AttF.Pieces.lean ====
/- What a block of queries stores, of the blocks it reads: the state its loop starts from, and the stores at the end. -/
module

public import proofs.«01_k».proof.Proof.AttF.Frame
public import Idealize.ShloMosaic.Lib.VecWindow

@[expose] public section

set_option maxRecDepth 16384

noncomputable section

namespace Cert.Kernel11Ideal.Hand

open Idealize.ShloMosaic Idealize.ShloMosaic.TcCoe Idealize.SL.Sem
open Cert.Kernel11Ideal Cert.Kernel11Ideal.Gen

variable {F : FTy → Type} [FloatOps F] [Named F]

/-- What the loop starts from: the diagonal block done. -/
def start (x0 kb vb : Vec F S256x256 .bf16) (n0 n1 n2 n3 : FVec F S256x1 .f32) : St F :=
  (0#32,
   Scalar.extui (Scalar.cmpf .oge (k0_pay2 n0 n1 n2 n3 (k0_pay48 k0_pay39 (k0_pay46 k0_pay9 (k0_pay15 x0) kb)) (k0_pay52 k0_pay9 (k0_pay16 x0) k0_pay40 (k0_pay44 kb)) (k0_pay56 k0_pay41 (k0_pay54 k0_pay9 (k0_pay17 x0) (k0_pay44 kb))) (k0_pay59 k0_pay9 (k0_pay18 x0) k0_pay42 (k0_pay44 kb))) (Scalar.ofBits .f32 0x00000000#32)),
   k0_pay48 k0_pay39 (k0_pay46 k0_pay9 (k0_pay15 x0) kb), k0_pay52 k0_pay9 (k0_pay16 x0) k0_pay40 (k0_pay44 kb), k0_pay56 k0_pay41 (k0_pay54 k0_pay9 (k0_pay17 x0) (k0_pay44 kb)), k0_pay59 k0_pay9 (k0_pay18 x0) k0_pay42 (k0_pay44 kb),
   k0_pay1 k0_pay43 (k0_pay60 k0_pay10 k0_pay11 k0_pay12 k0_pay13 vb)
    (k0_pay61 k0_pay8 k0_pay9 (k0_pay18 x0) k0_pay42 (k0_pay44 kb) (k0_pay47 k0_pay8 k0_pay9 (k0_pay15 x0) kb) (k0_pay51 k0_pay8 k0_pay9 (k0_pay16 x0) k0_pay40 (k0_pay44 kb)) (k0_pay55 k0_pay8 k0_pay9 (k0_pay17 x0) k0_pay41 (k0_pay44 kb))))

/-- The block of a head group's keys or values at the diagonal. -/
abbrev diag (i : grid0.Coords) (arg : Memref sig .tc .vmem S4096x256 .bf16) (f : BufTy.Contents (Elt F) arg.view.ty) : Vec F S256x256 .bf16 :=
  arg.view.readAt (Elt F) (Rect.unit (s := S4096x256) (k0_off2 i) S256x256.size (k0_off2_inb i)).toLoadRect f

/-- What the loop ends with. -/
def done (i : grid0.Coords) (arg3 arg4 : Memref sig .tc .vmem S4096x256 .bf16) (f3 : BufTy.Contents (Elt F) arg3.view.ty) (f4 : BufTy.Contents (Elt F) arg4.view.ty) (x0 : Vec F S256x256 .bf16) (n0 n1 n2 n3 : FVec F S256x1 .f32) : St F :=
  loop i arg3 (k0_pay15 x0) k0_pay8 (k0_pay16 x0) (k0_pay17 x0) (k0_pay18 x0) arg4 k0_pay10 k0_pay11 k0_pay12 k0_pay13 n0 n1 n2 n3 f3 f4 (i 1).val (start x0 (diag i arg3 f3) (diag i arg4 f4) n0 n1 n2 n3)

/-- The stores of a point, of what the loop ends with. -/
def Stores (i : grid0.Coords) (s : St F) (L3 : List (View.Piece (Elt F) S256x256 .bf16)) (L4 : List (View.Piece (Elt F) S256x256 .f32)) (L5 : List (View.Piece (Elt F) S1x1x8x128 .f32)) : Prop :=
  L3 = [⟨Rect.unit ![0, 0] S256x256.size inb_S256x256_S256x256_0_0, k0_pay3 s.2.2.2.2.2.2⟩]
  ∧ L4 = [⟨Rect.unit ![0, 0] S256x256.size inb_S256x256_S256x256_0_0, k0_pay4 k0_pay10 k0_pay11 k0_pay12 k0_pay13 s.2.2.1 s.2.2.2.1 s.2.2.2.2.1 s.2.2.2.2.2.1⟩]
  ∧ L5 = [⟨Rect.unit ![0, 0, 0, 0] S1x1x8x128.size inb_S1x1x8x128_S1x1x8x128_0_0_0_0, k0_pay5 (BitVec.ofNat 32 (i 1).val) s.1⟩]

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S4x1x1 .f32) (harg8 : arg8.IsWhole)
  (x0 : Vec F S256x256 .bf16) (x1 : Vec F S4096x256 .bf16) (x2 : Vec F S4096x256 .bf16) (x6 : Vec F S4x1x1 .f32)

set_option maxRecDepth 400000 in
set_option maxHeartbeats 1600000 in
theorem later_stores (hc0 : ¬cond i) : ∃ n1 n2 n3 : FVec F S256x1 .f32,
    Stores i (done i arg3 arg4 (harg3.unread x1) (harg4.unread x2) x0
      (k0_pay34 k0_pay10 (k0_pay14 x0) (arg8.view.readAt (Elt F) (Rect.unit (s := S4x1x1) ![0, 0, 0] S1x1x1.size inb_S4x1x1_S1x1x1_0_0_0).toLoadRect (harg8.unread x6))) n1 n2 n3)
      (later c i arg2 harg2 arg3 harg3 arg4 harg4 arg5 harg5 arg6 harg6 arg7 harg7 arg8 harg8 hc0 x0 x1 x2 x6).1 (later c i arg2 harg2 arg3 harg3 arg4 harg4 arg5 harg5 arg6 harg6 arg7 harg7 arg8 harg8 hc0 x0 x1 x2 x6).2.1 (later c i arg2 harg2 arg3 harg3 arg4 harg4 arg5 harg5 arg6 harg6 arg7 harg7 arg8 harg8 hc0 x0 x1 x2 x6).2.2.1 := by
  have e2 : arg2.view.readAt (Elt F) (Rect.unit (s := S256x256) ![0, 0] S256x256.size inb_S256x256_S256x256_0_0).toLoadRect (harg2.unread x0) = x0 := (View.readAt_full _ _ _).trans (harg2.read_unread _)
  have h : ∃ n1 n2 n3 : FVec F S256x1 .f32, Stores i (done i arg3 arg4 (harg3.unread x1) (harg4.unread x2) (arg2.view.readAt (Elt F) (Rect.unit (s := S256x256) ![0, 0] S256x256.size inb_S256x256_S256x256_0_0).toLoadRect (harg2.unread x0))
      (k0_pay34 k0_pay10 (k0_pay14 (arg2.view.readAt (Elt F) (Rect.unit (s := S256x256) ![0, 0] S256x256.size inb_S256x256_S256x256_0_0).toLoadRect (harg2.unread x0))) (arg8.view.readAt (Elt F) (Rect.unit (s := S4x1x1) ![0, 0, 0] S1x1x1.size inb_S4x1x1_S1x1x1_0_0_0).toLoadRect (harg8.unread x6))) n1 n2 n3)
      (later c i arg2 harg2 arg3 harg3 arg4 harg4 arg5 harg5 arg6 harg6 arg7 harg7 arg8 harg8 hc0 x0 x1 x2 x6).1 (later c i arg2 harg2 arg3 harg3 arg4 harg4 arg5 harg5 arg6 harg6 arg7 harg7 arg8 harg8 hc0 x0 x1 x2 x6).2.1 (later c i arg2 harg2 arg3 harg3 arg4 harg4 arg5 harg5 arg6 harg6 arg7 harg7 arg8 harg8 hc0 x0 x1 x2 x6).2.2.1 :=
    ⟨later.sl.r_7 c arg2 harg2 arg8 harg8 x0 x6, later.sl.r_9 c arg2 harg2 arg8 harg8 x0 x6, later.sl.r_10 c arg2 harg2 arg8 harg8 x0 x6, rfl, rfl, rfl⟩
  rwa [e2] at h

/-- The values a first query block stores as its norms are read back from the list of its stores. -/
abbrev back (hc0 : cond i) : FVec F S1x1x1 .f32 :=
  arg8.view.readCov (first c i arg2 harg2 arg3 harg3 arg4 harg4 arg5 harg5 arg6 harg6 arg7 harg7 arg8 harg8 hc0 x0 x1 x2).2.2.2.1 (Rect.unit (s := S4x1x1) ![0, 0, 0] S1x1x1.size inb_S4x1x1_S1x1x1_0_0_0).toLoadRect

set_option maxRecDepth 400000 in
set_option maxHeartbeats 1600000 in
theorem first_stores (hc0 : cond i) : ∃ n1 n2 n3 : FVec F S256x1 .f32,
    Stores i (done i arg3 arg4 (harg3.unread x1) (harg4.unread x2) x0 (k0_pay34 k0_pay10 (k0_pay14 x0) (back c i arg2 harg2 arg3 harg3 arg4 harg4 arg5 harg5 arg6 harg6 arg7 harg7 arg8 harg8 x0 x1 x2 hc0)) n1 n2 n3)
      (first c i arg2 harg2 arg3 harg3 arg4 harg4 arg5 harg5 arg6 harg6 arg7 harg7 arg8 harg8 hc0 x0 x1 x2).1 (first c i arg2 harg2 arg3 harg3 arg4 harg4 arg5 harg5 arg6 harg6 arg7 harg7 arg8 harg8 hc0 x0 x1 x2).2.1 (first c i arg2 harg2 arg3 harg3 arg4 harg4 arg5 harg5 arg6 harg6 arg7 harg7 arg8 harg8 hc0 x0 x1 x2).2.2.1 := by
  have e2 : arg2.view.readAt (Elt F) (Rect.unit (s := S256x256) ![0, 0] S256x256.size inb_S256x256_S256x256_0_0).toLoadRect (harg2.unread x0) = x0 := (View.readAt_full _ _ _).trans (harg2.read_unread _)
  have h : ∃ n1 n2 n3 : FVec F S256x1 .f32, Stores i (done i arg3 arg4 (harg3.unread x1) (harg4.unread x2) (arg2.view.readAt (Elt F) (Rect.unit (s := S256x256) ![0, 0] S256x256.size inb_S256x256_S256x256_0_0).toLoadRect (harg2.unread x0))
      (k0_pay34 k0_pay10 (k0_pay14 (arg2.view.readAt (Elt F) (Rect.unit (s := S256x256) ![0, 0] S256x256.size inb_S256x256_S256x256_0_0).toLoadRect (harg2.unread x0))) (arg8.view.readCov (first.sl.H6_4 c i arg2 harg2 arg3 harg3 arg4 harg4 arg5 harg5 arg6 harg6 arg7 harg7 arg8 harg8 hc0 x0 x1) (Rect.unit (s := S4x1x1) ![0, 0, 0] S1x1x1.size inb_S4x1x1_S1x1x1_0_0_0).toLoadRect)) n1 n2 n3)
      (first c i arg2 harg2 arg3 harg3 arg4 harg4 arg5 harg5 arg6 harg6 arg7 harg7 arg8 harg8 hc0 x0 x1 x2).1 (first c i arg2 harg2 arg3 harg3 arg4 harg4 arg5 harg5 arg6 harg6 arg7 harg7 arg8 harg8 hc0 x0 x1 x2).2.1 (first c i arg2 harg2 arg3 harg3 arg4 harg4 arg5 harg5 arg6 harg6 arg7 harg7 arg8 harg8 hc0 x0 x1 x2).2.2.1 :=
    ⟨first.sl.r_7 c i arg2 harg2 arg3 harg3 arg4 harg4 arg5 harg5 arg6 harg6 arg7 harg7 arg8 harg8 hc0 x0 x1, first.sl.r_9 c i arg2 harg2 arg3 harg3 arg4 harg4 arg5 harg5 arg6 harg6 arg7 harg7 arg8 harg8 hc0 x0 x1, first.sl.r_10 c i arg2 harg2 arg3 harg3 arg4 harg4 arg5 harg5 arg6 harg6 arg7 harg7 arg8 harg8 hc0 x0 x1, rfl, rfl, rfl⟩
  have e6 : (first c i arg2 harg2 arg3 harg3 arg4 harg4 arg5 harg5 arg6 harg6 arg7 harg7 arg8 harg8 hc0 x0 x1 x2).2.2.2.1 = first.sl.H6_4 c i arg2 harg2 arg3 harg3 arg4 harg4 arg5 harg5 arg6 harg6 arg7 harg7 arg8 harg8 hc0 x0 x1 := rfl
  unfold back
  rw [e6]
  rwa [e2] at h

set_option maxRecDepth 400000 in
set_option maxHeartbeats 1600000 in
/-- The four norms' stores: the first head's is the greatest of the sums of squares its loop found. -/
theorem first_norms (hc0 : cond i) : ∃ w3 w2 w1 : FVec F S1x1x1 .f32, ∃ a : BufTy.Contents (Elt F) arg3.view.ty, ∃ p q,
    (first c i arg2 harg2 arg3 harg3 arg4 harg4 arg5 harg5 arg6 harg6 arg7 harg7 arg8 harg8 hc0 x0 x1 x2).2.2.2.1 =
      [⟨Rect.unit (s := S4x1x1) ![3, 0, 0] S1x1x1.size inb_S4x1x1_S1x1x1_3_0_0, w3⟩, ⟨Rect.unit (s := S4x1x1) ![2, 0, 0] S1x1x1.size inb_S4x1x1_S1x1x1_2_0_0, w2⟩,
       ⟨Rect.unit (s := S4x1x1) ![1, 0, 0] S1x1x1.size inb_S4x1x1_S1x1x1_1_0_0, w1⟩,
       ⟨Rect.unit (s := S4x1x1) ![0, 0, 0] S1x1x1.size inb_S4x1x1_S1x1x1_0_0_0,
         k0_pay28 (st_k0_t1 Variants.nat c none i arg2 harg2 arg3 harg3 arg4 harg4 arg5 harg5 arg6 harg6 arg7 harg7 arg8 harg8 k0_pay10 k0_pay11 k0_pay12 k0_pay13 p q hc0 a (k0_pay19, k0_pay20, k0_pay21, k0_pay22) (Scf.trips k0_t1_loop.lb k0_t1_loop.ub k0_t1_loop.st)).1⟩] :=
  ⟨_, _, _, harg3.unread x1, _, _, rfl⟩

end Cert.Kernel11Ideal.Hand

end
-- ==== Proof.AttF.Pay.lean ====
/- What each piece of the attention's forward body computes on real blocks. -/
module

public import proofs.«01_k».proof.Proof.Gen.Kernel11Ideal.Skeleton
public import proofs.«01_k».proof.Proof.Att.Block
public import Idealize.ShloMosaic.Lib.WordCmp

@[expose] public section

set_option maxRecDepth 16384

noncomputable section

namespace Cert.Kernel11Ideal.Hand

open Idealize.ShloMosaic Idealize.ShloMosaic.TcCoe Idealize.SL.Sem
open Cert.Kernel11Ideal Cert.Kernel11Ideal.Gen

open Att (coe_sum sp E A)
open Cert.Kernel2Ideal.Hand (abs_coe flag_coe and_flag flag_congr lane_ge lane_lt cat4 sum_cat4 four_heads eighth16)

/-! ## Sums of a block -/

section Sums
variable (z : ℕ → ℕ → ℝ)

/-- The softplus of a block's scores from position `b` on, and of all that come later, is what a weight takes off its score. -/
theorem weight_after (r n b : ℕ) (hb : b ≤ 256) :
    Real.exp (z r (n + b) - ((∑ x : Fin 256, sp (z r (n + x.val)) * (if b ≤ x.val then 1 else 0)) + (E z r r - E z r (n + 256)))) = A z r (n + b) := by
  have e : (∑ x : Fin 256, sp (z r (n + x.val)) * (if b ≤ x.val then (1 : ℝ) else 0)) = (∑ x : Fin 256, sp (z r (n + x.val))) - ∑ x : Fin 256, sp (z r (n + x.val)) * (if x.val < b then 1 else 0) := by
    rw [← Finset.sum_sub_distrib]
    refine Finset.sum_congr rfl fun x _ => ?_
    by_cases h : x.val < b
    · rw [if_pos h, if_neg (by omega)]; ring
    · rw [if_neg h, if_pos (by omega)]; ring
  have e1 := Att.E_block z r n
  have e2 := Att.E_before z r n b hb
  unfold A
  refine congrArg Real.exp ?_
  rw [e]
  linarith

/-- The same on the diagonal block, where only the keys before the query count. -/
theorem weight_diag (R : ℕ) {a b : ℕ} (hab : b < a) (ha : a ≤ 256) :
    Real.exp (z (R + a) (R + b) - ((∑ x : Fin 256, (if x.val < a then sp (z (R + a) (R + x.val)) else 0) * (if b ≤ x.val then 1 else 0)))) = A z (R + a) (R + b) := by
  have e : (∑ x : Fin 256, (if x.val < a then sp (z (R + a) (R + x.val)) else 0) * (if b ≤ x.val then (1 : ℝ) else 0))
      = (∑ x : Fin 256, sp (z (R + a) (R + x.val)) * (if x.val < a then 1 else 0)) - ∑ x : Fin 256, sp (z (R + a) (R + x.val)) * (if x.val < b then 1 else 0) := by
    rw [← Finset.sum_sub_distrib]
    refine Finset.sum_congr rfl fun x _ => ?_
    by_cases h : x.val < b
    · rw [if_neg (show ¬ b ≤ x.val by omega), if_pos h]
      simp only [if_pos (show x.val < a by omega)]
      ring
    · rw [if_neg h, if_pos (show b ≤ x.val by omega)]
      by_cases h' : x.val < a
      · rw [if_pos h', if_pos h']; ring
      · rw [if_neg h', if_neg h']; ring
  have e1 := Att.E_before z (R + a) R a ha
  have e2 := Att.E_before z (R + a) R b (by omega)
  unfold A
  refine congrArg Real.exp ?_
  rw [e]
  linarith

theorem later_diag (R : ℕ) {a : ℕ} (ha : a ≤ 256) :
    (0 : ℝ) + (∑ x : Fin 256, if x.val < a then sp (z (R + a) (R + x.val)) else 0) = E z (R + a) (R + a) - E z (R + a) R := by
  have e := Att.E_before z (R + a) R a ha
  simp only [mul_ite, mul_one, mul_zero] at e
  linarith
end Sums

/-! ## The masks -/

theorem tri_at (a b : Fin 256) : k0_pay8 (F := Ideal) (ix2 a b) = ((if b.val ≤ a.val then 1 else 0 : ℝ) : EReal) := by
  pointwise [k0_pay8]
  rw [Idealize.ShloMosaic.WordCmp.cmpi_sge_ofNat (show a.val < 2 ^ (32 - 1) by omega) (show b.val < 2 ^ (32 - 1) by omega), flag_coe]
theorem causal_at (a b : Fin 256) : k0_pay9 (ix2 a b) = BitVec.ofBool (decide (b.val < a.val)) := by
  pointwise [k0_pay9]
  rw [Idealize.ShloMosaic.WordCmp.cmpi_slt_ofNat (show b.val < 2 ^ (32 - 1) by omega) (show a.val < 2 ^ (32 - 1) by omega)]
theorem mask0_at (a l : Fin 256) : k0_pay10 (ix2 a l) = BitVec.ofBool (decide (l.val / 64 = 0)) := by
  pointwise [k0_pay10]
  exact (congrArg₂ IntOp.andi (lane_ge l 0 (by omega)) (lane_lt l 64 (by omega))).trans ((and_flag _ _).trans (flag_congr (by omega)))
theorem mask1_at (a l : Fin 256) : k0_pay11 (ix2 a l) = BitVec.ofBool (decide (l.val / 64 = 1)) := by
  pointwise [k0_pay11]
  exact (congrArg₂ IntOp.andi (lane_ge l 64 (by omega)) (lane_lt l 128 (by omega))).trans ((and_flag _ _).trans (flag_congr (by omega)))
theorem mask2_at (a l : Fin 256) : k0_pay12 (ix2 a l) = BitVec.ofBool (decide (l.val / 64 = 2)) := by
  pointwise [k0_pay12]
  exact (congrArg₂ IntOp.andi (lane_ge l 128 (by omega)) (lane_lt l 192 (by omega))).trans ((and_flag _ _).trans (flag_congr (by omega)))
theorem mask3_at (a l : Fin 256) : k0_pay13 (ix2 a l) = BitVec.ofBool (decide (l.val / 64 = 3)) := by
  pointwise [k0_pay13]
  exact (congrArg₂ IntOp.andi (lane_ge l 192 (by omega)) (lane_lt l 256 (by omega))).trans ((and_flag _ _).trans (flag_congr (by omega)))

section Operands
variable {x : FVec Ideal S256x256 .bf16} {X : Fin 256 → Fin 256 → ℝ} (hx : ∀ a l : Fin 256, x (ix2 a l) = ((X a l : ℝ) : EReal))
include hx
theorem scaled_at (a l : Fin 256) : k0_pay14 (F := Ideal) x (ix2 a l) = ((X a l * (1 / 8) : ℝ) : EReal) := by
  pointwise [k0_pay14, hx]
  rw [eighth16, ← EReal.coe_mul]
theorem q0_at (a l : Fin 256) : k0_pay15 (F := Ideal) x (ix2 a l) = ((if l.val / 64 = 0 then X a l * (1 / 8) else 0 : ℝ) : EReal) := by
  pointwise [k0_pay15, scaled_at hx, mask0_at]
  split <;> rfl
theorem q1_at (a l : Fin 256) : k0_pay16 (F := Ideal) x (ix2 a l) = ((if l.val / 64 = 1 then X a l * (1 / 8) else 0 : ℝ) : EReal) := by
  pointwise [k0_pay16, scaled_at hx, mask1_at]
  split <;> rfl
theorem q2_at (a l : Fin 256) : k0_pay17 (F := Ideal) x (ix2 a l) = ((if l.val / 64 = 2 then X a l * (1 / 8) else 0 : ℝ) : EReal) := by
  pointwise [k0_pay17, scaled_at hx, mask2_at]
  split <;> rfl
theorem q3_at (a l : Fin 256) : k0_pay18 (F := Ideal) x (ix2 a l) = ((if l.val / 64 = 3 then X a l * (1 / 8) else 0 : ℝ) : EReal) := by
  pointwise [k0_pay18, scaled_at hx, mask3_at]
  split <;> rfl
end Operands

/-! ## One head, one block of keys before the diagonal -/

/-- Softplus as the body writes it. -/
theorem sp_body (t : ℝ) : max (t : EReal) 0 + Ideal.log (1 + Ideal.exp (0 - FloatOps.absf (F := Ideal) (φ := .f32) ((t : ℝ) : EReal))) = ((sp t : ℝ) : EReal) := by
  rw [abs_coe, ← EReal.coe_zero, ← EReal.coe_sub, Ideal.exp_coe, ← EReal.coe_one, ← EReal.coe_add, Ideal.log_coe, if_neg (not_le.mpr (by positivity)), Att.coe_max, ← EReal.coe_add, zero_sub]
  rfl

section Off
variable {q k : FVec Ideal S256x256 .bf16} {L : FVec Ideal S256x1 .f32} {z : ℕ → ℕ → ℝ} {R n : ℕ}
  (hz : ∀ a b : Fin 256, (∑ l : Fin 256, q (ix2 a l) * k (ix2 b l)) = ((z (R + a) (n + b) : ℝ) : EReal))
  (hL : ∀ a : Fin 256, L (ix2 a 0) = ((E z (R + a) (R + a) - E z (R + a) (n + 256) : ℝ) : EReal))
include hz

theorem offZ0 (a b : Fin 256) : k0_pay63 q k (ix2 a b) = ((z (R + a) (n + b) : ℝ) : EReal) := by
  pointwise [k0_pay63, k0_pay62, hz]
theorem offS0 (a b : Fin 256) : k0_pay64 q k (ix2 a b) = ((sp (z (R + a) (n + b)) : ℝ) : EReal) := by
  pointwise [k0_pay64, offZ0 hz]
  exact sp_body _
include hL in
theorem offA0 (a b : Fin 256) : k0_pay65 q k0_pay8 L k (ix2 a b) = ((A z (R + a) (n + b) : ℝ) : EReal) := by
  pointwise [k0_pay65, offZ0 hz, offS0 hz, tri_at, hL]
  simp only [← EReal.coe_mul, coe_sum, ← EReal.coe_add, ← EReal.coe_sub, Ideal.exp_coe]
  rw [weight_after z _ n b.val b.isLt.le]
include hL in
theorem offL0 (a : Fin 256) : k0_pay66 q L k (ix2 a 0) = ((E z (R + a) (R + a) - E z (R + a) n : ℝ) : EReal) := by
  pointwise [k0_pay66, offS0 hz, hL]
  simp only [coe_sum, ← EReal.coe_add]
  rw [Att.E_block]
  exact congrArg _ (by ring)

theorem offZ1 (a b : Fin 256) : k0_pay67 q k (ix2 a b) = ((z (R + a) (n + b) : ℝ) : EReal) := by
  pointwise [k0_pay67, k0_pay62, hz]
theorem offS1 (a b : Fin 256) : k0_pay68 q k (ix2 a b) = ((sp (z (R + a) (n + b)) : ℝ) : EReal) := by
  pointwise [k0_pay68, offZ1 hz]
  exact sp_body _
include hL in
theorem offA1 (a b : Fin 256) : k0_pay70 (k0_pay69 k0_pay8 q L k) (ix2 a b) = ((A z (R + a) (n + b) : ℝ) : EReal) := by
  pointwise [k0_pay70, k0_pay69, offZ1 hz, offS1 hz, tri_at, hL]
  simp only [← EReal.coe_mul, coe_sum, ← EReal.coe_add, ← EReal.coe_sub, Ideal.exp_coe]
  rw [weight_after z _ n b.val b.isLt.le]
include hL in
theorem offL1 (a : Fin 256) : k0_pay71 L (k0_pay68 q k) (ix2 a 0) = ((E z (R + a) (R + a) - E z (R + a) n : ℝ) : EReal) := by
  pointwise [k0_pay71, offS1 hz, hL]
  simp only [coe_sum, ← EReal.coe_add]
  rw [Att.E_block]
  exact congrArg _ (by ring)

theorem offZ2 (a b : Fin 256) : k0_pay72 q (k0_pay62 k) (ix2 a b) = ((z (R + a) (n + b) : ℝ) : EReal) := by
  pointwise [k0_pay72, k0_pay62, hz]
theorem offS2 (a b : Fin 256) : k0_pay73 q (k0_pay62 k) (ix2 a b) = ((sp (z (R + a) (n + b)) : ℝ) : EReal) := by
  pointwise [k0_pay73, offZ2 hz]
  exact sp_body _
include hL in
theorem offA2 (a b : Fin 256) : k0_pay74 k0_pay8 q L (k0_pay62 k) (ix2 a b) = ((A z (R + a) (n + b) : ℝ) : EReal) := by
  pointwise [k0_pay74, offZ2 hz, offS2 hz, tri_at, hL]
  simp only [← EReal.coe_mul, coe_sum, ← EReal.coe_add, ← EReal.coe_sub, Ideal.exp_coe]
  rw [weight_after z _ n b.val b.isLt.le]
include hL in
theorem offL2 (a : Fin 256) : k0_pay75 q L (k0_pay62 k) (ix2 a 0) = ((E z (R + a) (R + a) - E z (R + a) n : ℝ) : EReal) := by
  pointwise [k0_pay75, offS2 hz, hL]
  simp only [coe_sum, ← EReal.coe_add]
  rw [Att.E_block]
  exact congrArg _ (by ring)

theorem offZ3 (a b : Fin 256) : k0_pay76 q (k0_pay62 k) (ix2 a b) = ((z (R + a) (n + b) : ℝ) : EReal) := by
  pointwise [k0_pay76, k0_pay62, hz]
theorem offS3 (a b : Fin 256) : k0_pay77 q (k0_pay62 k) (ix2 a b) = ((sp (z (R + a) (n + b)) : ℝ) : EReal) := by
  pointwise [k0_pay77, offZ3 hz]
  exact sp_body _
include hL in
theorem offA3 (a b : Fin 256) : k0_pay78 k0_pay8 q L (k0_pay62 k) (ix2 a b) = ((A z (R + a) (n + b) : ℝ) : EReal) := by
  pointwise [k0_pay78, offZ3 hz, offS3 hz, tri_at, hL]
  simp only [← EReal.coe_mul, coe_sum, ← EReal.coe_add, ← EReal.coe_sub, Ideal.exp_coe]
  rw [weight_after z _ n b.val b.isLt.le]
include hL in
theorem offL3 (a : Fin 256) : k0_pay79 q L (k0_pay62 k) (ix2 a 0) = ((E z (R + a) (R + a) - E z (R + a) n : ℝ) : EReal) := by
  pointwise [k0_pay79, offS3 hz, hL]
  simp only [coe_sum, ← EReal.coe_add]
  rw [Att.E_block]
  exact congrArg _ (by ring)
end Off

/-! ## One head, the block of keys on the diagonal -/

section Diag
variable {q k : FVec Ideal S256x256 .bf16} {z : ℕ → ℕ → ℝ} {R : ℕ}
  (hz : ∀ a b : Fin 256, (∑ l : Fin 256, q (ix2 a l) * k (ix2 b l)) = ((z (R + a) (R + b) : ℝ) : EReal))
include hz

theorem onZ0 (a b : Fin 256) : k0_pay45 q k (ix2 a b) = ((z (R + a) (R + b) : ℝ) : EReal) := by
  pointwise [k0_pay45, k0_pay44, hz]
theorem onS0 (a b : Fin 256) : k0_pay46 k0_pay9 q k (ix2 a b) = ((if b.val < a.val then sp (z (R + a) (R + b)) else 0 : ℝ) : EReal) := by
  pointwise [k0_pay46, onZ0 hz, causal_at]
  split
  · exact sp_body _
  · rfl
theorem onL0 (a : Fin 256) : k0_pay48 k0_pay39 (k0_pay46 k0_pay9 q k) (ix2 a 0) = ((E z (R + a) (R + a) - E z (R + a) R : ℝ) : EReal) := by
  pointwise [k0_pay48, k0_pay39, onS0 hz]
  simp only [coe_sum]
  rw [← later_diag z R a.isLt.le, EReal.coe_add, EReal.coe_zero, zero_add]

theorem onZ1 (a b : Fin 256) : k0_pay49 q (k0_pay44 k) (ix2 a b) = ((z (R + a) (R + b) : ℝ) : EReal) := by
  pointwise [k0_pay49, k0_pay44, hz]
theorem onS1 (a b : Fin 256) : k0_pay50 k0_pay9 q (k0_pay44 k) (ix2 a b) = ((if b.val < a.val then sp (z (R + a) (R + b)) else 0 : ℝ) : EReal) := by
  pointwise [k0_pay50, onZ1 hz, causal_at]
  split
  · exact sp_body _
  · rfl
theorem onL1 (a : Fin 256) : k0_pay52 k0_pay9 q k0_pay40 (k0_pay44 k) (ix2 a 0) = ((E z (R + a) (R + a) - E z (R + a) R : ℝ) : EReal) := by
  pointwise [k0_pay52, k0_pay40, onS1 hz]
  simp only [coe_sum]
  rw [← later_diag z R a.isLt.le, EReal.coe_add, EReal.coe_zero, zero_add]

theorem onZ2 (a b : Fin 256) : k0_pay53 q (k0_pay44 k) (ix2 a b) = ((z (R + a) (R + b) : ℝ) : EReal) := by
  pointwise [k0_pay53, k0_pay44, hz]
theorem onS2 (a b : Fin 256) : k0_pay54 k0_pay9 q (k0_pay44 k) (ix2 a b) = ((if b.val < a.val then sp (z (R + a) (R + b)) else 0 : ℝ) : EReal) := by
  pointwise [k0_pay54, onZ2 hz, causal_at]
  split
  · exact sp_body _
  · rfl
theorem onL2 (a : Fin 256) : k0_pay56 k0_pay41 (k0_pay54 k0_pay9 q (k0_pay44 k)) (ix2 a 0) = ((E z (R + a) (R + a) - E z (R + a) R : ℝ) : EReal) := by
  pointwise [k0_pay56, k0_pay41, onS2 hz]
  simp only [coe_sum]
  rw [← later_diag z R a.isLt.le, EReal.coe_add, EReal.coe_zero, zero_add]

theorem onZ3 (a b : Fin 256) : k0_pay57 q (k0_pay44 k) (ix2 a b) = ((z (R + a) (R + b) : ℝ) : EReal) := by
  pointwise [k0_pay57, k0_pay44, hz]
theorem onS3 (a b : Fin 256) : k0_pay58 k0_pay9 q (k0_pay44 k) (ix2 a b) = ((if b.val < a.val then sp (z (R + a) (R + b)) else 0 : ℝ) : EReal) := by
  pointwise [k0_pay58, onZ3 hz, causal_at]
  split
  · exact sp_body _
  · rfl
theorem onL3 (a : Fin 256) : k0_pay59 k0_pay9 q k0_pay42 (k0_pay44 k) (ix2 a 0) = ((E z (R + a) (R + a) - E z (R + a) R : ℝ) : EReal) := by
  pointwise [k0_pay59, k0_pay42, onS3 hz]
  simp only [coe_sum]
  rw [← later_diag z R a.isLt.le, EReal.coe_add, EReal.coe_zero, zero_add]

theorem onA0 (a b : Fin 256) : k0_pay47 k0_pay8 k0_pay9 q k (ix2 a b) = ((if b.val < a.val then A z (R + a) (R + b) else 0 : ℝ) : EReal) := by
  pointwise [k0_pay47, k0_pay39, onZ0 hz, onS0 hz, tri_at, causal_at]
  split
  · next h =>
    simp only [← EReal.coe_mul, coe_sum, ← EReal.coe_add, ← EReal.coe_sub, Ideal.exp_coe]
    rw [weight_diag z R h a.isLt.le]
  · rfl
theorem onA1 (a b : Fin 256) : k0_pay51 k0_pay8 k0_pay9 q k0_pay40 (k0_pay44 k) (ix2 a b) = ((if b.val < a.val then A z (R + a) (R + b) else 0 : ℝ) : EReal) := by
  pointwise [k0_pay51, k0_pay40, onZ1 hz, onS1 hz, tri_at, causal_at]
  split
  · next h =>
    simp only [← EReal.coe_mul, coe_sum, ← EReal.coe_add, ← EReal.coe_sub, Ideal.exp_coe]
    rw [weight_diag z R h a.isLt.le]
  · rfl
/-- The third head's and the fourth's weights, as the body's last piece makes them of what is under the exponential. -/
def third (e : FVec Ideal S256x256 .f32) : FVec Ideal S256x256 .bf16 :=
  truncf .bf16 (select k0_pay9 (exp e) (broadcast S256x256 (Scalar.ofBits .f32 0x00000000#32))) bitsLt_bf16_f32
def fourth (q k : FVec Ideal S256x256 .bf16) : FVec Ideal S256x256 .bf16 :=
  third (subf (k0_pay57 q k) (addf (matmul dot_S256x256_S256x256_S256x256_1_0_0_1_n_n none (truncf .bf16 (k0_pay58 k0_pay9 q k) bitsLt_bf16_f32) k0_pay8 (constant S256x256 .f32 0x00000000#32))
    (broadcastTo S256x256 k0_pay42 broadcasts_S256x1_S256x256)))
theorem onA2 (a b : Fin 256) : third (k0_pay55 k0_pay8 k0_pay9 q k0_pay41 (k0_pay44 k)) (ix2 a b) = ((if b.val < a.val then A z (R + a) (R + b) else 0 : ℝ) : EReal) := by
  pointwise [third, k0_pay55, k0_pay41, onZ2 hz, onS2 hz, tri_at, causal_at]
  split
  · next h =>
    simp only [← EReal.coe_mul, coe_sum, ← EReal.coe_add, ← EReal.coe_sub, Ideal.exp_coe]
    rw [weight_diag z R h a.isLt.le]
  · rfl
theorem onA3 (a b : Fin 256) : fourth q (k0_pay44 k) (ix2 a b) = ((if b.val < a.val then A z (R + a) (R + b) else 0 : ℝ) : EReal) := by
  pointwise [fourth, third, k0_pay42, onZ3 hz, onS3 hz, tri_at, causal_at]
  split
  · next h =>
    simp only [← EReal.coe_mul, coe_sum, ← EReal.coe_add, ← EReal.coe_sub, Ideal.exp_coe]
    rw [weight_diag z R h a.isLt.le]
  · rfl
end Diag

/-! ## The four heads' products with the values -/

section Rows
variable {w0 w1 w2 w3 : FVec Ideal S256x256 .bf16} {W : ℕ → Fin 256 → Fin 256 → ℝ}
  (h0 : ∀ a b : Fin 256, w0 (ix2 a b) = ((W 0 a b : ℝ) : EReal)) (h1 : ∀ a b : Fin 256, w1 (ix2 a b) = ((W 1 a b : ℝ) : EReal))
  (h2 : ∀ a b : Fin 256, w2 (ix2 a b) = ((W 2 a b : ℝ) : EReal)) (h3 : ∀ a b : Fin 256, w3 (ix2 a b) = ((W 3 a b : ℝ) : EReal))
  {k : FVec Ideal S256x256 .bf16} {K : Fin 256 → Fin 256 → ℝ} (hk : ∀ a l : Fin 256, k (ix2 a l) = ((K a l : ℝ) : EReal))

/-- The rows of `k` that lie on a head's lanes. -/
abbrev onHead (M : IVec S256x256 1) (k : FVec Ideal S256x256 .bf16) : FVec Ideal S256x256 .bf16 :=
  select M k (broadcast S256x256 (Scalar.ofBits .bf16 0x0000#16))

/-- The heads' values one under another. -/
def stack (k : FVec Ideal S256x256 .bf16) : FVec Ideal S1024x256 .bf16 :=
  concatenate S1024x256 0 [⟨S256x256, onHead k0_pay10 k⟩, ⟨S256x256, onHead k0_pay11 k⟩, ⟨S256x256, onHead k0_pay12 k⟩, ⟨S256x256, onHead k0_pay13 k⟩] concatenates_S256x256_S256x256_S256x256_S256x256_S1024x256_d0
/-- The four heads' weights side by side. -/
def side (w0 w1 w2 w3 : FVec Ideal S256x256 .bf16) : FVec Ideal S256x1024 .bf16 :=
  concatenate S256x1024 1 [⟨S256x256, w0⟩, ⟨S256x256, w1⟩, ⟨S256x256, w2⟩, ⟨S256x256, w3⟩] concatenates_S256x256_S256x256_S256x256_S256x256_S256x1024_d1

include hk
theorem onHead0 (a l : Fin 256) : onHead k0_pay10 k (ix2 a l) = ((if l.val / 64 = 0 then K a l else 0 : ℝ) : EReal) := by
  pointwise [onHead, hk, mask0_at]
  split <;> rfl
theorem onHead1 (a l : Fin 256) : onHead k0_pay11 k (ix2 a l) = ((if l.val / 64 = 1 then K a l else 0 : ℝ) : EReal) := by
  pointwise [onHead, hk, mask1_at]
  split <;> rfl
theorem onHead2 (a l : Fin 256) : onHead k0_pay12 k (ix2 a l) = ((if l.val / 64 = 2 then K a l else 0 : ℝ) : EReal) := by
  pointwise [onHead, hk, mask2_at]
  split <;> rfl
theorem onHead3 (a l : Fin 256) : onHead k0_pay13 k (ix2 a l) = ((if l.val / 64 = 3 then K a l else 0 : ℝ) : EReal) := by
  pointwise [onHead, hk, mask3_at]
  split <;> rfl

include h0 h1 h2 h3
theorem mix_at {y : FVec Ideal S256x256 .f32} {Y : Fin 256 → Fin 256 → ℝ} (hy : ∀ a l : Fin 256, y (ix2 a l) = ((Y a l : ℝ) : EReal)) (a l : Fin 256) :
    k0_pay1 y (stack k) (side w0 w1 w2 w3) (ix2 a l) = ((Y a l + ∑ b, W (l.val / 64) a b * K b l : ℝ) : EReal) := by
  rw [EReal.coe_add, ← four_heads l (fun h b => W h a b), ← hy]
  have e0 := onHead0 hk
  have e1 := onHead1 hk
  have e2 := onHead2 hk
  have e3 := onHead3 hk
  simp only [← h0, ← h1, ← h2, ← h3, ← e0, ← e1, ← e2, ← e3]
  unfold stack side
  generalize onHead k0_pay10 k = x0
  generalize onHead k0_pay11 k = x1
  generalize onHead k0_pay12 k = x2
  generalize onHead k0_pay13 k = x3
  pointwise [k0_pay1]
  exact congrArg (fun t : EReal => y (ix2 a l) + t) (sum_cat4 (fun b => w0 (ix2 a b)) (fun b => w1 (ix2 a b)) (fun b => w2 (ix2 a b)) (fun b => w3 (ix2 a b))
    (fun b => x0 (ix2 b l)) (fun b => x1 (ix2 b l)) (fun b => x2 (ix2 b l)) (fun b => x3 (ix2 b l)))
end Rows

/-! ## The slack of the early exit, which the name turns off -/

theorem slack_bot {n0 n1 n2 n3 l0 l1 l2 l3 : FVec Ideal S256x1 .f32} (h0 : ∀ a : Fin 256, n0 (ix2 a 0) = (⊤ : EReal))
    {L : Fin 256 → ℝ} (e0 : ∀ a : Fin 256, l0 (ix2 a 0) = ((L a : ℝ) : EReal)) : k0_pay7 n0 n1 n2 n3 l0 l1 l2 l3 = (⊥ : EReal) := by
  pointwise [k0_pay7]
  refine le_antisymm ((Finset.fold_min_le _).mpr (Or.inr ⟨((0 : Fin 256), 0), Finset.mem_univ _, ?_⟩)) bot_le
  dsimp only
  rw [h0, e0, show ((L 0 : ℝ) : EReal) - ⊤ = ⊥ from EReal.sub_top _]
  exact (min_le_left _ _).trans ((min_le_left _ _).trans (min_le_left _ _))
theorem slack_bot' {n0 n1 n2 n3 l0 l1 l2 l3 : FVec Ideal S256x1 .f32} (h0 : ∀ a : Fin 256, n0 (ix2 a 0) = (⊤ : EReal))
    {L : Fin 256 → ℝ} (e0 : ∀ a : Fin 256, l0 (ix2 a 0) = ((L a : ℝ) : EReal)) : k0_pay2 n0 n1 n2 n3 l0 l1 l2 l3 = (⊥ : EReal) := by
  pointwise [k0_pay2]
  refine le_antisymm ((Finset.fold_min_le _).mpr (Or.inr ⟨((0 : Fin 256), 0), Finset.mem_univ _, ?_⟩)) bot_le
  dsimp only
  rw [h0, e0, show ((L 0 : ℝ) : EReal) - ⊤ = ⊥ from EReal.sub_top _]
  exact (min_le_left _ _).trans ((min_le_left _ _).trans (min_le_left _ _))

end Cert.Kernel11Ideal.Hand

end
-- ==== Proof.AttF.Inv.lean ====
/- The attention forward's loop on real blocks: what the carried values are after each trip, and at its end. -/
module

public import proofs.«01_k».proof.Proof.AttF.Pieces
public import proofs.«01_k».proof.Proof.AttF.Pay
public import proofs.«01_k».proof.Proof.Att.Rows
public import Idealize.ShloMosaic.Lib.WordCmp

@[expose] public section

set_option maxRecDepth 16384

noncomputable section

namespace Cert.Kernel11Ideal.Hand

open Idealize.ShloMosaic Idealize.ShloMosaic.TcCoe Idealize.SL.Sem
open Cert.Kernel11Ideal Cert.Kernel11Ideal.Gen

open Att (coe_sum sp E A)
open Cert.Kernel2Ideal.Hand (zz prods block_read)

/-- The carried values once the keys from row `n` up to the query are done: each head's sum of softpluses, and the output. -/
structure Holds (s : St Ideal) (R n : ℕ) (X K V : ℕ → Fin 256 → ℝ) : Prop where
  l0 : ∀ a : Fin 256, s.2.2.1 (ix2 a 0) = ((E (zz X K 0) (R + a) (R + a) - E (zz X K 0) (R + a) n : ℝ) : EReal)
  l1 : ∀ a : Fin 256, s.2.2.2.1 (ix2 a 0) = ((E (zz X K 1) (R + a) (R + a) - E (zz X K 1) (R + a) n : ℝ) : EReal)
  l2 : ∀ a : Fin 256, s.2.2.2.2.1 (ix2 a 0) = ((E (zz X K 2) (R + a) (R + a) - E (zz X K 2) (R + a) n : ℝ) : EReal)
  l3 : ∀ a : Fin 256, s.2.2.2.2.2.1 (ix2 a 0) = ((E (zz X K 3) (R + a) (R + a) - E (zz X K 3) (R + a) n : ℝ) : EReal)
  acc : ∀ a l : Fin 256, s.2.2.2.2.2.2 (ix2 a l) = ((∑ t ∈ Finset.range (R + a), A (zz X K (l.val / 64)) (R + a) t * V t l - ∑ t ∈ Finset.range n, A (zz X K (l.val / 64)) (R + a) t * V t l : ℝ) : EReal)

theorem cast_same (k : Vec Ideal S256x256 .bf16) : shapeCast S256x256 k shapeCasts_S256x256_S256x256 = k := by
  funext y
  obtain ⟨a, l, rfl⟩ : ∃ (a l : Fin 256), y = ix2 a l := ⟨y 0, y 1, eq_ix2 y⟩
  pointwise

section Steps
variable {x0 : Vec Ideal S256x256 .bf16} {Q K V : ℕ → Fin 256 → ℝ} {R : ℕ}
  (h0 : ∀ a l : Fin 256, x0 (ix2 a l) = ((Q (R + a) l : ℝ) : EReal)) {n0 n1 n2 n3 : FVec Ideal S256x1 .f32}

include h0

/-- The diagonal block. -/
theorem holds_start {kb vb : Vec Ideal S256x256 .bf16} (hk : ∀ b l : Fin 256, kb (ix2 b l) = ((K (R + b) l : ℝ) : EReal))
    (hv : ∀ b l : Fin 256, vb (ix2 b l) = ((V (R + b) l : ℝ) : EReal)) : Holds (start x0 kb vb n0 n1 n2 n3) R R (fun r l => Q r l * (1 / 8)) K V := by
  have z0 := prods hk (k0_pay15 x0) 0 (fun r l => Q r l * (1 / 8)) (q0_at h0)
  have z1 := prods hk (k0_pay16 x0) 1 (fun r l => Q r l * (1 / 8)) (q1_at h0)
  have z2 := prods hk (k0_pay17 x0) 2 (fun r l => Q r l * (1 / 8)) (q2_at h0)
  have z3 := prods hk (k0_pay18 x0) 3 (fun r l => Q r l * (1 / 8)) (q3_at h0)
  refine ⟨onL0 z0, onL1 z1, onL2 z2, onL3 z3, fun a l => ?_⟩
  have e := mix_at (W := fun h a b => if b.val < a.val then A (zz (fun r l => Q r l * (1 / 8)) K h) (R + a) (R + b) else 0)
    (onA0 z0) (onA1 z1) (onA2 z2) (onA3 z3) (k := shapeCast S256x256 vb shapeCasts_S256x256_S256x256) (K := fun b l => V (R + b) l) (by rw [cast_same]; exact hv)
    (y := k0_pay43) (Y := fun _ _ => 0) (fun a l => by pointwise [k0_pay43]; exact EReal.coe_zero.symm) a l
  refine Eq.trans ?_ (e.trans (congrArg _ ?_))
  · rfl
  · rw [Finset.sum_range_add, ← Att.sum_before (fun t => A (zz (fun r l => Q r l * (1 / 8)) K (l.val / 64)) (R + a) (R + t) * V (R + t) l) a.val a.isLt.le, zero_add, add_sub_cancel_left]
    exact Finset.sum_congr rfl fun b _ => by split <;> simp

/-- One block before the diagonal. -/
theorem holds_trip {kb vb : Vec Ideal S256x256 .bf16} {n : ℕ} {s : St Ideal} (hs : Holds s R (n + 256) (fun r l => Q r l * (1 / 8)) K V)
    (hk : ∀ b l : Fin 256, kb (ix2 b l) = ((K (n + b) l : ℝ) : EReal)) (hv : ∀ b l : Fin 256, vb (ix2 b l) = ((V (n + b) l : ℝ) : EReal)) :
    Holds (tripOf (k0_pay15 x0) k0_pay8 (k0_pay16 x0) (k0_pay17 x0) (k0_pay18 x0) k0_pay10 k0_pay11 k0_pay12 k0_pay13 n0 n1 n2 n3 kb vb s) R n (fun r l => Q r l * (1 / 8)) K V := by
  have z0 := prods hk (k0_pay15 x0) 0 (fun r l => Q r l * (1 / 8)) (q0_at h0)
  have z1 := prods hk (k0_pay16 x0) 1 (fun r l => Q r l * (1 / 8)) (q1_at h0)
  have z2 := prods hk (k0_pay17 x0) 2 (fun r l => Q r l * (1 / 8)) (q2_at h0)
  have z3 := prods hk (k0_pay18 x0) 3 (fun r l => Q r l * (1 / 8)) (q3_at h0)
  refine ⟨offL0 z0 hs.l0, offL1 z1 hs.l1, offL2 z2 hs.l2, offL3 z3 hs.l3, fun a l => ?_⟩
  have e := mix_at (W := fun h a b => A (zz (fun r l => Q r l * (1 / 8)) K h) (R + a) (n + b))
    (offA0 z0 hs.l0) (offA1 z1 hs.l1) (offA2 z2 hs.l2) (offA3 z3 hs.l3) (k := shapeCast S256x256 vb shapeCasts_S256x256_S256x256) (K := fun b l => V (n + b) l) (by rw [cast_same]; exact hv)
    (y := s.2.2.2.2.2.2) (Y := fun a l => ∑ t ∈ Finset.range (R + a), A (zz (fun r l => Q r l * (1 / 8)) K (l.val / 64)) (R + a) t * V t l - ∑ t ∈ Finset.range (n + 256), A (zz (fun r l => Q r l * (1 / 8)) K (l.val / 64)) (R + a) t * V t l) hs.acc a l
  refine Eq.trans ?_ (e.trans (congrArg _ ?_))
  · rfl
  · rw [Finset.sum_range_add _ n 256, ← Att.sum_block (fun t => A (zz (fun r l => Q r l * (1 / 8)) K (l.val / 64)) (R + a) (n + t) * V (n + t) l)]
    ring
end Steps

/-! ## The loop -/

theorem flag_down {x : EReal} (h : x = ⊥) : (Scalar.extui (Scalar.cmpf (F := Ideal) (φ := .f32) .oge x (Scalar.ofBits .f32 0x00000000#32)) : BitVec 32) = 0#32 := by
  subst h
  have e : Scalar.cmpf (F := Ideal) (φ := .f32) .oge (⊥ : EReal) (Scalar.ofBits .f32 0x00000000#32) = 0#1 := by
    pointwise
    simp [Ideal.ofBits, Ideal.ieee]
  rw [e]
  decide

theorem more_of_lt (i : grid0.Coords) (n : ℕ) (h : n < (i 1).val) : More i (BitVec.ofNat 32 n) 0#32 := by
  have hi : (i 1).val < 16 := (i 1).isLt
  have e : Scalar.cmpi .slt (BitVec.ofNat 32 n) (BitVec.ofNat 32 (i 1).val) = 1#1 := by word_cmp
  unfold More
  rw [e]
  decide

theorem off2_eq (i : grid0.Coords) : k0_off2 i = ![256 * (i 1).val, 0] := by
  have hi : (i 1).val < 16 := (i 1).isLt
  exact Affine.vec_cons (Affine.indexCast (Affine.muli (Affine.ofNat _ (by omega) : Affine.IsInt (BitVec.ofNat 32 (i 1).val) ((i 1).val : Int)) (Affine.ofNat 256 (by omega) : Affine.IsInt 256#32 256) (by omega) : Affine.IsInt _ (256 * ((i 1).val : Int)))) (by omega) <|
    Affine.vec_cons (Affine.ofNat 0 (by omega) : Affine.IsInt 0#32 0) (by omega) <| Affine.vec_nil

section Blocks
variable {arg : Memref sig .tc .vmem S4096x256 .bf16} {f : BufTy.Contents (Elt Ideal) arg.view.ty} {K : ℕ → Fin 256 → ℝ}
  (hK : ∀ (s : Fin 4096) (l : Fin 256), arg.view.read (Elt Ideal) f (ix2 s l) = ((K s l : ℝ) : EReal)) (i : grid0.Coords)
include hK
theorem diag_at (b l : Fin 256) : diag i arg f (ix2 b l) = ((K (256 * (i 1).val + b) l : ℝ) : EReal) := by
  have hi : (i 1).val < 16 := (i 1).isLt
  exact (block_read arg.view f (k0_off2_inb i) (off2_eq i) (by omega) b l).trans (hK _ l)
theorem rows_at {w : BitVec 32} {n : ℕ} (hw : w = BitVec.ofNat 32 n) (hn : n < (i 1).val) (h : k0_chk1 i w) (b l : Fin 256) :
    rows i arg f w h (ix2 b l) = ((K (256 * ((i 1).val - 1 - n) + b) l : ℝ) : EReal) := by
  subst hw
  have hi : (i 1).val < 16 := (i 1).isLt
  exact (block_read arg.view f (k0_off3_inb i _ h) (off3_eq i n hn) (by omega) b l).trans (hK _ l)
end Blocks

theorem read_one {s : Shape} {e : EltTy} (v : View sig .tc .vmem s e) (f : v.ty.Contents (Elt Ideal)) {off : Fin s.rank → ℕ} {inb : ∀ a, off a + s.size a ≤ s.size a}
    (h : off = fun _ => 0) (w : s.Idx → Elt Ideal e) (y : s.Idx) : v.read (Elt Ideal) (v.writes (Elt Ideal) f [⟨Rect.unit off s.size inb, w⟩]) y = w y :=
  View.read_writes_cons_unit_of_mem v f inb w [] y y h fun a => (Nat.zero_add _).symm

theorem got (w3 : FVec Ideal S256x256 .bf16) (w4 : FVec Ideal S256x256 .f32) (w5 : FVec Ideal S1x1x8x128 .f32) :
    readings (F := Ideal) [⟨Rect.unit ![0, 0] S256x256.size inb_S256x256_S256x256_0_0, w3⟩] [⟨Rect.unit ![0, 0] S256x256.size inb_S256x256_S256x256_0_0, w4⟩]
      [⟨Rect.unit ![0, 0, 0, 0] S1x1x8x128.size inb_S1x1x8x128_S1x1x8x128_0_0_0_0, w5⟩] = (w3, w4, w5) := by
  have z2 : (![0, 0] : Fin 2 → ℕ) = fun _ => 0 := funext fun a => by fin_cases a <;> rfl
  have z4 : (![0, 0, 0, 0] : Fin 4 → ℕ) = fun _ => 0 := funext fun a => by fin_cases a <;> rfl
  have e3 := funext (read_one view3 view3.junk (inb := inb_S256x256_S256x256_0_0) z2 w3)
  have e4 := funext (read_one view4 view4.junk (inb := inb_S256x256_S256x256_0_0) z2 w4)
  have e5 := funext (read_one view5 view5.junk (inb := inb_S1x1x8x128_S1x1x8x128_0_0_0_0) z4 w5)
  unfold readings
  exact congrArg₂ Prod.mk e3 (congrArg₂ Prod.mk e4 e5)

/-- The four heads' sums, each on its head's lanes. -/
theorem totals_at {l0 l1 l2 l3 : FVec Ideal S256x1 .f32} {T : ℕ → Fin 256 → ℝ} (e0 : ∀ a : Fin 256, l0 (ix2 a 0) = ((T 0 a : ℝ) : EReal)) (e1 : ∀ a : Fin 256, l1 (ix2 a 0) = ((T 1 a : ℝ) : EReal))
    (e2 : ∀ a : Fin 256, l2 (ix2 a 0) = ((T 2 a : ℝ) : EReal)) (e3 : ∀ a : Fin 256, l3 (ix2 a 0) = ((T 3 a : ℝ) : EReal)) (a l : Fin 256) :
    k0_pay4 k0_pay10 k0_pay11 k0_pay12 k0_pay13 l0 l1 l2 l3 (ix2 a l) = ((T (l.val / 64) a : ℝ) : EReal) := by
  pointwise [k0_pay4, e0, e1, e2, e3, mask0_at, mask1_at, mask2_at, mask3_at]
  have hl : l.val / 64 < 4 := by omega
  have hc : l.val / 64 = 0 ∨ l.val / 64 = 1 ∨ l.val / 64 = 2 ∨ l.val / 64 = 3 := by omega
  rcases hc with h | h | h | h <;> rw [h] <;> rfl

section Loop
variable {i : grid0.Coords} {arg3 arg4 : Memref sig .tc .vmem S4096x256 .bf16} {f3 : BufTy.Contents (Elt Ideal) arg3.view.ty} {f4 : BufTy.Contents (Elt Ideal) arg4.view.ty}
  {x0 : Vec Ideal S256x256 .bf16} {Q K V : ℕ → Fin 256 → ℝ}
  (h0 : ∀ a l : Fin 256, x0 (ix2 a l) = ((Q (256 * (i 1).val + a) l : ℝ) : EReal))
  (hK : ∀ (s : Fin 4096) (l : Fin 256), arg3.view.read (Elt Ideal) f3 (ix2 s l) = ((K s l : ℝ) : EReal))
  (hV : ∀ (s : Fin 4096) (l : Fin 256), arg4.view.read (Elt Ideal) f4 (ix2 s l) = ((V s l : ℝ) : EReal))
  {n0 n1 n2 n3 : FVec Ideal S256x1 .f32} (hn : ∀ a : Fin 256, n0 (ix2 a 0) = (⊤ : EReal))
include h0 hK hV hn

theorem loop_holds (k : ℕ) : ∀ (j : ℕ) (s : St Ideal), j + k = (i 1).val → s.1 = BitVec.ofNat 32 j → s.2.1 = 0#32 →
    Holds s (256 * (i 1).val) (256 * ((i 1).val - j)) (fun r l => Q r l * (1 / 8)) K V →
    (loop i arg3 (k0_pay15 x0) k0_pay8 (k0_pay16 x0) (k0_pay17 x0) (k0_pay18 x0) arg4 k0_pay10 k0_pay11 k0_pay12 k0_pay13 n0 n1 n2 n3 f3 f4 k s).1 = BitVec.ofNat 32 (i 1).val
    ∧ Holds (loop i arg3 (k0_pay15 x0) k0_pay8 (k0_pay16 x0) (k0_pay17 x0) (k0_pay18 x0) arg4 k0_pay10 k0_pay11 k0_pay12 k0_pay13 n0 n1 n2 n3 f3 f4 k s) (256 * (i 1).val) 0 (fun r l => Q r l * (1 / 8)) K V := by
  induction k with
  | zero =>
    intro j s hj e1 e2 hs
    obtain rfl : j = (i 1).val := by omega
    rw [Nat.sub_self, Nat.mul_zero] at hs
    exact ⟨e1, hs⟩
  | succ k ih =>
    intro j s hj e1 e2 hs
    have hlt : j < (i 1).val := by omega
    have hc : k0_chk1 i s.1 ∧ More i s.1 s.2.1 := by rw [e1, e2]; exact ⟨chk_of_lt i j hlt, more_of_lt i j hlt⟩
    have hk1 := rows_at hK i e1 hlt hc.1
    have hv1 := rows_at hV i e1 hlt hc.1
    rw [show 256 * ((i 1).val - j) = 256 * ((i 1).val - 1 - j) + 256 by omega] at hs
    have ht := holds_trip (n0 := n0) (n1 := n1) (n2 := n2) (n3 := n3) h0 hs hk1 hv1
    rw [loop, dif_pos hc]
    refine ih (j + 1) _ (by omega) ?_ ?_ ?_
    · show Scalar.addi s.1 1#32 = _
      rw [e1]
      exact (BitVec.ofNat_add _ _).symm
    · exact flag_down (slack_bot hn ht.l0)
    · rw [show (i 1).val - (j + 1) = (i 1).val - 1 - j by omega]
      exact ht

theorem done_holds : (done i arg3 arg4 f3 f4 x0 n0 n1 n2 n3).1 = BitVec.ofNat 32 (i 1).val
    ∧ Holds (done i arg3 arg4 f3 f4 x0 n0 n1 n2 n3) (256 * (i 1).val) 0 (fun r l => Q r l * (1 / 8)) K V := by
  have hs := holds_start (n0 := n0) (n1 := n1) (n2 := n2) (n3 := n3) h0 (diag_at hK i) (diag_at hV i)
  refine loop_holds h0 hK hV hn (i 1).val 0 (start x0 (diag i arg3 f3) (diag i arg4 f4) n0 n1 n2 n3) (Nat.zero_add _) (by unfold start; dsimp only) (flag_down (slack_bot' hn hs.l0)) ?_
  rw [Nat.sub_zero]
  exact hs

/-- What a point leaves in the three results. -/
theorem stores_at {L3 : List (View.Piece (Elt Ideal) S256x256 .bf16)} {L4 : List (View.Piece (Elt Ideal) S256x256 .f32)} {L5 : List (View.Piece (Elt Ideal) S1x1x8x128 .f32)}
    (hst : Stores i (done i arg3 arg4 f3 f4 x0 n0 n1 n2 n3) L3 L4 L5) :
    (∀ a l : Fin 256, (readings L3 L4 L5).1 (ix2 a l) = ((∑ t ∈ Finset.range (256 * (i 1).val + a), A (zz (fun r l => Q r l * (1 / 8)) K (l.val / 64)) (256 * (i 1).val + a) t * V t l : ℝ) : EReal))
    ∧ (∀ a l : Fin 256, (readings L3 L4 L5).2.1 (ix2 a l) = ((E (zz (fun r l => Q r l * (1 / 8)) K (l.val / 64)) (256 * (i 1).val + a) (256 * (i 1).val + a) : ℝ) : EReal))
    ∧ (∀ y, (readings L3 L4 L5).2.2 y = (0 : EReal)) := by
  obtain ⟨e1, hs⟩ := done_holds h0 hK hV (n1 := n1) (n2 := n2) (n3 := n3) hn
  obtain ⟨rfl, rfl, rfl⟩ := hst
  generalize done i arg3 arg4 f3 f4 x0 n0 n1 n2 n3 = s at e1 hs
  rw [got]
  refine ⟨fun a l => ?_, fun a l => ?_, fun y => ?_⟩
  · refine (show _ = _ from hs.acc a l).trans (congrArg _ ?_)
    rw [Finset.range_zero, Finset.sum_empty, sub_zero]
  · refine (totals_at (T := fun h a => E (zz (fun r l => Q r l * (1 / 8)) K h) (256 * (i 1).val + a) (256 * (i 1).val + a) - E (zz (fun r l => Q r l * (1 / 8)) K h) (256 * (i 1).val + a) 0)
      hs.l0 hs.l1 hs.l2 hs.l3 a l).trans (congrArg _ ?_)
    unfold E
    rw [Finset.range_zero, Finset.sum_empty, sub_zero]
  · dsimp only
    rw [e1]
    show FloatOps.sitofp (F := Ideal) .f32 (Scalar.subi (BitVec.ofNat 32 (i 1).val) (BitVec.ofNat 32 (i 1).val)) = _
    rw [show Scalar.subi (BitVec.ofNat 32 (i 1).val) (BitVec.ofNat 32 (i 1).val) = 0#32 from BitVec.sub_self _]
    simp [FloatOps.sitofp]
end Loop

end Cert.Kernel11Ideal.Hand

end
-- ==== Proof.AttF.Top.lean ====
/- The kept key norms are not negative, so the need of the early exit, which the name sets above everything, is never met. -/
module

public import proofs.«01_k».proof.Proof.AttF.Pieces
public import proofs.«01_k».proof.Proof.AttF.Pay

@[expose] public section

set_option maxRecDepth 16384

noncomputable section

namespace Cert.Kernel11Ideal.Hand

open Idealize.ShloMosaic Idealize.ShloMosaic.TcCoe Idealize.SL.Sem
open Cert.Kernel11Ideal Cert.Kernel11Ideal.Gen

theorem sqrt_nonneg {x : EReal} (h : 0 ≤ x) : 0 ≤ Ideal.sqrt x := by
  induction x with
  | bot => exact absurd h (by simp)
  | top => exact le_top
  | coe r =>
    have hr : (0 : ℝ) ≤ r := by exact_mod_cast h
    show 0 ≤ (if r < 0 then (⊥ : EReal) else ((Real.sqrt r : ℝ) : EReal))
    rw [if_neg (not_lt.mpr hr)]
    exact_mod_cast Real.sqrt_nonneg r

/-- The need of head 0. -/
theorem need_top {x : FVec Ideal S256x256 .bf16} {X : Fin 256 → Fin 256 → ℝ} (hx : ∀ a l : Fin 256, x (ix2 a l) = ((X a l : ℝ) : EReal))
    {w : FVec Ideal S1x1x1 .f32} (hw : ∀ y, 0 ≤ w y) (a : Fin 256) : k0_pay34 (F := Ideal) k0_pay10 (k0_pay14 x) w (ix2 a 0) = (⊤ : EReal) := by
  pointwise [k0_pay34, k0_pay32, scaled_at hx, mask0_at]
  have h1 : 0 ≤ Ideal.sqrt (Finset.sum (M := EReal) Finset.univ fun x : Fin 256 => if x.val / 64 = 0 then ((X a x * (1 / 8) : ℝ) : EReal) * ((X a x * (1 / 8) : ℝ) : EReal) else 0) := by
    refine sqrt_nonneg (Finset.sum_nonneg fun x _ => ?_)
    split
    · rw [← EReal.coe_mul]
      exact_mod_cast mul_self_nonneg _
    · exact le_rfl
  have h2 := EReal.mul_nonneg h1 (hw (ix3 0 0 0))
  have e : Named.named (F := Ideal) (φ := .f32) κ "no_exit" 1121714176#32 = (⊤ : EReal) := IdealRules.named_const.ideal_named_scalar _ _ _ _ rfl
  rw [e]
  exact EReal.add_top_of_ne_bot fun h => absurd (h ▸ h2) (by simp)

theorem norm_nonneg {s : FVec Ideal S256x1 .f32} (hs : ∀ a : Fin 256, 0 ≤ s (ix2 a 0)) (y : S1x1x1.Idx) : 0 ≤ k0_pay28 (F := Ideal) s y := by
  obtain ⟨a, b, c, rfl⟩ : ∃ (a b c : Fin 1), y = ix3 a b c := ⟨y 0, y 1, y 2, eq_ix3 y⟩
  pointwise [k0_pay28]
  exact sqrt_nonneg ((Finset.le_fold_max _).mpr (Or.inr ⟨0, Finset.mem_univ _, hs 0⟩))

section First
variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .bf16) (harg5 : arg5.IsWhole) (arg6 : Memref sig .tc .vmem S256x256 .f32) (harg6 : arg6.IsWhole) (arg7 : Memref sig .tc .vmem S1x1x8x128 .f32) (harg7 : arg7.IsWhole) (arg8 : Memref sig .tc .vmem S4x1x1 .f32) (harg8 : arg8.IsWhole)
  (x0 : Vec Ideal S256x256 .bf16) (x1 : Vec Ideal S4096x256 .bf16) (x2 : Vec Ideal S4096x256 .bf16)

theorem squares_nonneg (p q) (hc0 : cond i) (a) (k : ℕ) (hk : k ≤ Scf.trips k0_t1_loop.lb k0_t1_loop.ub k0_t1_loop.st) (b : Fin 256) :
    0 ≤ (st_k0_t1 (F := Ideal) Variants.nat c none i arg2 harg2 arg3 harg3 arg4 harg4 arg5 harg5 arg6 harg6 arg7 harg7 arg8 harg8 k0_pay10 k0_pay11 k0_pay12 k0_pay13 p q hc0 a (k0_pay19, k0_pay20, k0_pay21, k0_pay22) k).1 (ix2 b 0) := by
  induction k with
  | zero =>
    rw [st_k0_t1_zero]
    show 0 ≤ k0_pay19 (F := Ideal) (ix2 b 0)
    pointwise [k0_pay19]
    exact le_rfl
  | succ k ih =>
    have e := st_k0_t1_succ (F := Ideal) Variants.nat c none i arg2 harg2 arg3 harg3 arg4 harg4 arg5 harg5 arg6 harg6 arg7 harg7 arg8 harg8 k0_pay10 k0_pay11 k0_pay12 k0_pay13 p q hc0 a (k0_pay19, k0_pay20, k0_pay21, k0_pay22) ⟨k, hk⟩
    dsimp only at e
    rw [e]
    unfold tripR_k0_t1 trip_k0_t1
    dsimp only
    pointwise [k0_pay24]
    exact le_max_of_le_left (ih (by omega))

/-- What is read of the first head's norm out of the four stored. -/
theorem first_nonneg {v : View sig .tc .vmem S4x1x1 .f32} (f : v.ty.Contents (Elt Ideal)) (hc0 : cond i) :
    0 ≤ v.read (Elt Ideal) (v.writes (Elt Ideal) f (first c i arg2 harg2 arg3 harg3 arg4 harg4 arg5 harg5 arg6 harg6 arg7 harg7 arg8 harg8 hc0 x0 x1 x2).2.2.2.1) (ix3 (0 : Fin 4) (0 : Fin 1) (0 : Fin 1)) := by
  obtain ⟨w3, w2, w1, a, p, q, e⟩ := first_norms c i arg2 harg2 arg3 harg3 arg4 harg4 arg5 harg5 arg6 harg6 arg7 harg7 arg8 harg8 x0 x1 x2 hc0
  rw [e]
  rw [View.read_writes_cons_unit_of_not_mem v f inb_S4x1x1_S1x1x1_3_0_0 w3 _ (ix3 (0 : Fin 4) (0 : Fin 1) (0 : Fin 1)) rfl 0 (Or.inl (by show 0 < 3; omega)),
    View.read_writes_cons_unit_of_not_mem v f inb_S4x1x1_S1x1x1_2_0_0 w2 _ (ix3 (0 : Fin 4) (0 : Fin 1) (0 : Fin 1)) rfl 0 (Or.inl (by show 0 < 2; omega)),
    View.read_writes_cons_unit_of_not_mem v f inb_S4x1x1_S1x1x1_1_0_0 w1 _ (ix3 (0 : Fin 4) (0 : Fin 1) (0 : Fin 1)) rfl 0 (Or.inl (by show 0 < 1; omega)),
    View.read_writes_cons_unit_of_mem v f inb_S4x1x1_S1x1x1_0_0_0 _ [] (ix3 (0 : Fin 4) (0 : Fin 1) (0 : Fin 1)) (ix3 (0 : Fin 1) (0 : Fin 1) (0 : Fin 1)) rfl (fun a => by fin_cases a <;> rfl)]
  exact norm_nonneg (fun b => squares_nonneg c i arg2 harg2 arg3 harg3 arg4 harg4 arg5 harg5 arg6 harg6 arg7 harg7 arg8 harg8 p q hc0 a _ le_rfl b) _

theorem back_nonneg (hc0 : cond i) (y : S1x1x1.Idx) : 0 ≤ back c i arg2 harg2 arg3 harg3 arg4 harg4 arg5 harg5 arg6 harg6 arg7 harg7 arg8 harg8 x0 x1 x2 hc0 y := by
  have e : back c i arg2 harg2 arg3 harg3 arg4 harg4 arg5 harg5 arg6 harg6 arg7 harg7 arg8 harg8 x0 x1 x2 hc0 y = arg8.view.read (Elt Ideal) (arg8.view.writes (Elt Ideal) arg8.view.junk (first c i arg2 harg2 arg3 harg3 arg4 harg4 arg5 harg5 arg6 harg6 arg7 harg7 arg8 harg8 hc0 x0 x1 x2).2.2.2.1) (ix3 (0 : Fin 4) (0 : Fin 1) (0 : Fin 1)) := by
    refine congrArg (arg8.view.read (Elt Ideal) _) (funext fun a => Fin.ext ?_)
    have h : ∀ b : Fin 3, (y b).val = 0 := fun b => by
      have := (y b).isLt
      fin_cases b <;> exact Nat.lt_one_iff.mp this
    fin_cases a <;> exact (congrArg (fun t => 0 + 1 * t) (h _))
  rw [e]
  exact first_nonneg c i arg2 harg2 arg3 harg3 arg4 harg4 arg5 harg5 arg6 harg6 arg7 harg7 arg8 harg8 x0 x1 x2 _ hc0
end First

end Cert.Kernel11Ideal.Hand

end
-- ==== Proof.AttF.Vals.lean ====
/- The arrays the attention forward reads, as real numbers, every block at every point, and its three results. -/
module

public import proofs.«01_k».proof.Proof.AttF.Frame
public import proofs.«01_k».proof.Proof.AttF.Inv
public import proofs.«01_k».proof.Proof.AttF.Top
public import proofs.«01_k».proof.Proof.Att.Vals
public import Idealize.ShloMosaic.Lib.Pipeline.ValueKit
public import Idealize.ShloMosaic.Lib.WordCmp

@[expose] public section

set_option maxRecDepth 16384

noncomputable section

namespace Cert.Kernel11Ideal.Hand

open Idealize.ShloMosaic Idealize.ShloMosaic.TcCoe Idealize.SL.Sem
open Cert.Kernel11Ideal Cert.Kernel11Ideal.Gen

open Att (E A)
open Cert.Kernel2Ideal.Hand (zz col FinP score grpQ grpX grpK grpV zz_score)

variable (m : (ℓ : Loc nD τ sig) → Buf (Elt Ideal) ℓ) (c : Dev nD)

/-- The projections. -/
abbrev argP : FVec Ideal S4096x5120 .f32 := m ((c : Thread nD τ).loc main_arg0)

theorem V0 : V m c main_v0 = (truncf .bf16 (argP m c) bitsLt_bf16_f32 : FVec Ideal S4096x5120 .bf16) := by
  show StableHlo.after (List.flatten [hostOps0]) _ _ = _
  simp only [hostOps0, List.flatten_cons, List.flatten_nil, List.append_nil]
  entry_read
  rfl

/-! ## The blocks -/

theorem idx : ∀ t : Fin (cfg0 (F := Ideal)).N, win0_0.index t = ![t.val % 16, 6 + t.val / 16] ∧ win0_1.index t = ![0, 8 + t.val / 16] ∧ win0_2.index t = ![0, 10 + t.val / 16]
    ∧ win0_3.index t = ![t.val % 16, t.val / 16] ∧ win0_4.index t = ![t.val % 16, t.val / 16] ∧ win0_5.index t = ![t.val / 16, t.val % 16, 0, 0] :=
  (by decide +kernel : ∀ t : Fin grid0.N, _)

/-- The row, and the column among the eight heads' lanes, of a point's block. -/
def row (t : Fin (cfg0 (F := Ideal)).N) (a : Fin 256) : Fin 4096 := ⟨256 * (t.val % 16) + a.val, by omega⟩
def lan (t : Fin (cfg0 (F := Ideal)).N) (l : Fin 256) : Fin 512 := ⟨256 * (t.val / 16) + l.val, by have := lt_of_lt_of_eq t.isLt N_0; omega⟩
theorem lan_head (t : Fin (cfg0 (F := Ideal)).N) (l : Fin 256) : (lan t l).val / 64 = 4 * (t.val / 16) + l.val / 64 := by unfold lan; dsimp only; omega

theorem read_0 (t : Fin (cfg0 (F := Ideal)).N) (a l : Fin 256) : iblk m c 0 t (ix2 a l) = V m c main_v0 (ix2 (row t a) ⟨1536 + (lan t l).val, by omega⟩ : S4096x5120.Idx) := by
  blk_ext [iblk, idx t, row, lan]
theorem read_1 (t : Fin (cfg0 (F := Ideal)).N) (s : Fin 4096) (l : Fin 256) : iblk m c 1 t (ix2 s l) = V m c main_v0 (ix2 s ⟨2048 + (lan t l).val, by omega⟩ : S4096x5120.Idx) := by
  blk_ext [iblk, idx t, row, lan]
theorem read_2 (t : Fin (cfg0 (F := Ideal)).N) (s : Fin 4096) (l : Fin 256) : iblk m c 2 t (ix2 s l) = V m c main_v0 (ix2 s ⟨2560 + (lan t l).val, by omega⟩ : S4096x5120.Idx) := by
  blk_ext [iblk, idx t, row, lan]

theorem coord1 (t : Fin (cfg0 (F := Ideal)).N) : (grid0.coords t 1).val = t.val % 16 :=
  (Pipeline.Grid.coords_val t 1 (show grid0.stride 1 = 1 from by decide) rfl : (grid0.coords t 1).val = t.val / 1 % 16).trans (by rw [Nat.div_one])

/-! ## The kept key norms -/

theorem kept_nonneg : ∀ (n : ℕ) (hn : n < (cfg0 (F := Ideal)).N), 0 ≤ kept m c n hn (ix3 (0 : Fin 4) (0 : Fin 1) (0 : Fin 1))
  | 0, hn => by
    unfold kept normsOf
    exact first_nonneg c _ _ _ _ _ _ _ _ _ _ _ _ _ _ _ _ _ _ _ _
  | n + 1, hn => by
    unfold kept
    by_cases h : (n + 1) % 16 = 0
    · rw [dif_pos h]
      exact first_nonneg c _ _ _ _ _ _ _ _ _ _ _ _ _ _ _ _ _ _ _ _
    · rw [dif_neg h]
      exact kept_nonneg n _

theorem again_nonneg (arg8 : Memref sig .tc .vmem S4x1x1 .f32) (harg8 : arg8.IsWhole) {x6 : Vec Ideal S4x1x1 .f32} (h6 : 0 ≤ x6 (ix3 (0 : Fin 4) (0 : Fin 1) (0 : Fin 1))) (y : S1x1x1.Idx) :
    0 ≤ arg8.view.readAt (Elt Ideal) (Rect.unit (s := S4x1x1) ![0, 0, 0] S1x1x1.size inb_S4x1x1_S1x1x1_0_0_0).toLoadRect (harg8.unread x6) y := by
  have e : arg8.view.readAt (Elt Ideal) (Rect.unit (s := S4x1x1) ![0, 0, 0] S1x1x1.size inb_S4x1x1_S1x1x1_0_0_0).toLoadRect (harg8.unread x6) y
      = arg8.view.read (Elt Ideal) (harg8.unread x6) (ix3 (0 : Fin 4) (0 : Fin 1) (0 : Fin 1)) := by
    refine congrArg (arg8.view.read (Elt Ideal) _) (funext fun a => Fin.ext ?_)
    have h : ∀ b : Fin 3, (y b).val = 0 := fun b => by
      have := (y b).isLt
      fin_cases b <;> exact Nat.lt_one_iff.mp this
    fin_cases a <;> exact (congrArg (fun t => 0 + 1 * t) (h _))
  rw [e, harg8.read_unread]
  exact h6

section Blocks
variable {m c} (hp : FinP (argP m c))
include hp
theorem blk_0 (t : Fin (cfg0 (F := Ideal)).N) (a l : Fin 256) : iblk m c 0 t (ix2 a l) = ((grpQ (argP m c) (t.val / 16) (256 * (t.val % 16) + a) l : ℝ) : EReal) := by
  rw [read_0, V0]
  exact hp (row t a) ⟨1536 + (lan t l).val, by omega⟩ (by dsimp only; omega) (by dsimp only; omega)
theorem blk_1 (t : Fin (cfg0 (F := Ideal)).N) (s : Fin 4096) (l : Fin 256) : iblk m c 1 t (ix2 s l) = ((grpK (argP m c) (t.val / 16) s l : ℝ) : EReal) := by
  rw [read_1, V0]
  exact hp s ⟨2048 + (lan t l).val, by omega⟩ (by dsimp only; omega) (by dsimp only; omega)
theorem blk_2 (t : Fin (cfg0 (F := Ideal)).N) (s : Fin 4096) (l : Fin 256) : iblk m c 2 t (ix2 s l) = ((grpV (argP m c) (t.val / 16) s l : ℝ) : EReal) := by
  rw [read_2, V0]
  exact hp s ⟨2560 + (lan t l).val, by omega⟩ (by dsimp only; omega) (by dsimp only; omega)

/-- What a point leaves in the three results. -/
theorem after_point (t : Fin (cfg0 (F := Ideal)).N) :
    (∀ a l : Fin 256, (left m c t).1 (ix2 a l) = ((∑ s ∈ Finset.range (256 * (t.val % 16) + a),
      A (zz (grpX (argP m c) (t.val / 16)) (grpK (argP m c) (t.val / 16)) (l.val / 64)) (256 * (t.val % 16) + a) s * grpV (argP m c) (t.val / 16) s l : ℝ) : EReal))
    ∧ (∀ a l : Fin 256, (left m c t).2.1 (ix2 a l)
      = ((E (zz (grpX (argP m c) (t.val / 16)) (grpK (argP m c) (t.val / 16)) (l.val / 64)) (256 * (t.val % 16) + a) (256 * (t.val % 16) + a) : ℝ) : EReal))
    ∧ (∀ y, (left m c t).2.2 y = (0 : EReal)) := by
  have h0 : ∀ a l : Fin 256, iblk m c 0 t (ix2 a l) = ((grpQ (argP m c) (t.val / 16) (256 * (grid0.coords t 1).val + a) l : ℝ) : EReal) := by
    rw [coord1]; exact blk_0 hp t
  have hK : ∀ (s : Fin 4096) (l : Fin 256), (stg1 (F := Ideal) t).view.read (Elt Ideal) ((whole1 t).unread (iblk m c 1 t)) (ix2 s l) = ((grpK (argP m c) (t.val / 16) s l : ℝ) : EReal) := by
    rw [(whole1 t).read_unread]; exact blk_1 hp t
  have hV : ∀ (s : Fin 4096) (l : Fin 256), (stg2 (F := Ideal) t).view.read (Elt Ideal) ((whole2 t).unread (iblk m c 2 t)) (ix2 s l) = ((grpV (argP m c) (t.val / 16) s l : ℝ) : EReal) := by
    rw [(whole2 t).read_unread]; exact blk_2 hp t
  have key : ∀ {n0 n1 n2 n3 L3 L4 L5}, _ → _ → _ := @fun n0 n1 n2 n3 L3 L4 L5 hn hst => stores_at (Q := grpQ (argP m c) (t.val / 16)) (n0 := n0) (n1 := n1) (n2 := n2) (n3 := n3) (L3 := L3) (L4 := L4) (L5 := L5) h0 hK hV hn hst
  rw [coord1] at key
  by_cases h : t.val % 16 = 0
  · rw [show left m c t = readings (runFirst m c t h).1 (runFirst m c t h).2.1 (runFirst m c t h).2.2.1 from dif_pos h]
    obtain ⟨n1, n2, n3, hst⟩ := first_stores (F := Ideal) c (grid0.coords t) (stg0 t) (whole0 t) (stg1 t) (whole1 t) (stg2 t) (whole2 t) (stg3 t) (whole3 t) (stg4 t) (whole4 t) (stg5 t) (whole5 t) norms (Memref.isWhole_whole _) (iblk m c 0 t) (iblk m c 1 t) (iblk m c 2 t) ((cond_iff t).mpr h)
    exact key (fun a => need_top h0 (back_nonneg c (grid0.coords t) (stg0 t) (whole0 t) (stg1 t) (whole1 t) (stg2 t) (whole2 t) (stg3 t) (whole3 t) (stg4 t) (whole4 t) (stg5 t) (whole5 t) norms (Memref.isWhole_whole _) (iblk m c 0 t) (iblk m c 1 t) (iblk m c 2 t) ((cond_iff t).mpr h)) a) hst
  · have h6 := kept_nonneg m c (t.val - 1) (Nat.lt_of_le_of_lt (Nat.sub_le _ _) t.isLt)
    rw [show left m c t = readings (runLater m c t h (kept m c (t.val - 1) (Nat.lt_of_le_of_lt (Nat.sub_le _ _) t.isLt))).1 (runLater m c t h (kept m c (t.val - 1) (Nat.lt_of_le_of_lt (Nat.sub_le _ _) t.isLt))).2.1 (runLater m c t h (kept m c (t.val - 1) (Nat.lt_of_le_of_lt (Nat.sub_le _ _) t.isLt))).2.2.1 from dif_neg h]
    generalize kept m c (t.val - 1) (Nat.lt_of_le_of_lt (Nat.sub_le _ _) t.isLt) = x6 at h6
    obtain ⟨n1, n2, n3, hst⟩ := later_stores (F := Ideal) c (grid0.coords t) (stg0 t) (whole0 t) (stg1 t) (whole1 t) (stg2 t) (whole2 t) (stg3 t) (whole3 t) (stg4 t) (whole4 t) (stg5 t) (whole5 t) norms (Memref.isWhole_whole _) (iblk m c 0 t) (iblk m c 1 t) (iblk m c 2 t) x6 (fun hc => h ((cond_iff t).mp hc))
    exact key (fun a => need_top h0 (again_nonneg _ _ h6) a) hst
end Blocks

/-! ## The three results -/

/-- The attention's output and the rows' softplus totals, as real numbers: row and lane. -/
def realO (p : FVec Ideal S4096x5120 .f32) (r k : ℕ) : ℝ := ∑ s ∈ Finset.range r, A (score p (k / 64)) r s * col p s (2560 + k)
def realT (p : FVec Ideal S4096x5120 .f32) (r k : ℕ) : ℝ := E (score p (k / 64)) r r

section Finals
variable {m c} (hp : FinP (argP m c))
include hp
theorem final_3 : (dats m 0 c).arrAt 3 (cfgs (F := Ideal) 0).N = (fun y : S4096x512.Idx => ((realO (argP m c) (y 0).val (y 1).val : ℝ) : EReal) : FVec Ideal S4096x512 .bf16) := by
  refine (dats m 0 c).arrAt_eq_of_covers 3 _ (by decide +kernel) fun t hf y => ?_
  blk_simp
  rw [after3]
  obtain ⟨a, l, rfl⟩ : ∃ (a l : Fin 256), y = ix2 a l := ⟨y 0, y 1, eq_ix2 y⟩
  rw [show win0_3.index t 0 * 256 + ((ix2 a l : Shape.Idx _) 0).val = (row t a).val by rw [(idx t).2.2.2.1]; show t.val % 16 * 256 + a.val = 256 * (t.val % 16) + a.val; omega,
    show win0_3.index t 1 * 256 + ((ix2 a l : Shape.Idx _) 1).val = (lan t l).val by rw [(idx t).2.2.2.1]; show t.val / 16 * 256 + l.val = 256 * (t.val / 16) + l.val; omega]
  refine ((after_point hp t).1 a l).trans (congrArg _ ?_)
  rw [zz_score _ _ _ (by omega)]
  show _ = realO _ (row t a).val (lan t l).val
  unfold realO
  rw [lan_head]
  rfl
theorem final_4 : (dats m 0 c).arrAt 4 (cfgs (F := Ideal) 0).N = (fun y : S4096x512.Idx => ((realT (argP m c) (y 0).val (y 1).val : ℝ) : EReal) : FVec Ideal S4096x512 .f32) := by
  refine (dats m 0 c).arrAt_eq_of_covers 4 _ (by decide +kernel) fun t hf y => ?_
  blk_simp
  rw [after4]
  obtain ⟨a, l, rfl⟩ : ∃ (a l : Fin 256), y = ix2 a l := ⟨y 0, y 1, eq_ix2 y⟩
  rw [show win0_4.index t 0 * 256 + ((ix2 a l : Shape.Idx _) 0).val = (row t a).val by rw [(idx t).2.2.2.2.1]; show t.val % 16 * 256 + a.val = 256 * (t.val % 16) + a.val; omega,
    show win0_4.index t 1 * 256 + ((ix2 a l : Shape.Idx _) 1).val = (lan t l).val by rw [(idx t).2.2.2.2.1]; show t.val / 16 * 256 + l.val = 256 * (t.val / 16) + l.val; omega]
  refine ((after_point hp t).2.1 a l).trans (congrArg _ ?_)
  rw [zz_score _ _ _ (by omega)]
  show _ = realT _ (row t a).val (lan t l).val
  unfold realT
  rw [lan_head]
  rfl
theorem final_5 : (dats m 0 c).arrAt 5 (cfgs (F := Ideal) 0).N = ((fun _ => (0 : EReal)) : FVec Ideal S2x16x8x128 .f32) := by
  refine (dats m 0 c).arrAt_eq_of_covers 5 _ (by decide +kernel) fun t hf y => ?_
  blk_simp
  rw [after5]
  exact (after_point hp t).2.2 y
end Finals

end Cert.Kernel11Ideal.Hand

end
-- ==== Proof.AttF.Ref.lean ====
/- The attention as the reference writes it, entry by entry, as real numbers. -/
module

public import proofs.«01_k».proof.Proof.AttF.Vals
public import proofs.«01_k».proof.Proof.Att.Ref
public import proofs.«01_k».proof.Proof.Gen.Reference11Ideal.Read
public import Idealize.ShloMosaic.Lib.Pointwise

@[expose] public section

set_option maxRecDepth 16384

noncomputable section

namespace Cert.Reference11Ideal.Hand

open Idealize.ShloMosaic Idealize.ShloMosaic.TcCoe Idealize.SL.Sem
open Cert.Reference11Ideal Cert.Reference11Ideal.Read

open Att (coe_sum sp sp_neg E A)
open Cert.Kernel2Ideal.Hand (FinP col score abs_coe eighth32)
open Cert.Kernel11Ideal.Hand (realO realT)
open Cert.Reference2Ideal.Hand (suffix_at softplus mask coe_ite rem rem_eq weight_eq)

variable {x0 : FVec Ideal S4096x5120 .f32} (hp : FinP x0)

theorem zero_first (i : S_.Idx) : val_main_call2_v0 (F := Ideal) i = (0 : EReal) := by
  obtain rfl : i = ix0 := funext fun a => a.elim0
  pointwise [val_main_call2_v0, val_main_call2_cst]
theorem zero_else : id (constant (F := Ideal) S_ FTy.f32 0#32) ix0 = ((0 : ℝ) : EReal) := by
  show constant (F := Ideal) S_ FTy.f32 0#32 ix0 = _
  pointwise
  rfl

include hp

/-- A score, from products of a query with a key. -/
theorem products (H : Fin 8) (r s : Fin 4096) (f : Fin 64 → EReal)
    (hf : ∀ d : Fin 64, f d = x0 (ix2 r ⟨1536 + (H.val * 64 + d.val), by omega⟩) * x0 (ix2 s ⟨2048 + (H.val * 64 + d.val), by omega⟩)) :
    (Finset.sum (M := EReal) Finset.univ f) * ((1 / 8 : ℝ) : EReal) = ((score x0 H r s : ℝ) : EReal) := by
  rw [Finset.sum_congr rfl fun d _ => show f d = (((col x0 r (1536 + (64 * H.val + d.val))) * (col x0 s (2048 + (64 * H.val + d.val))) : ℝ) : EReal) by
    rw [hf, hp r _ (by dsimp only; omega) (by dsimp only; omega), hp s _ (by dsimp only; omega) (by dsimp only; omega), ← EReal.coe_mul]
    dsimp only
    rw [Nat.mul_comm H.val 64], coe_sum, ← EReal.coe_mul]
  refine congrArg _ ?_
  unfold score
  rw [Finset.sum_mul]
  exact Finset.sum_congr rfl fun d _ => by ring

theorem v10_at (H : Fin 8) (r s : Fin 4096) : val_main_v10 (F := Ideal) x0 (ix3 H r s) = ((score x0 H r s : ℝ) : EReal) := by
  pointwise [val_main_v10, val_main_v9, val_main_cst, val_main_v8, val_main_v5, val_main_v6, val_main_v1, val_main_v2]
  rw [eighth32]
  exact products hp H r s _ fun d => rfl

theorem v14_at (H : Fin 8) (r s : Fin 4096) : val_main_v14 (F := Ideal) x0 (ix3 H r s) = ((sp (score x0 H r s) : ℝ) : EReal) := by
  pointwise [val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v14, v10_at hp]
  rw [if_neg (fun h => h rfl), abs_coe, ← EReal.coe_neg, Ideal.exp_coe]
  exact softplus _

theorem v15_at (H : Fin 8) (r s : Fin 4096) : val_main_v15 (F := Ideal) x0 (ix3 H r s) = ((if s.val < r.val then sp (score x0 H r s) else 0 : ℝ) : EReal) := by
  pointwise [val_main_v15, val_main_v13, val_main_v12, val_main_v11, val_main_call1_v1, val_main_call1_v0, val_main_cst_0, v14_at hp]
  rw [mask, zero_else, coe_ite]

theorem v18_at (H : Fin 8) (r s : Fin 4096) : val_main_v18 (F := Ideal) x0 (ix3 H r s) = ((score x0 H r s - sp (score x0 H r s) : ℝ) : EReal) := by
  pointwise [val_main_v18, val_main_call3_v1, val_main_call3_v0, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, v10_at hp]
  rw [if_neg (fun h => h rfl), ← EReal.coe_neg, abs_coe, ← EReal.coe_neg, Ideal.exp_coe, softplus, sp_neg, ← EReal.coe_neg]
  exact congrArg _ (by ring)

theorem v17_at (H : Fin 8) (r s : Fin 4096) : val_main_v17 (F := Ideal) x0 (ix3 H r s) = ((rem (score x0 H) r s : ℝ) : EReal) := by
  rw [val_main_v17_apply]
  unfold val_main_v16
  rw [suffix_at (f := fun H r s => if s < r then sp (score x0 H r s) else 0) (v15_at hp) zero_first, v15_at hp]
  show _ - _ = _
  rw [← EReal.coe_sub]
  rfl

theorem v20_at (H : Fin 8) (r s : Fin 4096) : val_main_v20 (F := Ideal) x0 (ix3 H r s)
    = ((Real.exp (score x0 H r s - sp (score x0 H r s) - rem (score x0 H) r s) : ℝ) : EReal) := by
  pointwise [val_main_v20, val_main_v19, v18_at hp, v17_at hp]
  rw [← EReal.coe_sub, Ideal.exp_coe]

/-- The weights. -/
theorem v21_at (H : Fin 8) (r s : Fin 4096) : val_main_v21 (F := Ideal) x0 (ix3 H r s) = ((if s.val < r.val then A (score x0 H) r s else 0 : ℝ) : EReal) := by
  pointwise [val_main_v21, val_main_v13, val_main_v12, val_main_v11, val_main_call4_v1, val_main_call4_v0, val_main_cst_1, v20_at hp]
  rw [mask, zero_else, coe_ite]
  refine congrArg _ ?_
  by_cases h : s.val < r.val
  · rw [if_pos h, if_pos h, rem, rem_eq _ (by omega) h, weight_eq]
  · rw [if_neg h, if_neg h]

/-- A sum over the keys of what is nought from the row on. -/
theorem before_row (f : ℕ → ℝ) (r : Fin 4096) : (∑ s : Fin 4096, if s.val < r.val then f s.val else 0) = ∑ s ∈ Finset.range r.val, f s := by
  rw [Fin.sum_univ_eq_sum_range (fun n : ℕ => if n < r.val then f n else 0) 4096,
    ← Finset.sum_subset (Finset.range_subset_range.mpr r.isLt.le) (fun t _ ht => by rw [if_neg (by simpa using ht)])]
  exact Finset.sum_congr rfl fun t ht => by rw [if_pos (Finset.mem_range.mp ht)]

/-- The output. -/
theorem v25_at (r : Fin 4096) (k : Fin 512) : val_main_v25 (F := Ideal) x0 (ix2 r k) = ((realO x0 r k : ℝ) : EReal) := by
  pointwise [val_main_v25, val_main_v24, val_main_v23, val_main_v22, val_main_v7, val_main_v3, v21_at hp]
  refine (Finset.sum_congr rfl fun (s : Fin 4096) _ => show _ = ((if s.val < r.val then A (score x0 (k.val / 64)) r s * col x0 s (2560 + k.val) else 0 : ℝ) : EReal) by
    rw [hp s _ (by dsimp only; omega) (by dsimp only; omega), ← EReal.coe_mul]
    refine congrArg _ ?_
    dsimp only
    rw [mul_ite, mul_zero]
    split
    · exact mul_comm _ _
    · rfl).trans ((coe_sum _ _).trans (congrArg _ ?_))
  exact before_row hp (fun n => A (score x0 (k.val / 64)) r n * col x0 n (2560 + k.val)) r

theorem v30_at (H : Fin 8) (r s : Fin 4096) : val_main_v30 (F := Ideal) x0 (ix3 H r s) = ((score x0 H r s : ℝ) : EReal) := by
  pointwise [val_main_v30, val_main_v29, val_main_cst_2, val_main_v28, val_main_v26, val_main_v27, val_main_v1, val_main_v2]
  rw [eighth32]
  exact products hp H r s _ fun d => rfl

theorem v34_at (H : Fin 8) (r s : Fin 4096) : val_main_v34 (F := Ideal) x0 (ix3 H r s) = ((sp (score x0 H r s) : ℝ) : EReal) := by
  pointwise [val_main_call5_cst, val_main_call5_v0, val_main_call5_v1, val_main_call5_v2, val_main_call5_v3, val_main_call5_v4, val_main_call5_v5, val_main_call5_v6, val_main_call5_v7, val_main_call5_v8, val_main_call5_v9, val_main_call5_v10, val_main_call5_v11, val_main_v34, v30_at hp]
  rw [if_neg (fun h => h rfl), abs_coe, ← EReal.coe_neg, Ideal.exp_coe]
  exact softplus _

theorem v35_at (H : Fin 8) (r s : Fin 4096) : val_main_v35 (F := Ideal) x0 (ix3 H r s) = ((if s.val < r.val then sp (score x0 H r s) else 0 : ℝ) : EReal) := by
  pointwise [val_main_v35, val_main_v33, val_main_v32, val_main_v31, val_main_call6_v1, val_main_call6_v0, val_main_cst_3, v34_at hp]
  rw [mask, zero_else, coe_ite]

/-- The rows' totals. -/
theorem v39_at (r : Fin 4096) (k : Fin 512) : val_main_v39 (F := Ideal) x0 (ix2 r k) = ((realT x0 r k : ℝ) : EReal) := by
  pointwise [val_main_v39, val_main_v38, val_main_v37, val_main_v36, val_main_cst_4]
  refine (Finset.sum_congr rfl fun s _ => v35_at hp ⟨k.val / 64, by omega⟩ r s).trans ((coe_sum _ _).trans (congrArg _ ?_))
  exact before_row hp (fun n => sp (score x0 (k.val / 64) r n)) r

omit hp in
theorem v40_at (y : S2x16x8x128.Idx) : val_main_v40 (F := Ideal) y = (0 : EReal) := by
  obtain ⟨a, b, c, d, rfl⟩ : ∃ (a : Fin 2) (b : Fin 16) (c : Fin 8) (d : Fin 128), y = ix4 a b c d := ⟨y 0, y 1, y 2, y 3, eq_ix4 y⟩
  pointwise [val_main_v40, val_main_cst_5]

end Cert.Reference11Ideal.Hand

end
-- ==== Proof.AttF.Claims.lean ====
/- The claims about the attention forward: what the precondition says of the argument, the kernel's three results against the reference's, and the frames. -/
module

public import proofs.«01_k».proof.Defs
public import proofs.«01_k».proof.Proof.Att.Claims
public import proofs.«01_k».proof.Proof.AttF.Ref
public import proofs.«01_k».proof.Proof.Gen.Reference11Ideal.Run
public import Idealize.ShloMosaic.Lib.Claim

@[expose] public section

set_option maxRecDepth 16384

noncomputable section

namespace Cert.AttF

open Idealize.ShloMosaic Idealize.ShloMosaic.TcCoe Idealize.SL.Sem
open Cert.Reference11Ideal.Read Cert.Kernel11Ideal.Hand
open Cert.Kernel2Ideal.Hand (FinP col)

instance facts : Cert.Pre_finite11.Facts where
  slices_S4096x5120_S4096x1536_0_1536 := by decide
  bcast_S_S4096x1536 := by decide

variable (m : (ℓ : Loc Cert.Kernel11Ideal.nD Cert.Kernel11Ideal.τ Cert.Kernel11Ideal.sig) → Buf (Elt Ideal) ℓ) (c : Dev Cert.Kernel11Ideal.nD)

theorem finP_of (h : Cert.Pre_Kernel11Ideal_finite11 m) : FinP (argP m c) := by
  intro r k h1 h2
  have := congrFun (h c) (ix2 r ⟨k.val - 1536, by omega⟩)
  unfold Cert.Pre_finite11.fn at this
  dsimp only at this
  pointwise at this
  rw [show (⟨1536 + (k.val - 1536), by omega⟩ : Fin 5120) = k from Fin.ext (by dsimp only; omega)] at this
  refine (Cert.Attention.real_of_lt this).trans (congrArg _ ?_)
  unfold col
  rw [dif_pos ⟨r.isLt, k.isLt⟩]

/-- The reference's run, its results named by the stages of its text. -/
theorem run_reference (m' : (ℓ : Loc Cert.Reference11Ideal.nD Cert.Reference11Ideal.τ Cert.Reference11Ideal.sig) → Buf (Elt Ideal) ℓ)
    (ρ : Dev Cert.Reference11Ideal.nD → PrngReg) :
    θ_run Cert.Reference11Ideal.defs (onTc (τ := Cert.Reference11Ideal.τ) Cert.Reference11Ideal.main) ⟨m', fun _ => 0, ρ⟩ fun r =>
      ∀ c : Dev Cert.Reference11Ideal.nD,
        let A (b : Ref Cert.Reference11Ideal.sig .tc) := m' ((c.tc : Thread Cert.Reference11Ideal.nD Cert.Reference11Ideal.τ).loc b)
        let B (b : Ref Cert.Reference11Ideal.sig .tc) := r.2.mem ((c.tc : Thread Cert.Reference11Ideal.nD Cert.Reference11Ideal.τ).loc b)
        B Cert.Reference11Ideal.main_v25 = val_main_v25 (F := Ideal) (A Cert.Reference11Ideal.main_arg0)
        ∧ B Cert.Reference11Ideal.main_v39 = val_main_v39 (F := Ideal) (A Cert.Reference11Ideal.main_arg0)
        ∧ B Cert.Reference11Ideal.main_v40 = val_main_v40 (F := Ideal)
        ∧ B Cert.Reference11Ideal.main_arg0 = A Cert.Reference11Ideal.main_arg0 :=
  Idealize.ShloMosaic.θ_run_mono (Cert.Reference11Ideal.Value.run m' ρ) fun r h c =>
    ⟨(h c).1.trans (val_main_v25_eq _ _), (h c).2.1.trans (val_main_v39_eq _), (h c).2.2.1, (h c).2.2.2⟩

open Cert.Kernel11Ideal.Gen in
/-- The host's line before the launch leaves the argument alone. -/
theorem entry_arg0 : StableHlo.after (List.flatten [hostOps0 (F := Ideal)]) (fun b => m (c, b)) (Proc.tc.devRef Cert.Kernel11Ideal.main_arg0) = m (c.tc.loc Cert.Kernel11Ideal.main_arg0) := by
  simp only [hostOps0, List.flatten_cons, List.flatten_nil, List.append_nil]
  entry_read
  rfl

variable {m c}
theorem same_3 (h : Cert.Pre_Kernel11Ideal_finite11 m) : val_main_v25 (F := Ideal) (argP m c) = (dats m 0 c).arrAt 3 (Cert.Kernel11Ideal.cfgs (F := Ideal) 0).N := by
  rw [final_3 (finP_of m c h)]
  funext y
  obtain ⟨a, b, rfl⟩ : ∃ (a : Fin 4096) (b : Fin 512), y = ix2 a b := ⟨y 0, y 1, eq_ix2 y⟩
  exact Cert.Reference11Ideal.Hand.v25_at (finP_of m c h) a b
theorem same_4 (h : Cert.Pre_Kernel11Ideal_finite11 m) : val_main_v39 (F := Ideal) (argP m c) = (dats m 0 c).arrAt 4 (Cert.Kernel11Ideal.cfgs (F := Ideal) 0).N := by
  rw [final_4 (finP_of m c h)]
  funext y
  obtain ⟨a, b, rfl⟩ : ∃ (a : Fin 4096) (b : Fin 512), y = ix2 a b := ⟨y 0, y 1, eq_ix2 y⟩
  exact Cert.Reference11Ideal.Hand.v39_at (finP_of m c h) a b
theorem same_5 (h : Cert.Pre_Kernel11Ideal_finite11 m) : val_main_v40 (F := Ideal) = (dats m 0 c).arrAt 5 (Cert.Kernel11Ideal.cfgs (F := Ideal) 0).N := by
  rw [final_5 (finP_of m c h)]
  funext y
  exact Cert.Reference11Ideal.Hand.v40_at y

/-- The kernel's attention, row totals and early-exit marks are the reference's. -/
theorem algebraic : Cert.algebraic_Kernel11Ideal_Reference11Ideal_pre_finite11 := by
  pair_intro
  · run_from Cert.Kernel11Ideal.Hand.run_main m g
    · exact entry_arg0 m c
  · run_from run_reference m' g'
    · exact same_3 (by assumption)
    · exact same_4 (by assumption)
    · exact same_5 (by assumption)

/-- The name of the early exit's threshold. -/
theorem preserves : Cert.preserves_Kernel11_Kernel11Ideal :=
  IdealRules.named_const.statement Cert.Kernel11Ideal.κ "no_exit" .f32 0x42DC0000#32 (⊤ : EReal) rfl

/-- The reference leaves its argument alone. -/
theorem quiescent : Cert.quiescent_Reference11Ideal := fun m' ρ _ =>
  Idealize.ShloMosaic.θ_run_mono (Cert.Reference11Ideal.Value.run m' ρ) fun r h =>
    ⟨fun c => (h c).2.2.2, sem_eq_zero_of_no_sems (by decide) r.2⟩
theorem quiescent_pre : Cert.quiescent_Reference11Ideal_pre_finite11 := fun m' ρ _ => quiescent m' ρ trivial

/-- The kernel ends with its argument unchanged. -/
theorem frame_ideal : Cert.quiescent_Kernel11Ideal := fun m ρ _ => Cert.Kernel11Ideal.Hand.frame (F := Ideal) m ρ
theorem frame_ideal_pre : Cert.quiescent_Kernel11Ideal_pre_finite11 := fun m ρ _ => Cert.Kernel11Ideal.Hand.frame (F := Ideal) m ρ

end Cert.AttF

end
-- ==== Proof.ShortConv.lean ====
module

public import proofs.«01_k».proof.Defs
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal

open Read

/-- The reference's run, its results named by the stages of its text. -/
theorem run_reference (m' : (ℓ : Loc nD τ sig) → Buf (Elt Ideal) ℓ)
    (ρ : Dev nD → PrngReg) :
    θ_run defs (onTc (τ := τ) main) ⟨m', fun _ => 0, ρ⟩ fun r =>
      ∀ c : Dev nD,
        let A (b : Ref sig .tc) := m' ((c.tc : Thread nD τ).loc b)
        let B (b : Ref sig .tc) := r.2.mem ((c.tc : Thread nD τ).loc b)
        B main_v66 = val_main_v66 (F := Ideal) (A main_arg0) (A main_arg1) (A main_arg2)
        ∧ B main_v67 = val_main_v67 (F := Ideal) (A main_arg0) (A main_arg1) (A main_arg2)
        ∧ B main_v68 = val_main_v68 (F := Ideal) (A main_arg0) (A main_arg1) (A main_arg2)
        ∧ B main_v61 = val_main_v61 (F := Ideal) (A main_arg0) (A main_arg1)
        ∧ B main_arg0 = A main_arg0
        ∧ B main_arg1 = A main_arg1
        ∧ B main_arg2 = A main_arg2 :=
  Idealize.ShloMosaic.θ_run_mono (Value.run m' ρ) fun r h c =>
    ⟨(h c).1.trans (val_main_v66_eq _ _ _), (h c).2.1.trans (val_main_v67_eq _ _ _), (h c).2.2.1.trans (val_main_v68_eq _ _ _),
      (h c).2.2.2.1.trans (val_main_v61_eq _ _), (h c).2.2.2.2⟩

end Cert.ReferenceIdeal

namespace Cert.ShortConv

open Cert.KernelIdeal Cert.KernelIdeal.Gen Cert.ReferenceIdeal.Read

variable (m : (ℓ : Loc nD τ sig) → Buf (Elt Ideal) ℓ)

/-- The block index of every window at every grid point. -/
theorem idx : ∀ t : Fin cfg0.N, win0_0.index t = ![0, t.val] ∧ win0_1.index t = ![0, t.val]
    ∧ win0_2.index t = ![0, 4 + t.val] ∧ win0_3.index t = ![0, 8 + t.val] ∧ win0_4.index t = ![0, t.val]
    ∧ win0_5.index t = ![0, t.val] ∧ win0_6.index t = ![0, t.val] ∧ win0_7.index t = ![0, t.val]
    ∧ win0_8.index t = ![0, t.val] :=
  (by decide +kernel : ∀ t : Fin grid0.N, _)

/-- The row mask of the taps that look back: the rows below `k` read the zeros before the sequence. -/
theorem back (k : ℕ) (hk : k < 2 ^ (32 - 1)) (a : Fin 4096) (x : EReal) :
    Scalar.select (IntOp.cmpi .sge (BitVec.ofNat 32 a.val) (BitVec.ofNat 32 k)) x 0 = if a.val < k then 0 else x := by
  rw [Idealize.ShloMosaic.WordCmp.cmpi_sge_ofNat (lt_trans a.isLt (by norm_num)) hk]
  by_cases h : a.val < k
  · rw [if_pos h, decide_eq_false (by omega)]; rfl
  · rw [if_neg h, decide_eq_true (by omega)]; rfl

/-- The row mask of the taps that look ahead: the rows from `k` on read the zeros behind the sequence. -/
theorem ahead (k : ℕ) (hk : k < 2 ^ (32 - 1)) (a : Fin 4096) (x : EReal) :
    Scalar.select (IntOp.cmpi .slt (BitVec.ofNat 32 a.val) (BitVec.ofNat 32 k)) x 0 = if a.val < k then x else 0 := by
  rw [Idealize.ShloMosaic.WordCmp.cmpi_slt_ofNat (lt_trans a.isLt (by norm_num)) hk]
  by_cases h : a.val < k
  · rw [if_pos h, decide_eq_true h]; rfl
  · rw [if_neg h, decide_eq_false h]; rfl

/-- The column of the arrays that column `b` of point `t`'s blocks is. -/
def col (t : Fin cfg0.N) (b : Fin 128) : Fin 512 := ⟨t.val * 128 + b.val, by
  have := lt_of_lt_of_eq t.isLt N_0; omega⟩

section
variable (c : Dev nD) (t : Fin cfg0.N) (r : Fin 4096) (b : Fin 128)

theorem read_0 : iblk m c 0 t (ix2 r b) = m ((c : Thread nD τ).loc main_arg0) (ix2 r (col t b)) := by
  blk_ext [iblk, V, idx t, col]
theorem read_1 : iblk m c 1 t (ix2 r b) = m ((c : Thread nD τ).loc main_arg1) (ix2 r ⟨(col t b).val, by omega⟩) := by
  blk_ext [iblk, V, idx t, col]
theorem read_2 : iblk m c 2 t (ix2 r b) = m ((c : Thread nD τ).loc main_arg1) (ix2 r ⟨512 + (col t b).val, by omega⟩) := by
  blk_ext [iblk, V, idx t, col]
theorem read_3 : iblk m c 3 t (ix2 r b) = m ((c : Thread nD τ).loc main_arg1) (ix2 r ⟨1024 + (col t b).val, by omega⟩) := by
  blk_ext [iblk, V, idx t, col]
theorem read_4 (k : Fin 3) : iblk m c 4 t (ix2 k b) = m ((c : Thread nD τ).loc main_arg2) (ix2 k (col t b)) := by
  blk_ext [iblk, V, idx t, col]
end

/-- A weighted tap that looks back: the masked product is the weight times the padded operand's element. -/
theorem tap {p q : Prop} [Decidable p] [Decidable q] (hpq : p ↔ q) (w : EReal) (f : Fin 4096 → EReal) (i : Fin 4096)
    (j : ¬q → Fin 4096) (hij : ∀ h, i = j h) :
    (if p then 0 else w * f i) = w * (if h : q then 0 else f (j h)) := by
  by_cases h : q
  · rw [if_pos (hpq.mpr h), dif_pos h, mul_zero]
  · rw [if_neg (fun hp => h (hpq.mp hp)), dif_neg h, hij h]

/-- A weighted tap that looks ahead. -/
theorem tap' {p q : Prop} [Decidable p] [Decidable q] (hpq : p ↔ q) (w : EReal) (f g : Fin 4096 → EReal) (i : Fin 4096)
    (j : q → Fin 4096) (hij : ∀ h, i = j h) :
    (if p then w * (f i * g i) else 0) = (if h : q then w * (g (j h) * f (j h)) else 0) := by
  by_cases h : q
  · rw [if_pos (hpq.mpr h), dif_pos h, hij h, mul_comm (f _)]
  · rw [if_neg (fun hp => h (hpq.mp hp)), dif_neg h]

/-- The two large arguments, at their types. -/
abbrev D (c : Dev nD) : FVec Ideal S4096x512 .f32 := m ((c : Thread nD τ).loc main_arg0)
abbrev P (c : Dev nD) : FVec Ideal S4096x5120 .f32 := m ((c : Thread nD τ).loc main_arg1)

attribute [local pointwise] val_main_v0 val_main_v1 val_main_v2 val_main_v3 val_main_v4 val_main_cst val_main_v5 val_main_v6 val_main_cst_0 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_cst_1 val_main_v34 val_main_v35 val_main_cst_2 val_main_v36 val_main_cst_3 val_main_v37 val_main_v38 val_main_cst_4 val_main_v39 val_main_v40 val_main_v41 val_main_v42 val_main_cst_5 val_main_v43 val_main_v44 val_main_cst_6 val_main_v45 val_main_cst_7 val_main_v46 val_main_v47 val_main_v48 val_main_cst_8 val_main_v49 val_main_v50 val_main_v51 val_main_v52 val_main_v53 val_main_cst_9 val_main_v54 val_main_v55 val_main_cst_10 val_main_v56 val_main_cst_11 val_main_v57 val_main_v58 val_main_v59 val_main_cst_12 val_main_v60 val_main_v61 val_main_v62 val_main_v63 val_main_v64 val_main_v65 val_main_v66 val_main_v67 val_main_v68

theorem final_5 (c : Dev nD) : (dats m 0 c).arrAt 5 (cfgs 0).N
    = val_main_v66 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  obtain ⟨a, b, rfl⟩ : ∃ (a : Fin 4096) (b : Fin 128), y = ix2 a b := ⟨y 0, y 1, eq_ix2 y⟩
  rw [show ((cfg0.win 5).blk t).view.emb (ix2 a b) = (ix2 a (col t b) : S4096x512.Idx) from by blk_ext [idx t, col]]
  frame_out
  unfold_payloads
  set_option maxRecDepth 200000 in
  pointwise
  rw [back 2 (by norm_num), back 1 (by norm_num)]
  simp only [read_0, read_2, read_3, read_4]
  refine congrArg₂ (· * ·) rfl (congrArg₂ (· + ·) (congrArg₂ (· + ·) ?_ ?_) rfl)
  · exact tap Iff.rfl _ (fun r => P m c (ix2 r ⟨512 + (col t b).val, by omega⟩) * P m c (ix2 r ⟨1024 + (col t b).val, by omega⟩)) _ _ fun h => Fin.ext (by dsimp only; omega)
  · exact tap (by omega) _ (fun r => P m c (ix2 r ⟨512 + (col t b).val, by omega⟩) * P m c (ix2 r ⟨1024 + (col t b).val, by omega⟩)) _ _ fun h => Fin.ext (by dsimp only; omega)

theorem final_6 (c : Dev nD) : (dats m 0 c).arrAt 6 (cfgs 0).N
    = val_main_v67 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  obtain ⟨a, b, rfl⟩ : ∃ (a : Fin 4096) (b : Fin 128), y = ix2 a b := ⟨y 0, y 1, eq_ix2 y⟩
  rw [show ((cfg0.win 6).blk t).view.emb (ix2 a b) = (ix2 a (col t b) : S4096x512.Idx) from by blk_ext [idx t, col]]
  frame_out
  unfold_payloads
  set_option maxRecDepth 200000 in
  pointwise
  rw [ahead 4095 (by norm_num), ahead 4094 (by norm_num)]
  simp only [read_0, read_1, read_3, read_4]
  refine congrArg₂ (· * ·) (congrArg₂ (· + ·) (congrArg₂ (· + ·) ?_ ?_) ?_) rfl
  · exact congrArg (fun z : EReal => _ * z) (mul_comm _ _)
  · exact tap' (by omega) _ (fun r => D m c (ix2 r (col t b))) (fun r => P m c (ix2 r ⟨(col t b).val, by omega⟩)) _ _ fun h => Fin.ext (by dsimp only; omega)
  · exact tap' (by omega) _ (fun r => D m c (ix2 r (col t b))) (fun r => P m c (ix2 r ⟨(col t b).val, by omega⟩)) _ _ fun h => Fin.ext (by dsimp only; omega)

theorem final_7 (c : Dev nD) : (dats m 0 c).arrAt 7 (cfgs 0).N
    = val_main_v68 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]
  obtain ⟨a, b, rfl⟩ : ∃ (a : Fin 4096) (b : Fin 128), y = ix2 a b := ⟨y 0, y 1, eq_ix2 y⟩
  rw [show ((cfg0.win 7).blk t).view.emb (ix2 a b) = (ix2 a (col t b) : S4096x512.Idx) from by blk_ext [idx t, col]]
  frame_out
  unfold_payloads
  set_option maxRecDepth 200000 in
  pointwise
  rw [ahead 4095 (by norm_num), ahead 4094 (by norm_num)]
  simp only [read_0, read_1, read_2, read_4]
  refine (mul_comm _ _).trans (congrArg₂ (fun x y : EReal => x * y) rfl (congrArg₂ (· + ·) (congrArg₂ (· + ·) ?_ ?_) ?_))
  · exact congrArg (fun z : EReal => _ * z) (mul_comm _ _)
  · exact tap' (by omega) _ (fun r => D m c (ix2 r (col t b))) (fun r => P m c (ix2 r ⟨(col t b).val, by omega⟩)) _ _ fun h => Fin.ext (by dsimp only; omega)
  · exact tap' (by omega) _ (fun r => D m c (ix2 r (col t b))) (fun r => P m c (ix2 r ⟨(col t b).val, by omega⟩)) _ _ fun h => Fin.ext (by dsimp only; omega)

theorem final_8 (c : Dev nD) : (dats m 0 c).arrAt 8 (cfgs 0).N
    = val_main_v61 (F := Ideal) (m ((c : Thread nD τ).loc main_arg0)) (m ((c : Thread nD τ).loc main_arg1)) := by
  refine (dats m 0 c).arrAt_eq_of_covers 8 _ (by decide +kernel) fun t hf y => ?_
  blk_simp; rw [after0_8]
  obtain ⟨a, b, rfl⟩ : ∃ (a : Fin 3) (b : Fin 128), y = ix2 a b := ⟨y 0, y 1, eq_ix2 y⟩
  rw [show ((cfg0.win 8).blk t).view.emb (ix2 a b) = (ix2 a (col t b) : S3x512.Idx) from by blk_ext [idx t, col]]
  canon_tiles x h
  all_goals
    open_payloads
    obtain ⟨u, v, rfl⟩ : ∃ (u : Fin 1) (v : Fin 128), x = ix2 u v := ⟨x 0, x 1, eq_ix2 x⟩
    obtain rfl : b = v := Fin.ext h1
    obtain rfl : u = 0 := Subsingleton.elim _ _
    pointwise
    simp only [back 1 (by norm_num : 1 < 2 ^ (32 - 1)), back 2 (by norm_num : 2 < 2 ^ (32 - 1)), read_0, read_1, read_2, read_3, Fin.sum_univ_one]
  · obtain rfl : a = 2 := Fin.ext h0
    rw [dif_pos (by decide), dif_neg (by decide), dif_neg (by decide), add_zero, add_zero]
    exact Fin.sum_fin_congr fun x => congrArg (· * _) (mul_comm _ _)
  · obtain rfl : a = 1 := Fin.ext h0
    rw [dif_neg (by decide), dif_pos (by decide), dif_neg (by decide), zero_add, add_zero]
    exact Fin.sum_fin_congr fun r => (tap (by omega) _ (fun r => P m c (ix2 r ⟨512 + (col t b).val, by omega⟩) * P m c (ix2 r ⟨1024 + (col t b).val, by omega⟩)) _ _ fun h => Fin.ext (by dsimp only; omega)).trans
      (congrArg (· * _) (mul_comm _ _))
  · obtain rfl : a = 0 := Fin.ext h0
    rw [dif_neg (by decide), dif_neg (by decide), dif_pos (by decide), zero_add, zero_add]
    refine (Fin.sum_univ_add (a := 2) (b := 4094) _).trans (congrArg₂ (· + ·) ?_ ?_)
    · exact Fin.sum_fin_congr fun r => (if_pos r.isLt).trans (mul_zero _).symm
    · refine Fin.sum_fin_congr fun r => (if_neg (by simp; omega)).trans (congrArg₂ (· * ·) (mul_comm _ _) ?_)
      refine congrArg (f := (fun r => P m c (ix2 r ⟨512 + (col t b).val, by omega⟩) * P m c (ix2 r ⟨1024 + (col t b).val, by omega⟩))) (Fin.ext ?_)
      show (2 + r.val + 4096 - 2) % 4096 = r.val
      omega

/-- The kernel's gradients of the gated short convolution are the reference's. -/
theorem algebraic : Cert.algebraic_KernelIdeal_ReferenceIdeal := by
  pair_intro
  · run_from Cert.KernelIdeal.Gen.run_main m g
  · run_from ReferenceIdeal.run_reference m' g'
    · exact (final_5 m c).symm
    · exact (final_6 m c).symm
    · exact (final_7 m c).symm
    · exact (final_8 m c).symm

/-- The reference leaves its arguments alone. -/
theorem quiescent : Cert.quiescent_ReferenceIdeal := fun m' ρ _ =>
  Idealize.ShloMosaic.θ_run_mono (ReferenceIdeal.Value.run m' ρ) fun r h =>
    ⟨fun c => (h c).2.2.2.2, sem_eq_zero_of_no_sems (by decide) r.2⟩

end Cert.ShortConv

end
-- ==== Proof.Conv.lean ====
/- The gated short convolution's forward call. -/
module

public import proofs.«01_k».proof.Defs
public import proofs.«01_k».proof.Proof.Gen.Kernel12Ideal.Frame
public import proofs.«01_k».proof.Proof.Gen.Reference12Ideal.Run
public import proofs.«01_k».proof.Proof.Gen.Reference12Ideal.Read
public import proofs.«01_k».proof.Proof.ShortConv
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.Kernel12Ideal Cert.Kernel12Ideal.Gen Cert.Reference12Ideal.Read

variable (m : (ℓ : Loc nD τ sig) → Buf (Elt Ideal) ℓ) (c : Dev nD)

attribute [local pointwise] val_main_v0 val_main_v1 val_main_v2 val_main_v3 val_main_v4 val_main_cst val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28

theorem idx : ∀ t : Fin cfg0.N, win0_0.index t = ![0, t.val] ∧ win0_1.index t = ![0, 4 + t.val] ∧ win0_2.index t = ![0, 8 + t.val] ∧ win0_3.index t = ![0, t.val] ∧ win0_4.index t = ![0, t.val] :=
  (by decide +kernel : ∀ t : Fin grid0.N, _)

/-- The column of the arrays that column `b` of point `t`'s blocks is. -/
def col (t : Fin cfg0.N) (b : Fin 128) : Fin 512 := ⟨t.val * 128 + b.val, by
  have := lt_of_lt_of_eq t.isLt N_0; omega⟩

abbrev X0 : FVec Ideal S4096x5120 .f32 := m ((c : Thread nD τ).loc main_arg0)
abbrev X1 : FVec Ideal S3x512 .f32 := m ((c : Thread nD τ).loc main_arg1)

section
variable (t : Fin cfg0.N) (r : Fin 4096) (b : Fin 128)
theorem read_0 : iblk m c 0 t (ix2 r b) = X0 m c (ix2 r ⟨(col t b).val, by omega⟩) := by
  blk_simp [iblk]
  entry_read
  pointwise
  blk_ext [idx t, col]
theorem read_1 : iblk m c 1 t (ix2 r b) = X0 m c (ix2 r ⟨512 + (col t b).val, by omega⟩) := by
  blk_simp [iblk]
  entry_read
  pointwise
  blk_ext [idx t, col]
theorem read_2 : iblk m c 2 t (ix2 r b) = X0 m c (ix2 r ⟨1024 + (col t b).val, by omega⟩) := by
  blk_simp [iblk]
  entry_read
  pointwise
  blk_ext [idx t, col]
theorem read_3 (k : Fin 3) : iblk m c 3 t (ix2 k b) = X1 m c (ix2 k (col t b)) := by
  blk_simp [iblk]
  entry_read
  pointwise
  blk_ext [idx t, col]
end

theorem final_4 : (dats m 0 c).arrAt 4 (cfgs 0).N = val_main_v28 (F := Ideal) (X0 m c) (X1 m c) := by
  refine (dats m 0 c).arrAt_eq_of_covers 4 _ (by decide +kernel) fun t hf y => ?_
  blk_simp; rw [after0_4]
  obtain ⟨a, b, rfl⟩ : ∃ (a : Fin 4096) (b : Fin 128), y = ix2 a b := ⟨y 0, y 1, eq_ix2 y⟩
  rw [show ((cfg0.win 4).blk t).view.emb (ix2 a b) = (ix2 a (col t b) : S4096x512.Idx) from by blk_ext [idx t, col]]
  frame_out
  unfold_payloads
  set_option maxRecDepth 200000 in
  pointwise
  rw [ShortConv.back 2 (by norm_num), ShortConv.back 1 (by norm_num)]
  simp only [read_0, read_1, read_2, read_3]
  refine congrArg₂ (· * ·) rfl (congrArg₂ (· + ·) (congrArg₂ (· + ·) ?_ ?_) rfl)
  · exact ShortConv.tap Iff.rfl _ (fun r => X0 m c (ix2 r ⟨512 + (col t b).val, by omega⟩) * X0 m c (ix2 r ⟨1024 + (col t b).val, by omega⟩)) _ _ fun h => Fin.ext (by dsimp only; omega)
  · exact ShortConv.tap (by omega) _ (fun r => X0 m c (ix2 r ⟨512 + (col t b).val, by omega⟩) * X0 m c (ix2 r ⟨1024 + (col t b).val, by omega⟩)) _ _ fun h => Fin.ext (by dsimp only; omega)

set_option maxHeartbeats 4000000 in
/-- The kernel's results are the reference's. -/
theorem algebraic : Cert.algebraic_Kernel12Ideal_Reference12Ideal := by
  pair_intro
  · run_from Cert.Kernel12Ideal.Gen.run_main m g
  · run_from Reference12Ideal.Value.run m' g'
    · exact (val_main_v28_eq _ _).trans (final_4 m c).symm

/-- The reference leaves its arguments alone. -/
theorem quiescent : Cert.quiescent_Reference12Ideal := fun m' ρ _ =>
  Idealize.ShloMosaic.θ_run_mono (Reference12Ideal.Value.run m' ρ) fun r h =>
    ⟨fun c => (h c).2, sem_eq_zero_of_no_sems (by decide) r.2⟩

end Cert.Conv

end
-- ==== Proof.FfnUp.lean ====
/- The third feed-forward layer's first call: the modulated norm, gate and up, and the gated activations. -/
module

public import proofs.«01_k».proof.Defs
public import proofs.«01_k».proof.Proof.Gen.Kernel13Ideal.Frame
public import proofs.«01_k».proof.Proof.Gen.Reference13Ideal.Run
public import proofs.«01_k».proof.Proof.Gen.Reference13Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUp

open Cert.Kernel13Ideal Cert.Kernel13Ideal.Gen Cert.Reference13Ideal.Read Cert.Norm

variable (m : (ℓ : Loc nD τ sig) → Buf (Elt Ideal) ℓ) (c : Dev nD)

attribute [local pointwise] val_main_v0 val_main_cst val_main_v1 val_main_v2 val_main_cst_0 val_main_v3 val_main_v4 val_main_cst_1 val_main_v5 val_main_v6 val_main_v7 val_main_v8 val_main_v9 val_main_v10 val_main_v11 val_main_cst_2 val_main_v12 val_main_v13 val_main_v14 val_main_v15 val_main_v16 val_main_v17 val_main_v18 val_main_v19 val_main_v20 val_main_call0_v0 val_main_call0_v1 val_main_call0_cst val_main_call0_v2 val_main_call0_v3 val_main_call0_cst_0 val_main_call0_v4 val_main_call0_v5 val_main_v21 val_main_v22 val_main_v23 val_main_v24 val_main_v25 val_main_v26 val_main_v27 val_main_v28 val_main_v29

theorem idx : ∀ t : Fin cfg0.N, win0_0.index t = ![t.val, 0] ∧ win0_1.index t = ![0, 0] ∧ win0_2.index t = ![0, 0] ∧ win0_3.index t = ![0, 0] ∧ win0_4.index t = ![0, 0, 0] ∧ win0_5.index t = ![t.val, 0] ∧ win0_6.index t = ![0, 0, t.val, 0] ∧ win0_7.index t = ![0, t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

/-- Column `b` of block `j` of half `h`. -/
def col (h : Fin 2) (j : Fin 4) (b : Fin 704) : Fin 5632 := ⟨(h.val * 4 + j.val) * 704 + b.val, by omega⟩

abbrev X0 : FVec Ideal S4096x1024 .f32 := m ((c : Thread nD τ).loc main_arg0)
abbrev X1 : FVec Ideal S1x1024 .f32 := m ((c : Thread nD τ).loc main_arg1)
abbrev X2 : FVec Ideal S1x1024 .f32 := m ((c : Thread nD τ).loc main_arg2)
abbrev X3 : FVec Ideal S1x1024 .f32 := m ((c : Thread nD τ).loc main_arg3)
abbrev X4 : FVec Ideal S1024x5632 .f32 := m ((c : Thread nD τ).loc main_arg4)
/-- The modulated norm of a row of x. -/
def u (r : Fin 4096) (k : Fin 1024) : EReal :=
  X0 m c (ix2 r k) * R (fun k => X0 m c (ix2 r k)) * X1 m c (ix2 0 k) * (1 + X3 m c (ix2 0 k)) + X2 m c (ix2 0 k)
/-- Its product with the weight. -/
def p (r : Fin 4096) (n : Fin 5632) : EReal := ∑ k : Fin 1024, @HMul.hMul EReal EReal EReal _ (u m c r k) (X4 m c (ix2 k n))

theorem read_0 (t : Fin cfg0.N) (a : Fin 512) (b : Fin 1024) : iblk m c 0 t (ix2 a b) = X0 m c (ix2 (row t a) b) := by
  blk_simp [iblk]
  entry_read
  pointwise
  blk_ext [idx t, row]
theorem read_1 (t : Fin cfg0.N) (b : Fin 1024) : iblk m c 1 t (ix2 0 b) = X1 m c (ix2 0 b) := by
  blk_simp [iblk]
  entry_read
  pointwise
  blk_ext [idx t, row]
theorem read_2 (t : Fin cfg0.N) (b : Fin 1024) : iblk m c 2 t (ix2 0 b) = X2 m c (ix2 0 b) := by
  blk_simp [iblk]
  entry_read
  pointwise
  blk_ext [idx t, row]
theorem read_3 (t : Fin cfg0.N) (b : Fin 1024) : iblk m c 3 t (ix2 0 b) = X3 m c (ix2 0 b) := by
  blk_simp [iblk]
  entry_read
  pointwise
  blk_ext [idx t, row]
theorem read_4 (t : Fin cfg0.N) (j : Fin 8) (b : Fin 704) (x : Fin 1024) : iblk m c 4 t (ix3 j b x) = X4 m c (ix2 x ⟨j.val * 704 + b.val, by omega⟩) := by
  blk_simp [iblk]
  entry_read
  simp only [List.flatten_cons, List.flatten_nil, List.append_nil]
  pointwise
  blk_ext [idx t, row]

theorem final_5 : (dats m 0 c).arrAt 5 (cfgs 0).N = val_main_v25 (F := Ideal) (X0 m c) (X1 m c) (X2 m c) (X3 m c) := by
  refine (dats m 0 c).arrAt_eq_of_covers 5 _ (by decide +kernel) fun t hf y => ?_
  blk_simp; rw [after0_5]
  obtain ⟨a, b, rfl⟩ : ∃ (a : Fin 512) (b : Fin 1024), y = ix2 a b := ⟨y 0, y 1, eq_ix2 y⟩
  rw [show ((cfg0.win 5).blk t).view.emb (ix2 a b) = (ix2 (row t a) b : S4096x1024.Idx) from by blk_ext [idx t, row]]
  frame_out
  unfold_payloads
  pointwise
  simp only [read_0, read_1, read_2, read_3]

/-- Gate and up in blocks, as the kernel stores them. -/
def G : FVec Ideal S2x4x4096x704 .bf16 := fun y => p m c (y 2) (col (y 0) (y 1) (y 3))
/-- The gated activations in blocks. -/
def A : FVec Ideal S4x4096x704 .bf16 := fun y =>
  p m c (y 1) (col 0 (y 0) (y 2)) * Ideal.div 1 (1 + Ideal.exp (-p m c (y 1) (col 0 (y 0) (y 2)))) * p m c (y 1) (col 1 (y 0) (y 2))

set_option maxHeartbeats 4000000 in
theorem final_6 : (dats m 0 c).arrAt 6 (cfgs 0).N = G m c := by
  refine (dats m 0 c).arrAt_eq_of_covers 6 _ (by decide +kernel) fun t hf y => ?_
  blk_simp; rw [after0_6]
  obtain ⟨h, j, a, b, rfl⟩ : ∃ (h : Fin 2) (j : Fin 4) (a : Fin 512) (b : Fin 704), y = ix4 h j a b := ⟨y 0, y 1, y 2, y 3, eq_ix4 y⟩
  rw [show ((cfg0.win 6).blk t).view.emb (ix4 h j a b) = (ix4 h j (row t a) b : S2x4x4096x704.Idx) from by blk_ext [idx t, row]]
  canon_tiles x h
  all_goals
    open_payloads
    obtain ⟨p, q, a', b', rfl⟩ : ∃ (p : Fin 1) (q : Fin 1) (a' : Fin 512) (b' : Fin 704), x = ix4 p q a' b' := ⟨x 0, x 1, x 2, x 3, eq_ix4 x⟩
    obtain rfl := Subsingleton.elim p 0
    obtain rfl := Subsingleton.elim q 0
    obtain rfl : a = a' := Fin.ext h2
    obtain rfl : b = b' := Fin.ext h3
    first | have e : h = 0 := Fin.ext h0 | have e : h = 1 := Fin.ext h0
    subst e
    first | have e : j = 0 := Fin.ext h1 | have e : j = 1 := Fin.ext h1 | have e : j = 2 := Fin.ext h1 | have e : j = 3 := Fin.ext h1
    subst e
    pointwise
    simp only [read_0, read_1, read_2, read_3, read_4]
    rfl

set_option maxHeartbeats 4000000 in
theorem final_7 : (dats m 0 c).arrAt 7 (cfgs 0).N = A m c := by
  refine (dats m 0 c).arrAt_eq_of_covers 7 _ (by decide +kernel) fun t hf y => ?_
  blk_simp; rw [after0_7]
  obtain ⟨j, a, b, rfl⟩ : ∃ (j : Fin 4) (a : Fin 512) (b : Fin 704), y = ix3 j a b := ⟨y 0, y 1, y 2, eq_ix3 y⟩
  rw [show ((cfg0.win 7).blk t).view.emb (ix3 j a b) = (ix3 j (row t a) b : S4x4096x704.Idx) from by blk_ext [idx t, row]]
  canon_tiles x h
  all_goals
    open_payloads
    obtain ⟨q, a', b', rfl⟩ : ∃ (q : Fin 1) (a' : Fin 512) (b' : Fin 704), x = ix3 q a' b' := ⟨x 0, x 1, x 2, eq_ix3 x⟩
    obtain rfl := Subsingleton.elim q 0
    obtain rfl : a = a' := Fin.ext h1
    obtain rfl : b = b' := Fin.ext h2
    first | have e : j = 0 := Fin.ext h0 | have e : j = 1 := Fin.ext h0 | have e : j = 2 := Fin.ext h0 | have e : j = 3 := Fin.ext h0
    subst e
    pointwise
    simp only [read_0, read_1, read_2, read_3, read_4, zero_sub]
    rfl

theorem reference_G : val_main_v28 (F := Ideal) (X0 m c) (X1 m c) (X2 m c) (X3 m c) (X4 m c) = G m c := by
  funext y
  obtain ⟨h, j, a, b, rfl⟩ : ∃ (h : Fin 2) (j : Fin 4) (a : Fin 4096) (b : Fin 704), y = ix4 h j a b := ⟨y 0, y 1, y 2, y 3, eq_ix4 y⟩
  pointwise
  show _ = p m c a (col h j b)
  unfold p
  refine Finset.sum_congr (M := EReal) rfl fun x _ => congrArg₂ (fun a b : EReal => a * b) rfl (congrArg _ ?_)
  exact congrArg _ (Fin.ext (by dsimp only [col]; omega))

theorem reference_A : val_main_v29 (F := Ideal) (X0 m c) (X1 m c) (X2 m c) (X3 m c) (X4 m c) = A m c := by
  funext y
  obtain ⟨j, a, b, rfl⟩ : ∃ (j : Fin 4) (a : Fin 4096) (b : Fin 704), y = ix3 j a b := ⟨y 0, y 1, y 2, eq_ix3 y⟩
  pointwise
  rw [show (⟨j.val * 704 + b.val, by omega⟩ : Fin 5632) = col 0 j b from Fin.ext (by show _ = (0 * 4 + j.val) * 704 + b.val; dsimp only; omega),
    show (⟨2816 + (j.val * 704 + b.val), by omega⟩ : Fin 5632) = col 1 j b from Fin.ext (by show _ = (1 * 4 + j.val) * 704 + b.val; dsimp only; omega)]
  rfl

set_option maxHeartbeats 4000000 in
/-- The kernel's results are the reference's. -/
theorem algebraic : Cert.algebraic_Kernel13Ideal_Reference13Ideal := by
  pair_intro
  · run_from Cert.Kernel13Ideal.Gen.run_main m g
  · run_from Reference13Ideal.Value.run m' g'
    · exact (val_main_v25_eq _ _ _ _).trans (final_5 m c).symm
    · exact (val_main_v28_eq _ _ _ _ _).trans ((final_6 m c).trans (reference_G m c).symm).symm
    · exact (val_main_v29_eq _ _ _ _ _).trans ((final_7 m c).trans (reference_A m c).symm).symm

/-- The reference leaves its arguments alone. -/
theorem quiescent : Cert.quiescent_Reference13Ideal := fun m' ρ _ =>
  Idealize.ShloMosaic.θ_run_mono (Reference13Ideal.Value.run m' ρ) fun r h =>
    ⟨fun c => (h c).2.2.2, sem_eq_zero_of_no_sems (by decide) r.2⟩

end Cert.FfnUp

end
-- ==== Proof.Residual.lean ====
/- A feed-forward layer's last call: the product with w_down and the gated residual. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Residual

open Cert.Kernel14Ideal Cert.Kernel14Ideal.Gen Cert.Reference14Ideal.Read

variable (m : (ℓ : Loc nD τ sig) → Buf (Elt Ideal) ℓ) (c : Dev nD)

attribute [local pointwise] val_main_v0 val_main_cst val_main_v1 val_main_v2 val_main_v3 val_main_v4 val_main_v5 val_main_v6

theorem idx : ∀ t : Fin cfg0.N, win0_0.index t = ![0, t.val, 0] ∧ win0_1.index t = ![0, 0, 0] ∧ win0_2.index t = ![t.val, 0] ∧ win0_3.index t = ![0, 0] ∧ win0_4.index t = ![t.val, 0] ∧ win0_5.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x2816 .f32 := m ((c : Thread nD τ).loc main_arg0)
abbrev X1 : FVec Ideal S2816x1024 .f32 := m ((c : Thread nD τ).loc main_arg1)
abbrev X2 : FVec Ideal S4096x1024 .f32 := m ((c : Thread nD τ).loc main_arg2)
abbrev X3 : FVec Ideal S1x1024 .f32 := m ((c : Thread nD τ).loc main_arg3)

section
variable (t : Fin cfg0.N) (q : Fin 4) (a : Fin 512) (j : Fin 704) (b : Fin 1024)
theorem read_0 : iblk m c 0 t (ix3 q a j) = X0 m c (ix2 (row t a) ⟨q.val * 704 + j.val, by omega⟩) := by
  blk_simp [iblk]
  entry_read
  simp only [List.flatten_cons, List.flatten_nil, List.append_nil]
  pointwise
  blk_ext [idx t, row]
theorem read_1 : iblk m c 1 t (ix3 q j b) = X1 m c (ix2 ⟨q.val * 704 + j.val, by omega⟩ b) := by
  blk_simp [iblk]
  entry_read
  simp only [List.flatten_cons, List.flatten_nil, List.append_nil]
  pointwise
  blk_ext [idx t]
theorem read_2 : iblk m c 2 t (ix2 a b) = X2 m c (ix2 (row t a) b) := by
  blk_simp [iblk]
  entry_read
  pointwise
  blk_ext [idx t, row]
theorem read_3 : iblk m c 3 t (ix2 0 b) = X3 m c (ix2 0 b) := by
  blk_simp [iblk]
  entry_read
  pointwise
  blk_ext [idx t, row]
end

/-- A sum over the columns, by blocks of columns. -/
theorem blocks (f : Fin 2816 → EReal) : (∑ j : Fin 704, f ⟨0 * 704 + j.val, by omega⟩) + (∑ j : Fin 704, f ⟨1 * 704 + j.val, by omega⟩)
    + (∑ j : Fin 704, f ⟨2 * 704 + j.val, by omega⟩) + (∑ j : Fin 704, f ⟨3 * 704 + j.val, by omega⟩) = ∑ n, f n := by
  have h := Fin.sum_mul_add_fin 4 704 f
  rw [Fin.sum_univ_four] at h
  exact h

theorem final_4 : (dats m 0 c).arrAt 4 (cfgs 0).N = val_main_v5 (F := Ideal) (X0 m c) (X1 m c) (X2 m c) (X3 m c) := by
  refine (dats m 0 c).arrAt_eq_of_covers 4 _ (by decide +kernel) fun t hf y => ?_
  blk_simp; rw [after0_4]
  obtain ⟨a, b, rfl⟩ : ∃ (a : Fin 512) (b : Fin 1024), y = ix2 a b := ⟨y 0, y 1, eq_ix2 y⟩
  rw [show ((cfg0.win 4).blk t).view.emb (ix2 a b) = (ix2 (row t a) b : S4096x1024.Idx) from by blk_ext [idx t, row]]
  frame_out
  unfold_payloads
  pointwise
  simp only [read_0, read_1, read_2, read_3]
  exact congrArg (_ + _ * ·) (blocks fun j => @HMul.hMul EReal EReal EReal _ (X0 m c (ix2 (row t a) j)) (X1 m c (ix2 j b)))

theorem final_5 : (dats m 0 c).arrAt 5 (cfgs 0).N = val_main_v6 (F := Ideal) (X0 m c) (X1 m c) := by
  refine (dats m 0 c).arrAt_eq_of_covers 5 _ (by decide +kernel) fun t hf y => ?_
  blk_simp; rw [after0_5]
  obtain ⟨a, b, rfl⟩ : ∃ (a : Fin 512) (b : Fin 1024), y = ix2 a b := ⟨y 0, y 1, eq_ix2 y⟩
  rw [show ((cfg0.win 5).blk t).view.emb (ix2 a b) = (ix2 (row t a) b : S4096x1024.Idx) from by blk_ext [idx t, row]]
  frame_out
  unfold_payloads
  pointwise
  simp only [read_0, read_1, read_2, read_3]
  exact blocks fun j => @HMul.hMul EReal EReal EReal _ (X0 m c (ix2 (row t a) j)) (X1 m c (ix2 j b))

set_option maxHeartbeats 4000000 in
/-- The kernel's results are the reference's. -/
theorem algebraic : Cert.algebraic_Kernel14Ideal_Reference14Ideal := by
  pair_intro
  · run_from Cert.Kernel14Ideal.Gen.run_main m g
  · run_from Reference14Ideal.Value.run m' g'
    · exact (val_main_v5_eq _ _ _ _).trans (final_4 m c).symm
    · exact (val_main_v6_eq _ _).trans (final_5 m c).symm

/-- The reference leaves its arguments alone. -/
theorem quiescent : Cert.quiescent_Reference14Ideal := fun m' ρ _ =>
  Idealize.ShloMosaic.θ_run_mono (Reference14Ideal.Value.run m' ρ) fun r h =>
    ⟨fun c => (h c).2.2, sem_eq_zero_of_no_sems (by decide) r.2⟩

end Cert.Residual

end
-- ==== Proof.MixIn.lean ====
/- The mixer's first call: the modulated norm and its product with w_mix_in. -/
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import proofs.«01_k».proof.Proof.Norm
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIn

open Cert.Kernel15Ideal Cert.Kernel15Ideal.Gen Cert.Reference15Ideal.Read Cert.Norm

variable (m : (ℓ : Loc nD τ sig) → Buf (Elt Ideal) ℓ) (c : Dev nD)

attribute [local pointwise] val_main_v0 val_main_cst val_main_v1 val_main_v2 val_main_cst_0 val_main_v3 val_main_v4 val_main_cst_1 val_main_v5 val_main_v6 val_main_v7 val_main_v8 val_main_v9 val_main_v10 val_main_v11 val_main_cst_2 val_main_v12 val_main_v13 val_main_v14 val_main_v15 val_main_v16 val_main_v17 val_main_v18 val_main_v19 val_main_v20

theorem idx : ∀ t : Fin cfg0.N, win0_0.index t = ![t.val, 0] ∧ win0_1.index t = ![0, 0] ∧ win0_2.index t = ![0, 0] ∧ win0_3.index t = ![0, 0] ∧ win0_4.index t = ![0, 0, 0] ∧ win0_5.index t = ![t.val, 0] ∧ win0_6.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x1024 .f32 := m ((c : Thread nD τ).loc main_arg0)
abbrev X1 : FVec Ideal S1x1024 .f32 := m ((c : Thread nD τ).loc main_arg1)
abbrev X2 : FVec Ideal S1x1024 .f32 := m ((c : Thread nD τ).loc main_arg2)
abbrev X3 : FVec Ideal S1x1024 .f32 := m ((c : Thread nD τ).loc main_arg3)
abbrev X4 : FVec Ideal S1024x5120 .f32 := m ((c : Thread nD τ).loc main_arg4)
/-- The modulated norm of a row of x. -/
def u (r : Fin 4096) (k : Fin 1024) : EReal :=
  X0 m c (ix2 r k) * R (fun k => X0 m c (ix2 r k)) * X1 m c (ix2 0 k) * (1 + X3 m c (ix2 0 k)) + X2 m c (ix2 0 k)
/-- Its product with the weight. -/
def p (r : Fin 4096) (n : Fin 5120) : EReal := ∑ k : Fin 1024, @HMul.hMul EReal EReal EReal _ (u m c r k) (X4 m c (ix2 k n))

theorem read_0 (t : Fin cfg0.N) (a : Fin 512) (b : Fin 1024) : iblk m c 0 t (ix2 a b) = X0 m c (ix2 (row t a) b) := by
  blk_simp [iblk]
  entry_read
  pointwise
  blk_ext [idx t, row]
theorem read_1 (t : Fin cfg0.N) (b : Fin 1024) : iblk m c 1 t (ix2 0 b) = X1 m c (ix2 0 b) := by
  blk_simp [iblk]
  entry_read
  pointwise
  blk_ext [idx t, row]
theorem read_2 (t : Fin cfg0.N) (b : Fin 1024) : iblk m c 2 t (ix2 0 b) = X2 m c (ix2 0 b) := by
  blk_simp [iblk]
  entry_read
  pointwise
  blk_ext [idx t, row]
theorem read_3 (t : Fin cfg0.N) (b : Fin 1024) : iblk m c 3 t (ix2 0 b) = X3 m c (ix2 0 b) := by
  blk_simp [iblk]
  entry_read
  pointwise
  blk_ext [idx t, row]
theorem read_4 (t : Fin cfg0.N) (j : Fin 8) (x : Fin 1024) (b : Fin 640) : iblk m c 4 t (ix3 j x b) = X4 m c (ix2 x ⟨j.val * 640 + b.val, by omega⟩) := by
  blk_simp [iblk]
  entry_read
  pointwise
  blk_ext [idx t, row]

theorem final_5 : (dats m 0 c).arrAt 5 (cfgs 0).N = val_main_v18 (F := Ideal) (X0 m c) (X1 m c) (X2 m c) (X3 m c) := by
  refine (dats m 0 c).arrAt_eq_of_covers 5 _ (by decide +kernel) fun t hf y => ?_
  blk_simp; rw [after0_5]
  obtain ⟨a, b, rfl⟩ : ∃ (a : Fin 512) (b : Fin 1024), y = ix2 a b := ⟨y 0, y 1, eq_ix2 y⟩
  rw [show ((cfg0.win 5).blk t).view.emb (ix2 a b) = (ix2 (row t a) b : S4096x1024.Idx) from by blk_ext [idx t, row]]
  frame_out
  unfold_payloads
  pointwise
  simp only [read_0, read_1, read_2, read_3]

theorem final_6 : (dats m 0 c).arrAt 6 (cfgs 0).N = val_main_v20 (F := Ideal) (X0 m c) (X1 m c) (X2 m c) (X3 m c) (X4 m c) := by
  refine (dats m 0 c).arrAt_eq_of_covers 6 _ (by decide +kernel) fun t hf y => ?_
  blk_simp; rw [after0_6]
  obtain ⟨a, b, rfl⟩ : ∃ (a : Fin 512) (b : Fin 5120), y = ix2 a b := ⟨y 0, y 1, eq_ix2 y⟩
  rw [show ((cfg0.win 6).blk t).view.emb (ix2 a b) = (ix2 (row t a) b : S4096x5120.Idx) from by blk_ext [idx t, row]]
  refine Eq.trans (b := p m c (row t a) b) ?_ ?_
  · canon_tiles x h
    all_goals
      open_payloads
      obtain ⟨a', b', rfl⟩ : ∃ (a' : Fin 512) (b' : Fin 1280), x = ix2 a' b' := ⟨x 0, x 1, eq_ix2 x⟩
      obtain rfl : a = a' := Fin.ext h0
      first
      | have e1 : b.val = 3840 + b'.val := h1
      | have e1 : b.val = 2560 + b'.val := h1
      | have e1 : b.val = 1280 + b'.val := h1
      | have e1 : b.val = b'.val := h1
      pointwise
      simp only [read_0, read_1, read_2, read_3, read_4]
      refine Finset.sum_congr (M := EReal) rfl fun x _ => congrArg₂ (fun a b : EReal => a * b) rfl ?_
      split
      all_goals exact congrArg (X4 m c) (congrArg (ix2 x) (Fin.ext (by dsimp only; omega)))
  · pointwise
    rfl

set_option maxHeartbeats 4000000 in
/-- The kernel's results are the reference's. -/
theorem algebraic : Cert.algebraic_Kernel15Ideal_Reference15Ideal := by
  pair_intro
  · run_from Cert.Kernel15Ideal.Gen.run_main m g
  · run_from Reference15Ideal.Value.run m' g'
    · exact (val_main_v18_eq _ _ _ _).trans (final_5 m c).symm
    · exact (val_main_v20_eq _ _ _ _ _).trans (final_6 m c).symm

/-- The reference leaves its arguments alone. -/
theorem quiescent : Cert.quiescent_Reference15Ideal := fun m' ρ _ =>
  Idealize.ShloMosaic.θ_run_mono (Reference15Ideal.Value.run m' ρ) fun r h =>
    ⟨fun c => (h c).2.2, sem_eq_zero_of_no_sems (by decide) r.2⟩

end Cert.MixIn

end
-- ==== Proof.MergeUp.lean ====
/- The mixer's last call: the gated merge, the product with w_out and the gated residual. -/
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeUp

open Cert.Kernel16Ideal Cert.Kernel16Ideal.Gen Cert.Reference16Ideal.Read

variable (m : (ℓ : Loc nD τ sig) → Buf (Elt Ideal) ℓ) (c : Dev nD)

attribute [local pointwise] val_main_v0 val_main_v1 val_main_v2 val_main_v3 val_main_v4 val_main_v5 val_main_v6 val_main_v7 val_main_v8 val_main_v9 val_main_v10 val_main_v11 val_main_cst val_main_v12 val_main_v13 val_main_cst_0 val_main_v14 val_main_v15 val_main_v16 val_main_v17 val_main_v18 val_main_v19 val_main_v20 val_main_v21 val_main_v22 val_main_v23 val_main_cst_1 val_main_v24 val_main_v25 val_main_cst_2 val_main_v26 val_main_v27 val_main_v28 val_main_v29 val_main_v30 val_main_v31 val_main_v32 val_main_v33 val_main_v34 val_main_v35 val_main_v36 val_main_v37

theorem idx : ∀ t : Fin cfg0.N, win0_0.index t = ![t.val, 0] ∧ win0_1.index t = ![t.val, 0] ∧ win0_2.index t = ![t.val, 3] ∧ win0_3.index t = ![t.val, 4] ∧ win0_4.index t = ![0, 0] ∧ win0_5.index t = ![0, 0] ∧ win0_6.index t = ![0, 0] ∧ win0_7.index t = ![0, 0] ∧ win0_8.index t = ![t.val, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x512 .f32 := m ((c : Thread nD τ).loc main_arg0)
abbrev X1 : FVec Ideal S4096x512 .f32 := m ((c : Thread nD τ).loc main_arg1)
abbrev X2 : FVec Ideal S4096x5120 .f32 := m ((c : Thread nD τ).loc main_arg2)
abbrev X3 : FVec Ideal S512x1024 .f32 := m ((c : Thread nD τ).loc main_arg3)
abbrev X4 : FVec Ideal S512x1024 .f32 := m ((c : Thread nD τ).loc main_arg4)
abbrev X5 : FVec Ideal S2x1024 .f32 := m ((c : Thread nD τ).loc main_arg5)
abbrev X6 : FVec Ideal S1024x1024 .f32 := m ((c : Thread nD τ).loc main_arg6)
abbrev X7 : FVec Ideal S4096x1024 .f32 := m ((c : Thread nD τ).loc main_arg7)
abbrev X8 : FVec Ideal S1x1024 .f32 := m ((c : Thread nD τ).loc main_arg8)

section
variable (t : Fin cfg0.N) (a : Fin 512) (x : Fin 512) (b : Fin 1024)
theorem read_0 : iblk m c 0 t (ix2 a x) = X0 m c (ix2 (row t a) x) := by
  blk_simp [iblk]
  entry_read
  pointwise
  blk_ext [idx t, row]
theorem read_1 : iblk m c 1 t (ix2 a x) = X1 m c (ix2 (row t a) x) := by
  blk_simp [iblk]
  entry_read
  pointwise
  blk_ext [idx t, row]
theorem read_2 : iblk m c 2 t (ix2 a b) = X2 m c (ix2 (row t a) ⟨3072 + b.val, by omega⟩) := by
  blk_simp [iblk]
  entry_read
  pointwise
  blk_ext [idx t, row]
theorem read_3 : iblk m c 3 t (ix2 a b) = X2 m c (ix2 (row t a) ⟨4096 + b.val, by omega⟩) := by
  blk_simp [iblk]
  entry_read
  pointwise
  blk_ext [idx t, row]
theorem read_4 : iblk m c 4 t (ix2 x b) = X3 m c (ix2 x b) := by
  blk_simp [iblk]
  entry_read
  pointwise
  blk_ext [idx t, row]
theorem read_5 : iblk m c 5 t (ix2 x b) = X4 m c (ix2 x b) := by
  blk_simp [iblk]
  entry_read
  pointwise
  blk_ext [idx t, row]
theorem read_6 (h : Fin 2) : iblk m c 6 t (ix2 h b) = X5 m c (ix2 h b) := by
  blk_simp [iblk]
  entry_read
  pointwise
  blk_ext [idx t, row]
theorem read_7 (n : Fin 1024) : iblk m c 7 t (ix2 n b) = X6 m c (ix2 n b) := by
  blk_simp [iblk]
  entry_read
  pointwise
  blk_ext [idx t, row]
theorem read_8 : iblk m c 8 t (ix2 a b) = X7 m c (ix2 (row t a) b) := by
  blk_simp [iblk]
  entry_read
  pointwise
  blk_ext [idx t, row]
theorem read_9 : iblk m c 9 t (ix2 0 b) = X8 m c (ix2 0 b) := by
  blk_simp [iblk]
  entry_read
  pointwise
  blk_ext [idx t, row]
end

theorem final_10 : (dats m 0 c).arrAt 10 (cfgs 0).N = val_main_v31 (F := Ideal) (X0 m c) (X1 m c) (X2 m c) (X3 m c) (X4 m c) (X5 m c) := by
  refine (dats m 0 c).arrAt_eq_of_covers 10 _ (by decide +kernel) fun t hf y => ?_
  blk_simp; rw [after0_10]
  obtain ⟨a, b, rfl⟩ : ∃ (a : Fin 512) (b : Fin 1024), y = ix2 a b := ⟨y 0, y 1, eq_ix2 y⟩
  rw [show ((cfg0.win 10).blk t).view.emb (ix2 a b) = (ix2 (row t a) b : S4096x1024.Idx) from by blk_ext [idx t, row]]
  frame_out
  unfold_payloads
  pointwise
  simp only [read_0, read_1, read_2, read_3, read_4, read_5, read_6, read_7, read_8, read_9, zero_sub]

theorem final_11 : (dats m 0 c).arrAt 11 (cfgs 0).N = val_main_v32 (F := Ideal) (X0 m c) (X3 m c) := by
  refine (dats m 0 c).arrAt_eq_of_covers 11 _ (by decide +kernel) fun t hf y => ?_
  blk_simp; rw [after0_11]
  obtain ⟨a, b, rfl⟩ : ∃ (a : Fin 512) (b : Fin 1024), y = ix2 a b := ⟨y 0, y 1, eq_ix2 y⟩
  rw [show ((cfg0.win 11).blk t).view.emb (ix2 a b) = (ix2 (row t a) b : S4096x1024.Idx) from by blk_ext [idx t, row]]
  frame_out
  unfold_payloads
  pointwise
  simp only [read_0, read_1, read_2, read_3, read_4, read_5, read_6, read_7, read_8, read_9, zero_sub]

theorem final_12 : (dats m 0 c).arrAt 12 (cfgs 0).N = val_main_v33 (F := Ideal) (X1 m c) (X4 m c) := by
  refine (dats m 0 c).arrAt_eq_of_covers 12 _ (by decide +kernel) fun t hf y => ?_
  blk_simp; rw [after0_12]
  obtain ⟨a, b, rfl⟩ : ∃ (a : Fin 512) (b : Fin 1024), y = ix2 a b := ⟨y 0, y 1, eq_ix2 y⟩
  rw [show ((cfg0.win 12).blk t).view.emb (ix2 a b) = (ix2 (row t a) b : S4096x1024.Idx) from by blk_ext [idx t, row]]
  frame_out
  unfold_payloads
  pointwise
  simp only [read_0, read_1, read_2, read_3, read_4, read_5, read_6, read_7, read_8, read_9, zero_sub]

theorem final_13 : (dats m 0 c).arrAt 13 (cfgs 0).N = val_main_v34 (F := Ideal) (X0 m c) (X1 m c) (X2 m c) (X3 m c) (X4 m c) (X5 m c) (X6 m c) := by
  refine (dats m 0 c).arrAt_eq_of_covers 13 _ (by decide +kernel) fun t hf y => ?_
  blk_simp; rw [after0_13]
  obtain ⟨a, b, rfl⟩ : ∃ (a : Fin 512) (b : Fin 1024), y = ix2 a b := ⟨y 0, y 1, eq_ix2 y⟩
  rw [show ((cfg0.win 13).blk t).view.emb (ix2 a b) = (ix2 (row t a) b : S4096x1024.Idx) from by blk_ext [idx t, row]]
  frame_out
  unfold_payloads
  pointwise
  simp only [read_0, read_1, read_2, read_3, read_4, read_5, read_6, read_7, read_8, read_9, zero_sub]

theorem final_14 : (dats m 0 c).arrAt 14 (cfgs 0).N = val_main_v37 (F := Ideal) (X0 m c) (X1 m c) (X2 m c) (X3 m c) (X4 m c) (X5 m c) (X6 m c) (X7 m c) (X8 m c) := by
  refine (dats m 0 c).arrAt_eq_of_covers 14 _ (by decide +kernel) fun t hf y => ?_
  blk_simp; rw [after0_14]
  obtain ⟨a, b, rfl⟩ : ∃ (a : Fin 512) (b : Fin 1024), y = ix2 a b := ⟨y 0, y 1, eq_ix2 y⟩
  rw [show ((cfg0.win 14).blk t).view.emb (ix2 a b) = (ix2 (row t a) b : S4096x1024.Idx) from by blk_ext [idx t, row]]
  frame_out
  unfold_payloads
  pointwise
  simp only [read_0, read_1, read_2, read_3, read_4, read_5, read_6, read_7, read_8, read_9, zero_sub]

set_option maxHeartbeats 4000000 in
/-- The kernel's results are the reference's. -/
theorem algebraic : Cert.algebraic_Kernel16Ideal_Reference16Ideal := by
  pair_intro
  · run_from Cert.Kernel16Ideal.Gen.run_main m g
  · run_from Reference16Ideal.Value.run m' g'
    · exact (val_main_v31_eq _ _ _ _ _ _).trans (final_10 m c).symm
    · exact (val_main_v32_eq _ _).trans (final_11 m c).symm
    · exact (val_main_v33_eq _ _).trans (final_12 m c).symm
    · exact (val_main_v34_eq _ _ _ _ _ _ _).trans (final_13 m c).symm
    · exact (val_main_v37_eq _ _ _ _ _ _ _ _ _).trans (final_14 m c).symm

/-- The reference leaves its arguments alone. -/
theorem quiescent : Cert.quiescent_Reference16Ideal := fun m' ρ _ =>
  Idealize.ShloMosaic.θ_run_mono (Reference16Ideal.Value.run m' ρ) fun r h =>
    ⟨fun c => (h c).2.2.2.2.2, sem_eq_zero_of_no_sems (by decide) r.2⟩

end Cert.MergeUp

end
-- ==== Proof.Product.lean ====
/- The first feed-forward layer's input cotangent, without its exchange: a product summed by blocks of columns. -/
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Product

open Cert.Kernel17Ideal Cert.Kernel17Ideal.Gen Cert.Reference17Ideal.Read

variable (m : (ℓ : Loc nD τ sig) → Buf (Elt Ideal) ℓ) (c : Dev nD)

attribute [local pointwise] val_main_cst val_main_v0 val_main_v1 val_main_v2

theorem idx : ∀ t : Fin cfg0.N, win0_0.index t = ![0, t.val, 0] ∧ win0_1.index t = ![0, 0, 0] ∧ win0_2.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x5632 .f32 := m ((c : Thread nD τ).loc main_arg0)
abbrev X1 : FVec Ideal S1024x5632 .f32 := m ((c : Thread nD τ).loc main_arg1)

section
variable (t : Fin cfg0.N) (q : Fin 8) (a : Fin 512) (j : Fin 704) (b : Fin 1024)
theorem read_0 : iblk m c 0 t (ix3 q a j) = X0 m c (ix2 (row t a) ⟨q.val * 704 + j.val, by omega⟩) := by
  blk_simp [iblk]
  entry_read
  simp only [List.flatten_cons, List.flatten_nil, List.append_nil]
  pointwise
  blk_ext [idx t, row]
theorem read_1 : iblk m c 1 t (ix3 q j b) = X1 m c (ix2 b ⟨q.val * 704 + j.val, by omega⟩) := by
  blk_simp [iblk]
  entry_read
  simp only [List.flatten_cons, List.flatten_nil, List.append_nil]
  pointwise
  blk_ext [idx t]
end

/-- A sum over the columns, by blocks of columns. -/
theorem blocks (f : Fin 5632 → EReal) : (∑ j : Fin 704, f ⟨0 * 704 + j.val, by omega⟩) + (∑ j : Fin 704, f ⟨1 * 704 + j.val, by omega⟩) + (∑ j : Fin 704, f ⟨2 * 704 + j.val, by omega⟩) + (∑ j : Fin 704, f ⟨3 * 704 + j.val, by omega⟩) + (∑ j : Fin 704, f ⟨4 * 704 + j.val, by omega⟩) + (∑ j : Fin 704, f ⟨5 * 704 + j.val, by omega⟩) + (∑ j : Fin 704, f ⟨6 * 704 + j.val, by omega⟩) + (∑ j : Fin 704, f ⟨7 * 704 + j.val, by omega⟩) = ∑ n, f n := by
  have h := Fin.sum_mul_add_fin 8 704 f
  rw [Fin.sum_univ_eight] at h
  exact h

theorem final_2 : (dats m 0 c).arrAt 2 (cfgs 0).N = val_main_v2 (F := Ideal) (X0 m c) (X1 m c) := by
  refine (dats m 0 c).arrAt_eq_of_covers 2 _ (by decide +kernel) fun t hf y => ?_
  blk_simp; rw [after0_2]
  obtain ⟨a, b, rfl⟩ : ∃ (a : Fin 512) (b : Fin 1024), y = ix2 a b := ⟨y 0, y 1, eq_ix2 y⟩
  rw [show ((cfg0.win 2).blk t).view.emb (ix2 a b) = (ix2 (row t a) b : S4096x1024.Idx) from by blk_ext [idx t, row]]
  frame_out
  unfold_payloads
  pointwise
  simp only [read_0, read_1]
  exact blocks fun n => @HMul.hMul EReal EReal EReal _ (X0 m c (ix2 (row t a) n)) (X1 m c (ix2 b n))

set_option maxHeartbeats 4000000 in
/-- The kernel's results are the reference's. -/
theorem algebraic : Cert.algebraic_Kernel17Ideal_Reference17Ideal := by
  pair_intro
  · run_from Cert.Kernel17Ideal.Gen.run_main m g
  · run_from Reference17Ideal.Value.run m' g'
    · exact (val_main_v2_eq _ _).trans (final_2 m c).symm

/-- The reference leaves its arguments alone. -/
theorem quiescent : Cert.quiescent_Reference17Ideal := fun m' ρ _ =>
  Idealize.ShloMosaic.θ_run_mono (Reference17Ideal.Value.run m' ρ) fun r h =>
    ⟨fun c => (h c).2, sem_eq_zero_of_no_sems (by decide) r.2⟩

end Cert.Product

end
-- ==== Proof.Weight.lean ====
/- The gradient of the third feed-forward layer's w_gu: a product over the rows, summed over the grid. -/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Weight

open Cert.Kernel18Ideal Cert.Kernel18Ideal.Gen Cert.Reference18Ideal.Read

variable (m : (ℓ : Loc nD τ sig) → Buf (Elt Ideal) ℓ) (c : Dev nD)

attribute [local pointwise] val_main_cst val_main_v0 val_main_v1 val_main_v2 val_main_v3 val_main_v4 val_main_v5 val_main_v6

theorem idx : ∀ t : Fin cfg0.N, win0_0.index t = ![t.val / 4, t.val % 4, 0] ∧ win0_1.index t = ![0, t.val % 4, 0] ∧ win0_2.index t = ![t.val / 4, 0, 0, 0] :=
  (by decide +kernel : ∀ t : Fin grid0.N, _)

/-- The row of the arrays that row `a` of point `t`'s blocks is. -/
def row (t : Fin cfg0.N) (a : Fin 1024) : Fin 4096 := ⟨t.val % 4 * 1024 + a.val, by omega⟩

/-- The block of columns that block `q` of point `t`'s group is. -/
def blk (t : Fin cfg0.N) (q : Fin 4) : Fin 8 := ⟨t.val / 4 * 4 + q.val, by
  have := lt_of_lt_of_eq t.isLt N_0; omega⟩

abbrev X0 : FVec Ideal S4096x5632 .f32 := m ((c : Thread nD τ).loc main_arg0)
abbrev X1 : FVec Ideal S4096x1024 .f32 := m ((c : Thread nD τ).loc main_arg1)

/-- One row's term of the gradient. -/
def G (p : Fin 8) (j : Fin 704) (b : Fin 1024) (r : Fin 4096) : EReal :=
  @HMul.hMul EReal EReal EReal _ (X0 m c (ix2 r ⟨p.val * 704 + j.val, by omega⟩)) (X1 m c (ix2 r b))

open Idealize.ShloMosaic.View in
/-- A store beneath stores that cover an entry does not reach it. -/
theorem beneath {s : Shape} {e : EltTy} (w : Piece (Elt Ideal) s e) (y : s.Idx) : ∀ L : List (Piece (Elt Ideal) s e),
    (∃ p ∈ L, y ∈ p.1.set) → canon (L ++ [w]) y = canon L y
  | [], h => by obtain ⟨p, h, -⟩ := h; cases h
  | p :: L, h => by
    by_cases hy : y ∈ p.1.set
    · obtain ⟨x, hx⟩ := p.1.exists_idx_of_mem hy
      subst hx
      exact (canon_cons_emb p.1 p.2 (L ++ [w]) x).trans (canon_cons_emb p.1 p.2 L x).symm
    · obtain ⟨q, hq, hq'⟩ := h
      rcases List.mem_cons.mp hq with rfl | hq
      · exact absurd hq' hy
      · exact (canon_cons_of_not_mem p (L ++ [w]) hy).trans ((beneath w y L ⟨q, hq, hq'⟩).trans (canon_cons_of_not_mem p L hy).symm)
/-- The same of four. -/
theorem beneath4 {s : Shape} {e : EltTy} (a b c d w : View.Piece (Elt Ideal) s e) (y : s.Idx) (h : ∃ p ∈ [a, b, c, d], y ∈ p.1.set) :
    View.canon [a, b, c, d, w] y = View.canon [a, b, c, d] y := beneath w y [a, b, c, d] h

section
variable (t : Fin cfg0.N) (q : Fin 4) (o : Fin 1) (a : Fin 1024) (j : Fin 704) (b : Fin 1024)
theorem read_0 : iblk m c 0 t (ix3 q a j) = X0 m c (ix2 (row t a) ⟨(blk t q).val * 704 + j.val, by omega⟩) := by
  blk_simp [iblk]
  entry_read
  simp only [List.flatten_cons, List.flatten_nil, List.append_nil]
  pointwise
  blk_ext [idx t, row, blk]
theorem read_1 : iblk m c 1 t (ix3 0 a b) = X1 m c (ix2 (row t a) b) := by
  blk_simp [iblk]
  entry_read
  simp only [List.flatten_cons, List.flatten_nil, List.append_nil]
  pointwise
  blk_ext [idx t, row]

/-- What a point that does not open a group adds. -/
theorem step (h0 : ¬ t.val % 4 = 0) : (outsAt0 m c t.val t.isLt).2 (ix4 q o j b)
    = (outsAt0 m c (t.val - 1) (Nat.lt_of_le_of_lt (Nat.sub_le _ _) t.isLt)).2 (ix4 q o j b) + ∑ a : Fin 1024, G m c (blk t q) j b (row t a) := by
  by_cases h3 : t.val % 4 = 3
  on_goal 1 => rw [outsAt0_C m c t h0 h3]
  on_goal 2 => rw [outsAt0_B m c t h0 h3]
  all_goals
    frame_out
    canon_tiles x h
  all_goals
    open_payloads
    obtain ⟨q', p, j', b', rfl⟩ : ∃ (q' p : Fin 1) (j' : Fin 704) (b' : Fin 1024), x = ix4 q' p j' b' := ⟨x 0, x 1, x 2, x 3, eq_ix4 x⟩
    obtain rfl := Subsingleton.elim o 0
    obtain rfl := Subsingleton.elim p 0
    obtain rfl := Subsingleton.elim q' 0
    obtain rfl : j = j' := Fin.ext h2
    obtain rfl : b = b' := Fin.ext h3
    first
    | have e : q = 0 := Fin.ext h0
    | have e : q = 1 := Fin.ext h0
    | have e : q = 2 := Fin.ext h0
    | have e : q = 3 := Fin.ext h0
    subst e
    pointwise
    simp only [read_0, read_1, read_unread_whole]
    rfl

set_option maxHeartbeats 400000 in
/-- What a point that opens a group leaves. -/
theorem step_A (h0 : t.val % 4 = 0) : (outsAt0 m c t.val t.isLt).2 (ix4 q o j b) = 0 + ∑ a : Fin 1024, G m c (blk t q) j b (row t a) := by
  rw [outsAt0_A m c t h0 (by omega)]
  frame_open
  simp (disch := decide) only [↓View.readCov_skip, ↓View.readCov_cons_toLoadRect, ↓View.readCov_fill]
  frame_out
  refine (beneath4 _ _ _ _ _ _ ?cover).trans ?_
  case cover =>
    refine View.cover_of_tiledL (s := S4x1x704x1024) _ ![1, 1, 704, 1024] ?_ _
    sl_kernel_rfl
  canon_tiles x h
  all_goals
    open_payloads
    obtain ⟨q', p, j', b', rfl⟩ : ∃ (q' p : Fin 1) (j' : Fin 704) (b' : Fin 1024), x = ix4 q' p j' b' := ⟨x 0, x 1, x 2, x 3, eq_ix4 x⟩
    obtain rfl := Subsingleton.elim o 0
    obtain rfl := Subsingleton.elim p 0
    obtain rfl := Subsingleton.elim q' 0
    obtain rfl : j = j' := Fin.ext h2
    obtain rfl : b = b' := Fin.ext h3
    first
    | have e : q = 0 := Fin.ext h0
    | have e : q = 1 := Fin.ext h0
    | have e : q = 2 := Fin.ext h0
    | have e : q = 3 := Fin.ext h0
    subst e
    pointwise
    simp only [read_0, read_1, G]

set_option maxHeartbeats 4000000 in
/-- A point that closes a group writes back what it has summed. -/
theorem out_eq (h3 : t.val % 4 = 3) : (outsAt0 m c t.val t.isLt).1 (ix4 q o j b) = (outsAt0 m c t.val t.isLt).2 (ix4 q o j b) := by
  rw [outsAt0_C m c t (by omega) h3, Subsingleton.elim o 0]
  frame_out
  unfold k0_pay1
  rw [View.readCov_eq_canon']
  pointwise
end

theorem final_2 : (dats m 0 c).arrAt 2 (cfgs 0).N = val_main_v6 (F := Ideal) (X0 m c) (X1 m c) := by
  refine (dats m 0 c).arrAt_eq_of_covers 2 _ (by decide +kernel) fun t hf y => ?_
  have h3 := (flush0_2 t).mp hf
  blk_simp; rw [after0_2]
  obtain ⟨q, p, j, b, rfl⟩ : ∃ (q : Fin 4) (p : Fin 1) (j : Fin 704) (b : Fin 1024), y = ix4 q p j b := ⟨y 0, y 1, y 2, y 3, eq_ix4 y⟩
  obtain rfl := Subsingleton.elim p 0
  rw [show ((cfg0.win 2).blk t).view.emb (ix4 q 0 j b) = (ix4 (blk t q) 0 j b : S8x1x704x1024.Idx) from by blk_ext [idx t, blk],
    out_eq m c t q 0 j b h3, Pipeline.eq_sum_fin_of_reset_step_apply_of_flush (fun n h => (outsAt0 m c n h).2) 4 (fun _ => 0)
    (fun t y => ∑ a : Fin 1024, G m c (blk t (y 0)) (y 2) (y 3) (row t a))
    (fun t h0 y => by rw [show y = ix4 (y 0) (y 1) (y 2) (y 3) from eq_ix4 y]; exact step_A m c t _ _ _ _ h0)
    (fun t h0 y => by rw [show y = ix4 (y 0) (y 1) (y 2) (y 3) from eq_ix4 y]; exact step m c t _ _ _ _ h0) t h3 (ix4 q 0 j b), zero_add]
  pointwise
  refine Eq.trans ?_ (Fin.sum_mul_add_fin 4 1024 (G m c (blk t q) j b))
  refine Finset.sum_congr (M := EReal) rfl fun s _ => Finset.sum_congr (M := EReal) rfl fun a _ => ?_
  have e : blk ⟨4 * (t.val / 4) + s.val, Pipeline.run_point_lt_of_flush t h3 s⟩ q = blk t q := Fin.ext (by dsimp only [blk]; omega)
  rw [e]
  exact congrArg (G m c (blk t q) j b) (Fin.ext (by dsimp only [row]; omega))

theorem stub : True := trivial

set_option maxHeartbeats 4000000 in
/-- The kernel's results are the reference's. -/
theorem algebraic : Cert.algebraic_Kernel18Ideal_Reference18Ideal := by
  pair_intro
  · run_from Cert.Kernel18Ideal.Gen.run_main m g
  · run_from Reference18Ideal.Value.run m' g'
    · exact (val_main_v6_eq _ _).trans (final_2 m c).symm

/-- The reference leaves its arguments alone. -/
theorem quiescent : Cert.quiescent_Reference18Ideal := fun m' ρ _ =>
  Idealize.ShloMosaic.θ_run_mono (Reference18Ideal.Value.run m' ρ) fun r h =>
    ⟨fun c => (h c).2, sem_eq_zero_of_no_sems (by decide) r.2⟩

end Cert.Weight

end
-- ==== Proof.Branches.lean ====
/- The cotangents of the mixer's two branches. -/
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Branches

open Cert.Kernel19Ideal Cert.Kernel19Ideal.Gen Cert.Reference19Ideal.Read

variable (m : (ℓ : Loc nD τ sig) → Buf (Elt Ideal) ℓ) (c : Dev nD)

attribute [local pointwise] val_main_cst val_main_v0 val_main_v1 val_main_v2 val_main_cst_0 val_main_v3 val_main_v4 val_main_v5 val_main_v6 val_main_v7

theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The row of the arrays that row `b` of point `t`'s blocks is. -/
def row (t : Fin cfg0.N) (b : Fin 512) : Fin 4096 := ⟨t.val * 512 + b.val, by
  have := lt_of_lt_of_eq t.isLt N_0; omega⟩

abbrev X0 : FVec Ideal S4096x1024 .f32 := m ((c : Thread nD τ).loc main_arg0)
abbrev X1 : FVec Ideal S4096x1024 .f32 := m ((c : Thread nD τ).loc main_arg1)
abbrev X2 : FVec Ideal S512x1024 .f32 := m ((c : Thread nD τ).loc main_arg2)
abbrev X3 : FVec Ideal S512x1024 .f32 := m ((c : Thread nD τ).loc main_arg3)

section
variable (t : Fin cfg0.N) (a e : Fin 512) (b : Fin 1024)
theorem read_0 : iblk m c 0 t (ix2 a b) = X0 m c (ix2 (row t a) b) := by
  blk_simp [iblk]
  entry_read
  pointwise
  blk_ext [idx t, row]
theorem read_1 : iblk m c 1 t (ix2 a b) = X1 m c (ix2 (row t a) b) := by
  blk_simp [iblk]
  entry_read
  pointwise
  blk_ext [idx t, row]
theorem read_2 : iblk m c 2 t (ix2 e b) = X2 m c (ix2 e b) := by
  blk_simp [iblk]
  entry_read
  pointwise
  blk_ext [idx t, row]
theorem read_3 : iblk m c 3 t (ix2 e b) = X3 m c (ix2 e b) := by
  blk_simp [iblk]
  entry_read
  pointwise
  blk_ext [idx t, row]
end

theorem final_4 : (dats m 0 c).arrAt 4 (cfgs 0).N = val_main_v6 (F := Ideal) (X0 m c) (X2 m c) := by
  refine (dats m 0 c).arrAt_eq_of_covers 4 _ (by decide +kernel) fun t hf y => ?_
  blk_simp; rw [after0_4]
  obtain ⟨a, b, rfl⟩ : ∃ (a : Fin 512) (b : Fin 512), y = ix2 a b := ⟨y 0, y 1, eq_ix2 y⟩
  rw [show ((cfg0.win 4).blk t).view.emb (ix2 a b) = (ix2 (row t a) b : S4096x512.Idx) from by blk_ext [idx t, row]]
  frame_out
  unfold_payloads
  pointwise
  simp only [read_0, read_1, read_2, read_3]

theorem final_5 : (dats m 0 c).arrAt 5 (cfgs 0).N = val_main_v7 (F := Ideal) (X1 m c) (X3 m c) := by
  refine (dats m 0 c).arrAt_eq_of_covers 5 _ (by decide +kernel) fun t hf y => ?_
  blk_simp; rw [after0_5]
  obtain ⟨a, b, rfl⟩ : ∃ (a : Fin 512) (b : Fin 512), y = ix2 a b := ⟨y 0, y 1, eq_ix2 y⟩
  rw [show ((cfg0.win 5).blk t).view.emb (ix2 a b) = (ix2 (row t a) b : S4096x512.Idx) from by blk_ext [idx t, row]]
  frame_out
  unfold_payloads
  pointwise
  simp only [read_0, read_1, read_2, read_3]

set_option maxHeartbeats 4000000 in
/-- The kernel's results are the reference's. -/
theorem algebraic : Cert.algebraic_Kernel19Ideal_Reference19Ideal := by
  pair_intro
  · run_from Cert.Kernel19Ideal.Gen.run_main m g
  · run_from Reference19Ideal.Value.run m' g'
    · exact (val_main_v6_eq _ _).trans (final_4 m c).symm
    · exact (val_main_v7_eq _ _).trans (final_5 m c).symm

/-- The reference leaves its arguments alone. -/
theorem quiescent : Cert.quiescent_Reference19Ideal := fun m' ρ _ =>
  Idealize.ShloMosaic.θ_run_mono (Reference19Ideal.Value.run m' ρ) fun r h =>
    ⟨fun c => (h c).2.2, sem_eq_zero_of_no_sems (by decide) r.2⟩

end Cert.Branches

end
-- ==== Proof.Adam.lean ====
/- The optimiser's step for w_mix_in. -/
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Adam

open Cert.Kernel20Ideal Cert.Kernel20Ideal.Gen Cert.Reference20Ideal.Read

variable (m : (ℓ : Loc nD τ sig) → Buf (Elt Ideal) ℓ) (c : Dev nD)

attribute [local pointwise] val_main_cst val_main_v0 val_main_cst_0 val_main_v1 val_main_v2 val_main_cst_1 val_main_v3 val_main_v4 val_main_v5 val_main_cst_2 val_main_v6 val_main_v7 val_main_v8 val_main_cst_3 val_main_v9 val_main_v10 val_main_v11 val_main_cst_4 val_main_v12 val_main_v13 val_main_cst_5 val_main_v14 val_main_v15 val_main_v16 val_main_cst_6 val_main_v17 val_main_v18 val_main_v19 val_main_cst_7 val_main_v20 val_main_v21 val_main_v22 val_main_cst_8 val_main_v23 val_main_v24

theorem idx : ∀ t : Fin cfg0.N, win0_0.index t = ![t.val, 0] ∧ win0_1.index t = ![t.val, 0] ∧ win0_2.index t = ![t.val, 0] ∧ win0_3.index t = ![0, t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The row of the arrays that row `b` of point `t`'s blocks is. -/
def row (t : Fin cfg0.N) (b : Fin 256) : Fin 1024 := ⟨t.val * 256 + b.val, by
  have := lt_of_lt_of_eq t.isLt N_0; omega⟩

abbrev X0 : FVec Ideal S1024x640 .f32 := m ((c : Thread nD τ).loc main_arg0)
abbrev X1 : FVec Ideal S1024x640 .f32 := m ((c : Thread nD τ).loc main_arg1)
abbrev X2 : FVec Ideal S1024x640 .f32 := m ((c : Thread nD τ).loc main_arg2)
abbrev X3 : FVec Ideal S4x1024x640 .f32 := m ((c : Thread nD τ).loc main_arg3)

section
variable (t : Fin cfg0.N) (q : Fin 4) (a : Fin 256) (b : Fin 640)
theorem read_0 : iblk m c 0 t (ix2 a b) = X0 m c (ix2 (row t a) b) := by
  blk_simp [iblk]
  entry_read
  pointwise
  blk_ext [idx t, row]
theorem read_1 : iblk m c 1 t (ix2 a b) = X1 m c (ix2 (row t a) b) := by
  blk_simp [iblk]
  entry_read
  pointwise
  blk_ext [idx t, row]
theorem read_2 : iblk m c 2 t (ix2 a b) = X2 m c (ix2 (row t a) b) := by
  blk_simp [iblk]
  entry_read
  pointwise
  blk_ext [idx t, row]
theorem read_3 : iblk m c 3 t (ix3 q a b) = X3 m c (ix3 q (row t a) b) := by
  blk_simp [iblk]
  entry_read
  pointwise
  blk_ext [idx t, row]
end

theorem final_4 : (dats m 0 c).arrAt 4 (cfgs 0).N = val_main_v0 (F := Ideal) (X3 m c) := by
  refine (dats m 0 c).arrAt_eq_of_covers 4 _ (by decide +kernel) fun t hf y => ?_
  blk_simp; rw [after0_4]
  obtain ⟨a, b, rfl⟩ : ∃ (a : Fin 256) (b : Fin 640), y = ix2 a b := ⟨y 0, y 1, eq_ix2 y⟩
  rw [show ((cfg0.win 4).blk t).view.emb (ix2 a b) = (ix2 (row t a) b : S1024x640.Idx) from by blk_ext [idx t, row]]
  frame_out
  unfold_payloads
  pointwise
  simp only [read_0, read_1, read_2, read_3, Fin.sum_univ_four, zero_add]

theorem final_5 : (dats m 0 c).arrAt 5 (cfgs 0).N = val_main_v24 (F := Ideal) (X0 m c) (X1 m c) (X2 m c) (X3 m c) := by
  refine (dats m 0 c).arrAt_eq_of_covers 5 _ (by decide +kernel) fun t hf y => ?_
  blk_simp; rw [after0_5]
  obtain ⟨a, b, rfl⟩ : ∃ (a : Fin 256) (b : Fin 640), y = ix2 a b := ⟨y 0, y 1, eq_ix2 y⟩
  rw [show ((cfg0.win 5).blk t).view.emb (ix2 a b) = (ix2 (row t a) b : S1024x640.Idx) from by blk_ext [idx t, row]]
  frame_out
  unfold_payloads
  pointwise
  simp only [read_0, read_1, read_2, read_3, Fin.sum_univ_four, zero_add]

theorem final_6 : (dats m 0 c).arrAt 6 (cfgs 0).N = val_main_v5 (F := Ideal) (X1 m c) (X3 m c) := by
  refine (dats m 0 c).arrAt_eq_of_covers 6 _ (by decide +kernel) fun t hf y => ?_
  blk_simp; rw [after0_6]
  obtain ⟨a, b, rfl⟩ : ∃ (a : Fin 256) (b : Fin 640), y = ix2 a b := ⟨y 0, y 1, eq_ix2 y⟩
  rw [show ((cfg0.win 6).blk t).view.emb (ix2 a b) = (ix2 (row t a) b : S1024x640.Idx) from by blk_ext [idx t, row]]
  frame_out
  unfold_payloads
  pointwise
  simp only [read_0, read_1, read_2, read_3, Fin.sum_univ_four, zero_add]

theorem final_7 : (dats m 0 c).arrAt 7 (cfgs 0).N = val_main_v11 (F := Ideal) (X2 m c) (X3 m c) := by
  refine (dats m 0 c).arrAt_eq_of_covers 7 _ (by decide +kernel) fun t hf y => ?_
  blk_simp; rw [after0_7]
  obtain ⟨a, b, rfl⟩ : ∃ (a : Fin 256) (b : Fin 640), y = ix2 a b := ⟨y 0, y 1, eq_ix2 y⟩
  rw [show ((cfg0.win 7).blk t).view.emb (ix2 a b) = (ix2 (row t a) b : S1024x640.Idx) from by blk_ext [idx t, row]]
  frame_out
  unfold_payloads
  pointwise
  simp only [read_0, read_1, read_2, read_3, Fin.sum_univ_four, zero_add]

set_option maxHeartbeats 4000000 in
/-- The kernel's results are the reference's. -/
theorem algebraic : Cert.algebraic_Kernel20Ideal_Reference20Ideal := by
  pair_intro
  · run_from Cert.Kernel20Ideal.Gen.run_main m g
  · run_from Reference20Ideal.Value.run m' g'
    · exact (val_main_v0_eq _).trans (final_4 m c).symm
    · exact (val_main_v24_eq _ _ _ _).trans (final_5 m c).symm
    · exact (val_main_v5_eq _ _).trans (final_6 m c).symm
    · exact (val_main_v11_eq _ _).trans (final_7 m c).symm

/-- The reference leaves its arguments alone. -/
theorem quiescent : Cert.quiescent_Reference20Ideal := fun m' ρ _ =>
  Idealize.ShloMosaic.θ_run_mono (Reference20Ideal.Value.run m' ρ) fun r h =>
    ⟨fun c => (h c).2.2.2.2, sem_eq_zero_of_no_sems (by decide) r.2⟩

end Cert.Adam

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Loops
public import proofs.«01_k».proof.Proof.Gen.Kernel11Ideal.Loops
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Ffn3
public import proofs.«01_k».proof.Proof.Ffn4
public import proofs.«01_k».proof.Proof.Ada
public import proofs.«01_k».proof.Proof.Merge
public import proofs.«01_k».proof.Proof.Norm3
public import proofs.«01_k».proof.Proof.Norm2
public import proofs.«01_k».proof.Proof.Norm1
public import proofs.«01_k».proof.Proof.Loss
public import proofs.«01_k».proof.Proof.AttF.Claims
public import proofs.«01_k».proof.Proof.Conv
public import proofs.«01_k».proof.Proof.FfnUp
public import proofs.«01_k».proof.Proof.Residual
public import proofs.«01_k».proof.Proof.MixIn
public import proofs.«01_k».proof.Proof.MergeUp
public import proofs.«01_k».proof.Proof.Product
public import proofs.«01_k».proof.Proof.Weight
public import proofs.«01_k».proof.Proof.Branches
public import proofs.«01_k».proof.Proof.Adam
public import proofs.«01_k».proof.Proof.AttB.Frame
public import proofs.«01_k».proof.Proof.ShortConv
public import proofs.«01_k».proof.Proof.Att.Claims
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Attention.facts,
  Cert.Ffn.facts,
  Cert.Norm3.facts,
  Cert.Norm2.facts,
  Cert.Norm1.facts,
  Cert.Loss.facts,
  Cert.AttF.facts,
  fun m ρ _ => Cert.Kernel.Gen.frame m ρ, fun m ρ _ => Cert.KernelIdeal.Gen.frame m ρ, Cert.ShortConv.quiescent,
  Cert.Attention.frame_bits, Cert.Attention.frame_ideal, Cert.Attention.frame_ideal_pre, Cert.Attention.quiescent, Cert.Attention.quiescent_pre,
  fun m ρ _ => Cert.Kernel3.Gen.frame m ρ, fun m ρ _ => Cert.Kernel3Ideal.Gen.frame m ρ, fun m ρ _ => Cert.Kernel3Ideal.Gen.frame m ρ, Cert.Ffn3.quiescent, fun m ρ _ => Cert.Ffn3.quiescent m ρ trivial,
  fun m ρ _ => Cert.Kernel4.Gen.frame m ρ, fun m ρ _ => Cert.Kernel4Ideal.Gen.frame m ρ, fun m ρ _ => Cert.Kernel4Ideal.Gen.frame m ρ, Cert.Ffn4.quiescent, fun m ρ _ => Cert.Ffn4.quiescent m ρ trivial,
  fun m ρ _ => Cert.Kernel5.Gen.frame m ρ, fun m ρ _ => Cert.Kernel5Ideal.Gen.frame m ρ, Cert.Ada.quiescent,
  fun m ρ _ => Cert.Kernel6.Gen.frame m ρ, fun m ρ _ => Cert.Kernel6Ideal.Gen.frame m ρ, Cert.Merge.quiescent,
  fun m ρ _ => Cert.Kernel7.Gen.frame m ρ, fun m ρ _ => Cert.Kernel7Ideal.Gen.frame m ρ, fun m ρ _ => Cert.Kernel7Ideal.Gen.frame m ρ, Cert.Norm3.quiescent, fun m ρ _ => Cert.Norm3.quiescent m ρ trivial,
  fun m ρ _ => Cert.Kernel8.Gen.frame m ρ, fun m ρ _ => Cert.Kernel8Ideal.Gen.frame m ρ, fun m ρ _ => Cert.Kernel8Ideal.Gen.frame m ρ, Cert.Norm2.quiescent, fun m ρ _ => Cert.Norm2.quiescent m ρ trivial,
  fun m ρ _ => Cert.Kernel9.Gen.frame m ρ, fun m ρ _ => Cert.Kernel9Ideal.Gen.frame m ρ, fun m ρ _ => Cert.Kernel9Ideal.Gen.frame m ρ, Cert.Norm1.quiescent, fun m ρ _ => Cert.Norm1.quiescent m ρ trivial,
  fun m ρ _ => Cert.Kernel10.Gen.frame m ρ, fun m ρ _ => Cert.Kernel10Ideal.Gen.frame m ρ, fun m ρ _ => Cert.Kernel10Ideal.Gen.frame m ρ, Cert.Loss.quiescent, fun m ρ _ => Cert.Loss.quiescent m ρ trivial,
  fun m ρ _ => Cert.Kernel11.Hand.frame m ρ, Cert.AttF.frame_ideal, Cert.AttF.frame_ideal_pre, Cert.AttF.quiescent, Cert.AttF.quiescent_pre,
  fun m ρ _ => Cert.Kernel12.Gen.frame m ρ, fun m ρ _ => Cert.Kernel12Ideal.Gen.frame m ρ, Cert.Conv.quiescent,
  fun m ρ _ => Cert.Kernel13.Gen.frame m ρ, fun m ρ _ => Cert.Kernel13Ideal.Gen.frame m ρ, Cert.FfnUp.quiescent,
  fun m ρ _ => Cert.Kernel14.Gen.frame m ρ, fun m ρ _ => Cert.Kernel14Ideal.Gen.frame m ρ, Cert.Residual.quiescent,
  fun m ρ _ => Cert.Kernel15.Gen.frame m ρ, fun m ρ _ => Cert.Kernel15Ideal.Gen.frame m ρ, Cert.MixIn.quiescent,
  fun m ρ _ => Cert.Kernel16.Gen.frame m ρ, fun m ρ _ => Cert.Kernel16Ideal.Gen.frame m ρ, Cert.MergeUp.quiescent,
  fun m ρ _ => Cert.Kernel17.Gen.frame m ρ, fun m ρ _ => Cert.Kernel17Ideal.Gen.frame m ρ, Cert.Product.quiescent,
  fun m ρ _ => Cert.Kernel18.Gen.frame m ρ, fun m ρ _ => Cert.Kernel18Ideal.Gen.frame m ρ, Cert.Weight.quiescent,
  fun m ρ _ => Cert.Kernel19.Gen.frame m ρ, fun m ρ _ => Cert.Kernel19Ideal.Gen.frame m ρ, Cert.Branches.quiescent,
  fun m ρ _ => Cert.Kernel20.Gen.frame m ρ, fun m ρ _ => Cert.Kernel20Ideal.Gen.frame m ρ, Cert.Adam.quiescent,
  trivial, Cert.ShortConv.algebraic,
  trivial, Cert.Attention.algebraic,
  trivial, Cert.Ffn3.algebraic,
  trivial, Cert.Ffn4.algebraic,
  trivial, Cert.Ada.algebraic,
  trivial, Cert.Merge.algebraic,
  trivial, Cert.Norm3.algebraic,
  trivial, Cert.Norm2.algebraic,
  trivial, Cert.Norm1.algebraic,
  trivial, Cert.Loss.algebraic,
  Cert.AttF.preserves, Cert.AttF.algebraic,
  trivial, Cert.Conv.algebraic,
  trivial, Cert.FfnUp.algebraic,
  trivial, Cert.Residual.algebraic,
  trivial, Cert.MixIn.algebraic,
  trivial, Cert.MergeUp.algebraic,
  trivial, Cert.Product.algebraic,
  trivial, Cert.Weight.algebraic,
  trivial, Cert.Branches.algebraic,
  trivial, Cert.Adam.algebraic⟩

end Cert.Proof

end
